-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v231) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16x1024x1152 : Shape := ⟨3, ![16, 1024, 1152]⟩
abbrev S16x256x4 : Shape := ⟨3, ![16, 256, 4]⟩
abbrev S1152 : Shape := ⟨1, ![1152]⟩
abbrev S1152x3456 : Shape := ⟨2, ![1152, 3456]⟩
abbrev S3456 : Shape := ⟨1, ![3456]⟩
abbrev S1152x1152 : Shape := ⟨2, ![1152, 1152]⟩
abbrev S1152x4608 : Shape := ⟨2, ![1152, 4608]⟩
abbrev S4608 : Shape := ⟨1, ![4608]⟩
abbrev S4608x1152 : Shape := ⟨2, ![4608, 1152]⟩
abbrev S_ : Shape := ⟨0, ![]⟩

class Facts : Prop where
  bcast_S_S16x1024x1152 : S_.BroadcastsInDim S16x1024x1152 (![] : Fin 0 → Fin S16x1024x1152.rank)
  bcast_S_S1152 : S_.BroadcastsInDim S1152 (![] : Fin 0 → Fin S1152.rank)
  bcast_S_S1152x3456 : S_.BroadcastsInDim S1152x3456 (![] : Fin 0 → Fin S1152x3456.rank)
  bcast_S_S3456 : S_.BroadcastsInDim S3456 (![] : Fin 0 → Fin S3456.rank)

variable [Facts]

def fn {F : FTy → Type} [FloatOps F] (main_arg0 : FVec F S16x1024x1152 .f32) (main_arg1 : FVec F S16x256x4 .f32) (main_arg2 : FVec F S1152 .f32) (main_arg3 : FVec F S1152 .f32) (main_arg4 : FVec F S1152 .f32) (main_arg5 : FVec F S1152 .f32) (main_arg6 : FVec F S1152x3456 .f32) (main_arg7 : FVec F S3456 .f32) (main_arg8 : FVec F S1152x1152 .f32) (main_arg9 : FVec F S1152 .f32) (main_arg10 : FVec F S1152x4608 .f32) (main_arg11 : FVec F S4608 .f32) (main_arg12 : FVec F S4608x1152 .f32) (main_arg13 : FVec F S1152 .f32) : IVec S16x1024x1152 1 × IVec S1152 1 × IVec S1152 1 × IVec S1152x3456 1 × IVec S3456 1 :=
  let main_v0 : FVec F S16x1024x1152 .f32 := Host.absf main_arg0
  let main_cst : FVec F S_ .f32 := constant S_ .f32 0x7F800000#32
  let main_v1 : FVec F S16x1024x1152 .f32 := broadcastInDim S16x1024x1152 ![] bcast_S_S16x1024x1152 main_cst
  let main_v2 : IVec S16x1024x1152 1 := cmpf .olt main_v0 main_v1
  let main_v3 : FVec F S1152 .f32 := Host.absf main_arg2
  let main_cst_0 : FVec F S_ .f32 := constant S_ .f32 0x7F800000#32
  let main_v4 : FVec F S1152 .f32 := broadcastInDim S1152 ![] bcast_S_S1152 main_cst_0
  let main_v5 : IVec S1152 1 := cmpf .olt main_v3 main_v4
  let main_v6 : FVec F S1152 .f32 := Host.absf main_arg3
  let main_cst_1 : FVec F S_ .f32 := constant S_ .f32 0x7F800000#32
  let main_v7 : FVec F S1152 .f32 := broadcastInDim S1152 ![] bcast_S_S1152 main_cst_1
  let main_v8 : IVec S1152 1 := cmpf .olt main_v6 main_v7
  let main_v9 : FVec F S1152x3456 .f32 := Host.absf main_arg6
  let main_cst_2 : FVec F S_ .f32 := constant S_ .f32 0x7F800000#32
  let main_v10 : FVec F S1152x3456 .f32 := broadcastInDim S1152x3456 ![] bcast_S_S1152x3456 main_cst_2
  let main_v11 : IVec S1152x3456 1 := cmpf .olt main_v9 main_v10
  let main_v12 : FVec F S3456 .f32 := Host.absf main_arg7
  let main_cst_3 : FVec F S_ .f32 := constant S_ .f32 0x7F800000#32
  let main_v13 : FVec F S3456 .f32 := broadcastInDim S3456 ![] bcast_S_S3456 main_cst_3
  let main_v14 : IVec S3456 1 := cmpf .olt main_v12 main_v13
  (main_v2, main_v5, main_v8, main_v11, main_v14)
-- ==== Kernel.lean ====
abbrev S16x1024x1152 : Shape := ⟨3, ![16, 1024, 1152]⟩
abbrev S16x256x4 : Shape := ⟨3, ![16, 256, 4]⟩
abbrev S1152 : Shape := ⟨1, ![1152]⟩
abbrev S1152x3456 : Shape := ⟨2, ![1152, 3456]⟩
abbrev S3456 : Shape := ⟨1, ![3456]⟩
abbrev S1152x1152 : Shape := ⟨2, ![1152, 1152]⟩
abbrev S1152x4608 : Shape := ⟨2, ![1152, 4608]⟩
abbrev S4608 : Shape := ⟨1, ![4608]⟩
abbrev S4608x1152 : Shape := ⟨2, ![4608, 1152]⟩
abbrev S_ : Shape := ⟨0, ![]⟩
abbrev S16x1024 : Shape := ⟨2, ![16, 1024]⟩
abbrev S16x1024x1 : Shape := ⟨3, ![16, 1024, 1]⟩
abbrev S1024 : Shape := ⟨1, ![1024]⟩
abbrev S32x32 : Shape := ⟨2, ![32, 32]⟩
abbrev S16x2x16x2 : Shape := ⟨4, ![16, 2, 16, 2]⟩
abbrev S16x16x2x2 : Shape := ⟨4, ![16, 16, 2, 2]⟩
abbrev S256x4 : Shape := ⟨2, ![256, 4]⟩
abbrev S256x4x1 : Shape := ⟨3, ![256, 4, 1]⟩
abbrev S16x256x4x1152 : Shape := ⟨4, ![16, 256, 4, 1152]⟩
abbrev S16x256x1152 : Shape := ⟨3, ![16, 256, 1152]⟩
abbrev S16x256x1x1152 : Shape := ⟨4, ![16, 256, 1, 1152]⟩
abbrev S16x256 : Shape := ⟨2, ![16, 256]⟩
abbrev S16x256x1 : Shape := ⟨3, ![16, 256, 1]⟩
abbrev S16x256x1x1 : Shape := ⟨4, ![16, 256, 1, 1]⟩
abbrev S1 : Shape := ⟨1, ![1]⟩
abbrev S1x1x1x1 : Shape := ⟨4, ![1, 1, 1, 1]⟩
abbrev S4 : Shape := ⟨1, ![4]⟩
abbrev S1x1x4 : Shape := ⟨3, ![1, 1, 4]⟩
abbrev S16x256x3 : Shape := ⟨3, ![16, 256, 3]⟩
abbrev S16x256x3x1 : Shape := ⟨4, ![16, 256, 3, 1]⟩
abbrev S16x768 : Shape := ⟨2, ![16, 768]⟩
abbrev S16x768x1 : Shape := ⟨3, ![16, 768, 1]⟩
abbrev S1x1x1 : Shape := ⟨3, ![1, 1, 1]⟩
abbrev S16x768x1152 : Shape := ⟨3, ![16, 768, 1152]⟩
abbrev S16x768x256 : Shape := ⟨3, ![16, 768, 256]⟩
abbrev S16x512 : Shape := ⟨2, ![16, 512]⟩
abbrev S16 : Shape := ⟨1, ![16]⟩
abbrev S16x1 : Shape := ⟨2, ![16, 1]⟩
abbrev S512 : Shape := ⟨1, ![512]⟩
abbrev S16x1024x2 : Shape := ⟨3, ![16, 1024, 2]⟩
abbrev S16x1x512 : Shape := ⟨3, ![16, 1, 512]⟩
abbrev S16x1x1024 : Shape := ⟨3, ![16, 1, 1024]⟩
abbrev S1x3456 : Shape := ⟨2, ![1, 3456]⟩
abbrev S1x1152 : Shape := ⟨2, ![1, 1152]⟩
abbrev S16x512x1152 : Shape := ⟨3, ![16, 512, 1152]⟩
abbrev S1x1024x1152 : Shape := ⟨3, ![1, 1024, 1152]⟩
abbrev S1x1x512 : Shape := ⟨3, ![1, 1, 512]⟩
abbrev S1x512x1152 : Shape := ⟨3, ![1, 512, 1152]⟩
abbrev S512x3456 : Shape := ⟨2, ![512, 3456]⟩
abbrev S512x1152 : Shape := ⟨2, ![512, 1152]⟩
abbrev S1x512 : Shape := ⟨2, ![1, 512]⟩
abbrev S1024x512 : Shape := ⟨2, ![1024, 512]⟩
abbrev S1024x1152 : Shape := ⟨2, ![1024, 1152]⟩
abbrev S512x1 : Shape := ⟨2, ![512, 1]⟩
abbrev S512x72 : Shape := ⟨2, ![512, 72]⟩
abbrev S512x512 : Shape := ⟨2, ![512, 512]⟩
abbrev S1x4608 : Shape := ⟨2, ![1, 4608]⟩
abbrev S1x1x1024 : Shape := ⟨3, ![1, 1, 1024]⟩
abbrev S1152x2304 : Shape := ⟨2, ![1152, 2304]⟩
abbrev S512x2304 : Shape := ⟨2, ![512, 2304]⟩
abbrev S1x2304 : Shape := ⟨2, ![1, 2304]⟩
abbrev S2304 : Shape := ⟨1, ![2304]⟩
abbrev S2304x1152 : Shape := ⟨2, ![2304, 1152]⟩
abbrev S1x1024 : Shape := ⟨2, ![1, 1024]⟩
abbrev S512x1024 : Shape := ⟨2, ![512, 1024]⟩

abbrev nBuf : Space → Nat
  | .hbm => 271
  | .vmem => 27
  | .smem => 0
  | _ => 0

abbrev hbmTy0_0 (i : Nat) : BufTy := match i % 128 with
  | 0 => ⟨S16x1024x1152, .f32⟩
  | 1 => ⟨S16x256x4, .f32⟩
  | 2 => ⟨S1152, .f32⟩
  | 3 => ⟨S1152, .f32⟩
  | 4 => ⟨S1152, .f32⟩
  | 5 => ⟨S1152, .f32⟩
  | 6 => ⟨S1152x3456, .f32⟩
  | 7 => ⟨S3456, .f32⟩
  | 8 => ⟨S1152x1152, .f32⟩
  | 9 => ⟨S1152, .f32⟩
  | 10 => ⟨S1152x4608, .f32⟩
  | 11 => ⟨S4608, .f32⟩
  | 12 => ⟨S4608x1152, .f32⟩
  | 13 => ⟨S1152, .f32⟩
  | 14 => ⟨S16x1024x1152, .f32⟩
  | 15 => ⟨S_, .f32⟩
  | 16 => ⟨S16x1024, .f32⟩
  | 17 => ⟨S16x1024x1, .f32⟩
  | 18 => ⟨S16x1024x1, .f32⟩
  | 19 => ⟨S_, .f32⟩
  | 20 => ⟨S16x1024x1, .f32⟩
  | 21 => ⟨S16x1024x1, .f32⟩
  | 22 => ⟨S16x1024x1152, .f32⟩
  | 23 => ⟨S16x1024x1152, .f32⟩
  | 24 => ⟨S1024, .i32⟩
  | 25 => ⟨S32x32, .i32⟩
  | 26 => ⟨S16x2x16x2, .i32⟩
  | 27 => ⟨S16x16x2x2, .i32⟩
  | 28 => ⟨S256x4, .i32⟩
  | 29 => ⟨S_, .i32⟩
  | 30 => ⟨S256x4, .i32⟩
  | 31 => ⟨S256x4, .i1⟩
  | 32 => ⟨S_, .i32⟩
  | 33 => ⟨S256x4, .i32⟩
  | 34 => ⟨S256x4, .i32⟩
  | 35 => ⟨S256x4, .i32⟩
  | 36 => ⟨S256x4x1, .i32⟩
  | 37 => ⟨S16x256x4x1152, .f32⟩
  | 38 => ⟨S_, .f32⟩
  | 39 => ⟨S16x256x1152, .f32⟩
  | 40 => ⟨S16x256x1x1152, .f32⟩
  | 41 => ⟨S_, .f32⟩
  | 42 => ⟨S16x256x1x1152, .f32⟩
  | 43 => ⟨S16x256x1x1152, .f32⟩
  | 44 => ⟨S16x256x4x1152, .f32⟩
  | 45 => ⟨S16x256x4x1152, .f32⟩
  | 46 => ⟨S_, .f32⟩
  | 47 => ⟨S16x256x4, .f32⟩
  | 48 => ⟨S_, .f32⟩
  | 49 => ⟨S16x256x4, .f32⟩
  | 50 => ⟨S16x256x4, .f32⟩
  | 51 => ⟨S_, .f32⟩
  | 52 => ⟨S16x256x4, .f32⟩
  | 53 => ⟨S16x256x4, .f32⟩
  | 54 => ⟨S16x256x4, .f32⟩
  | 55 => ⟨S16x256x4, .i32⟩
  | 56 => ⟨S_, .f32⟩
  | 57 => ⟨S_, .i32⟩
  | 58 => ⟨S16x256, .f32⟩
  | 59 => ⟨S16x256, .i32⟩
  | 60 => ⟨S16x256x4, .i32⟩
  | 61 => ⟨S16x256x1, .i32⟩
  | 62 => ⟨S_, .i32⟩
  | 63 => ⟨S16x256x1, .i32⟩
  | 64 => ⟨S16x256x1, .i1⟩
  | 65 => ⟨S_, .i32⟩
  | 66 => ⟨S16x256x1, .i32⟩
  | 67 => ⟨S16x256x1, .i32⟩
  | 68 => ⟨S16x256x1, .i32⟩
  | 69 => ⟨S16x256x1x1, .i32⟩
  | 70 => ⟨S1, .i32⟩
  | 71 => ⟨S_, .i32⟩
  | 72 => ⟨S16x256x1x1, .i32⟩
  | 73 => ⟨S16x256x1x1, .i1⟩
  | 74 => ⟨S1x1x1x1, .i32⟩
  | 75 => ⟨S16x256x1x1, .i32⟩
  | 76 => ⟨S16x256x1x1, .i1⟩
  | 77 => ⟨S16x256x1x1, .i1⟩
  | 78 => ⟨S_, .i1⟩
  | 79 => ⟨S16x256x1, .i1⟩
  | 80 => ⟨S16x256x1, .i32⟩
  | 81 => ⟨S_, .i32⟩
  | 82 => ⟨S16x256x1, .i32⟩
  | 83 => ⟨S16x256x1, .i32⟩
  | 84 => ⟨S16x256, .i32⟩
  | 85 => ⟨S4, .i32⟩
  | 86 => ⟨S1x1x4, .i32⟩
  | 87 => ⟨S16x256x1, .i32⟩
  | 88 => ⟨S16x256x4, .i32⟩
  | 89 => ⟨S16x256x4, .i32⟩
  | 90 => ⟨S16x256x4, .i1⟩
  | 91 => ⟨S_, .i32⟩
  | 92 => ⟨S_, .i32⟩
  | 93 => ⟨S16x256x4, .i32⟩
  | 94 => ⟨S16x256x4, .i32⟩
  | 95 => ⟨S16x256x4, .i32⟩
  | 96 => ⟨S16x256x4, .i32⟩
  | 97 => ⟨S16x256x3, .i32⟩
  | 98 => ⟨S_, .i32⟩
  | 99 => ⟨S16x256x3, .i32⟩
  | 100 => ⟨S16x256x3, .i1⟩
  | 101 => ⟨S_, .i32⟩
  | 102 => ⟨S16x256x3, .i32⟩
  | 103 => ⟨S16x256x3, .i32⟩
  | 104 => ⟨S16x256x3, .i32⟩
  | 105 => ⟨S16x256x3x1, .i32⟩
  | 106 => ⟨S1, .i32⟩
  | 107 => ⟨S_, .i32⟩
  | 108 => ⟨S16x256x3x1, .i32⟩
  | 109 => ⟨S16x256x3x1, .i1⟩
  | 110 => ⟨S1x1x1x1, .i32⟩
  | 111 => ⟨S16x256x3x1, .i32⟩
  | 112 => ⟨S16x256x3x1, .i1⟩
  | 113 => ⟨S16x256x3x1, .i1⟩
  | 114 => ⟨S_, .i1⟩
  | 115 => ⟨S16x256x3, .i1⟩
  | 116 => ⟨S16x256x3, .i32⟩
  | 117 => ⟨S_, .i32⟩
  | 118 => ⟨S16x256x3, .i32⟩
  | 119 => ⟨S16x256x3, .i32⟩
  | 120 => ⟨S16x768, .i32⟩
  | 121 => ⟨S16x768x1, .i32⟩
  | 122 => ⟨S_, .i32⟩
  | 123 => ⟨S16x768x1, .i32⟩
  | 124 => ⟨S16x768x1, .i1⟩
  | 125 => ⟨S_, .i32⟩
  | 126 => ⟨S16x768x1, .i32⟩
  | 127 => ⟨S16x768x1, .i32⟩
  | _ => ⟨S16x1024x1152, .f32⟩

abbrev hbmTy0_1 (i : Nat) : BufTy := match i % 128 with
  | 0 => ⟨S16x768x1, .i32⟩
  | 1 => ⟨S1, .i32⟩
  | 2 => ⟨S_, .i32⟩
  | 3 => ⟨S16x768x1, .i32⟩
  | 4 => ⟨S16x768x1, .i1⟩
  | 5 => ⟨S1x1x1, .i32⟩
  | 6 => ⟨S16x768x1, .i32⟩
  | 7 => ⟨S16x768x1, .i1⟩
  | 8 => ⟨S16x768x1, .i1⟩
  | 9 => ⟨S_, .i1⟩
  | 10 => ⟨S16x768, .i1⟩
  | 11 => ⟨S16x768x1152, .f32⟩
  | 12 => ⟨S16x768x1152, .i1⟩
  | 13 => ⟨S_, .f32⟩
  | 14 => ⟨S16x768x1152, .f32⟩
  | 15 => ⟨S16x768x1152, .f32⟩
  | 16 => ⟨S16x256x1, .i32⟩
  | 17 => ⟨S_, .i32⟩
  | 18 => ⟨S16x256x1, .i32⟩
  | 19 => ⟨S16x256x1, .i1⟩
  | 20 => ⟨S_, .i32⟩
  | 21 => ⟨S16x256x1, .i32⟩
  | 22 => ⟨S16x256x1, .i32⟩
  | 23 => ⟨S16x256x1, .i32⟩
  | 24 => ⟨S1, .i32⟩
  | 25 => ⟨S_, .i32⟩
  | 26 => ⟨S16x256x1, .i32⟩
  | 27 => ⟨S16x256x1, .i1⟩
  | 28 => ⟨S1x1x1, .i32⟩
  | 29 => ⟨S16x256x1, .i32⟩
  | 30 => ⟨S16x256x1, .i1⟩
  | 31 => ⟨S16x256x1, .i1⟩
  | 32 => ⟨S_, .i1⟩
  | 33 => ⟨S16x256, .i1⟩
  | 34 => ⟨S16x256x1152, .f32⟩
  | 35 => ⟨S16x256x1152, .i1⟩
  | 36 => ⟨S_, .f32⟩
  | 37 => ⟨S16x256x1152, .f32⟩
  | 38 => ⟨S16x256x1152, .f32⟩
  | 39 => ⟨S16x768x256, .f32⟩
  | 40 => ⟨S16x768x256, .i32⟩
  | 41 => ⟨S_, .f32⟩
  | 42 => ⟨S_, .i32⟩
  | 43 => ⟨S16x768, .f32⟩
  | 44 => ⟨S16x768, .i32⟩
  | 45 => ⟨S_, .f32⟩
  | 46 => ⟨S16x768, .f32⟩
  | 47 => ⟨S16x768, .f32⟩
  | 48 => ⟨S16x768, .i32⟩
  | 49 => ⟨S16x768, .f32⟩
  | 50 => ⟨S16x768, .i32⟩
  | 51 => ⟨S_, .i32⟩
  | 52 => ⟨S16x768, .i32⟩
  | 53 => ⟨S16x768, .i1⟩
  | 54 => ⟨S_, .i32⟩
  | 55 => ⟨S16x768, .i32⟩
  | 56 => ⟨S16x768, .i32⟩
  | 57 => ⟨S16x768, .i32⟩
  | 58 => ⟨S16x768x1, .i32⟩
  | 59 => ⟨S1, .i32⟩
  | 60 => ⟨S_, .i32⟩
  | 61 => ⟨S16x768x1, .i32⟩
  | 62 => ⟨S16x768x1, .i1⟩
  | 63 => ⟨S1x1x1, .i32⟩
  | 64 => ⟨S16x768x1, .i32⟩
  | 65 => ⟨S16x768x1, .i1⟩
  | 66 => ⟨S16x768x1, .i1⟩
  | 67 => ⟨S_, .i1⟩
  | 68 => ⟨S16x768, .i1⟩
  | 69 => ⟨S16x768, .i32⟩
  | 70 => ⟨S_, .i32⟩
  | 71 => ⟨S16x768, .i32⟩
  | 72 => ⟨S16x768, .i32⟩
  | 73 => ⟨S_, .i32⟩
  | 74 => ⟨S16x768, .i32⟩
  | 75 => ⟨S16x768, .i1⟩
  | 76 => ⟨S_, .i32⟩
  | 77 => ⟨S16x768, .i32⟩
  | 78 => ⟨S16x768, .i32⟩
  | 79 => ⟨S16x768, .i32⟩
  | 80 => ⟨S16x768x1, .i32⟩
  | 81 => ⟨S1, .i32⟩
  | 82 => ⟨S_, .i32⟩
  | 83 => ⟨S16x768x1, .i32⟩
  | 84 => ⟨S16x768x1, .i1⟩
  | 85 => ⟨S1x1x1, .i32⟩
  | 86 => ⟨S16x768x1, .i32⟩
  | 87 => ⟨S16x768x1, .i1⟩
  | 88 => ⟨S16x768x1, .i1⟩
  | 89 => ⟨S_, .i1⟩
  | 90 => ⟨S16x768, .i1⟩
  | 91 => ⟨S16x768, .i32⟩
  | 92 => ⟨S_, .i32⟩
  | 93 => ⟨S16x768, .i32⟩
  | 94 => ⟨S16x768, .i32⟩
  | 95 => ⟨S16x512, .i32⟩
  | 96 => ⟨S16x256, .i32⟩
  | 97 => ⟨S16x512, .i32⟩
  | 98 => ⟨S16x512, .i32⟩
  | 99 => ⟨S16, .i32⟩
  | 100 => ⟨S16x1, .i32⟩
  | 101 => ⟨S16x1024, .i32⟩
  | 102 => ⟨S512, .i32⟩
  | 103 => ⟨S16x512, .i32⟩
  | 104 => ⟨S16x1024, .i32⟩
  | 105 => ⟨S_, .i32⟩
  | 106 => ⟨S16x1024, .i32⟩
  | 107 => ⟨S_, .i32⟩
  | 108 => ⟨S16x1, .i32⟩
  | 109 => ⟨S16x1, .i1⟩
  | 110 => ⟨S_, .i32⟩
  | 111 => ⟨S16x1, .i32⟩
  | 112 => ⟨S16x1, .i32⟩
  | 113 => ⟨S16x1, .i32⟩
  | 114 => ⟨S_, .i32⟩
  | 115 => ⟨S16x1024, .i32⟩
  | 116 => ⟨S16x1024, .i1⟩
  | 117 => ⟨S_, .i32⟩
  | 118 => ⟨S16x1024, .i32⟩
  | 119 => ⟨S16x1024, .i32⟩
  | 120 => ⟨S16x1024, .i32⟩
  | 121 => ⟨S16x1024, .i32⟩
  | 122 => ⟨S16x1024x1, .i32⟩
  | 123 => ⟨S16x1024x1, .i32⟩
  | 124 => ⟨S16x1024x2, .i32⟩
  | 125 => ⟨S16x1024, .i32⟩
  | 126 => ⟨S16x1x512, .i32⟩
  | 127 => ⟨S16x1x1024, .i32⟩
  | _ => ⟨S16x1024x1152, .f32⟩

abbrev hbmTy0_2 (i : Nat) : BufTy := match i % 128 with
  | 0 => ⟨S16x1024x1152, .bf16⟩
  | 1 => ⟨S1152x3456, .bf16⟩
  | 2 => ⟨S1x3456, .f32⟩
  | 3 => ⟨S1x1152, .f32⟩
  | 4 => ⟨S1x1152, .f32⟩
  | 5 => ⟨S1152x1152, .bf16⟩
  | 6 => ⟨S1x1152, .f32⟩
  | 7 => ⟨S16x512x1152, .bf16⟩
  | 8 => ⟨S1152x4608, .bf16⟩
  | 9 => ⟨S1x4608, .f32⟩
  | 10 => ⟨S4608x1152, .bf16⟩
  | 11 => ⟨S1x1152, .f32⟩
  | 12 => ⟨S1x1152, .f32⟩
  | 13 => ⟨S1x1152, .f32⟩
  | 14 => ⟨S16x1024x1152, .f32⟩
  | _ => ⟨S16x1024x1152, .f32⟩

abbrev hbmTy (i : Nat) : BufTy := match i / 128 with
  | 0 => hbmTy0_0 i
  | 1 => hbmTy0_1 i
  | 2 => hbmTy0_2 i
  | _ => ⟨S16x1024x1152, .f32⟩

abbrev bufTy : (tb : Table) → Fin (tcTables nBuf tb) → BufTy
  | .hbm, ⟨i, _⟩ => hbmTy i
  | .local _ .vmem, ⟨0, _⟩ => ⟨S1x1024x1152, .bf16⟩
  | .local _ .vmem, ⟨1, _⟩ => ⟨S1x1024x1152, .bf16⟩
  | .local _ .vmem, ⟨2, _⟩ => ⟨S1x1x512, .i32⟩
  | .local _ .vmem, ⟨3, _⟩ => ⟨S1x1x512, .i32⟩
  | .local _ .vmem, ⟨4, _⟩ => ⟨S1x3456, .f32⟩
  | .local _ .vmem, ⟨5, _⟩ => ⟨S1x1152, .f32⟩
  | .local _ .vmem, ⟨6, _⟩ => ⟨S1x1152, .f32⟩
  | .local _ .vmem, ⟨7, _⟩ => ⟨S1x1152, .f32⟩
  | .local _ .vmem, ⟨8, _⟩ => ⟨S1x512x1152, .bf16⟩
  | .local _ .vmem, ⟨9, _⟩ => ⟨S1x512x1152, .bf16⟩
  | .local _ .vmem, ⟨10, _⟩ => ⟨S1152x3456, .bf16⟩
  | .local _ .vmem, ⟨11, _⟩ => ⟨S1152x1152, .bf16⟩
  | .local _ .vmem, ⟨12, _⟩ => ⟨S512x3456, .bf16⟩
  | .local _ .vmem, ⟨13, _⟩ => ⟨S512x1152, .bf16⟩
  | .local _ .vmem, ⟨14, _⟩ => ⟨S512x1152, .bf16⟩
  | .local _ .vmem, ⟨15, _⟩ => ⟨S1x512x1152, .bf16⟩
  | .local _ .vmem, ⟨16, _⟩ => ⟨S1x512x1152, .bf16⟩
  | .local _ .vmem, ⟨17, _⟩ => ⟨S1x1x1024, .i32⟩
  | .local _ .vmem, ⟨18, _⟩ => ⟨S1x1x1024, .i32⟩
  | .local _ .vmem, ⟨19, _⟩ => ⟨S1x4608, .f32⟩
  | .local _ .vmem, ⟨20, _⟩ => ⟨S1x1152, .f32⟩
  | .local _ .vmem, ⟨21, _⟩ => ⟨S1x1152, .f32⟩
  | .local _ .vmem, ⟨22, _⟩ => ⟨S1x1152, .f32⟩
  | .local _ .vmem, ⟨23, _⟩ => ⟨S1x1024x1152, .f32⟩
  | .local _ .vmem, ⟨24, _⟩ => ⟨S1x1024x1152, .f32⟩
  | .local _ .vmem, ⟨25, _⟩ => ⟨S1152x4608, .bf16⟩
  | .local _ .vmem, ⟨26, _⟩ => ⟨S4608x1152, .bf16⟩
  | _, _ => ⟨S16x1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_call0_v2 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c : Ref sig .tc := ⟨.hbm, 29, rfl⟩
abbrev main_v10 : Ref sig .tc := ⟨.hbm, 30, rfl⟩
abbrev main_v11 : Ref sig .tc := ⟨.hbm, 31, rfl⟩
abbrev main_c_0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_1 : Ref sig .tc := ⟨.hbm, 38, rfl⟩
abbrev main_v17 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_call1_v0 : Ref sig .tc := ⟨.hbm, 55, rfl⟩
abbrev main_call1_cst : Ref sig .tc := ⟨.hbm, 56, rfl⟩
abbrev main_call1_c : Ref sig .tc := ⟨.hbm, 57, rfl⟩
abbrev main_call1_v1_0 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_c_4 : Ref sig .tc := ⟨.hbm, 81, rfl⟩
abbrev main_call2_v14 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_c_6 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_call5_c : Ref sig .tc := ⟨.hbm, 98, rfl⟩
abbrev main_call5_v0 : Ref sig .tc := ⟨.hbm, 99, rfl⟩
abbrev main_call5_v1 : Ref sig .tc := ⟨.hbm, 100, rfl⟩
abbrev main_call5_c_0 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_call5_v5 : Ref sig .tc := ⟨.hbm, 105, rfl⟩
abbrev main_call5_c_1 : Ref sig .tc := ⟨.hbm, 106, rfl⟩
abbrev main_call5_c_2 : Ref sig .tc := ⟨.hbm, 107, rfl⟩
abbrev main_call5_v6 : Ref sig .tc := ⟨.hbm, 108, rfl⟩
abbrev main_call5_v7 : Ref sig .tc := ⟨.hbm, 109, rfl⟩
abbrev main_call5_v8 : Ref sig .tc := ⟨.hbm, 110, rfl⟩
abbrev main_call5_v9 : Ref sig .tc := ⟨.hbm, 111, rfl⟩
abbrev main_call5_v10 : Ref sig .tc := ⟨.hbm, 112, rfl⟩
abbrev main_call5_v11 : Ref sig .tc := ⟨.hbm, 113, rfl⟩
abbrev main_call5_c_3 : Ref sig .tc := ⟨.hbm, 114, rfl⟩
abbrev main_call5_v12 : Ref sig .tc := ⟨.hbm, 115, rfl⟩
abbrev main_call5_v13 : Ref sig .tc := ⟨.hbm, 116, rfl⟩
abbrev main_call5_c_4 : Ref sig .tc := ⟨.hbm, 117, rfl⟩
abbrev main_call5_v14 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_call6_c : Ref sig .tc := ⟨.hbm, 122, rfl⟩
abbrev main_call6_v0 : Ref sig .tc := ⟨.hbm, 123, rfl⟩
abbrev main_call6_v1 : Ref sig .tc := ⟨.hbm, 124, rfl⟩
abbrev main_call6_c_0 : Ref sig .tc := ⟨.hbm, 125, rfl⟩
abbrev main_call6_v2 : Ref sig .tc := ⟨.hbm, 126, rfl⟩
abbrev main_call6_v3 : Ref sig .tc := ⟨.hbm, 127, rfl⟩
abbrev main_call6_v4 : Ref sig .tc := ⟨.hbm, 128, rfl⟩
abbrev main_call6_c_1 : Ref sig .tc := ⟨.hbm, 129, rfl⟩
abbrev main_call6_c_2 : Ref sig .tc := ⟨.hbm, 130, rfl⟩
abbrev main_call6_v5 : Ref sig .tc := ⟨.hbm, 131, rfl⟩
abbrev main_call6_v6 : Ref sig .tc := ⟨.hbm, 132, rfl⟩
abbrev main_call6_v7 : Ref sig .tc := ⟨.hbm, 133, rfl⟩
abbrev main_call6_v8 : Ref sig .tc := ⟨.hbm, 134, rfl⟩
abbrev main_call6_v9 : Ref sig .tc := ⟨.hbm, 135, rfl⟩
abbrev main_call6_v10 : Ref sig .tc := ⟨.hbm, 136, rfl⟩
abbrev main_call6_c_3 : Ref sig .tc := ⟨.hbm, 137, rfl⟩
abbrev main_call6_v11 : Ref sig .tc := ⟨.hbm, 138, rfl⟩
abbrev main_call6_v12 : Ref sig .tc := ⟨.hbm, 139, rfl⟩
abbrev main_call6_v13 : Ref sig .tc := ⟨.hbm, 140, rfl⟩
abbrev main_call6_cst : Ref sig .tc := ⟨.hbm, 141, rfl⟩
abbrev main_call6_v14 : Ref sig .tc := ⟨.hbm, 142, rfl⟩
abbrev main_v46 : Ref sig .tc := ⟨.hbm, 143, rfl⟩
abbrev main_v47 : Ref sig .tc := ⟨.hbm, 144, rfl⟩
abbrev main_call7_c : Ref sig .tc := ⟨.hbm, 145, rfl⟩
abbrev main_call7_v0 : Ref sig .tc := ⟨.hbm, 146, rfl⟩
abbrev main_call7_v1 : Ref sig .tc := ⟨.hbm, 147, rfl⟩
abbrev main_call7_c_0 : Ref sig .tc := ⟨.hbm, 148, rfl⟩
abbrev main_call7_v2 : Ref sig .tc := ⟨.hbm, 149, rfl⟩
abbrev main_call7_v3 : Ref sig .tc := ⟨.hbm, 150, rfl⟩
abbrev main_call7_v4 : Ref sig .tc := ⟨.hbm, 151, rfl⟩
abbrev main_call7_c_1 : Ref sig .tc := ⟨.hbm, 152, rfl⟩
abbrev main_call7_c_2 : Ref sig .tc := ⟨.hbm, 153, rfl⟩
abbrev main_call7_v5 : Ref sig .tc := ⟨.hbm, 154, rfl⟩
abbrev main_call7_v6 : Ref sig .tc := ⟨.hbm, 155, rfl⟩
abbrev main_call7_v7 : Ref sig .tc := ⟨.hbm, 156, rfl⟩
abbrev main_call7_v8 : Ref sig .tc := ⟨.hbm, 157, rfl⟩
abbrev main_call7_v9 : Ref sig .tc := ⟨.hbm, 158, rfl⟩
abbrev main_call7_v10 : Ref sig .tc := ⟨.hbm, 159, rfl⟩
abbrev main_call7_c_3 : Ref sig .tc := ⟨.hbm, 160, rfl⟩
abbrev main_call7_v11 : Ref sig .tc := ⟨.hbm, 161, rfl⟩
abbrev main_call7_v12 : Ref sig .tc := ⟨.hbm, 162, rfl⟩
abbrev main_call7_v13 : Ref sig .tc := ⟨.hbm, 163, rfl⟩
abbrev main_call7_cst : Ref sig .tc := ⟨.hbm, 164, rfl⟩
abbrev main_call7_v14 : Ref sig .tc := ⟨.hbm, 165, rfl⟩
abbrev main_v48 : Ref sig .tc := ⟨.hbm, 166, rfl⟩
abbrev main_v49 : Ref sig .tc := ⟨.hbm, 167, rfl⟩
abbrev main_call8_v0 : Ref sig .tc := ⟨.hbm, 168, rfl⟩
abbrev main_call8_cst : Ref sig .tc := ⟨.hbm, 169, rfl⟩
abbrev main_call8_c : Ref sig .tc := ⟨.hbm, 170, rfl⟩
abbrev main_call8_v1_0 : Ref sig .tc := ⟨.hbm, 171, rfl⟩
abbrev main_v50 : Ref sig .tc := ⟨.hbm, 172, rfl⟩
abbrev main_cst_7 : Ref sig .tc := ⟨.hbm, 173, rfl⟩
abbrev main_v51 : Ref sig .tc := ⟨.hbm, 174, rfl⟩
abbrev main_v52 : Ref sig .tc := ⟨.hbm, 175, rfl⟩
abbrev main_call9_v0 : Ref sig .tc := ⟨.hbm, 176, rfl⟩
abbrev main_call9_v1_0 : Ref sig .tc := ⟨.hbm, 177, rfl⟩
abbrev main_v53 : Ref sig .tc := ⟨.hbm, 178, rfl⟩
abbrev main_call10_c : Ref sig .tc := ⟨.hbm, 179, rfl⟩
abbrev main_call10_v0 : Ref sig .tc := ⟨.hbm, 180, rfl⟩
abbrev main_call10_v1 : Ref sig .tc := ⟨.hbm, 181, rfl⟩
abbrev main_call10_c_0 : Ref sig .tc := ⟨.hbm, 182, rfl⟩
abbrev main_call10_v2 : Ref sig .tc := ⟨.hbm, 183, rfl⟩
abbrev main_call10_v3 : Ref sig .tc := ⟨.hbm, 184, rfl⟩
abbrev main_call10_v4 : Ref sig .tc := ⟨.hbm, 185, rfl⟩
abbrev main_call10_v5 : Ref sig .tc := ⟨.hbm, 186, rfl⟩
abbrev main_call10_c_1 : Ref sig .tc := ⟨.hbm, 187, rfl⟩
abbrev main_call10_c_2 : Ref sig .tc := ⟨.hbm, 188, rfl⟩
abbrev main_call10_v6 : Ref sig .tc := ⟨.hbm, 189, rfl⟩
abbrev main_call10_v7 : Ref sig .tc := ⟨.hbm, 190, rfl⟩
abbrev main_call10_v8 : Ref sig .tc := ⟨.hbm, 191, rfl⟩
abbrev main_call10_v9 : Ref sig .tc := ⟨.hbm, 192, rfl⟩
abbrev main_call10_v10 : Ref sig .tc := ⟨.hbm, 193, rfl⟩
abbrev main_call10_v11 : Ref sig .tc := ⟨.hbm, 194, rfl⟩
abbrev main_call10_c_3 : Ref sig .tc := ⟨.hbm, 195, rfl⟩
abbrev main_call10_v12 : Ref sig .tc := ⟨.hbm, 196, rfl⟩
abbrev main_call10_v13 : Ref sig .tc := ⟨.hbm, 197, rfl⟩
abbrev main_call10_c_4 : Ref sig .tc := ⟨.hbm, 198, rfl⟩
abbrev main_call10_v14 : Ref sig .tc := ⟨.hbm, 199, rfl⟩
abbrev main_v54 : Ref sig .tc := ⟨.hbm, 200, rfl⟩
abbrev main_call11_c : Ref sig .tc := ⟨.hbm, 201, rfl⟩
abbrev main_call11_v0 : Ref sig .tc := ⟨.hbm, 202, rfl⟩
abbrev main_call11_v1 : Ref sig .tc := ⟨.hbm, 203, rfl⟩
abbrev main_call11_c_0 : Ref sig .tc := ⟨.hbm, 204, rfl⟩
abbrev main_call11_v2 : Ref sig .tc := ⟨.hbm, 205, rfl⟩
abbrev main_call11_v3 : Ref sig .tc := ⟨.hbm, 206, rfl⟩
abbrev main_call11_v4 : Ref sig .tc := ⟨.hbm, 207, rfl⟩
abbrev main_call11_v5 : Ref sig .tc := ⟨.hbm, 208, rfl⟩
abbrev main_call11_c_1 : Ref sig .tc := ⟨.hbm, 209, rfl⟩
abbrev main_call11_c_2 : Ref sig .tc := ⟨.hbm, 210, rfl⟩
abbrev main_call11_v6 : Ref sig .tc := ⟨.hbm, 211, rfl⟩
abbrev main_call11_v7 : Ref sig .tc := ⟨.hbm, 212, rfl⟩
abbrev main_call11_v8 : Ref sig .tc := ⟨.hbm, 213, rfl⟩
abbrev main_call11_v9 : Ref sig .tc := ⟨.hbm, 214, rfl⟩
abbrev main_call11_v10 : Ref sig .tc := ⟨.hbm, 215, rfl⟩
abbrev main_call11_v11 : Ref sig .tc := ⟨.hbm, 216, rfl⟩
abbrev main_call11_c_3 : Ref sig .tc := ⟨.hbm, 217, rfl⟩
abbrev main_call11_v12 : Ref sig .tc := ⟨.hbm, 218, rfl⟩
abbrev main_call11_v13 : Ref sig .tc := ⟨.hbm, 219, rfl⟩
abbrev main_call11_c_4 : Ref sig .tc := ⟨.hbm, 220, rfl⟩
abbrev main_call11_v14 : Ref sig .tc := ⟨.hbm, 221, rfl⟩
abbrev main_v55 : Ref sig .tc := ⟨.hbm, 222, rfl⟩
abbrev main_v56 : Ref sig .tc := ⟨.hbm, 223, rfl⟩
abbrev main_v57 : Ref sig .tc := ⟨.hbm, 224, rfl⟩
abbrev main_v58 : Ref sig .tc := ⟨.hbm, 225, rfl⟩
abbrev main_v59 : Ref sig .tc := ⟨.hbm, 226, rfl⟩
abbrev main_v60 : Ref sig .tc := ⟨.hbm, 227, rfl⟩
abbrev main_v61 : Ref sig .tc := ⟨.hbm, 228, rfl⟩
abbrev main_v62 : Ref sig .tc := ⟨.hbm, 229, rfl⟩
abbrev main_v63 : Ref sig .tc := ⟨.hbm, 230, rfl⟩
abbrev main_v64 : Ref sig .tc := ⟨.hbm, 231, rfl⟩
abbrev main_v65 : Ref sig .tc := ⟨.hbm, 232, rfl⟩
abbrev main_c_8 : Ref sig .tc := ⟨.hbm, 233, rfl⟩
abbrev main_v66 : Ref sig .tc := ⟨.hbm, 234, rfl⟩
abbrev main_c_9 : Ref sig .tc := ⟨.hbm, 235, rfl⟩
abbrev main_v67 : Ref sig .tc := ⟨.hbm, 236, rfl⟩
abbrev main_v68 : Ref sig .tc := ⟨.hbm, 237, rfl⟩
abbrev main_c_10 : Ref sig .tc := ⟨.hbm, 238, rfl⟩
abbrev main_v69 : Ref sig .tc := ⟨.hbm, 239, rfl⟩
abbrev main_v70 : Ref sig .tc := ⟨.hbm, 240, rfl⟩
abbrev main_v71 : Ref sig .tc := ⟨.hbm, 241, rfl⟩
abbrev main_c_11 : Ref sig .tc := ⟨.hbm, 242, rfl⟩
abbrev main_v72 : Ref sig .tc := ⟨.hbm, 243, rfl⟩
abbrev main_v73 : Ref sig .tc := ⟨.hbm, 244, rfl⟩
abbrev main_c_12 : Ref sig .tc := ⟨.hbm, 245, rfl⟩
abbrev main_v74 : Ref sig .tc := ⟨.hbm, 246, rfl⟩
abbrev main_v75 : Ref sig .tc := ⟨.hbm, 247, rfl⟩
abbrev main_v76 : Ref sig .tc := ⟨.hbm, 248, rfl⟩
abbrev main_v77 : Ref sig .tc := ⟨.hbm, 249, rfl⟩
abbrev main_v78 : Ref sig .tc := ⟨.hbm, 250, rfl⟩
abbrev main_v79 : Ref sig .tc := ⟨.hbm, 251, rfl⟩
abbrev main_v80 : Ref sig .tc := ⟨.hbm, 252, rfl⟩
abbrev main_v81 : Ref sig .tc := ⟨.hbm, 253, rfl⟩
abbrev main_v82 : Ref sig .tc := ⟨.hbm, 254, rfl⟩
abbrev main_v83 : Ref sig .tc := ⟨.hbm, 255, rfl⟩
abbrev main_v84 : Ref sig .tc := ⟨.hbm, 256, rfl⟩
abbrev main_v85 : Ref sig .tc := ⟨.hbm, 257, rfl⟩
abbrev main_v86 : Ref sig .tc := ⟨.hbm, 258, rfl⟩
abbrev main_v87 : Ref sig .tc := ⟨.hbm, 259, rfl⟩
abbrev main_v88 : Ref sig .tc := ⟨.hbm, 260, rfl⟩
abbrev main_v89 : Ref sig .tc := ⟨.hbm, 261, rfl⟩
abbrev main_v90 : Ref sig .tc := ⟨.hbm, 262, rfl⟩
abbrev main_v91 : Ref sig .tc := ⟨.hbm, 263, rfl⟩
abbrev main_v92 : Ref sig .tc := ⟨.hbm, 264, rfl⟩
abbrev main_v93 : Ref sig .tc := ⟨.hbm, 265, rfl⟩
abbrev main_v94 : Ref sig .tc := ⟨.hbm, 266, rfl⟩
abbrev main_v95 : Ref sig .tc := ⟨.hbm, 267, rfl⟩
abbrev main_v96 : Ref sig .tc := ⟨.hbm, 268, rfl⟩
abbrev main_v97 : Ref sig .tc := ⟨.hbm, 269, rfl⟩
abbrev main_v98 : Ref sig .tc := ⟨.hbm, 270, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc1_scratch0 : Ref sig .tc := ⟨.vmem, 25, rfl⟩
abbrev cc1_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3456 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1152 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x1152 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x1152 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x4608 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1152 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1152 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1152 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x1024x1152 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S16x1024x1152 : Shape := ⟨3, ![16, 1024, 1152]⟩
abbrev S16x256x4 : Shape := ⟨3, ![16, 256, 4]⟩
abbrev S1152 : Shape := ⟨1, ![1152]⟩
abbrev S1152x3456 : Shape := ⟨2, ![1152, 3456]⟩
abbrev S3456 : Shape := ⟨1, ![3456]⟩
abbrev S1152x1152 : Shape := ⟨2, ![1152, 1152]⟩
abbrev S1152x4608 : Shape := ⟨2, ![1152, 4608]⟩
abbrev S4608 : Shape := ⟨1, ![4608]⟩
abbrev S4608x1152 : Shape := ⟨2, ![4608, 1152]⟩
abbrev S_ : Shape := ⟨0, ![]⟩
abbrev S16x1024 : Shape := ⟨2, ![16, 1024]⟩
abbrev S16x1024x1 : Shape := ⟨3, ![16, 1024, 1]⟩
abbrev S1024 : Shape := ⟨1, ![1024]⟩
abbrev S32x32 : Shape := ⟨2, ![32, 32]⟩
abbrev S16x2x16x2 : Shape := ⟨4, ![16, 2, 16, 2]⟩
abbrev S16x16x2x2 : Shape := ⟨4, ![16, 16, 2, 2]⟩
abbrev S256x4 : Shape := ⟨2, ![256, 4]⟩
abbrev S256x4x1 : Shape := ⟨3, ![256, 4, 1]⟩
abbrev S16x256x4x1152 : Shape := ⟨4, ![16, 256, 4, 1152]⟩
abbrev S16x256x1152 : Shape := ⟨3, ![16, 256, 1152]⟩
abbrev S16x256x1x1152 : Shape := ⟨4, ![16, 256, 1, 1152]⟩
abbrev S16x256 : Shape := ⟨2, ![16, 256]⟩
abbrev S16x256x1 : Shape := ⟨3, ![16, 256, 1]⟩
abbrev S16x256x1x1 : Shape := ⟨4, ![16, 256, 1, 1]⟩
abbrev S1 : Shape := ⟨1, ![1]⟩
abbrev S1x1x1x1 : Shape := ⟨4, ![1, 1, 1, 1]⟩
abbrev S4 : Shape := ⟨1, ![4]⟩
abbrev S1x1x4 : Shape := ⟨3, ![1, 1, 4]⟩
abbrev S16x256x3 : Shape := ⟨3, ![16, 256, 3]⟩
abbrev S16x256x3x1 : Shape := ⟨4, ![16, 256, 3, 1]⟩
abbrev S16x768 : Shape := ⟨2, ![16, 768]⟩
abbrev S16x768x1 : Shape := ⟨3, ![16, 768, 1]⟩
abbrev S1x1x1 : Shape := ⟨3, ![1, 1, 1]⟩
abbrev S16x768x1152 : Shape := ⟨3, ![16, 768, 1152]⟩
abbrev S16x768x256 : Shape := ⟨3, ![16, 768, 256]⟩
abbrev S16x512 : Shape := ⟨2, ![16, 512]⟩
abbrev S16x512x1 : Shape := ⟨3, ![16, 512, 1]⟩
abbrev S16x512x1152 : Shape := ⟨3, ![16, 512, 1152]⟩
abbrev S1x1x1152 : Shape := ⟨3, ![1, 1, 1152]⟩
abbrev S16x512x3456 : Shape := ⟨3, ![16, 512, 3456]⟩
abbrev S1x1x3456 : Shape := ⟨3, ![1, 1, 3456]⟩
abbrev S16x512x16x72 : Shape := ⟨4, ![16, 512, 16, 72]⟩
abbrev S16x16x512x72 : Shape := ⟨4, ![16, 16, 512, 72]⟩
abbrev S16x16x512x512 : Shape := ⟨4, ![16, 16, 512, 512]⟩
abbrev S16x16x512 : Shape := ⟨3, ![16, 16, 512]⟩
abbrev S16x16x512x1 : Shape := ⟨4, ![16, 16, 512, 1]⟩
abbrev S16x512x4608 : Shape := ⟨3, ![16, 512, 4608]⟩
abbrev S1x1x4608 : Shape := ⟨3, ![1, 1, 4608]⟩
abbrev S16 : Shape := ⟨1, ![16]⟩
abbrev S16x1 : Shape := ⟨2, ![16, 1]⟩
abbrev S16x256x2 : Shape := ⟨3, ![16, 256, 2]⟩
abbrev S16x512x2 : Shape := ⟨3, ![16, 512, 2]⟩

abbrev nBuf : Space → Nat
  | .hbm => 476
  | .vmem => 0
  | .smem => 0
  | _ => 0

abbrev hbmTy0_0 (i : Nat) : BufTy := match i % 128 with
  | 0 => ⟨S16x1024x1152, .f32⟩
  | 1 => ⟨S16x256x4, .f32⟩
  | 2 => ⟨S1152, .f32⟩
  | 3 => ⟨S1152, .f32⟩
  | 4 => ⟨S1152, .f32⟩
  | 5 => ⟨S1152, .f32⟩
  | 6 => ⟨S1152x3456, .f32⟩
  | 7 => ⟨S3456, .f32⟩
  | 8 => ⟨S1152x1152, .f32⟩
  | 9 => ⟨S1152, .f32⟩
  | 10 => ⟨S1152x4608, .f32⟩
  | 11 => ⟨S4608, .f32⟩
  | 12 => ⟨S4608x1152, .f32⟩
  | 13 => ⟨S1152, .f32⟩
  | 14 => ⟨S16x1024x1152, .f32⟩
  | 15 => ⟨S_, .f32⟩
  | 16 => ⟨S16x1024, .f32⟩
  | 17 => ⟨S16x1024x1, .f32⟩
  | 18 => ⟨S16x1024x1, .f32⟩
  | 19 => ⟨S_, .f32⟩
  | 20 => ⟨S16x1024x1, .f32⟩
  | 21 => ⟨S16x1024x1, .f32⟩
  | 22 => ⟨S16x1024x1152, .f32⟩
  | 23 => ⟨S16x1024x1152, .f32⟩
  | 24 => ⟨S1024, .i32⟩
  | 25 => ⟨S32x32, .i32⟩
  | 26 => ⟨S16x2x16x2, .i32⟩
  | 27 => ⟨S16x16x2x2, .i32⟩
  | 28 => ⟨S256x4, .i32⟩
  | 29 => ⟨S_, .i32⟩
  | 30 => ⟨S256x4, .i32⟩
  | 31 => ⟨S256x4, .i1⟩
  | 32 => ⟨S_, .i32⟩
  | 33 => ⟨S256x4, .i32⟩
  | 34 => ⟨S256x4, .i32⟩
  | 35 => ⟨S256x4, .i32⟩
  | 36 => ⟨S256x4x1, .i32⟩
  | 37 => ⟨S16x256x4x1152, .f32⟩
  | 38 => ⟨S_, .f32⟩
  | 39 => ⟨S16x256x1152, .f32⟩
  | 40 => ⟨S16x256x1x1152, .f32⟩
  | 41 => ⟨S_, .f32⟩
  | 42 => ⟨S16x256x1x1152, .f32⟩
  | 43 => ⟨S16x256x1x1152, .f32⟩
  | 44 => ⟨S16x256x4x1152, .f32⟩
  | 45 => ⟨S16x256x4x1152, .f32⟩
  | 46 => ⟨S_, .f32⟩
  | 47 => ⟨S16x256x4, .f32⟩
  | 48 => ⟨S_, .f32⟩
  | 49 => ⟨S16x256x4, .f32⟩
  | 50 => ⟨S16x256x4, .f32⟩
  | 51 => ⟨S_, .f32⟩
  | 52 => ⟨S16x256x4, .f32⟩
  | 53 => ⟨S16x256x4, .f32⟩
  | 54 => ⟨S16x256x4, .f32⟩
  | 55 => ⟨S16x256x4, .i32⟩
  | 56 => ⟨S_, .f32⟩
  | 57 => ⟨S_, .i32⟩
  | 58 => ⟨S16x256, .f32⟩
  | 59 => ⟨S16x256, .i32⟩
  | 60 => ⟨S16x256x4, .i32⟩
  | 61 => ⟨S16x256x1, .i32⟩
  | 62 => ⟨S_, .i32⟩
  | 63 => ⟨S16x256x1, .i32⟩
  | 64 => ⟨S16x256x1, .i1⟩
  | 65 => ⟨S_, .i32⟩
  | 66 => ⟨S16x256x1, .i32⟩
  | 67 => ⟨S16x256x1, .i32⟩
  | 68 => ⟨S16x256x1, .i32⟩
  | 69 => ⟨S16x256x1x1, .i32⟩
  | 70 => ⟨S1, .i32⟩
  | 71 => ⟨S_, .i32⟩
  | 72 => ⟨S16x256x1x1, .i32⟩
  | 73 => ⟨S16x256x1x1, .i1⟩
  | 74 => ⟨S1x1x1x1, .i32⟩
  | 75 => ⟨S16x256x1x1, .i32⟩
  | 76 => ⟨S16x256x1x1, .i1⟩
  | 77 => ⟨S16x256x1x1, .i1⟩
  | 78 => ⟨S_, .i1⟩
  | 79 => ⟨S16x256x1, .i1⟩
  | 80 => ⟨S16x256x1, .i32⟩
  | 81 => ⟨S_, .i32⟩
  | 82 => ⟨S16x256x1, .i32⟩
  | 83 => ⟨S16x256x1, .i32⟩
  | 84 => ⟨S16x256, .i32⟩
  | 85 => ⟨S4, .i32⟩
  | 86 => ⟨S1x1x4, .i32⟩
  | 87 => ⟨S16x256x1, .i32⟩
  | 88 => ⟨S16x256x4, .i32⟩
  | 89 => ⟨S16x256x4, .i32⟩
  | 90 => ⟨S16x256x4, .i1⟩
  | 91 => ⟨S_, .i32⟩
  | 92 => ⟨S_, .i32⟩
  | 93 => ⟨S16x256x4, .i32⟩
  | 94 => ⟨S16x256x4, .i32⟩
  | 95 => ⟨S16x256x4, .i32⟩
  | 96 => ⟨S16x256x4, .i32⟩
  | 97 => ⟨S16x256x3, .i32⟩
  | 98 => ⟨S_, .i32⟩
  | 99 => ⟨S16x256x3, .i32⟩
  | 100 => ⟨S16x256x3, .i1⟩
  | 101 => ⟨S_, .i32⟩
  | 102 => ⟨S16x256x3, .i32⟩
  | 103 => ⟨S16x256x3, .i32⟩
  | 104 => ⟨S16x256x3, .i32⟩
  | 105 => ⟨S16x256x3x1, .i32⟩
  | 106 => ⟨S1, .i32⟩
  | 107 => ⟨S_, .i32⟩
  | 108 => ⟨S16x256x3x1, .i32⟩
  | 109 => ⟨S16x256x3x1, .i1⟩
  | 110 => ⟨S1x1x1x1, .i32⟩
  | 111 => ⟨S16x256x3x1, .i32⟩
  | 112 => ⟨S16x256x3x1, .i1⟩
  | 113 => ⟨S16x256x3x1, .i1⟩
  | 114 => ⟨S_, .i1⟩
  | 115 => ⟨S16x256x3, .i1⟩
  | 116 => ⟨S16x256x3, .i32⟩
  | 117 => ⟨S_, .i32⟩
  | 118 => ⟨S16x256x3, .i32⟩
  | 119 => ⟨S16x256x3, .i32⟩
  | 120 => ⟨S16x768, .i32⟩
  | 121 => ⟨S16x768x1, .i32⟩
  | 122 => ⟨S_, .i32⟩
  | 123 => ⟨S16x768x1, .i32⟩
  | 124 => ⟨S16x768x1, .i1⟩
  | 125 => ⟨S_, .i32⟩
  | 126 => ⟨S16x768x1, .i32⟩
  | 127 => ⟨S16x768x1, .i32⟩
  | _ => ⟨S16x1024x1152, .f32⟩

abbrev hbmTy0_1 (i : Nat) : BufTy := match i % 128 with
  | 0 => ⟨S16x768x1, .i32⟩
  | 1 => ⟨S1, .i32⟩
  | 2 => ⟨S_, .i32⟩
  | 3 => ⟨S16x768x1, .i32⟩
  | 4 => ⟨S16x768x1, .i1⟩
  | 5 => ⟨S1x1x1, .i32⟩
  | 6 => ⟨S16x768x1, .i32⟩
  | 7 => ⟨S16x768x1, .i1⟩
  | 8 => ⟨S16x768x1, .i1⟩
  | 9 => ⟨S_, .i1⟩
  | 10 => ⟨S16x768, .i1⟩
  | 11 => ⟨S16x768x1152, .f32⟩
  | 12 => ⟨S16x768x1152, .i1⟩
  | 13 => ⟨S_, .f32⟩
  | 14 => ⟨S16x768x1152, .f32⟩
  | 15 => ⟨S16x768x1152, .f32⟩
  | 16 => ⟨S16x256x1, .i32⟩
  | 17 => ⟨S_, .i32⟩
  | 18 => ⟨S16x256x1, .i32⟩
  | 19 => ⟨S16x256x1, .i1⟩
  | 20 => ⟨S_, .i32⟩
  | 21 => ⟨S16x256x1, .i32⟩
  | 22 => ⟨S16x256x1, .i32⟩
  | 23 => ⟨S16x256x1, .i32⟩
  | 24 => ⟨S1, .i32⟩
  | 25 => ⟨S_, .i32⟩
  | 26 => ⟨S16x256x1, .i32⟩
  | 27 => ⟨S16x256x1, .i1⟩
  | 28 => ⟨S1x1x1, .i32⟩
  | 29 => ⟨S16x256x1, .i32⟩
  | 30 => ⟨S16x256x1, .i1⟩
  | 31 => ⟨S16x256x1, .i1⟩
  | 32 => ⟨S_, .i1⟩
  | 33 => ⟨S16x256, .i1⟩
  | 34 => ⟨S16x256x1152, .f32⟩
  | 35 => ⟨S16x256x1152, .i1⟩
  | 36 => ⟨S_, .f32⟩
  | 37 => ⟨S16x256x1152, .f32⟩
  | 38 => ⟨S16x256x1152, .f32⟩
  | 39 => ⟨S16x768x256, .f32⟩
  | 40 => ⟨S16x768x256, .i32⟩
  | 41 => ⟨S_, .f32⟩
  | 42 => ⟨S_, .i32⟩
  | 43 => ⟨S16x768, .f32⟩
  | 44 => ⟨S16x768, .i32⟩
  | 45 => ⟨S_, .f32⟩
  | 46 => ⟨S16x768, .f32⟩
  | 47 => ⟨S16x768, .f32⟩
  | 48 => ⟨S16x768, .i32⟩
  | 49 => ⟨S16x768, .f32⟩
  | 50 => ⟨S16x768, .i32⟩
  | 51 => ⟨S16x512, .i32⟩
  | 52 => ⟨S16x256, .i32⟩
  | 53 => ⟨S_, .i32⟩
  | 54 => ⟨S16x256, .i32⟩
  | 55 => ⟨S16x256, .i1⟩
  | 56 => ⟨S_, .i32⟩
  | 57 => ⟨S16x256, .i32⟩
  | 58 => ⟨S16x256, .i32⟩
  | 59 => ⟨S16x256, .i32⟩
  | 60 => ⟨S16x256x1, .i32⟩
  | 61 => ⟨S1, .i32⟩
  | 62 => ⟨S_, .i32⟩
  | 63 => ⟨S16x256x1, .i32⟩
  | 64 => ⟨S16x256x1, .i1⟩
  | 65 => ⟨S1x1x1, .i32⟩
  | 66 => ⟨S16x256x1, .i32⟩
  | 67 => ⟨S16x256x1, .i1⟩
  | 68 => ⟨S16x256x1, .i1⟩
  | 69 => ⟨S_, .i1⟩
  | 70 => ⟨S16x256, .i1⟩
  | 71 => ⟨S16x256, .i32⟩
  | 72 => ⟨S_, .i32⟩
  | 73 => ⟨S16x256, .i32⟩
  | 74 => ⟨S16x256, .i32⟩
  | 75 => ⟨S_, .i32⟩
  | 76 => ⟨S16x512, .i32⟩
  | 77 => ⟨S16x512, .i1⟩
  | 78 => ⟨S_, .i32⟩
  | 79 => ⟨S16x512, .i32⟩
  | 80 => ⟨S16x512, .i32⟩
  | 81 => ⟨S16x512, .i32⟩
  | 82 => ⟨S16x512x1, .i32⟩
  | 83 => ⟨S1, .i32⟩
  | 84 => ⟨S_, .i32⟩
  | 85 => ⟨S16x512x1, .i32⟩
  | 86 => ⟨S16x512x1, .i1⟩
  | 87 => ⟨S1x1x1, .i32⟩
  | 88 => ⟨S16x512x1, .i32⟩
  | 89 => ⟨S16x512x1, .i1⟩
  | 90 => ⟨S16x512x1, .i1⟩
  | 91 => ⟨S_, .i1⟩
  | 92 => ⟨S16x512, .i1⟩
  | 93 => ⟨S16x512, .i32⟩
  | 94 => ⟨S_, .i32⟩
  | 95 => ⟨S16x512, .i32⟩
  | 96 => ⟨S16x512, .i32⟩
  | 97 => ⟨S_, .i32⟩
  | 98 => ⟨S16x512, .i32⟩
  | 99 => ⟨S16x512, .i1⟩
  | 100 => ⟨S_, .i32⟩
  | 101 => ⟨S16x512, .i32⟩
  | 102 => ⟨S16x512, .i32⟩
  | 103 => ⟨S16x512, .i32⟩
  | 104 => ⟨S16x512x1, .i32⟩
  | 105 => ⟨S1, .i32⟩
  | 106 => ⟨S_, .i32⟩
  | 107 => ⟨S16x512x1, .i32⟩
  | 108 => ⟨S16x512x1, .i1⟩
  | 109 => ⟨S1x1x1, .i32⟩
  | 110 => ⟨S16x512x1, .i32⟩
  | 111 => ⟨S16x512x1, .i1⟩
  | 112 => ⟨S16x512x1, .i1⟩
  | 113 => ⟨S_, .i1⟩
  | 114 => ⟨S16x512, .i1⟩
  | 115 => ⟨S16x512, .i32⟩
  | 116 => ⟨S_, .i32⟩
  | 117 => ⟨S16x512, .i32⟩
  | 118 => ⟨S16x512, .i32⟩
  | 119 => ⟨S16x512, .i32⟩
  | 120 => ⟨S16x512x1, .i32⟩
  | 121 => ⟨S_, .i32⟩
  | 122 => ⟨S16x512x1, .i32⟩
  | 123 => ⟨S16x512x1, .i1⟩
  | 124 => ⟨S_, .i32⟩
  | 125 => ⟨S16x512x1, .i32⟩
  | 126 => ⟨S16x512x1, .i32⟩
  | 127 => ⟨S16x512x1, .i32⟩
  | _ => ⟨S16x1024x1152, .f32⟩

abbrev hbmTy0_2 (i : Nat) : BufTy := match i % 128 with
  | 0 => ⟨S1, .i32⟩
  | 1 => ⟨S_, .i32⟩
  | 2 => ⟨S16x512x1, .i32⟩
  | 3 => ⟨S16x512x1, .i1⟩
  | 4 => ⟨S1x1x1, .i32⟩
  | 5 => ⟨S16x512x1, .i32⟩
  | 6 => ⟨S16x512x1, .i1⟩
  | 7 => ⟨S16x512x1, .i1⟩
  | 8 => ⟨S_, .i1⟩
  | 9 => ⟨S16x512, .i1⟩
  | 10 => ⟨S16x512x1152, .f32⟩
  | 11 => ⟨S16x512x1152, .i1⟩
  | 12 => ⟨S_, .f32⟩
  | 13 => ⟨S16x512x1152, .f32⟩
  | 14 => ⟨S16x512x1152, .f32⟩
  | 15 => ⟨S_, .f32⟩
  | 16 => ⟨S16x512, .f32⟩
  | 17 => ⟨S16x512x1, .f32⟩
  | 18 => ⟨S_, .f32⟩
  | 19 => ⟨S16x512x1, .f32⟩
  | 20 => ⟨S16x512x1, .f32⟩
  | 21 => ⟨S16x512x1152, .f32⟩
  | 22 => ⟨S16x512x1152, .f32⟩
  | 23 => ⟨S16x512x1152, .f32⟩
  | 24 => ⟨S_, .f32⟩
  | 25 => ⟨S16x512, .f32⟩
  | 26 => ⟨S16x512x1, .f32⟩
  | 27 => ⟨S_, .f32⟩
  | 28 => ⟨S16x512x1, .f32⟩
  | 29 => ⟨S16x512x1, .f32⟩
  | 30 => ⟨S16x512x1152, .f32⟩
  | 31 => ⟨S16x512x1152, .f32⟩
  | 32 => ⟨S_, .f32⟩
  | 33 => ⟨S16x512x1, .f32⟩
  | 34 => ⟨S16x512x1, .f32⟩
  | 35 => ⟨S16x512x1, .f32⟩
  | 36 => ⟨S16x512x1152, .f32⟩
  | 37 => ⟨S16x512x1152, .f32⟩
  | 38 => ⟨S1x1x1152, .f32⟩
  | 39 => ⟨S16x512x1152, .f32⟩
  | 40 => ⟨S16x512x1152, .f32⟩
  | 41 => ⟨S1x1x1152, .f32⟩
  | 42 => ⟨S16x512x1152, .f32⟩
  | 43 => ⟨S16x512x1152, .f32⟩
  | 44 => ⟨S16x512x3456, .f32⟩
  | 45 => ⟨S1x1x3456, .f32⟩
  | 46 => ⟨S16x512x3456, .f32⟩
  | 47 => ⟨S16x512x3456, .f32⟩
  | 48 => ⟨S16x512x1152, .f32⟩
  | 49 => ⟨S16x512x1152, .f32⟩
  | 50 => ⟨S16x512x1152, .f32⟩
  | 51 => ⟨S16x512x16x72, .f32⟩
  | 52 => ⟨S16x16x512x72, .f32⟩
  | 53 => ⟨S16x512x16x72, .f32⟩
  | 54 => ⟨S16x16x512x72, .f32⟩
  | 55 => ⟨S16x512x16x72, .f32⟩
  | 56 => ⟨S16x16x512x72, .f32⟩
  | 57 => ⟨S16x16x512x512, .f32⟩
  | 58 => ⟨S_, .f32⟩
  | 59 => ⟨S16x16x512x512, .f32⟩
  | 60 => ⟨S16x16x512x512, .f32⟩
  | 61 => ⟨S_, .f32⟩
  | 62 => ⟨S16x16x512, .f32⟩
  | 63 => ⟨S_, .f32⟩
  | 64 => ⟨S16x16x512, .f32⟩
  | 65 => ⟨S16x16x512, .f32⟩
  | 66 => ⟨S16x16x512x1, .f32⟩
  | 67 => ⟨S16x16x512x512, .f32⟩
  | 68 => ⟨S16x16x512x512, .f32⟩
  | 69 => ⟨S16x16x512x512, .f32⟩
  | 70 => ⟨S_, .f32⟩
  | 71 => ⟨S16x16x512, .f32⟩
  | 72 => ⟨S16x16x512x1, .f32⟩
  | 73 => ⟨S16x16x512x512, .f32⟩
  | 74 => ⟨S16x16x512x512, .f32⟩
  | 75 => ⟨S16x16x512x72, .f32⟩
  | 76 => ⟨S16x512x16x72, .f32⟩
  | 77 => ⟨S16x512x1152, .f32⟩
  | 78 => ⟨S16x512x1152, .f32⟩
  | 79 => ⟨S16x512x1152, .f32⟩
  | 80 => ⟨S1x1x1152, .f32⟩
  | 81 => ⟨S16x512x1152, .f32⟩
  | 82 => ⟨S16x512x1152, .f32⟩
  | 83 => ⟨S_, .f32⟩
  | 84 => ⟨S16x512, .f32⟩
  | 85 => ⟨S16x512x1, .f32⟩
  | 86 => ⟨S_, .f32⟩
  | 87 => ⟨S16x512x1, .f32⟩
  | 88 => ⟨S16x512x1, .f32⟩
  | 89 => ⟨S16x512x1152, .f32⟩
  | 90 => ⟨S16x512x1152, .f32⟩
  | 91 => ⟨S16x512x1152, .f32⟩
  | 92 => ⟨S_, .f32⟩
  | 93 => ⟨S16x512, .f32⟩
  | 94 => ⟨S16x512x1, .f32⟩
  | 95 => ⟨S_, .f32⟩
  | 96 => ⟨S16x512x1, .f32⟩
  | 97 => ⟨S16x512x1, .f32⟩
  | 98 => ⟨S16x512x1152, .f32⟩
  | 99 => ⟨S16x512x1152, .f32⟩
  | 100 => ⟨S_, .f32⟩
  | 101 => ⟨S16x512x1, .f32⟩
  | 102 => ⟨S16x512x1, .f32⟩
  | 103 => ⟨S16x512x1, .f32⟩
  | 104 => ⟨S16x512x1152, .f32⟩
  | 105 => ⟨S16x512x1152, .f32⟩
  | 106 => ⟨S1x1x1152, .f32⟩
  | 107 => ⟨S16x512x1152, .f32⟩
  | 108 => ⟨S16x512x1152, .f32⟩
  | 109 => ⟨S1x1x1152, .f32⟩
  | 110 => ⟨S16x512x1152, .f32⟩
  | 111 => ⟨S16x512x1152, .f32⟩
  | 112 => ⟨S16x512x4608, .f32⟩
  | 113 => ⟨S1x1x4608, .f32⟩
  | 114 => ⟨S16x512x4608, .f32⟩
  | 115 => ⟨S16x512x4608, .f32⟩
  | 116 => ⟨S16x512x4608, .f32⟩
  | 117 => ⟨S16x512x4608, .f32⟩
  | 118 => ⟨S_, .f32⟩
  | 119 => ⟨S16x512x4608, .f32⟩
  | 120 => ⟨S16x512x4608, .f32⟩
  | 121 => ⟨S16x512x4608, .f32⟩
  | 122 => ⟨S_, .f32⟩
  | 123 => ⟨S16x512x4608, .f32⟩
  | 124 => ⟨S16x512x4608, .f32⟩
  | 125 => ⟨S16x512x4608, .f32⟩
  | 126 => ⟨S_, .f32⟩
  | 127 => ⟨S16x512x4608, .f32⟩
  | _ => ⟨S16x1024x1152, .f32⟩

abbrev hbmTy0_3 (i : Nat) : BufTy := match i % 128 with
  | 0 => ⟨S16x512x4608, .f32⟩
  | 1 => ⟨S_, .f32⟩
  | 2 => ⟨S16x512x4608, .f32⟩
  | 3 => ⟨S16x512x4608, .f32⟩
  | 4 => ⟨S16x512x4608, .f32⟩
  | 5 => ⟨S16x512x1152, .f32⟩
  | 6 => ⟨S16x512x1152, .f32⟩
  | 7 => ⟨S1x1x1152, .f32⟩
  | 8 => ⟨S16x512x1152, .f32⟩
  | 9 => ⟨S16x512x1152, .f32⟩
  | 10 => ⟨S16, .i32⟩
  | 11 => ⟨S16x1, .i32⟩
  | 12 => ⟨S16x256x1152, .f32⟩
  | 13 => ⟨S16x256x1152, .f32⟩
  | 14 => ⟨S_, .f32⟩
  | 15 => ⟨S16x1024x1152, .f32⟩
  | 16 => ⟨S_, .i32⟩
  | 17 => ⟨S16x1, .i32⟩
  | 18 => ⟨S16x1, .i1⟩
  | 19 => ⟨S_, .i32⟩
  | 20 => ⟨S16x1, .i32⟩
  | 21 => ⟨S16x1, .i32⟩
  | 22 => ⟨S16x1, .i32⟩
  | 23 => ⟨S_, .i32⟩
  | 24 => ⟨S16x256, .i32⟩
  | 25 => ⟨S16x256, .i1⟩
  | 26 => ⟨S_, .i32⟩
  | 27 => ⟨S16x256, .i32⟩
  | 28 => ⟨S16x256, .i32⟩
  | 29 => ⟨S16x256, .i32⟩
  | 30 => ⟨S16x256, .i32⟩
  | 31 => ⟨S16x256x1, .i32⟩
  | 32 => ⟨S16x256x1, .i32⟩
  | 33 => ⟨S16x256x2, .i32⟩
  | 34 => ⟨S16x1024x1152, .f32⟩
  | 35 => ⟨S_, .i32⟩
  | 36 => ⟨S16x1, .i32⟩
  | 37 => ⟨S16x1, .i1⟩
  | 38 => ⟨S_, .i32⟩
  | 39 => ⟨S16x1, .i32⟩
  | 40 => ⟨S16x1, .i32⟩
  | 41 => ⟨S16x1, .i32⟩
  | 42 => ⟨S_, .i32⟩
  | 43 => ⟨S16x256, .i32⟩
  | 44 => ⟨S16x256, .i1⟩
  | 45 => ⟨S_, .i32⟩
  | 46 => ⟨S16x256, .i32⟩
  | 47 => ⟨S16x256, .i32⟩
  | 48 => ⟨S16x256, .i32⟩
  | 49 => ⟨S16x256, .i32⟩
  | 50 => ⟨S16x256x1, .i32⟩
  | 51 => ⟨S16x256x1, .i32⟩
  | 52 => ⟨S16x256x2, .i32⟩
  | 53 => ⟨S16x1024x1152, .f32⟩
  | 54 => ⟨S_, .i32⟩
  | 55 => ⟨S16x1, .i32⟩
  | 56 => ⟨S16x1, .i1⟩
  | 57 => ⟨S_, .i32⟩
  | 58 => ⟨S16x1, .i32⟩
  | 59 => ⟨S16x1, .i32⟩
  | 60 => ⟨S16x1, .i32⟩
  | 61 => ⟨S_, .i32⟩
  | 62 => ⟨S16x512, .i32⟩
  | 63 => ⟨S16x512, .i1⟩
  | 64 => ⟨S_, .i32⟩
  | 65 => ⟨S16x512, .i32⟩
  | 66 => ⟨S16x512, .i32⟩
  | 67 => ⟨S16x512, .i32⟩
  | 68 => ⟨S16x512, .i32⟩
  | 69 => ⟨S16x512x1, .i32⟩
  | 70 => ⟨S16x512x1, .i32⟩
  | 71 => ⟨S16x512x2, .i32⟩
  | 72 => ⟨S16x512x1152, .f32⟩
  | 73 => ⟨S_, .i32⟩
  | 74 => ⟨S16x1, .i32⟩
  | 75 => ⟨S16x1, .i1⟩
  | 76 => ⟨S_, .i32⟩
  | 77 => ⟨S16x1, .i32⟩
  | 78 => ⟨S16x1, .i32⟩
  | 79 => ⟨S16x1, .i32⟩
  | 80 => ⟨S_, .i32⟩
  | 81 => ⟨S16x512, .i32⟩
  | 82 => ⟨S16x512, .i1⟩
  | 83 => ⟨S_, .i32⟩
  | 84 => ⟨S16x512, .i32⟩
  | 85 => ⟨S16x512, .i32⟩
  | 86 => ⟨S16x512, .i32⟩
  | 87 => ⟨S16x512, .i32⟩
  | 88 => ⟨S16x512x1, .i32⟩
  | 89 => ⟨S16x512x1, .i32⟩
  | 90 => ⟨S16x512x2, .i32⟩
  | 91 => ⟨S16x1024x1152, .f32⟩
  | _ => ⟨S16x1024x1152, .f32⟩

abbrev hbmTy (i : Nat) : BufTy := match i / 128 with
  | 0 => hbmTy0_0 i
  | 1 => hbmTy0_1 i
  | 2 => hbmTy0_2 i
  | 3 => hbmTy0_3 i
  | _ => ⟨S16x1024x1152, .f32⟩

abbrev bufTy : (tb : Table) → Fin (tcTables nBuf tb) → BufTy
  | .hbm, ⟨i, _⟩ => hbmTy i
  | _, _ => ⟨S16x1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_call0_v2 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c : Ref sig .tc := ⟨.hbm, 29, rfl⟩
abbrev main_v10 : Ref sig .tc := ⟨.hbm, 30, rfl⟩
abbrev main_v11 : Ref sig .tc := ⟨.hbm, 31, rfl⟩
abbrev main_c_0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_1 : Ref sig .tc := ⟨.hbm, 38, rfl⟩
abbrev main_v17 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_call1_v0 : Ref sig .tc := ⟨.hbm, 55, rfl⟩
abbrev main_call1_cst : Ref sig .tc := ⟨.hbm, 56, rfl⟩
abbrev main_call1_c : Ref sig .tc := ⟨.hbm, 57, rfl⟩
abbrev main_call1_v1_0 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_c_4 : Ref sig .tc := ⟨.hbm, 81, rfl⟩
abbrev main_call2_v14 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_c_6 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_call5_c : Ref sig .tc := ⟨.hbm, 98, rfl⟩
abbrev main_call5_v0 : Ref sig .tc := ⟨.hbm, 99, rfl⟩
abbrev main_call5_v1 : Ref sig .tc := ⟨.hbm, 100, rfl⟩
abbrev main_call5_c_0 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_call5_v5 : Ref sig .tc := ⟨.hbm, 105, rfl⟩
abbrev main_call5_c_1 : Ref sig .tc := ⟨.hbm, 106, rfl⟩
abbrev main_call5_c_2 : Ref sig .tc := ⟨.hbm, 107, rfl⟩
abbrev main_call5_v6 : Ref sig .tc := ⟨.hbm, 108, rfl⟩
abbrev main_call5_v7 : Ref sig .tc := ⟨.hbm, 109, rfl⟩
abbrev main_call5_v8 : Ref sig .tc := ⟨.hbm, 110, rfl⟩
abbrev main_call5_v9 : Ref sig .tc := ⟨.hbm, 111, rfl⟩
abbrev main_call5_v10 : Ref sig .tc := ⟨.hbm, 112, rfl⟩
abbrev main_call5_v11 : Ref sig .tc := ⟨.hbm, 113, rfl⟩
abbrev main_call5_c_3 : Ref sig .tc := ⟨.hbm, 114, rfl⟩
abbrev main_call5_v12 : Ref sig .tc := ⟨.hbm, 115, rfl⟩
abbrev main_call5_v13 : Ref sig .tc := ⟨.hbm, 116, rfl⟩
abbrev main_call5_c_4 : Ref sig .tc := ⟨.hbm, 117, rfl⟩
abbrev main_call5_v14 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_call6_c : Ref sig .tc := ⟨.hbm, 122, rfl⟩
abbrev main_call6_v0 : Ref sig .tc := ⟨.hbm, 123, rfl⟩
abbrev main_call6_v1 : Ref sig .tc := ⟨.hbm, 124, rfl⟩
abbrev main_call6_c_0 : Ref sig .tc := ⟨.hbm, 125, rfl⟩
abbrev main_call6_v2 : Ref sig .tc := ⟨.hbm, 126, rfl⟩
abbrev main_call6_v3 : Ref sig .tc := ⟨.hbm, 127, rfl⟩
abbrev main_call6_v4 : Ref sig .tc := ⟨.hbm, 128, rfl⟩
abbrev main_call6_c_1 : Ref sig .tc := ⟨.hbm, 129, rfl⟩
abbrev main_call6_c_2 : Ref sig .tc := ⟨.hbm, 130, rfl⟩
abbrev main_call6_v5 : Ref sig .tc := ⟨.hbm, 131, rfl⟩
abbrev main_call6_v6 : Ref sig .tc := ⟨.hbm, 132, rfl⟩
abbrev main_call6_v7 : Ref sig .tc := ⟨.hbm, 133, rfl⟩
abbrev main_call6_v8 : Ref sig .tc := ⟨.hbm, 134, rfl⟩
abbrev main_call6_v9 : Ref sig .tc := ⟨.hbm, 135, rfl⟩
abbrev main_call6_v10 : Ref sig .tc := ⟨.hbm, 136, rfl⟩
abbrev main_call6_c_3 : Ref sig .tc := ⟨.hbm, 137, rfl⟩
abbrev main_call6_v11 : Ref sig .tc := ⟨.hbm, 138, rfl⟩
abbrev main_call6_v12 : Ref sig .tc := ⟨.hbm, 139, rfl⟩
abbrev main_call6_v13 : Ref sig .tc := ⟨.hbm, 140, rfl⟩
abbrev main_call6_cst : Ref sig .tc := ⟨.hbm, 141, rfl⟩
abbrev main_call6_v14 : Ref sig .tc := ⟨.hbm, 142, rfl⟩
abbrev main_v46 : Ref sig .tc := ⟨.hbm, 143, rfl⟩
abbrev main_v47 : Ref sig .tc := ⟨.hbm, 144, rfl⟩
abbrev main_call7_c : Ref sig .tc := ⟨.hbm, 145, rfl⟩
abbrev main_call7_v0 : Ref sig .tc := ⟨.hbm, 146, rfl⟩
abbrev main_call7_v1 : Ref sig .tc := ⟨.hbm, 147, rfl⟩
abbrev main_call7_c_0 : Ref sig .tc := ⟨.hbm, 148, rfl⟩
abbrev main_call7_v2 : Ref sig .tc := ⟨.hbm, 149, rfl⟩
abbrev main_call7_v3 : Ref sig .tc := ⟨.hbm, 150, rfl⟩
abbrev main_call7_v4 : Ref sig .tc := ⟨.hbm, 151, rfl⟩
abbrev main_call7_c_1 : Ref sig .tc := ⟨.hbm, 152, rfl⟩
abbrev main_call7_c_2 : Ref sig .tc := ⟨.hbm, 153, rfl⟩
abbrev main_call7_v5 : Ref sig .tc := ⟨.hbm, 154, rfl⟩
abbrev main_call7_v6 : Ref sig .tc := ⟨.hbm, 155, rfl⟩
abbrev main_call7_v7 : Ref sig .tc := ⟨.hbm, 156, rfl⟩
abbrev main_call7_v8 : Ref sig .tc := ⟨.hbm, 157, rfl⟩
abbrev main_call7_v9 : Ref sig .tc := ⟨.hbm, 158, rfl⟩
abbrev main_call7_v10 : Ref sig .tc := ⟨.hbm, 159, rfl⟩
abbrev main_call7_c_3 : Ref sig .tc := ⟨.hbm, 160, rfl⟩
abbrev main_call7_v11 : Ref sig .tc := ⟨.hbm, 161, rfl⟩
abbrev main_call7_v12 : Ref sig .tc := ⟨.hbm, 162, rfl⟩
abbrev main_call7_v13 : Ref sig .tc := ⟨.hbm, 163, rfl⟩
abbrev main_call7_cst : Ref sig .tc := ⟨.hbm, 164, rfl⟩
abbrev main_call7_v14 : Ref sig .tc := ⟨.hbm, 165, rfl⟩
abbrev main_v48 : Ref sig .tc := ⟨.hbm, 166, rfl⟩
abbrev main_v49 : Ref sig .tc := ⟨.hbm, 167, rfl⟩
abbrev main_call8_v0 : Ref sig .tc := ⟨.hbm, 168, rfl⟩
abbrev main_call8_cst : Ref sig .tc := ⟨.hbm, 169, rfl⟩
abbrev main_call8_c : Ref sig .tc := ⟨.hbm, 170, rfl⟩
abbrev main_call8_v1_0 : Ref sig .tc := ⟨.hbm, 171, rfl⟩
abbrev main_v50 : Ref sig .tc := ⟨.hbm, 172, rfl⟩
abbrev main_cst_7 : Ref sig .tc := ⟨.hbm, 173, rfl⟩
abbrev main_v51 : Ref sig .tc := ⟨.hbm, 174, rfl⟩
abbrev main_v52 : Ref sig .tc := ⟨.hbm, 175, rfl⟩
abbrev main_call9_v0 : Ref sig .tc := ⟨.hbm, 176, rfl⟩
abbrev main_call9_v1_0 : Ref sig .tc := ⟨.hbm, 177, rfl⟩
abbrev main_v53 : Ref sig .tc := ⟨.hbm, 178, rfl⟩
abbrev main_v54 : Ref sig .tc := ⟨.hbm, 179, rfl⟩
abbrev main_v55 : Ref sig .tc := ⟨.hbm, 180, rfl⟩
abbrev main_call10_c : Ref sig .tc := ⟨.hbm, 181, rfl⟩
abbrev main_call10_v0 : Ref sig .tc := ⟨.hbm, 182, rfl⟩
abbrev main_call10_v1 : Ref sig .tc := ⟨.hbm, 183, rfl⟩
abbrev main_call10_c_0 : Ref sig .tc := ⟨.hbm, 184, rfl⟩
abbrev main_call10_v2 : Ref sig .tc := ⟨.hbm, 185, rfl⟩
abbrev main_call10_v3 : Ref sig .tc := ⟨.hbm, 186, rfl⟩
abbrev main_call10_v4 : Ref sig .tc := ⟨.hbm, 187, rfl⟩
abbrev main_call10_v5 : Ref sig .tc := ⟨.hbm, 188, rfl⟩
abbrev main_call10_c_1 : Ref sig .tc := ⟨.hbm, 189, rfl⟩
abbrev main_call10_c_2 : Ref sig .tc := ⟨.hbm, 190, rfl⟩
abbrev main_call10_v6 : Ref sig .tc := ⟨.hbm, 191, rfl⟩
abbrev main_call10_v7 : Ref sig .tc := ⟨.hbm, 192, rfl⟩
abbrev main_call10_v8 : Ref sig .tc := ⟨.hbm, 193, rfl⟩
abbrev main_call10_v9 : Ref sig .tc := ⟨.hbm, 194, rfl⟩
abbrev main_call10_v10 : Ref sig .tc := ⟨.hbm, 195, rfl⟩
abbrev main_call10_v11 : Ref sig .tc := ⟨.hbm, 196, rfl⟩
abbrev main_call10_c_3 : Ref sig .tc := ⟨.hbm, 197, rfl⟩
abbrev main_call10_v12 : Ref sig .tc := ⟨.hbm, 198, rfl⟩
abbrev main_call10_v13 : Ref sig .tc := ⟨.hbm, 199, rfl⟩
abbrev main_call10_c_4 : Ref sig .tc := ⟨.hbm, 200, rfl⟩
abbrev main_call10_v14 : Ref sig .tc := ⟨.hbm, 201, rfl⟩
abbrev main_v56 : Ref sig .tc := ⟨.hbm, 202, rfl⟩
abbrev main_call11_c : Ref sig .tc := ⟨.hbm, 203, rfl⟩
abbrev main_call11_v0 : Ref sig .tc := ⟨.hbm, 204, rfl⟩
abbrev main_call11_v1 : Ref sig .tc := ⟨.hbm, 205, rfl⟩
abbrev main_call11_c_0 : Ref sig .tc := ⟨.hbm, 206, rfl⟩
abbrev main_call11_v2 : Ref sig .tc := ⟨.hbm, 207, rfl⟩
abbrev main_call11_v3 : Ref sig .tc := ⟨.hbm, 208, rfl⟩
abbrev main_call11_v4 : Ref sig .tc := ⟨.hbm, 209, rfl⟩
abbrev main_call11_v5 : Ref sig .tc := ⟨.hbm, 210, rfl⟩
abbrev main_call11_c_1 : Ref sig .tc := ⟨.hbm, 211, rfl⟩
abbrev main_call11_c_2 : Ref sig .tc := ⟨.hbm, 212, rfl⟩
abbrev main_call11_v6 : Ref sig .tc := ⟨.hbm, 213, rfl⟩
abbrev main_call11_v7 : Ref sig .tc := ⟨.hbm, 214, rfl⟩
abbrev main_call11_v8 : Ref sig .tc := ⟨.hbm, 215, rfl⟩
abbrev main_call11_v9 : Ref sig .tc := ⟨.hbm, 216, rfl⟩
abbrev main_call11_v10 : Ref sig .tc := ⟨.hbm, 217, rfl⟩
abbrev main_call11_v11 : Ref sig .tc := ⟨.hbm, 218, rfl⟩
abbrev main_call11_c_3 : Ref sig .tc := ⟨.hbm, 219, rfl⟩
abbrev main_call11_v12 : Ref sig .tc := ⟨.hbm, 220, rfl⟩
abbrev main_call11_v13 : Ref sig .tc := ⟨.hbm, 221, rfl⟩
abbrev main_call11_c_4 : Ref sig .tc := ⟨.hbm, 222, rfl⟩
abbrev main_call11_v14 : Ref sig .tc := ⟨.hbm, 223, rfl⟩
abbrev main_v57 : Ref sig .tc := ⟨.hbm, 224, rfl⟩
abbrev main_call12_c : Ref sig .tc := ⟨.hbm, 225, rfl⟩
abbrev main_call12_v0 : Ref sig .tc := ⟨.hbm, 226, rfl⟩
abbrev main_call12_v1 : Ref sig .tc := ⟨.hbm, 227, rfl⟩
abbrev main_call12_c_0 : Ref sig .tc := ⟨.hbm, 228, rfl⟩
abbrev main_call12_v2 : Ref sig .tc := ⟨.hbm, 229, rfl⟩
abbrev main_call12_v3 : Ref sig .tc := ⟨.hbm, 230, rfl⟩
abbrev main_call12_v4 : Ref sig .tc := ⟨.hbm, 231, rfl⟩
abbrev main_call12_v5 : Ref sig .tc := ⟨.hbm, 232, rfl⟩
abbrev main_call12_c_1 : Ref sig .tc := ⟨.hbm, 233, rfl⟩
abbrev main_call12_c_2 : Ref sig .tc := ⟨.hbm, 234, rfl⟩
abbrev main_call12_v6 : Ref sig .tc := ⟨.hbm, 235, rfl⟩
abbrev main_call12_v7 : Ref sig .tc := ⟨.hbm, 236, rfl⟩
abbrev main_call12_v8 : Ref sig .tc := ⟨.hbm, 237, rfl⟩
abbrev main_call12_v9 : Ref sig .tc := ⟨.hbm, 238, rfl⟩
abbrev main_call12_v10 : Ref sig .tc := ⟨.hbm, 239, rfl⟩
abbrev main_call12_v11 : Ref sig .tc := ⟨.hbm, 240, rfl⟩
abbrev main_call12_c_3 : Ref sig .tc := ⟨.hbm, 241, rfl⟩
abbrev main_call12_v12 : Ref sig .tc := ⟨.hbm, 242, rfl⟩
abbrev main_call12_v13 : Ref sig .tc := ⟨.hbm, 243, rfl⟩
abbrev main_call12_c_4 : Ref sig .tc := ⟨.hbm, 244, rfl⟩
abbrev main_call12_v14 : Ref sig .tc := ⟨.hbm, 245, rfl⟩
abbrev main_v58 : Ref sig .tc := ⟨.hbm, 246, rfl⟩
abbrev main_v59 : Ref sig .tc := ⟨.hbm, 247, rfl⟩
abbrev main_v60 : Ref sig .tc := ⟨.hbm, 248, rfl⟩
abbrev main_call13_c : Ref sig .tc := ⟨.hbm, 249, rfl⟩
abbrev main_call13_v0 : Ref sig .tc := ⟨.hbm, 250, rfl⟩
abbrev main_call13_v1 : Ref sig .tc := ⟨.hbm, 251, rfl⟩
abbrev main_call13_c_0 : Ref sig .tc := ⟨.hbm, 252, rfl⟩
abbrev main_call13_v2 : Ref sig .tc := ⟨.hbm, 253, rfl⟩
abbrev main_call13_v3 : Ref sig .tc := ⟨.hbm, 254, rfl⟩
abbrev main_call13_v4 : Ref sig .tc := ⟨.hbm, 255, rfl⟩
abbrev main_call13_c_1 : Ref sig .tc := ⟨.hbm, 256, rfl⟩
abbrev main_call13_c_2 : Ref sig .tc := ⟨.hbm, 257, rfl⟩
abbrev main_call13_v5 : Ref sig .tc := ⟨.hbm, 258, rfl⟩
abbrev main_call13_v6 : Ref sig .tc := ⟨.hbm, 259, rfl⟩
abbrev main_call13_v7 : Ref sig .tc := ⟨.hbm, 260, rfl⟩
abbrev main_call13_v8 : Ref sig .tc := ⟨.hbm, 261, rfl⟩
abbrev main_call13_v9 : Ref sig .tc := ⟨.hbm, 262, rfl⟩
abbrev main_call13_v10 : Ref sig .tc := ⟨.hbm, 263, rfl⟩
abbrev main_call13_c_3 : Ref sig .tc := ⟨.hbm, 264, rfl⟩
abbrev main_call13_v11 : Ref sig .tc := ⟨.hbm, 265, rfl⟩
abbrev main_call13_v12 : Ref sig .tc := ⟨.hbm, 266, rfl⟩
abbrev main_call13_v13 : Ref sig .tc := ⟨.hbm, 267, rfl⟩
abbrev main_call13_cst : Ref sig .tc := ⟨.hbm, 268, rfl⟩
abbrev main_call13_v14 : Ref sig .tc := ⟨.hbm, 269, rfl⟩
abbrev main_v61 : Ref sig .tc := ⟨.hbm, 270, rfl⟩
abbrev main_cst_8 : Ref sig .tc := ⟨.hbm, 271, rfl⟩
abbrev main_v62 : Ref sig .tc := ⟨.hbm, 272, rfl⟩
abbrev main_v63 : Ref sig .tc := ⟨.hbm, 273, rfl⟩
abbrev main_cst_9 : Ref sig .tc := ⟨.hbm, 274, rfl⟩
abbrev main_v64 : Ref sig .tc := ⟨.hbm, 275, rfl⟩
abbrev main_v65 : Ref sig .tc := ⟨.hbm, 276, rfl⟩
abbrev main_v66 : Ref sig .tc := ⟨.hbm, 277, rfl⟩
abbrev main_v67 : Ref sig .tc := ⟨.hbm, 278, rfl⟩
abbrev main_v68 : Ref sig .tc := ⟨.hbm, 279, rfl⟩
abbrev main_cst_10 : Ref sig .tc := ⟨.hbm, 280, rfl⟩
abbrev main_v69 : Ref sig .tc := ⟨.hbm, 281, rfl⟩
abbrev main_v70 : Ref sig .tc := ⟨.hbm, 282, rfl⟩
abbrev main_cst_11 : Ref sig .tc := ⟨.hbm, 283, rfl⟩
abbrev main_v71 : Ref sig .tc := ⟨.hbm, 284, rfl⟩
abbrev main_v72 : Ref sig .tc := ⟨.hbm, 285, rfl⟩
abbrev main_v73 : Ref sig .tc := ⟨.hbm, 286, rfl⟩
abbrev main_v74 : Ref sig .tc := ⟨.hbm, 287, rfl⟩
abbrev main_cst_12 : Ref sig .tc := ⟨.hbm, 288, rfl⟩
abbrev main_v75 : Ref sig .tc := ⟨.hbm, 289, rfl⟩
abbrev main_v76 : Ref sig .tc := ⟨.hbm, 290, rfl⟩
abbrev main_v77 : Ref sig .tc := ⟨.hbm, 291, rfl⟩
abbrev main_v78 : Ref sig .tc := ⟨.hbm, 292, rfl⟩
abbrev main_v79 : Ref sig .tc := ⟨.hbm, 293, rfl⟩
abbrev main_v80 : Ref sig .tc := ⟨.hbm, 294, rfl⟩
abbrev main_v81 : Ref sig .tc := ⟨.hbm, 295, rfl⟩
abbrev main_v82 : Ref sig .tc := ⟨.hbm, 296, rfl⟩
abbrev main_v83 : Ref sig .tc := ⟨.hbm, 297, rfl⟩
abbrev main_v84 : Ref sig .tc := ⟨.hbm, 298, rfl⟩
abbrev main_v85 : Ref sig .tc := ⟨.hbm, 299, rfl⟩
abbrev main_v86 : Ref sig .tc := ⟨.hbm, 300, rfl⟩
abbrev main_v87 : Ref sig .tc := ⟨.hbm, 301, rfl⟩
abbrev main_v88 : Ref sig .tc := ⟨.hbm, 302, rfl⟩
abbrev main_v89 : Ref sig .tc := ⟨.hbm, 303, rfl⟩
abbrev main_v90 : Ref sig .tc := ⟨.hbm, 304, rfl⟩
abbrev main_v91 : Ref sig .tc := ⟨.hbm, 305, rfl⟩
abbrev main_v92 : Ref sig .tc := ⟨.hbm, 306, rfl⟩
abbrev main_v93 : Ref sig .tc := ⟨.hbm, 307, rfl⟩
abbrev main_v94 : Ref sig .tc := ⟨.hbm, 308, rfl⟩
abbrev main_v95 : Ref sig .tc := ⟨.hbm, 309, rfl⟩
abbrev main_v96 : Ref sig .tc := ⟨.hbm, 310, rfl⟩
abbrev main_v97 : Ref sig .tc := ⟨.hbm, 311, rfl⟩
abbrev main_v98 : Ref sig .tc := ⟨.hbm, 312, rfl⟩
abbrev main_v99 : Ref sig .tc := ⟨.hbm, 313, rfl⟩
abbrev main_cst_13 : Ref sig .tc := ⟨.hbm, 314, rfl⟩
abbrev main_v100 : Ref sig .tc := ⟨.hbm, 315, rfl⟩
abbrev main_v101 : Ref sig .tc := ⟨.hbm, 316, rfl⟩
abbrev main_cst_14 : Ref sig .tc := ⟨.hbm, 317, rfl⟩
abbrev main_v102 : Ref sig .tc := ⟨.hbm, 318, rfl⟩
abbrev main_cst_15 : Ref sig .tc := ⟨.hbm, 319, rfl⟩
abbrev main_v103 : Ref sig .tc := ⟨.hbm, 320, rfl⟩
abbrev main_v104 : Ref sig .tc := ⟨.hbm, 321, rfl⟩
abbrev main_v105 : Ref sig .tc := ⟨.hbm, 322, rfl⟩
abbrev main_v106 : Ref sig .tc := ⟨.hbm, 323, rfl⟩
abbrev main_v107 : Ref sig .tc := ⟨.hbm, 324, rfl⟩
abbrev main_v108 : Ref sig .tc := ⟨.hbm, 325, rfl⟩
abbrev main_cst_16 : Ref sig .tc := ⟨.hbm, 326, rfl⟩
abbrev main_v109 : Ref sig .tc := ⟨.hbm, 327, rfl⟩
abbrev main_v110 : Ref sig .tc := ⟨.hbm, 328, rfl⟩
abbrev main_v111 : Ref sig .tc := ⟨.hbm, 329, rfl⟩
abbrev main_v112 : Ref sig .tc := ⟨.hbm, 330, rfl⟩
abbrev main_v113 : Ref sig .tc := ⟨.hbm, 331, rfl⟩
abbrev main_v114 : Ref sig .tc := ⟨.hbm, 332, rfl⟩
abbrev main_v115 : Ref sig .tc := ⟨.hbm, 333, rfl⟩
abbrev main_v116 : Ref sig .tc := ⟨.hbm, 334, rfl⟩
abbrev main_v117 : Ref sig .tc := ⟨.hbm, 335, rfl⟩
abbrev main_v118 : Ref sig .tc := ⟨.hbm, 336, rfl⟩
abbrev main_v119 : Ref sig .tc := ⟨.hbm, 337, rfl⟩
abbrev main_v120 : Ref sig .tc := ⟨.hbm, 338, rfl⟩
abbrev main_cst_17 : Ref sig .tc := ⟨.hbm, 339, rfl⟩
abbrev main_v121 : Ref sig .tc := ⟨.hbm, 340, rfl⟩
abbrev main_v122 : Ref sig .tc := ⟨.hbm, 341, rfl⟩
abbrev main_cst_18 : Ref sig .tc := ⟨.hbm, 342, rfl⟩
abbrev main_v123 : Ref sig .tc := ⟨.hbm, 343, rfl⟩
abbrev main_v124 : Ref sig .tc := ⟨.hbm, 344, rfl⟩
abbrev main_v125 : Ref sig .tc := ⟨.hbm, 345, rfl⟩
abbrev main_v126 : Ref sig .tc := ⟨.hbm, 346, rfl⟩
abbrev main_v127 : Ref sig .tc := ⟨.hbm, 347, rfl⟩
abbrev main_cst_19 : Ref sig .tc := ⟨.hbm, 348, rfl⟩
abbrev main_v128 : Ref sig .tc := ⟨.hbm, 349, rfl⟩
abbrev main_v129 : Ref sig .tc := ⟨.hbm, 350, rfl⟩
abbrev main_cst_20 : Ref sig .tc := ⟨.hbm, 351, rfl⟩
abbrev main_v130 : Ref sig .tc := ⟨.hbm, 352, rfl⟩
abbrev main_v131 : Ref sig .tc := ⟨.hbm, 353, rfl⟩
abbrev main_v132 : Ref sig .tc := ⟨.hbm, 354, rfl⟩
abbrev main_v133 : Ref sig .tc := ⟨.hbm, 355, rfl⟩
abbrev main_cst_21 : Ref sig .tc := ⟨.hbm, 356, rfl⟩
abbrev main_v134 : Ref sig .tc := ⟨.hbm, 357, rfl⟩
abbrev main_v135 : Ref sig .tc := ⟨.hbm, 358, rfl⟩
abbrev main_v136 : Ref sig .tc := ⟨.hbm, 359, rfl⟩
abbrev main_v137 : Ref sig .tc := ⟨.hbm, 360, rfl⟩
abbrev main_v138 : Ref sig .tc := ⟨.hbm, 361, rfl⟩
abbrev main_v139 : Ref sig .tc := ⟨.hbm, 362, rfl⟩
abbrev main_v140 : Ref sig .tc := ⟨.hbm, 363, rfl⟩
abbrev main_v141 : Ref sig .tc := ⟨.hbm, 364, rfl⟩
abbrev main_v142 : Ref sig .tc := ⟨.hbm, 365, rfl⟩
abbrev main_v143 : Ref sig .tc := ⟨.hbm, 366, rfl⟩
abbrev main_v144 : Ref sig .tc := ⟨.hbm, 367, rfl⟩
abbrev main_v145 : Ref sig .tc := ⟨.hbm, 368, rfl⟩
abbrev main_v146 : Ref sig .tc := ⟨.hbm, 369, rfl⟩
abbrev main_v147 : Ref sig .tc := ⟨.hbm, 370, rfl⟩
abbrev main_v148 : Ref sig .tc := ⟨.hbm, 371, rfl⟩
abbrev main_v149 : Ref sig .tc := ⟨.hbm, 372, rfl⟩
abbrev main_v150 : Ref sig .tc := ⟨.hbm, 373, rfl⟩
abbrev main_cst_22 : Ref sig .tc := ⟨.hbm, 374, rfl⟩
abbrev main_v151 : Ref sig .tc := ⟨.hbm, 375, rfl⟩
abbrev main_v152 : Ref sig .tc := ⟨.hbm, 376, rfl⟩
abbrev main_v153 : Ref sig .tc := ⟨.hbm, 377, rfl⟩
abbrev main_cst_23 : Ref sig .tc := ⟨.hbm, 378, rfl⟩
abbrev main_v154 : Ref sig .tc := ⟨.hbm, 379, rfl⟩
abbrev main_v155 : Ref sig .tc := ⟨.hbm, 380, rfl⟩
abbrev main_v156 : Ref sig .tc := ⟨.hbm, 381, rfl⟩
abbrev main_cst_24 : Ref sig .tc := ⟨.hbm, 382, rfl⟩
abbrev main_v157 : Ref sig .tc := ⟨.hbm, 383, rfl⟩
abbrev main_v158 : Ref sig .tc := ⟨.hbm, 384, rfl⟩
abbrev main_cst_25 : Ref sig .tc := ⟨.hbm, 385, rfl⟩
abbrev main_v159 : Ref sig .tc := ⟨.hbm, 386, rfl⟩
abbrev main_v160 : Ref sig .tc := ⟨.hbm, 387, rfl⟩
abbrev main_v161 : Ref sig .tc := ⟨.hbm, 388, rfl⟩
abbrev main_v162 : Ref sig .tc := ⟨.hbm, 389, rfl⟩
abbrev main_v163 : Ref sig .tc := ⟨.hbm, 390, rfl⟩
abbrev main_v164 : Ref sig .tc := ⟨.hbm, 391, rfl⟩
abbrev main_v165 : Ref sig .tc := ⟨.hbm, 392, rfl⟩
abbrev main_v166 : Ref sig .tc := ⟨.hbm, 393, rfl⟩
abbrev main_v167 : Ref sig .tc := ⟨.hbm, 394, rfl⟩
abbrev main_v168 : Ref sig .tc := ⟨.hbm, 395, rfl⟩
abbrev main_v169 : Ref sig .tc := ⟨.hbm, 396, rfl⟩
abbrev main_v170 : Ref sig .tc := ⟨.hbm, 397, rfl⟩
abbrev main_cst_26 : Ref sig .tc := ⟨.hbm, 398, rfl⟩
abbrev main_v171 : Ref sig .tc := ⟨.hbm, 399, rfl⟩
abbrev main_c_27 : Ref sig .tc := ⟨.hbm, 400, rfl⟩
abbrev main_v172 : Ref sig .tc := ⟨.hbm, 401, rfl⟩
abbrev main_v173 : Ref sig .tc := ⟨.hbm, 402, rfl⟩
abbrev main_c_28 : Ref sig .tc := ⟨.hbm, 403, rfl⟩
abbrev main_v174 : Ref sig .tc := ⟨.hbm, 404, rfl⟩
abbrev main_v175 : Ref sig .tc := ⟨.hbm, 405, rfl⟩
abbrev main_v176 : Ref sig .tc := ⟨.hbm, 406, rfl⟩
abbrev main_c_29 : Ref sig .tc := ⟨.hbm, 407, rfl⟩
abbrev main_v177 : Ref sig .tc := ⟨.hbm, 408, rfl⟩
abbrev main_v178 : Ref sig .tc := ⟨.hbm, 409, rfl⟩
abbrev main_c_30 : Ref sig .tc := ⟨.hbm, 410, rfl⟩
abbrev main_v179 : Ref sig .tc := ⟨.hbm, 411, rfl⟩
abbrev main_v180 : Ref sig .tc := ⟨.hbm, 412, rfl⟩
abbrev main_v181 : Ref sig .tc := ⟨.hbm, 413, rfl⟩
abbrev main_v182 : Ref sig .tc := ⟨.hbm, 414, rfl⟩
abbrev main_v183 : Ref sig .tc := ⟨.hbm, 415, rfl⟩
abbrev main_v184 : Ref sig .tc := ⟨.hbm, 416, rfl⟩
abbrev main_v185 : Ref sig .tc := ⟨.hbm, 417, rfl⟩
abbrev main_v186 : Ref sig .tc := ⟨.hbm, 418, rfl⟩
abbrev main_c_31 : Ref sig .tc := ⟨.hbm, 419, rfl⟩
abbrev main_v187 : Ref sig .tc := ⟨.hbm, 420, rfl⟩
abbrev main_v188 : Ref sig .tc := ⟨.hbm, 421, rfl⟩
abbrev main_c_32 : Ref sig .tc := ⟨.hbm, 422, rfl⟩
abbrev main_v189 : Ref sig .tc := ⟨.hbm, 423, rfl⟩
abbrev main_v190 : Ref sig .tc := ⟨.hbm, 424, rfl⟩
abbrev main_v191 : Ref sig .tc := ⟨.hbm, 425, rfl⟩
abbrev main_c_33 : Ref sig .tc := ⟨.hbm, 426, rfl⟩
abbrev main_v192 : Ref sig .tc := ⟨.hbm, 427, rfl⟩
abbrev main_v193 : Ref sig .tc := ⟨.hbm, 428, rfl⟩
abbrev main_c_34 : Ref sig .tc := ⟨.hbm, 429, rfl⟩
abbrev main_v194 : Ref sig .tc := ⟨.hbm, 430, rfl⟩
abbrev main_v195 : Ref sig .tc := ⟨.hbm, 431, rfl⟩
abbrev main_v196 : Ref sig .tc := ⟨.hbm, 432, rfl⟩
abbrev main_v197 : Ref sig .tc := ⟨.hbm, 433, rfl⟩
abbrev main_v198 : Ref sig .tc := ⟨.hbm, 434, rfl⟩
abbrev main_v199 : Ref sig .tc := ⟨.hbm, 435, rfl⟩
abbrev main_v200 : Ref sig .tc := ⟨.hbm, 436, rfl⟩
abbrev main_v201 : Ref sig .tc := ⟨.hbm, 437, rfl⟩
abbrev main_c_35 : Ref sig .tc := ⟨.hbm, 438, rfl⟩
abbrev main_v202 : Ref sig .tc := ⟨.hbm, 439, rfl⟩
abbrev main_v203 : Ref sig .tc := ⟨.hbm, 440, rfl⟩
abbrev main_c_36 : Ref sig .tc := ⟨.hbm, 441, rfl⟩
abbrev main_v204 : Ref sig .tc := ⟨.hbm, 442, rfl⟩
abbrev main_v205 : Ref sig .tc := ⟨.hbm, 443, rfl⟩
abbrev main_v206 : Ref sig .tc := ⟨.hbm, 444, rfl⟩
abbrev main_c_37 : Ref sig .tc := ⟨.hbm, 445, rfl⟩
abbrev main_v207 : Ref sig .tc := ⟨.hbm, 446, rfl⟩
abbrev main_v208 : Ref sig .tc := ⟨.hbm, 447, rfl⟩
abbrev main_c_38 : Ref sig .tc := ⟨.hbm, 448, rfl⟩
abbrev main_v209 : Ref sig .tc := ⟨.hbm, 449, rfl⟩
abbrev main_v210 : Ref sig .tc := ⟨.hbm, 450, rfl⟩
abbrev main_v211 : Ref sig .tc := ⟨.hbm, 451, rfl⟩
abbrev main_v212 : Ref sig .tc := ⟨.hbm, 452, rfl⟩
abbrev main_v213 : Ref sig .tc := ⟨.hbm, 453, rfl⟩
abbrev main_v214 : Ref sig .tc := ⟨.hbm, 454, rfl⟩
abbrev main_v215 : Ref sig .tc := ⟨.hbm, 455, rfl⟩
abbrev main_v216 : Ref sig .tc := ⟨.hbm, 456, rfl⟩
abbrev main_c_39 : Ref sig .tc := ⟨.hbm, 457, rfl⟩
abbrev main_v217 : Ref sig .tc := ⟨.hbm, 458, rfl⟩
abbrev main_v218 : Ref sig .tc := ⟨.hbm, 459, rfl⟩
abbrev main_c_40 : Ref sig .tc := ⟨.hbm, 460, rfl⟩
abbrev main_v219 : Ref sig .tc := ⟨.hbm, 461, rfl⟩
abbrev main_v220 : Ref sig .tc := ⟨.hbm, 462, rfl⟩
abbrev main_v221 : Ref sig .tc := ⟨.hbm, 463, rfl⟩
abbrev main_c_41 : Ref sig .tc := ⟨.hbm, 464, rfl⟩
abbrev main_v222 : Ref sig .tc := ⟨.hbm, 465, rfl⟩
abbrev main_v223 : Ref sig .tc := ⟨.hbm, 466, rfl⟩
abbrev main_c_42 : Ref sig .tc := ⟨.hbm, 467, rfl⟩
abbrev main_v224 : Ref sig .tc := ⟨.hbm, 468, rfl⟩
abbrev main_v225 : Ref sig .tc := ⟨.hbm, 469, rfl⟩
abbrev main_v226 : Ref sig .tc := ⟨.hbm, 470, rfl⟩
abbrev main_v227 : Ref sig .tc := ⟨.hbm, 471, rfl⟩
abbrev main_v228 : Ref sig .tc := ⟨.hbm, 472, rfl⟩
abbrev main_v229 : Ref sig .tc := ⟨.hbm, 473, rfl⟩
abbrev main_v230 : Ref sig .tc := ⟨.hbm, 474, rfl⟩
abbrev main_v231 : Ref sig .tc := ⟨.hbm, 475, rfl⟩

abbrev nD : Nat := 1
abbrev τ : Topo := Topo.v7x

variable {F : FTy → Type} [FloatOps F]
-- ==== Proof.AttnBase.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

/-!
The attention call's body, run in its two cases, at the contents `V` its region is entered at.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether fetched there or not, for any
    proof data whose array is `V`'s and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 6, through which its contents are stated (`View.read_writes_of_cover`: the
    choice does not matter). -/
abbrev VO0_6 : View sig .tc .vmem S1x512x1152 .bf16 := (Memref.whole cc0_stg6_0 : Memref sig .tc .vmem S1x512x1152 .bf16).view
/-- Each window's current staging memref at point `t`, spelled as the pipeline passes it (`bodyAt0`), and its wholeness. -/
abbrev ms0_0 (t : Fin cfg0.N) : Memref sig .tc .vmem S1x1024x1152 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3456 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1152 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1152 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1152 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x1152 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1152x3456 .bf16 := Memref.whole cc0_scratch0
abbrev scM0_1 : Memref sig .tc .vmem S1152x1152 .bf16 := Memref.whole cc0_scratch1
abbrev scM0_2 : Memref sig .tc .vmem S512x3456 .bf16 := Memref.whole cc0_scratch2
abbrev scM0_3 : Memref sig .tc .vmem S512x1152 .bf16 := Memref.whole cc0_scratch3
abbrev scM0_4 : Memref sig .tc .vmem S512x1152 .bf16 := Memref.whole cc0_scratch4
/-- The operands left in HBM that the body copies into scratch itself, whole. -/
abbrev hbM0_0 : Memref sig .tc .hbm S1152x3456 .bf16 := Memref.whole main_v85
abbrev hbM0_1 : Memref sig .tc .hbm S1152x1152 .bf16 := Memref.whole main_v89
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 10, SemLoc.dma 11] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0) := by
  rw [Pipeline.ownSems0_eq_of_list c osem0 [0, 1] (by decide) (by decide)]; rfl
/-- The HBM operands the body moves, as references: unscoped, no window's array (`Pipeline.restRefs`). -/
def H0 : Finset (Ref sig .tc) := {main_v85, main_v89}
theorem H0_sub : H0 ⊆ Pipeline.restRefs sig spec0 := by decide
/-- Their points-tos at the region-entry contents, listed. -/
theorem hbmPts0_eq (c : Dev nD) :
    (bigSep H0 (fun b => ((c : Thread nD τ).loc b) ↦{fullShare} V c b) : sProp 𝕄) = iprop(hbPt0 c hbM0_0 (V c main_v85) ∗ hbPt0 c hbM0_1 (V c main_v89)) := by
  rw [BI.bigSep_eq_bigSepL_of_eq [main_v85, main_v89] (by decide) (by decide)]; rfl

/-- The invariant of a body with transfers of its own, `Pipeline.ΦD`, conjunct by conjunct: the scratch operands owned at
    some contents, the generator register at some state, the own cells at zero, the HBM operands at their region-entry
    contents — what the body obligation hands the run and takes back. -/
theorem PhiD0_eq (c : Dev nD) :
    (Pipeline.ΦD osem0 spec0 H0 V c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r) ∗ iprop(semVal ((c : Thread nD τ), SemLoc.dma 10) 0 ∗ semVal ((c : Thread nD τ), SemLoc.dma 11) 0) ∗ iprop(hbPt0 c hbM0_0 (V c main_v85) ∗ hbPt0 c hbM0_1 (V c main_v89))) := by
  rw [Pipeline.ΦD_eq, scopedRest0_eq, ownSems00_eq, hbmPts0_eq]; simp only [scM0_0, scM0_1, scM0_2, scM0_3, scM0_4, owns_whole]; try rfl

/-- The branch condition of the body: the point is the first. -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

end Cert.KernelIdeal.Whole
-- ==== Proof.AttnRunA.lean ====
module

public import proofs.«01_k».proof.Proof.AttnBase
public import Idealize.ShloMosaic.Lib.Pipeline.FrameBody
public import Idealize.ShloMosaic.Lib.Ring
public import Idealize.ShloMosaic.Lib.Tactic
public import Idealize.ShloMosaic.Lib.WordCmp

@[expose] public section

/-!
The attention call's body, run at the point that copies the weights.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
/-- The body run in the case where the weights are copied into scratch (the first point): the pieces its stores leave in the output's buffer and in the
    scratch buffers, found by the run, with the proof that from whole buffers at their contents the body reaches its
    continuation with the inputs as they were, those pieces written, and semaphores and weights as before. -/
noncomputable def kernelRun0_A (c : Dev nD) (i : grid0.Coords) (arg1 : Memref sig .tc .vmem S1x1024x1152 .bf16) (harg1 : arg1.IsWhole) (arg2 : Memref sig .tc .vmem S1x1x512 .i32) (harg2 : arg2.IsWhole) (arg4 : Memref sig .tc .vmem S1x3456 .f32) (harg4 : arg4.IsWhole) (arg5 : Memref sig .tc .vmem S1x1152 .f32) (harg5 : arg5.IsWhole) (arg6 : Memref sig .tc .vmem S1x1152 .f32) (harg6 : arg6.IsWhole) (arg8 : Memref sig .tc .vmem S1x1152 .f32) (harg8 : arg8.IsWhole) (arg9 : Memref sig .tc .vmem S1x512x1152 .bf16) (harg9 : arg9.IsWhole) (arg10 : Memref sig .tc .vmem S1152x3456 .bf16) (harg10 : arg10.IsWhole) (arg11 : Memref sig .tc .vmem S1152x1152 .bf16) (harg11 : arg11.IsWhole) (arg12 : Memref sig .tc .vmem S512x3456 .bf16) (harg12 : arg12.IsWhole) (arg13 : Memref sig .tc .vmem S512x1152 .bf16) (harg13 : arg13.IsWhole) (arg14 : Memref sig .tc .vmem S512x1152 .bf16) (harg14 : arg14.IsWhole) (hc0 : cond0_0 i)
    (x0 : Vec F S1x1024x1152 .bf16) (x1 : Vec F S1x1x512 .i32) (x2 : Vec F S1x3456 .f32) (x3 : Vec F S1x1152 .f32) (x4 : Vec F S1x1152 .f32) (x5 : Vec F S1x1152 .f32) (fh0 : HbBuf0 (F := F) c hbM0_0) (fh1 : HbBuf0 (F := F) c hbM0_1) :
    Σ' (L6 : List (View.Piece (Elt F) S1x512x1152 .bf16)), Σ' (LS0 : List (View.Piece (Elt F) S1152x3456 .bf16)), Σ' (LS1 : List (View.Piece (Elt F) S1152x1152 .bf16)), Σ' (LT2 : List (View.Piece (Elt F) S512x3456 .bf16)), Σ' (LT3 : List (View.Piece (Elt F) S512x1152 .bf16)), { LT4 : List (View.Piece (Elt F) S512x1152 .bf16) //
      ∀ (W : Waits sig Unit) (K : PUnit → sProp 𝕄),
        iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 10) 0 ∗ semVal ((c : Thread nD τ), SemLoc.dma 11) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LT2) ∗ (∃ f, arg13.view.loc (c : Thread nD τ) ↦[arg13.view.set]{fullShare} arg13.view.writes (Elt F) f LT3) ∗ (∃ f, arg14.view.loc (c : Thread nD τ) ↦[arg14.view.set]{fullShare} arg14.view.writes (Elt F) f LT4) ∗ semVal ((c : Thread nD τ), SemLoc.dma 10) 0 ∗ semVal ((c : Thread nD τ), SemLoc.dma 11) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_sito_gather_qkv_attn i arg1 harg1 arg2 harg2 (Memref.whole main_v85) (Memref.isWhole_whole _) arg4 harg4 arg5 harg5 arg6 harg6 (Memref.whole main_v89) (Memref.isWhole_whole _) arg8 harg8 arg9 harg9 arg10 harg10 arg11 harg11 arg12 harg12 arg13 harg13 arg14 harg14 cc0_scratch5 cc0_scratch6) K } := by
  refine ⟨?_, ?_, ?_, ?_, ?_, ?_, fun W K => ?run⟩
  case run =>
    simp only [cc0_sito_gather_qkv_attn_eq_skeleton]; unfold cc0_sito_gather_qkv_attn_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hq0, Hq1, Hh0, Hh1, HW, Hk⟩
    obtain rfl := harg1.eq_unread hf0; obtain rfl := harg2.eq_unread hf1; obtain rfl := harg4.eq_unread hf2; obtain rfl := harg5.eq_unread hf3; obtain rfl := harg6.eq_unread hf4; obtain rfl := harg8.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg8.read_unread _
      iexact H5
    isplitl [H6]; · iexists _; iexact H6
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [Hq0]; · iexact Hq0
    isplitl [Hq1]; · iexact Hq1
    isplitl [Hh0]; · iexact Hh0
    isplitl [Hh1]; · iexact Hh1
    iexists _; iexact HW

end Cert.KernelIdeal.Whole
-- ==== Proof.AttnRunB.lean ====
module

public import proofs.«01_k».proof.Proof.AttnBase
public import Idealize.ShloMosaic.Lib.Pipeline.FrameBody
public import Idealize.ShloMosaic.Lib.Ring
public import Idealize.ShloMosaic.Lib.Tactic
public import Idealize.ShloMosaic.Lib.WordCmp

@[expose] public section

/-!
The attention call's body, run at a point that finds the weights in scratch.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
/-- The body run in the case where the scratch already holds the weights (every later point): the pieces its stores leave in the output's buffer and in the
    scratch buffers, found by the run, with the proof that from whole buffers at their contents the body reaches its
    continuation with the inputs as they were, those pieces written, and semaphores and weights as before. -/
noncomputable def kernelRun0_B (c : Dev nD) (i : grid0.Coords) (arg1 : Memref sig .tc .vmem S1x1024x1152 .bf16) (harg1 : arg1.IsWhole) (arg2 : Memref sig .tc .vmem S1x1x512 .i32) (harg2 : arg2.IsWhole) (arg4 : Memref sig .tc .vmem S1x3456 .f32) (harg4 : arg4.IsWhole) (arg5 : Memref sig .tc .vmem S1x1152 .f32) (harg5 : arg5.IsWhole) (arg6 : Memref sig .tc .vmem S1x1152 .f32) (harg6 : arg6.IsWhole) (arg8 : Memref sig .tc .vmem S1x1152 .f32) (harg8 : arg8.IsWhole) (arg9 : Memref sig .tc .vmem S1x512x1152 .bf16) (harg9 : arg9.IsWhole) (arg10 : Memref sig .tc .vmem S1152x3456 .bf16) (harg10 : arg10.IsWhole) (arg11 : Memref sig .tc .vmem S1152x1152 .bf16) (harg11 : arg11.IsWhole) (arg12 : Memref sig .tc .vmem S512x3456 .bf16) (harg12 : arg12.IsWhole) (arg13 : Memref sig .tc .vmem S512x1152 .bf16) (harg13 : arg13.IsWhole) (arg14 : Memref sig .tc .vmem S512x1152 .bf16) (harg14 : arg14.IsWhole) (hc0 : ¬cond0_0 i)
    (x0 : Vec F S1x1024x1152 .bf16) (x1 : Vec F S1x1x512 .i32) (x2 : Vec F S1x3456 .f32) (x3 : Vec F S1x1152 .f32) (x4 : Vec F S1x1152 .f32) (x5 : Vec F S1x1152 .f32) (xs0 : Vec F S1152x3456 .bf16) (xs1 : Vec F S1152x1152 .bf16) (fh0 : HbBuf0 (F := F) c hbM0_0) (fh1 : HbBuf0 (F := F) c hbM0_1) :
    Σ' (L6 : List (View.Piece (Elt F) S1x512x1152 .bf16)), Σ' (LS0 : List (View.Piece (Elt F) S1152x3456 .bf16)), Σ' (LS1 : List (View.Piece (Elt F) S1152x1152 .bf16)), Σ' (LT2 : List (View.Piece (Elt F) S512x3456 .bf16)), Σ' (LT3 : List (View.Piece (Elt F) S512x1152 .bf16)), { LT4 : List (View.Piece (Elt F) S512x1152 .bf16) //
      ∀ (W : Waits sig Unit) (K : PUnit → sProp 𝕄),
        iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1 ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 10) 0 ∗ semVal ((c : Thread nD τ), SemLoc.dma 11) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xs0 ∗ owns (c : Thread nD τ) arg11 fullShare xs1 ∗ (∃ f, arg12.view.loc (c : Thread nD τ) ↦[arg12.view.set]{fullShare} arg12.view.writes (Elt F) f LT2) ∗ (∃ f, arg13.view.loc (c : Thread nD τ) ↦[arg13.view.set]{fullShare} arg13.view.writes (Elt F) f LT3) ∗ (∃ f, arg14.view.loc (c : Thread nD τ) ↦[arg14.view.set]{fullShare} arg14.view.writes (Elt F) f LT4) ∗ semVal ((c : Thread nD τ), SemLoc.dma 10) 0 ∗ semVal ((c : Thread nD τ), SemLoc.dma 11) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_sito_gather_qkv_attn i arg1 harg1 arg2 harg2 (Memref.whole main_v85) (Memref.isWhole_whole _) arg4 harg4 arg5 harg5 arg6 harg6 (Memref.whole main_v89) (Memref.isWhole_whole _) arg8 harg8 arg9 harg9 arg10 harg10 arg11 harg11 arg12 harg12 arg13 harg13 arg14 harg14 cc0_scratch5 cc0_scratch6) K } := by
  refine ⟨?_, [], [], ?_, ?_, ?_, fun W K => ?run⟩
  case run =>
    simp only [cc0_sito_gather_qkv_attn_eq_skeleton]; unfold cc0_sito_gather_qkv_attn_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%ds2, %fs2, -, HS2⟩, ⟨%ds3, %fs3, -, HS3⟩, ⟨%ds4, %fs4, -, HS4⟩, Hq0, Hq1, Hh0, Hh1, HW, Hk⟩
    obtain rfl := harg1.eq_unread hf0; obtain rfl := harg2.eq_unread hf1; obtain rfl := harg4.eq_unread hf2; obtain rfl := harg5.eq_unread hf3; obtain rfl := harg6.eq_unread hf4; obtain rfl := harg8.eq_unread hf5; obtain rfl := harg10.eq_unread hfs0; obtain rfl := harg11.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg8.read_unread _
      iexact H5
    isplitl [H6]; · iexists _; iexact H6
    isplitl [HS0]
    · iexists _; isplitr; · ipureintro; exact harg10.read_unread _
      iexact HS0
    isplitl [HS1]
    · iexists _; isplitr; · ipureintro; exact harg11.read_unread _
      iexact HS1
    isplitl [HS2]; · iexists _; iexact HS2
    isplitl [HS3]; · iexists _; iexact HS3
    isplitl [HS4]; · iexists _; iexact HS4
    isplitl [Hq0]; · iexact Hq0
    isplitl [Hq1]; · iexact Hq1
    isplitl [Hh0]; · iexact Hh0
    isplitl [Hh1]; · iexact Hh1
    iexists _; iexact HW

end Cert.KernelIdeal.Whole
-- ==== Proof.WholeStore.lean ====
module

public import Idealize.ShloMosaic.Lib.VecWindow

@[expose] public section

/-! A buffer after one store of its whole shape. -/

namespace Idealize.ShloMosaic

/-- Reading a buffer whose last write was one piece of the whole shape gives that piece's data. -/
theorem View.read_writes_whole_one {sig : RefSig} {κ : Kind} {sp : Space} {s : Shape} {e : EltTy} {Val : EltTy → Type}
    (v : View sig κ sp s e) (f : v.ty.Contents Val) (x : s.Idx → Val e) :
    v.read Val (v.writes Val f [⟨Rect.whole s, x⟩]) = x :=
  View.read_writes_full v f (off := fun _ => 0) (fun a => by simp) x []

end Idealize.ShloMosaic
-- ==== Proof.AttnBody.lean ====
module

public import proofs.«01_k».proof.Proof.AttnRunA
public import proofs.«01_k».proof.Proof.AttnRunB
public import proofs.«01_k».proof.Proof.WholeStore
public import Idealize.ShloMosaic.Lib.Pipeline.FrameBody
public import Idealize.ShloMosaic.Lib.Ring
public import Idealize.ShloMosaic.Lib.Tactic
public import Idealize.ShloMosaic.Lib.WordCmp

@[expose] public section

/-!
The attention call's region at entry contents `V`: its proof data, whose invariant holds the weights in scratch from the first point on,
and the obligation of its body at every point.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The pieces the first point's run leaves in the output's buffer cover it. -/
theorem cover0_A (c : Dev nD) (i : grid0.Coords) (arg1 : Memref sig .tc .vmem S1x1024x1152 .bf16) (harg1 : arg1.IsWhole) (arg2 : Memref sig .tc .vmem S1x1x512 .i32) (harg2 : arg2.IsWhole) (arg4 : Memref sig .tc .vmem S1x3456 .f32) (harg4 : arg4.IsWhole) (arg5 : Memref sig .tc .vmem S1x1152 .f32) (harg5 : arg5.IsWhole) (arg6 : Memref sig .tc .vmem S1x1152 .f32) (harg6 : arg6.IsWhole) (arg8 : Memref sig .tc .vmem S1x1152 .f32) (harg8 : arg8.IsWhole) (arg9 : Memref sig .tc .vmem S1x512x1152 .bf16) (harg9 : arg9.IsWhole) (arg10 : Memref sig .tc .vmem S1152x3456 .bf16) (harg10 : arg10.IsWhole) (arg11 : Memref sig .tc .vmem S1152x1152 .bf16) (harg11 : arg11.IsWhole) (arg12 : Memref sig .tc .vmem S512x3456 .bf16) (harg12 : arg12.IsWhole) (arg13 : Memref sig .tc .vmem S512x1152 .bf16) (harg13 : arg13.IsWhole) (arg14 : Memref sig .tc .vmem S512x1152 .bf16) (harg14 : arg14.IsWhole) (hc0 : cond0_0 i)
    (x0 : Vec F S1x1024x1152 .bf16) (x1 : Vec F S1x1x512 .i32) (x2 : Vec F S1x3456 .f32) (x3 : Vec F S1x1152 .f32) (x4 : Vec F S1x1152 .f32) (x5 : Vec F S1x1152 .f32) (fh0 : HbBuf0 (F := F) c hbM0_0) (fh1 : HbBuf0 (F := F) c hbM0_1) (y : S1x512x1152.Idx) :
    ∃ pc ∈ (kernelRun0_A c i arg1 harg1 arg2 harg2 arg4 harg4 arg5 harg5 arg6 harg6 arg8 harg8 arg9 harg9 arg10 harg10 arg11 harg11 arg12 harg12 arg13 harg13 arg14 harg14 hc0 x0 x1 x2 x3 x4 x5 fh0 fh1).1, y ∈ pc.1.set :=
  View.cover_of_tiledL (kernelRun0_A c i arg1 harg1 arg2 harg2 arg4 harg4 arg5 harg5 arg6 harg6 arg8 harg8 arg9 harg9 arg10 harg10 arg11 harg11 arg12 harg12 arg13 harg13 arg14 harg14 hc0 x0 x1 x2 x3 x4 x5 fh0 fh1).1 S1x512x1152.size (by sl_kernel_rfl) y

/-- The pieces a later point's run leaves in the output's buffer cover it. -/
theorem cover0_B (c : Dev nD) (i : grid0.Coords) (arg1 : Memref sig .tc .vmem S1x1024x1152 .bf16) (harg1 : arg1.IsWhole) (arg2 : Memref sig .tc .vmem S1x1x512 .i32) (harg2 : arg2.IsWhole) (arg4 : Memref sig .tc .vmem S1x3456 .f32) (harg4 : arg4.IsWhole) (arg5 : Memref sig .tc .vmem S1x1152 .f32) (harg5 : arg5.IsWhole) (arg6 : Memref sig .tc .vmem S1x1152 .f32) (harg6 : arg6.IsWhole) (arg8 : Memref sig .tc .vmem S1x1152 .f32) (harg8 : arg8.IsWhole) (arg9 : Memref sig .tc .vmem S1x512x1152 .bf16) (harg9 : arg9.IsWhole) (arg10 : Memref sig .tc .vmem S1152x3456 .bf16) (harg10 : arg10.IsWhole) (arg11 : Memref sig .tc .vmem S1152x1152 .bf16) (harg11 : arg11.IsWhole) (arg12 : Memref sig .tc .vmem S512x3456 .bf16) (harg12 : arg12.IsWhole) (arg13 : Memref sig .tc .vmem S512x1152 .bf16) (harg13 : arg13.IsWhole) (arg14 : Memref sig .tc .vmem S512x1152 .bf16) (harg14 : arg14.IsWhole) (hc0 : ¬cond0_0 i)
    (x0 : Vec F S1x1024x1152 .bf16) (x1 : Vec F S1x1x512 .i32) (x2 : Vec F S1x3456 .f32) (x3 : Vec F S1x1152 .f32) (x4 : Vec F S1x1152 .f32) (x5 : Vec F S1x1152 .f32) (xs0 : Vec F S1152x3456 .bf16) (xs1 : Vec F S1152x1152 .bf16) (fh0 : HbBuf0 (F := F) c hbM0_0) (fh1 : HbBuf0 (F := F) c hbM0_1) (y : S1x512x1152.Idx) :
    ∃ pc ∈ (kernelRun0_B c i arg1 harg1 arg2 harg2 arg4 harg4 arg5 harg5 arg6 harg6 arg8 harg8 arg9 harg9 arg10 harg10 arg11 harg11 arg12 harg12 arg13 harg13 arg14 harg14 hc0 x0 x1 x2 x3 x4 x5 xs0 xs1 fh0 fh1).1, y ∈ pc.1.set :=
  View.cover_of_tiledL (kernelRun0_B c i arg1 harg1 arg2 harg2 arg4 harg4 arg5 harg5 arg6 harg6 arg8 harg8 arg9 harg9 arg10 harg10 arg11 harg11 arg12 harg12 arg13 harg13 arg14 harg14 hc0 x0 x1 x2 x3 x4 x5 xs0 xs1 fh0 fh1).1 S1x512x1152.size (by sl_kernel_rfl) y

/-- What the first point's run leaves in the output's buffer. -/
def out0_A (c : Dev nD) (i : grid0.Coords) (arg1 : Memref sig .tc .vmem S1x1024x1152 .bf16) (harg1 : arg1.IsWhole) (arg2 : Memref sig .tc .vmem S1x1x512 .i32) (harg2 : arg2.IsWhole) (arg4 : Memref sig .tc .vmem S1x3456 .f32) (harg4 : arg4.IsWhole) (arg5 : Memref sig .tc .vmem S1x1152 .f32) (harg5 : arg5.IsWhole) (arg6 : Memref sig .tc .vmem S1x1152 .f32) (harg6 : arg6.IsWhole) (arg8 : Memref sig .tc .vmem S1x1152 .f32) (harg8 : arg8.IsWhole) (arg9 : Memref sig .tc .vmem S1x512x1152 .bf16) (harg9 : arg9.IsWhole) (arg10 : Memref sig .tc .vmem S1152x3456 .bf16) (harg10 : arg10.IsWhole) (arg11 : Memref sig .tc .vmem S1152x1152 .bf16) (harg11 : arg11.IsWhole) (arg12 : Memref sig .tc .vmem S512x3456 .bf16) (harg12 : arg12.IsWhole) (arg13 : Memref sig .tc .vmem S512x1152 .bf16) (harg13 : arg13.IsWhole) (arg14 : Memref sig .tc .vmem S512x1152 .bf16) (harg14 : arg14.IsWhole) (hc0 : cond0_0 i)
    (x0 : Vec F S1x1024x1152 .bf16) (x1 : Vec F S1x1x512 .i32) (x2 : Vec F S1x3456 .f32) (x3 : Vec F S1x1152 .f32) (x4 : Vec F S1x1152 .f32) (x5 : Vec F S1x1152 .f32) (fh0 : HbBuf0 (F := F) c hbM0_0) (fh1 : HbBuf0 (F := F) c hbM0_1) : Vec F S1x512x1152 .bf16 :=
  VO0_6.read (Elt F) (VO0_6.writes (Elt F) VO0_6.junk (kernelRun0_A c i arg1 harg1 arg2 harg2 arg4 harg4 arg5 harg5 arg6 harg6 arg8 harg8 arg9 harg9 arg10 harg10 arg11 harg11 arg12 harg12 arg13 harg13 arg14 harg14 hc0 x0 x1 x2 x3 x4 x5 fh0 fh1).1)

/-- What a later point's run leaves in the output's buffer. -/
def out0_B (c : Dev nD) (i : grid0.Coords) (arg1 : Memref sig .tc .vmem S1x1024x1152 .bf16) (harg1 : arg1.IsWhole) (arg2 : Memref sig .tc .vmem S1x1x512 .i32) (harg2 : arg2.IsWhole) (arg4 : Memref sig .tc .vmem S1x3456 .f32) (harg4 : arg4.IsWhole) (arg5 : Memref sig .tc .vmem S1x1152 .f32) (harg5 : arg5.IsWhole) (arg6 : Memref sig .tc .vmem S1x1152 .f32) (harg6 : arg6.IsWhole) (arg8 : Memref sig .tc .vmem S1x1152 .f32) (harg8 : arg8.IsWhole) (arg9 : Memref sig .tc .vmem S1x512x1152 .bf16) (harg9 : arg9.IsWhole) (arg10 : Memref sig .tc .vmem S1152x3456 .bf16) (harg10 : arg10.IsWhole) (arg11 : Memref sig .tc .vmem S1152x1152 .bf16) (harg11 : arg11.IsWhole) (arg12 : Memref sig .tc .vmem S512x3456 .bf16) (harg12 : arg12.IsWhole) (arg13 : Memref sig .tc .vmem S512x1152 .bf16) (harg13 : arg13.IsWhole) (arg14 : Memref sig .tc .vmem S512x1152 .bf16) (harg14 : arg14.IsWhole) (hc0 : ¬cond0_0 i)
    (x0 : Vec F S1x1024x1152 .bf16) (x1 : Vec F S1x1x512 .i32) (x2 : Vec F S1x3456 .f32) (x3 : Vec F S1x1152 .f32) (x4 : Vec F S1x1152 .f32) (x5 : Vec F S1x1152 .f32) (xs0 : Vec F S1152x3456 .bf16) (xs1 : Vec F S1152x1152 .bf16) (fh0 : HbBuf0 (F := F) c hbM0_0) (fh1 : HbBuf0 (F := F) c hbM0_1) : Vec F S1x512x1152 .bf16 :=
  VO0_6.read (Elt F) (VO0_6.writes (Elt F) VO0_6.junk (kernelRun0_B c i arg1 harg1 arg2 harg2 arg4 harg4 arg5 harg5 arg6 harg6 arg8 harg8 arg9 harg9 arg10 harg10 arg11 harg11 arg12 harg12 arg13 harg13 arg14 harg14 hc0 x0 x1 x2 x3 x4 x5 xs0 xs1 fh0 fh1).1)

/-- Weight matrix 0 of the call, as the body finds it in memory. -/
def wt0_0 (c : Dev nD) : Vec F S1152x3456 .bf16 := hbM0_0.view.read (Elt F) (V c main_v85)

/-- The first point's transfer leaves the weights in scratch 0, whatever it held before. -/
theorem scratch0_A_0 (c : Dev nD) (i : grid0.Coords) (arg1 : Memref sig .tc .vmem S1x1024x1152 .bf16) (harg1 : arg1.IsWhole) (arg2 : Memref sig .tc .vmem S1x1x512 .i32) (harg2 : arg2.IsWhole) (arg4 : Memref sig .tc .vmem S1x3456 .f32) (harg4 : arg4.IsWhole) (arg5 : Memref sig .tc .vmem S1x1152 .f32) (harg5 : arg5.IsWhole) (arg6 : Memref sig .tc .vmem S1x1152 .f32) (harg6 : arg6.IsWhole) (arg8 : Memref sig .tc .vmem S1x1152 .f32) (harg8 : arg8.IsWhole) (arg9 : Memref sig .tc .vmem S1x512x1152 .bf16) (harg9 : arg9.IsWhole) (arg10 : Memref sig .tc .vmem S1152x3456 .bf16) (harg10 : arg10.IsWhole) (arg11 : Memref sig .tc .vmem S1152x1152 .bf16) (harg11 : arg11.IsWhole) (arg12 : Memref sig .tc .vmem S512x3456 .bf16) (harg12 : arg12.IsWhole) (arg13 : Memref sig .tc .vmem S512x1152 .bf16) (harg13 : arg13.IsWhole) (arg14 : Memref sig .tc .vmem S512x1152 .bf16) (harg14 : arg14.IsWhole) (hc0 : cond0_0 i)
    (x0 : Vec F S1x1024x1152 .bf16) (x1 : Vec F S1x1x512 .i32) (x2 : Vec F S1x3456 .f32) (x3 : Vec F S1x1152 .f32) (x4 : Vec F S1x1152 .f32) (x5 : Vec F S1x1152 .f32) (fh0 : HbBuf0 (F := F) c hbM0_0) (fh1 : HbBuf0 (F := F) c hbM0_1) (f) :
    scM0_0.view.read (Elt F) (scM0_0.view.writes (Elt F) f (kernelRun0_A c i arg1 harg1 arg2 harg2 arg4 harg4 arg5 harg5 arg6 harg6 arg8 harg8 arg9 harg9 arg10 harg10 arg11 harg11 arg12 harg12 arg13 harg13 arg14 harg14 hc0 x0 x1 x2 x3 x4 x5 fh0 fh1).2.1)
      = hbM0_0.view.read (Elt F) fh0 := by
  dsimp only [kernelRun0_A]
  exact View.read_writes_whole_one _ _ _

/-- Weight matrix 1 of the call, as the body finds it in memory. -/
def wt0_1 (c : Dev nD) : Vec F S1152x1152 .bf16 := hbM0_1.view.read (Elt F) (V c main_v89)

/-- The first point's transfer leaves the weights in scratch 1, whatever it held before. -/
theorem scratch0_A_1 (c : Dev nD) (i : grid0.Coords) (arg1 : Memref sig .tc .vmem S1x1024x1152 .bf16) (harg1 : arg1.IsWhole) (arg2 : Memref sig .tc .vmem S1x1x512 .i32) (harg2 : arg2.IsWhole) (arg4 : Memref sig .tc .vmem S1x3456 .f32) (harg4 : arg4.IsWhole) (arg5 : Memref sig .tc .vmem S1x1152 .f32) (harg5 : arg5.IsWhole) (arg6 : Memref sig .tc .vmem S1x1152 .f32) (harg6 : arg6.IsWhole) (arg8 : Memref sig .tc .vmem S1x1152 .f32) (harg8 : arg8.IsWhole) (arg9 : Memref sig .tc .vmem S1x512x1152 .bf16) (harg9 : arg9.IsWhole) (arg10 : Memref sig .tc .vmem S1152x3456 .bf16) (harg10 : arg10.IsWhole) (arg11 : Memref sig .tc .vmem S1152x1152 .bf16) (harg11 : arg11.IsWhole) (arg12 : Memref sig .tc .vmem S512x3456 .bf16) (harg12 : arg12.IsWhole) (arg13 : Memref sig .tc .vmem S512x1152 .bf16) (harg13 : arg13.IsWhole) (arg14 : Memref sig .tc .vmem S512x1152 .bf16) (harg14 : arg14.IsWhole) (hc0 : cond0_0 i)
    (x0 : Vec F S1x1024x1152 .bf16) (x1 : Vec F S1x1x512 .i32) (x2 : Vec F S1x3456 .f32) (x3 : Vec F S1x1152 .f32) (x4 : Vec F S1x1152 .f32) (x5 : Vec F S1x1152 .f32) (fh0 : HbBuf0 (F := F) c hbM0_0) (fh1 : HbBuf0 (F := F) c hbM0_1) (f) :
    scM0_1.view.read (Elt F) (scM0_1.view.writes (Elt F) f (kernelRun0_A c i arg1 harg1 arg2 harg2 arg4 harg4 arg5 harg5 arg6 harg6 arg8 harg8 arg9 harg9 arg10 harg10 arg11 harg11 arg12 harg12 arg13 harg13 arg14 harg14 hc0 x0 x1 x2 x3 x4 x5 fh0 fh1).2.2.1)
      = hbM0_1.view.read (Elt F) fh1 := by
  dsimp only [kernelRun0_A]
  exact View.read_writes_whole_one _ _ _

/-- What the output's buffer holds after the body at point `t`. -/
def outsAt0 (c : Dev nD) (t : Fin cfg0.N) : Vec F S1x512x1152 .bf16 :=
  if h : t.val % 16 = 0 then
    out0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h) (iblk0 V c 0 t) (iblk0 V c 1 t) (iblk0 V c 2 t) (iblk0 V c 3 t) (iblk0 V c 4 t) (iblk0 V c 5 t) (V c main_v85) (V c main_v89)
  else
    out0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h' => h ((hcond0_0 t).mp h')) (iblk0 V c 0 t) (iblk0 V c 1 t) (iblk0 V c 2 t) (iblk0 V c 3 t) (iblk0 V c 4 t) (iblk0 V c 5 t) (wt0_0 V c) (wt0_1 V c) (V c main_v85) (V c main_v89)

theorem outsAt0_A (c : Dev nD) (t : Fin cfg0.N) (h : t.val % 16 = 0) : outsAt0 V c t
    = out0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h) (iblk0 V c 0 t) (iblk0 V c 1 t) (iblk0 V c 2 t) (iblk0 V c 3 t) (iblk0 V c 4 t) (iblk0 V c 5 t) (V c main_v85) (V c main_v89) := dif_pos h

theorem outsAt0_B (c : Dev nD) (t : Fin cfg0.N) (h : ¬ t.val % 16 = 0) : outsAt0 V c t
    = out0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h' => h ((hcond0_0 t).mp h')) (iblk0 V c 0 t) (iblk0 V c 1 t) (iblk0 V c 2 t) (iblk0 V c 3 t) (iblk0 V c 4 t) (iblk0 V c 5 t) (wt0_0 V c) (wt0_1 V c) (V c main_v85) (V c main_v89) := dif_neg h

/-- The invariant once the first point is done: the scratch holds the weights; everything else as in the invariant of
    the entry. -/
def PhiW0 (c : Dev nD) : sProp 𝕄 :=
  iprop(iprop(owns (c : Thread nD τ) scM0_0 fullShare (wt0_0 V c) ∗ owns (c : Thread nD τ) scM0_1 fullShare (wt0_1 V c) ∗ (∃ d, owns (c : Thread nD τ) scM0_2 fullShare d) ∗ (∃ d, owns (c : Thread nD τ) scM0_3 fullShare d) ∗ (∃ d, owns (c : Thread nD τ) scM0_4 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r) ∗ iprop(semVal ((c : Thread nD τ), SemLoc.dma 10) 0 ∗ semVal ((c : Thread nD τ), SemLoc.dma 11) 0) ∗ iprop(hbPt0 c hbM0_0 (V c main_v85) ∗ hbPt0 c hbM0_1 (V c main_v89)))

/-- The invariant by the number of points done. -/
def PhiS0 (c : Dev nD) : ℕ → sProp 𝕄
  | 0 => Pipeline.ΦD osem0 spec0 H0 V c
  | _ + 1 => PhiW0 V c

/-- The proof data of the call's pipeline: arrays as the region finds them, each input's buffer left at its block, the
    output's at `outsAt0`, the invariant `PhiS0`. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t)
  Φ t := PhiS0 V c t.val
  q _ := fullShare
  owed _ := 0

/-- The arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 1200000 in
/-- The body at the first point. -/
theorem sound_body0_A (c : Dev nD) (t : Fin cfg0.N) (h : t.val % 16 = 0) :
    bodyPre0 V c t ⊢ wp frame (wpE (defs₀ (F := F)) Variants.none c none) Set.univ (bodyAt0 t) (fun _ => bodyPost0 V c t) := by
  have ht : t.val < 16 := Nat.lt_of_lt_of_eq t.isLt N_0
  unfold bodyPre0 bodyPost0 bodyAt0
  simp only [before0_0, before0_1, before0_2, before0_3, before0_4, before0_5]
  rw [show (dat0 V c).Φ t.succ = PhiW0 V c from rfl,
    after0_0, after0_1, after0_2, after0_3, after0_4, after0_5, after0_6]
  rw [show (dat0 V c).Φ t.castSucc = Pipeline.ΦD osem0 spec0 H0 V c from by
    show PhiS0 V c t.val = _
    rw [show t.val = 0 by omega]; rfl, PhiD0_eq]
  unfold PhiW0
  unfold Dat.owesAt Pipeline.owesWithin
  rw [show (dat0 V c).owed t.castSucc = 0 from rfl, show (dat0 V c).owed t.succ = 0 from rfl]
  rw [outsAt0_A V c t h]
  unfold out0_A
  iintro ⟨⟨⟨HS0, HS1, HS2, HS3, HS4, HR5, HR6, HR7, HR8, HR9, HR10, HR11, HR12, HR13, HR14, HR15, HR16⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ _ _ _ _ _ _ ((hcond0_0 t).mpr h) (iblk0 V c 0 t) (iblk0 V c 1 t) (iblk0 V c 2 t) (iblk0 V c 3 t) (iblk0 V c 4 t) (iblk0 V c 5 t) (V c main_v85) (V c main_v89)).2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, H5, ⟨%e6, H6⟩, ⟨%fT0, HS0⟩, ⟨%fT1, HS1⟩, ⟨%fT2, HS2⟩, ⟨%fT3, HS3⟩, ⟨%fT4, HS4⟩, Hq0, Hq1, Hh0, Hh1, ⟨%W', HW'⟩⟩
  isplitl [HS0 HS1 HS2 HS3 HS4 HR5 HR6 HR7 HR8 HR9 HR10 HR11 HR12 HR13 HR14 HR15 HR16 Hg Hq0 Hq1 Hh0 Hh1]
  · isplitl [HS0 HS1 HS2 HS3 HS4 HR5 HR6 HR7 HR8 HR9 HR10 HR11 HR12 HR13 HR14 HR15 HR16]
    · isplitl [HS0]
      · unfold owns; iexists _; isplitr
        swap; · iexact HS0
        ipureintro; exact scratch0_A_0 c _ _ _ _ _ _ _ _ _ _ _ _ _ _ _ _ _ _ _ _ _ _ _ _ _ _ _ _ _ _ _ _ _ _ _
      isplitl [HS1]
      · unfold owns; iexists _; isplitr
        swap; · iexact HS1
        ipureintro; exact scratch0_A_1 c _ _ _ _ _ _ _ _ _ _ _ _ _ _ _ _ _ _ _ _ _ _ _ _ _ _ _ _ _ _ _ _ _ _ _
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      iexact HR16
    isplitl [Hg]
    · iexact Hg
    isplitl [Hq0 Hq1]
    · isplitl [Hq0]; · iexact Hq0
      iexact Hq1
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover0_A c _ _ _ _ _ _ _ _ _ _ _ _ _ _ _ _ _ _ _ _ _ _ _ _ _ _ _ _ _ _ _ _ _ _)

set_option maxHeartbeats 1200000 in
/-- The body at a later point. -/
theorem sound_body0_B (c : Dev nD) (t : Fin cfg0.N) (h : ¬ t.val % 16 = 0) :
    bodyPre0 V c t ⊢ wp frame (wpE (defs₀ (F := F)) Variants.none c none) Set.univ (bodyAt0 t) (fun _ => bodyPost0 V c t) := by
  have ht : t.val < 16 := Nat.lt_of_lt_of_eq t.isLt N_0
  unfold bodyPre0 bodyPost0 bodyAt0
  simp only [before0_0, before0_1, before0_2, before0_3, before0_4, before0_5]
  rw [show (dat0 V c).Φ t.succ = PhiW0 V c from rfl,
    after0_0, after0_1, after0_2, after0_3, after0_4, after0_5, after0_6]
  rw [show (dat0 V c).Φ t.castSucc = PhiW0 V c from by
    show PhiS0 V c t.val = _
    obtain ⟨n, hn⟩ : ∃ n, t.val = n + 1 := ⟨t.val - 1, by omega⟩
    rw [hn]; rfl]
  unfold PhiW0
  unfold Dat.owesAt Pipeline.owesWithin
  rw [show (dat0 V c).owed t.castSucc = 0 from rfl, show (dat0 V c).owed t.succ = 0 from rfl]
  rw [outsAt0_B V c t h]
  unfold out0_B
  iintro ⟨⟨⟨HS0, HS1, HS2, HS3, HS4, HR5, HR6, HR7, HR8, HR9, HR10, HR11, HR12, HR13, HR14, HR15, HR16⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply ((kernelRun0_B c (grid0.coords t) _ _ _ _ _ _ _ _ _ _ _ _ _ _ _ _ _ _ _ _ _ _ _ _ (fun h' => h ((hcond0_0 t).mp h')) (iblk0 V c 0 t) (iblk0 V c 1 t) (iblk0 V c 2 t) (iblk0 V c 3 t) (iblk0 V c 4 t) (iblk0 V c 5 t) (wt0_0 V c) (wt0_1 V c) (V c main_v85) (V c main_v89)).2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, H5, ⟨%e6, H6⟩, HS0, HS1, ⟨%fT2, HS2⟩, ⟨%fT3, HS3⟩, ⟨%fT4, HS4⟩, Hq0, Hq1, Hh0, Hh1, ⟨%W', HW'⟩⟩
  isplitl [HS0 HS1 HS2 HS3 HS4 HR5 HR6 HR7 HR8 HR9 HR10 HR11 HR12 HR13 HR14 HR15 HR16 Hg Hq0 Hq1 Hh0 Hh1]
  · isplitl [HS0 HS1 HS2 HS3 HS4 HR5 HR6 HR7 HR8 HR9 HR10 HR11 HR12 HR13 HR14 HR15 HR16]
    · isplitl [HS0]; · iexact HS0
      isplitl [HS1]; · iexact HS1
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      iexact HR16
    isplitl [Hg]
    · iexact Hg
    isplitl [Hq0 Hq1]
    · isplitl [Hq0]; · iexact Hq0
      iexact Hq1
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover0_B c _ _ _ _ _ _ _ _ _ _ _ _ _ _ _ _ _ _ _ _ _ _ _ _ _ _ _ _ _ _ _ _ _ _ _ _)

/-- The body table's row at point `t`'s slots is the body. -/
theorem defs₀_row0 (t : Fin cfg0.N) :
    defs₀ (F := F) .tc cfg0.body (cfg0.bodyArgs t (cfg0.slots t)) = bodyAt0 t := by
  unfold defs₀; rw [Defs.onTc_tc]

/-- The body obligation of the call's pipeline, at every point. -/
theorem body_obligation0 (c : Dev nD) : BodyObligation (dat0 (F := F) V c) (defs₀ (F := F)) Variants.none () Set.univ := fun t => by
  rw [bigSep_W0, bigSep_W0, defs₀_row0]
  rcases Classical.em (t.val % 16 = 0) with h | h
  · exact triple_restated (sound_body0_A V c t h) rfl .rfl fun _ => .rfl
  · exact triple_restated (sound_body0_B V c t h) rfl .rfl fun _ => .rfl

/-- The invariant after the last point gives the entry's back. -/
theorem Phi_out0 (c : Dev nD) : (dat0 V c).Φ (Fin.last _) ⊢ Pipeline.ΦD osem0 spec0 H0 V c := by
  rw [show (dat0 V c).Φ (Fin.last _) = PhiW0 V c from by
    show PhiS0 V c cfg0.N = _
    rw [show cfg0.N = 15 + 1 from N_0]; rfl, PhiD0_eq]
  unfold PhiW0
  iintro ⟨⟨HS0, HS1, HS2, HS3, HS4, HR5, HR6, HR7, HR8, HR9, HR10, HR11, HR12, HR13, HR14, HR15, HR16⟩, Hg, Hq, Hh⟩
  isplitl [HS0 HS1 HS2 HS3 HS4 HR5 HR6 HR7 HR8 HR9 HR10 HR11 HR12 HR13 HR14 HR15 HR16]
  · isplitl [HS0]; · iexists _; iexact HS0
    isplitl [HS1]; · iexists _; iexact HS1
    isplitl [HS2]; · iexact HS2
    isplitl [HS3]; · iexact HS3
    isplitl [HS4]; · iexact HS4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    iexact HR16
  isplitl [Hg]; · iexact Hg
  isplitl [Hq]; · iexact Hq
  iexact Hh

end Cert.KernelIdeal.Whole
-- ==== Proof.MlpBase.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

/-!
The MLP call's body, run in its two cases, at the contents `V` its region is entered at.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether fetched there or not, for any
    proof data whose array is `V`'s and whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 6, through which its contents are stated (`View.read_writes_of_cover`: the
    choice does not matter). -/
abbrev VO1_6 : View sig .tc .vmem S1x1024x1152 .f32 := (Memref.whole cc1_stg6_0 : Memref sig .tc .vmem S1x1024x1152 .f32).view
/-- Each window's current staging memref at point `t`, spelled as the pipeline passes it (`bodyAt1`), and its wholeness. -/
abbrev ms1_0 (t : Fin cfg1.N) : Memref sig .tc .vmem S1x512x1152 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x1024 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4608 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1152 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1152 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1152 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024x1152 .f32 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S1152x4608 .bf16 := Memref.whole cc1_scratch0
abbrev scM1_1 : Memref sig .tc .vmem S4608x1152 .bf16 := Memref.whole cc1_scratch1
/-- The operands left in HBM that the body copies into scratch itself, whole. -/
abbrev hbM1_0 : Memref sig .tc .hbm S1152x4608 .bf16 := Memref.whole main_v92
abbrev hbM1_1 : Memref sig .tc .hbm S4608x1152 .bf16 := Memref.whole main_v94
/-- Memref `M`'s buffer on core `c`: its contents type, and it held whole at `f` — behind this abbreviation, so that the
    run's rewriting of the goal leaves `Memref.view` intact (the form the executor reads a held buffer in). -/
abbrev HbBuf1 (c : Dev nD) {sp : Space} {S : Shape} {e : EltTy} (M : Memref sig .tc sp S e) : Type := Buf (Elt F) (M.view.loc (c : Thread nD τ))
abbrev hbPt1 (c : Dev nD) {sp : Space} {S : Shape} {e : EltTy} (M : Memref sig .tc sp S e) (f : HbBuf1 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem1 : Fin 2 → SemLoc sig := fun j => (![SemLoc.dma 22, SemLoc.dma 23] : Fin 2 → SemLoc sig) j
theorem ownSemFacts1 : Pipeline.OwnSemFacts spec1 osem1 := by decide
/-- The cells at zero, listed. -/
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 22) 0 ∗ semVal ((c : Thread nD τ), SemLoc.dma 23) 0) := by
  rw [Pipeline.ownSems0_eq_of_list c osem1 [0, 1] (by decide) (by decide)]; rfl
/-- The HBM operands the body moves, as references: unscoped, no window's array (`Pipeline.restRefs`). -/
def H1 : Finset (Ref sig .tc) := {main_v92, main_v94}
theorem H1_sub : H1 ⊆ Pipeline.restRefs sig spec1 := by decide
/-- Their points-tos at the region-entry contents, listed. -/
theorem hbmPts1_eq (c : Dev nD) :
    (bigSep H1 (fun b => ((c : Thread nD τ).loc b) ↦{fullShare} V c b) : sProp 𝕄) = iprop(hbPt1 c hbM1_0 (V c main_v92) ∗ hbPt1 c hbM1_1 (V c main_v94)) := by
  rw [BI.bigSep_eq_bigSepL_of_eq [main_v92, main_v94] (by decide) (by decide)]; rfl

/-- The invariant of a body with transfers of its own, `Pipeline.ΦD`, conjunct by conjunct: the scratch operands owned at
    some contents, the generator register at some state, the own cells at zero, the HBM operands at their region-entry
    contents — what the body obligation hands the run and takes back. -/
theorem PhiD1_eq (c : Dev nD) :
    (Pipeline.ΦD osem1 spec1 H1 V c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ d, owns (c : Thread nD τ) scM1_0 fullShare d) ∗ (∃ d, owns (c : Thread nD τ) scM1_1 fullShare d)) ∗ (∃ r, prngReg c r) ∗ iprop(semVal ((c : Thread nD τ), SemLoc.dma 22) 0 ∗ semVal ((c : Thread nD τ), SemLoc.dma 23) 0) ∗ iprop(hbPt1 c hbM1_0 (V c main_v92) ∗ hbPt1 c hbM1_1 (V c main_v94))) := by
  rw [Pipeline.ΦD_eq, scopedRest1_eq, ownSems01_eq, hbmPts1_eq]; simp only [scM1_0, scM1_1, owns_whole]; try rfl

/-- The branch condition of the body: the point is the first. -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 16 = 0 :=
  (fun t => by
    have ht : t.val < 16 := Nat.lt_of_lt_of_eq t.isLt N_0
    have e0 : (grid1.coords t 0).val = t.val / 1 % 16 := Pipeline.Grid.coords_val t 0 (by decide) rfl
    simp only [cond1_0, e0]
    word_cmp
   : ∀ t : Fin grid1.N, cond1_0 (grid1.coords t) ↔ t.val % 16 = 0)

end Cert.KernelIdeal.Whole
-- ==== Proof.MlpRunA.lean ====
module

public import proofs.«01_k».proof.Proof.MlpBase
public import Idealize.ShloMosaic.Lib.Pipeline.FrameBody
public import Idealize.ShloMosaic.Lib.Ring
public import Idealize.ShloMosaic.Lib.Tactic
public import Idealize.ShloMosaic.Lib.WordCmp

@[expose] public section

/-!
The MLP call's body, run at the point that copies the weights.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
/-- The body run in the case where the weights are copied into scratch (the first point): the pieces its stores leave in the output's buffer and in the
    scratch buffers, found by the run, with the proof that from whole buffers at their contents the body reaches its
    continuation with the inputs as they were, those pieces written, and semaphores and weights as before. -/
noncomputable def kernelRun1_A (c : Dev nD) (i : grid1.Coords) (arg1 : Memref sig .tc .vmem S1x512x1152 .bf16) (harg1 : arg1.IsWhole) (arg2 : Memref sig .tc .vmem S1x1x1024 .i32) (harg2 : arg2.IsWhole) (arg4 : Memref sig .tc .vmem S1x4608 .f32) (harg4 : arg4.IsWhole) (arg6 : Memref sig .tc .vmem S1x1152 .f32) (harg6 : arg6.IsWhole) (arg7 : Memref sig .tc .vmem S1x1152 .f32) (harg7 : arg7.IsWhole) (arg8 : Memref sig .tc .vmem S1x1152 .f32) (harg8 : arg8.IsWhole) (arg9 : Memref sig .tc .vmem S1x1024x1152 .f32) (harg9 : arg9.IsWhole) (arg10 : Memref sig .tc .vmem S1152x4608 .bf16) (harg10 : arg10.IsWhole) (arg11 : Memref sig .tc .vmem S4608x1152 .bf16) (harg11 : arg11.IsWhole) (hc0 : cond1_0 i)
    (x0 : Vec F S1x512x1152 .bf16) (x1 : Vec F S1x1x1024 .i32) (x2 : Vec F S1x4608 .f32) (x3 : Vec F S1x1152 .f32) (x4 : Vec F S1x1152 .f32) (x5 : Vec F S1x1152 .f32) (fh0 : HbBuf1 (F := F) c hbM1_0) (fh1 : HbBuf1 (F := F) c hbM1_1) :
    Σ' (L6 : List (View.Piece (Elt F) S1x1024x1152 .f32)), Σ' (LS0 : List (View.Piece (Elt F) S1152x4608 .bf16)), { LS1 : List (View.Piece (Elt F) S4608x1152 .bf16) //
      ∀ (W : Waits sig Unit) (K : PUnit → sProp 𝕄),
        iprop(owns (c : Thread nD τ) arg1 fullShare x0 ∗ owns (c : Thread nD τ) arg2 fullShare x1 ∗ owns (c : Thread nD τ) arg4 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 22) 0 ∗ semVal ((c : Thread nD τ), SemLoc.dma 23) 0 ∗ hbPt1 c hbM1_0 fh0 ∗ hbPt1 c hbM1_1 fh1 ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ semVal ((c : Thread nD τ), SemLoc.dma 22) 0 ∗ semVal ((c : Thread nD τ), SemLoc.dma 23) 0 ∗ hbPt1 c hbM1_0 fh0 ∗ hbPt1 c hbM1_1 fh1 ∗ (∃ W', owes (c : Thread nD τ) 0 W')) -∗ K ⟨⟩))
          ⊢ wp frame (wpE (defs₀ (F := F)) Variants.none c none) Set.univ (cc1_sito_mlp_recover i arg1 harg1 arg2 harg2 (Memref.whole main_v92) (Memref.isWhole_whole _) arg4 harg4 (Memref.whole main_v94) (Memref.isWhole_whole _) arg6 harg6 arg7 harg7 arg8 harg8 arg9 harg9 arg10 harg10 arg11 harg11 cc1_scratch2 cc1_scratch3) K } := by
  refine ⟨?_, ?_, ?_, fun W K => ?run⟩
  case run =>
    simp only [cc1_sito_mlp_recover_eq_skeleton]; unfold cc1_sito_mlp_recover_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hq0, Hq1, Hh0, Hh1, HW, Hk⟩
    obtain rfl := harg1.eq_unread hf0; obtain rfl := harg2.eq_unread hf1; obtain rfl := harg4.eq_unread hf2; obtain rfl := harg6.eq_unread hf3; obtain rfl := harg7.eq_unread hf4; obtain rfl := harg8.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexists _; iexact HS0
    isplitl [HS1]; · iexists _; iexact HS1
    isplitl [Hq0]; · iexact Hq0
    isplitl [Hq1]; · iexact Hq1
    isplitl [Hh0]; · iexact Hh0
    isplitl [Hh1]; · iexact Hh1
    iexists _; iexact HW

end Cert.KernelIdeal.Whole
-- ==== Proof.MlpRunB.lean ====
module

public import proofs.«01_k».proof.Proof.MlpBase
public import Idealize.ShloMosaic.Lib.Pipeline.FrameBody
public import Idealize.ShloMosaic.Lib.Ring
public import Idealize.ShloMosaic.Lib.Tactic
public import Idealize.ShloMosaic.Lib.WordCmp

@[expose] public section

/-!
The MLP call's body, run at a point that finds the weights in scratch.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
/-- The body run in the case where the scratch already holds the weights (every later point): the pieces its stores leave in the output's buffer and in the
    scratch buffers, found by the run, with the proof that from whole buffers at their contents the body reaches its
    continuation with the inputs as they were, those pieces written, and semaphores and weights as before. -/
noncomputable def kernelRun1_B (c : Dev nD) (i : grid1.Coords) (arg1 : Memref sig .tc .vmem S1x512x1152 .bf16) (harg1 : arg1.IsWhole) (arg2 : Memref sig .tc .vmem S1x1x1024 .i32) (harg2 : arg2.IsWhole) (arg4 : Memref sig .tc .vmem S1x4608 .f32) (harg4 : arg4.IsWhole) (arg6 : Memref sig .tc .vmem S1x1152 .f32) (harg6 : arg6.IsWhole) (arg7 : Memref sig .tc .vmem S1x1152 .f32) (harg7 : arg7.IsWhole) (arg8 : Memref sig .tc .vmem S1x1152 .f32) (harg8 : arg8.IsWhole) (arg9 : Memref sig .tc .vmem S1x1024x1152 .f32) (harg9 : arg9.IsWhole) (arg10 : Memref sig .tc .vmem S1152x4608 .bf16) (harg10 : arg10.IsWhole) (arg11 : Memref sig .tc .vmem S4608x1152 .bf16) (harg11 : arg11.IsWhole) (hc0 : ¬cond1_0 i)
    (x0 : Vec F S1x512x1152 .bf16) (x1 : Vec F S1x1x1024 .i32) (x2 : Vec F S1x4608 .f32) (x3 : Vec F S1x1152 .f32) (x4 : Vec F S1x1152 .f32) (x5 : Vec F S1x1152 .f32) (xs0 : Vec F S1152x4608 .bf16) (xs1 : Vec F S4608x1152 .bf16) (fh0 : HbBuf1 (F := F) c hbM1_0) (fh1 : HbBuf1 (F := F) c hbM1_1) :
    Σ' (L6 : List (View.Piece (Elt F) S1x1024x1152 .f32)), Σ' (LS0 : List (View.Piece (Elt F) S1152x4608 .bf16)), { LS1 : List (View.Piece (Elt F) S4608x1152 .bf16) //
      ∀ (W : Waits sig Unit) (K : PUnit → sProp 𝕄),
        iprop(owns (c : Thread nD τ) arg1 fullShare x0 ∗ owns (c : Thread nD τ) arg2 fullShare x1 ∗ owns (c : Thread nD τ) arg4 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1 ∗ semVal ((c : Thread nD τ), SemLoc.dma 22) 0 ∗ semVal ((c : Thread nD τ), SemLoc.dma 23) 0 ∗ hbPt1 c hbM1_0 fh0 ∗ hbPt1 c hbM1_1 fh1 ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xs0 ∗ owns (c : Thread nD τ) arg11 fullShare xs1 ∗ semVal ((c : Thread nD τ), SemLoc.dma 22) 0 ∗ semVal ((c : Thread nD τ), SemLoc.dma 23) 0 ∗ hbPt1 c hbM1_0 fh0 ∗ hbPt1 c hbM1_1 fh1 ∗ (∃ W', owes (c : Thread nD τ) 0 W')) -∗ K ⟨⟩))
          ⊢ wp frame (wpE (defs₀ (F := F)) Variants.none c none) Set.univ (cc1_sito_mlp_recover i arg1 harg1 arg2 harg2 (Memref.whole main_v92) (Memref.isWhole_whole _) arg4 harg4 (Memref.whole main_v94) (Memref.isWhole_whole _) arg6 harg6 arg7 harg7 arg8 harg8 arg9 harg9 arg10 harg10 arg11 harg11 cc1_scratch2 cc1_scratch3) K } := by
  refine ⟨?_, [], [], fun W K => ?run⟩
  case run =>
    simp only [cc1_sito_mlp_recover_eq_skeleton]; unfold cc1_sito_mlp_recover_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hq0, Hq1, Hh0, Hh1, HW, Hk⟩
    obtain rfl := harg1.eq_unread hf0; obtain rfl := harg2.eq_unread hf1; obtain rfl := harg4.eq_unread hf2; obtain rfl := harg6.eq_unread hf3; obtain rfl := harg7.eq_unread hf4; obtain rfl := harg8.eq_unread hf5; obtain rfl := harg10.eq_unread hfs0; obtain rfl := harg11.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]
    · iexists _; isplitr; · ipureintro; exact harg10.read_unread _
      iexact HS0
    isplitl [HS1]
    · iexists _; isplitr; · ipureintro; exact harg11.read_unread _
      iexact HS1
    isplitl [Hq0]; · iexact Hq0
    isplitl [Hq1]; · iexact Hq1
    isplitl [Hh0]; · iexact Hh0
    isplitl [Hh1]; · iexact Hh1
    iexists _; iexact HW

end Cert.KernelIdeal.Whole
-- ==== Proof.MlpBody.lean ====
module

public import proofs.«01_k».proof.Proof.MlpRunA
public import proofs.«01_k».proof.Proof.MlpRunB
public import proofs.«01_k».proof.Proof.WholeStore
public import Idealize.ShloMosaic.Lib.Pipeline.FrameBody
public import Idealize.ShloMosaic.Lib.Ring
public import Idealize.ShloMosaic.Lib.Tactic
public import Idealize.ShloMosaic.Lib.WordCmp

@[expose] public section

/-!
The MLP call's region at entry contents `V`: its proof data, whose invariant holds the weights in scratch from the first point on,
and the obligation of its body at every point.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The pieces the first point's run leaves in the output's buffer cover it. -/
theorem cover1_A (c : Dev nD) (i : grid1.Coords) (arg1 : Memref sig .tc .vmem S1x512x1152 .bf16) (harg1 : arg1.IsWhole) (arg2 : Memref sig .tc .vmem S1x1x1024 .i32) (harg2 : arg2.IsWhole) (arg4 : Memref sig .tc .vmem S1x4608 .f32) (harg4 : arg4.IsWhole) (arg6 : Memref sig .tc .vmem S1x1152 .f32) (harg6 : arg6.IsWhole) (arg7 : Memref sig .tc .vmem S1x1152 .f32) (harg7 : arg7.IsWhole) (arg8 : Memref sig .tc .vmem S1x1152 .f32) (harg8 : arg8.IsWhole) (arg9 : Memref sig .tc .vmem S1x1024x1152 .f32) (harg9 : arg9.IsWhole) (arg10 : Memref sig .tc .vmem S1152x4608 .bf16) (harg10 : arg10.IsWhole) (arg11 : Memref sig .tc .vmem S4608x1152 .bf16) (harg11 : arg11.IsWhole) (hc0 : cond1_0 i)
    (x0 : Vec F S1x512x1152 .bf16) (x1 : Vec F S1x1x1024 .i32) (x2 : Vec F S1x4608 .f32) (x3 : Vec F S1x1152 .f32) (x4 : Vec F S1x1152 .f32) (x5 : Vec F S1x1152 .f32) (fh0 : HbBuf1 (F := F) c hbM1_0) (fh1 : HbBuf1 (F := F) c hbM1_1) (y : S1x1024x1152.Idx) :
    ∃ pc ∈ (kernelRun1_A c i arg1 harg1 arg2 harg2 arg4 harg4 arg6 harg6 arg7 harg7 arg8 harg8 arg9 harg9 arg10 harg10 arg11 harg11 hc0 x0 x1 x2 x3 x4 x5 fh0 fh1).1, y ∈ pc.1.set :=
  View.cover_of_tiledL (kernelRun1_A c i arg1 harg1 arg2 harg2 arg4 harg4 arg6 harg6 arg7 harg7 arg8 harg8 arg9 harg9 arg10 harg10 arg11 harg11 hc0 x0 x1 x2 x3 x4 x5 fh0 fh1).1 S1x1024x1152.size (by sl_kernel_rfl) y

/-- The pieces a later point's run leaves in the output's buffer cover it. -/
theorem cover1_B (c : Dev nD) (i : grid1.Coords) (arg1 : Memref sig .tc .vmem S1x512x1152 .bf16) (harg1 : arg1.IsWhole) (arg2 : Memref sig .tc .vmem S1x1x1024 .i32) (harg2 : arg2.IsWhole) (arg4 : Memref sig .tc .vmem S1x4608 .f32) (harg4 : arg4.IsWhole) (arg6 : Memref sig .tc .vmem S1x1152 .f32) (harg6 : arg6.IsWhole) (arg7 : Memref sig .tc .vmem S1x1152 .f32) (harg7 : arg7.IsWhole) (arg8 : Memref sig .tc .vmem S1x1152 .f32) (harg8 : arg8.IsWhole) (arg9 : Memref sig .tc .vmem S1x1024x1152 .f32) (harg9 : arg9.IsWhole) (arg10 : Memref sig .tc .vmem S1152x4608 .bf16) (harg10 : arg10.IsWhole) (arg11 : Memref sig .tc .vmem S4608x1152 .bf16) (harg11 : arg11.IsWhole) (hc0 : ¬cond1_0 i)
    (x0 : Vec F S1x512x1152 .bf16) (x1 : Vec F S1x1x1024 .i32) (x2 : Vec F S1x4608 .f32) (x3 : Vec F S1x1152 .f32) (x4 : Vec F S1x1152 .f32) (x5 : Vec F S1x1152 .f32) (xs0 : Vec F S1152x4608 .bf16) (xs1 : Vec F S4608x1152 .bf16) (fh0 : HbBuf1 (F := F) c hbM1_0) (fh1 : HbBuf1 (F := F) c hbM1_1) (y : S1x1024x1152.Idx) :
    ∃ pc ∈ (kernelRun1_B c i arg1 harg1 arg2 harg2 arg4 harg4 arg6 harg6 arg7 harg7 arg8 harg8 arg9 harg9 arg10 harg10 arg11 harg11 hc0 x0 x1 x2 x3 x4 x5 xs0 xs1 fh0 fh1).1, y ∈ pc.1.set :=
  View.cover_of_tiledL (kernelRun1_B c i arg1 harg1 arg2 harg2 arg4 harg4 arg6 harg6 arg7 harg7 arg8 harg8 arg9 harg9 arg10 harg10 arg11 harg11 hc0 x0 x1 x2 x3 x4 x5 xs0 xs1 fh0 fh1).1 S1x1024x1152.size (by sl_kernel_rfl) y

/-- What the first point's run leaves in the output's buffer. -/
def out1_A (c : Dev nD) (i : grid1.Coords) (arg1 : Memref sig .tc .vmem S1x512x1152 .bf16) (harg1 : arg1.IsWhole) (arg2 : Memref sig .tc .vmem S1x1x1024 .i32) (harg2 : arg2.IsWhole) (arg4 : Memref sig .tc .vmem S1x4608 .f32) (harg4 : arg4.IsWhole) (arg6 : Memref sig .tc .vmem S1x1152 .f32) (harg6 : arg6.IsWhole) (arg7 : Memref sig .tc .vmem S1x1152 .f32) (harg7 : arg7.IsWhole) (arg8 : Memref sig .tc .vmem S1x1152 .f32) (harg8 : arg8.IsWhole) (arg9 : Memref sig .tc .vmem S1x1024x1152 .f32) (harg9 : arg9.IsWhole) (arg10 : Memref sig .tc .vmem S1152x4608 .bf16) (harg10 : arg10.IsWhole) (arg11 : Memref sig .tc .vmem S4608x1152 .bf16) (harg11 : arg11.IsWhole) (hc0 : cond1_0 i)
    (x0 : Vec F S1x512x1152 .bf16) (x1 : Vec F S1x1x1024 .i32) (x2 : Vec F S1x4608 .f32) (x3 : Vec F S1x1152 .f32) (x4 : Vec F S1x1152 .f32) (x5 : Vec F S1x1152 .f32) (fh0 : HbBuf1 (F := F) c hbM1_0) (fh1 : HbBuf1 (F := F) c hbM1_1) : Vec F S1x1024x1152 .f32 :=
  VO1_6.read (Elt F) (VO1_6.writes (Elt F) VO1_6.junk (kernelRun1_A c i arg1 harg1 arg2 harg2 arg4 harg4 arg6 harg6 arg7 harg7 arg8 harg8 arg9 harg9 arg10 harg10 arg11 harg11 hc0 x0 x1 x2 x3 x4 x5 fh0 fh1).1)

/-- What a later point's run leaves in the output's buffer. -/
def out1_B (c : Dev nD) (i : grid1.Coords) (arg1 : Memref sig .tc .vmem S1x512x1152 .bf16) (harg1 : arg1.IsWhole) (arg2 : Memref sig .tc .vmem S1x1x1024 .i32) (harg2 : arg2.IsWhole) (arg4 : Memref sig .tc .vmem S1x4608 .f32) (harg4 : arg4.IsWhole) (arg6 : Memref sig .tc .vmem S1x1152 .f32) (harg6 : arg6.IsWhole) (arg7 : Memref sig .tc .vmem S1x1152 .f32) (harg7 : arg7.IsWhole) (arg8 : Memref sig .tc .vmem S1x1152 .f32) (harg8 : arg8.IsWhole) (arg9 : Memref sig .tc .vmem S1x1024x1152 .f32) (harg9 : arg9.IsWhole) (arg10 : Memref sig .tc .vmem S1152x4608 .bf16) (harg10 : arg10.IsWhole) (arg11 : Memref sig .tc .vmem S4608x1152 .bf16) (harg11 : arg11.IsWhole) (hc0 : ¬cond1_0 i)
    (x0 : Vec F S1x512x1152 .bf16) (x1 : Vec F S1x1x1024 .i32) (x2 : Vec F S1x4608 .f32) (x3 : Vec F S1x1152 .f32) (x4 : Vec F S1x1152 .f32) (x5 : Vec F S1x1152 .f32) (xs0 : Vec F S1152x4608 .bf16) (xs1 : Vec F S4608x1152 .bf16) (fh0 : HbBuf1 (F := F) c hbM1_0) (fh1 : HbBuf1 (F := F) c hbM1_1) : Vec F S1x1024x1152 .f32 :=
  VO1_6.read (Elt F) (VO1_6.writes (Elt F) VO1_6.junk (kernelRun1_B c i arg1 harg1 arg2 harg2 arg4 harg4 arg6 harg6 arg7 harg7 arg8 harg8 arg9 harg9 arg10 harg10 arg11 harg11 hc0 x0 x1 x2 x3 x4 x5 xs0 xs1 fh0 fh1).1)

/-- Weight matrix 0 of the call, as the body finds it in memory. -/
def wt1_0 (c : Dev nD) : Vec F S1152x4608 .bf16 := hbM1_0.view.read (Elt F) (V c main_v92)

/-- The first point's transfer leaves the weights in scratch 0, whatever it held before. -/
theorem scratch1_A_0 (c : Dev nD) (i : grid1.Coords) (arg1 : Memref sig .tc .vmem S1x512x1152 .bf16) (harg1 : arg1.IsWhole) (arg2 : Memref sig .tc .vmem S1x1x1024 .i32) (harg2 : arg2.IsWhole) (arg4 : Memref sig .tc .vmem S1x4608 .f32) (harg4 : arg4.IsWhole) (arg6 : Memref sig .tc .vmem S1x1152 .f32) (harg6 : arg6.IsWhole) (arg7 : Memref sig .tc .vmem S1x1152 .f32) (harg7 : arg7.IsWhole) (arg8 : Memref sig .tc .vmem S1x1152 .f32) (harg8 : arg8.IsWhole) (arg9 : Memref sig .tc .vmem S1x1024x1152 .f32) (harg9 : arg9.IsWhole) (arg10 : Memref sig .tc .vmem S1152x4608 .bf16) (harg10 : arg10.IsWhole) (arg11 : Memref sig .tc .vmem S4608x1152 .bf16) (harg11 : arg11.IsWhole) (hc0 : cond1_0 i)
    (x0 : Vec F S1x512x1152 .bf16) (x1 : Vec F S1x1x1024 .i32) (x2 : Vec F S1x4608 .f32) (x3 : Vec F S1x1152 .f32) (x4 : Vec F S1x1152 .f32) (x5 : Vec F S1x1152 .f32) (fh0 : HbBuf1 (F := F) c hbM1_0) (fh1 : HbBuf1 (F := F) c hbM1_1) (f) :
    scM1_0.view.read (Elt F) (scM1_0.view.writes (Elt F) f (kernelRun1_A c i arg1 harg1 arg2 harg2 arg4 harg4 arg6 harg6 arg7 harg7 arg8 harg8 arg9 harg9 arg10 harg10 arg11 harg11 hc0 x0 x1 x2 x3 x4 x5 fh0 fh1).2.1)
      = hbM1_0.view.read (Elt F) fh0 := by
  dsimp only [kernelRun1_A]
  exact View.read_writes_whole_one _ _ _

/-- Weight matrix 1 of the call, as the body finds it in memory. -/
def wt1_1 (c : Dev nD) : Vec F S4608x1152 .bf16 := hbM1_1.view.read (Elt F) (V c main_v94)

/-- The first point's transfer leaves the weights in scratch 1, whatever it held before. -/
theorem scratch1_A_1 (c : Dev nD) (i : grid1.Coords) (arg1 : Memref sig .tc .vmem S1x512x1152 .bf16) (harg1 : arg1.IsWhole) (arg2 : Memref sig .tc .vmem S1x1x1024 .i32) (harg2 : arg2.IsWhole) (arg4 : Memref sig .tc .vmem S1x4608 .f32) (harg4 : arg4.IsWhole) (arg6 : Memref sig .tc .vmem S1x1152 .f32) (harg6 : arg6.IsWhole) (arg7 : Memref sig .tc .vmem S1x1152 .f32) (harg7 : arg7.IsWhole) (arg8 : Memref sig .tc .vmem S1x1152 .f32) (harg8 : arg8.IsWhole) (arg9 : Memref sig .tc .vmem S1x1024x1152 .f32) (harg9 : arg9.IsWhole) (arg10 : Memref sig .tc .vmem S1152x4608 .bf16) (harg10 : arg10.IsWhole) (arg11 : Memref sig .tc .vmem S4608x1152 .bf16) (harg11 : arg11.IsWhole) (hc0 : cond1_0 i)
    (x0 : Vec F S1x512x1152 .bf16) (x1 : Vec F S1x1x1024 .i32) (x2 : Vec F S1x4608 .f32) (x3 : Vec F S1x1152 .f32) (x4 : Vec F S1x1152 .f32) (x5 : Vec F S1x1152 .f32) (fh0 : HbBuf1 (F := F) c hbM1_0) (fh1 : HbBuf1 (F := F) c hbM1_1) (f) :
    scM1_1.view.read (Elt F) (scM1_1.view.writes (Elt F) f (kernelRun1_A c i arg1 harg1 arg2 harg2 arg4 harg4 arg6 harg6 arg7 harg7 arg8 harg8 arg9 harg9 arg10 harg10 arg11 harg11 hc0 x0 x1 x2 x3 x4 x5 fh0 fh1).2.2.1)
      = hbM1_1.view.read (Elt F) fh1 := by
  dsimp only [kernelRun1_A]
  exact View.read_writes_whole_one _ _ _

/-- What the output's buffer holds after the body at point `t`. -/
def outsAt1 (c : Dev nD) (t : Fin cfg1.N) : Vec F S1x1024x1152 .f32 :=
  if h : t.val % 16 = 0 then
    out1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h) (iblk1 V c 0 t) (iblk1 V c 1 t) (iblk1 V c 2 t) (iblk1 V c 3 t) (iblk1 V c 4 t) (iblk1 V c 5 t) (V c main_v92) (V c main_v94)
  else
    out1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h' => h ((hcond1_0 t).mp h')) (iblk1 V c 0 t) (iblk1 V c 1 t) (iblk1 V c 2 t) (iblk1 V c 3 t) (iblk1 V c 4 t) (iblk1 V c 5 t) (wt1_0 V c) (wt1_1 V c) (V c main_v92) (V c main_v94)

theorem outsAt1_A (c : Dev nD) (t : Fin cfg1.N) (h : t.val % 16 = 0) : outsAt1 V c t
    = out1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h) (iblk1 V c 0 t) (iblk1 V c 1 t) (iblk1 V c 2 t) (iblk1 V c 3 t) (iblk1 V c 4 t) (iblk1 V c 5 t) (V c main_v92) (V c main_v94) := dif_pos h

theorem outsAt1_B (c : Dev nD) (t : Fin cfg1.N) (h : ¬ t.val % 16 = 0) : outsAt1 V c t
    = out1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h' => h ((hcond1_0 t).mp h')) (iblk1 V c 0 t) (iblk1 V c 1 t) (iblk1 V c 2 t) (iblk1 V c 3 t) (iblk1 V c 4 t) (iblk1 V c 5 t) (wt1_0 V c) (wt1_1 V c) (V c main_v92) (V c main_v94) := dif_neg h

/-- The invariant once the first point is done: the scratch holds the weights; everything else as in the invariant of
    the entry. -/
def PhiW1 (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ owns (c : Thread nD τ) scM1_0 fullShare (wt1_0 V c) ∗ owns (c : Thread nD τ) scM1_1 fullShare (wt1_1 V c)) ∗ (∃ r, prngReg c r) ∗ iprop(semVal ((c : Thread nD τ), SemLoc.dma 22) 0 ∗ semVal ((c : Thread nD τ), SemLoc.dma 23) 0) ∗ iprop(hbPt1 c hbM1_0 (V c main_v92) ∗ hbPt1 c hbM1_1 (V c main_v94)))

/-- The invariant by the number of points done. -/
def PhiS1 (c : Dev nD) : ℕ → sProp 𝕄
  | 0 => Pipeline.ΦD osem1 spec1 H1 V c
  | _ + 1 => PhiW1 V c

/-- The proof data of the call's pipeline: arrays as the region finds them, each input's buffer left at its block, the
    output's at `outsAt1`, the invariant `PhiS1`. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t)
  Φ t := PhiS1 V c t.val
  q _ := fullShare
  owed _ := 0

/-- The arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 1200000 in
/-- The body at the first point. -/
theorem sound_body1_A (c : Dev nD) (t : Fin cfg1.N) (h : t.val % 16 = 0) :
    bodyPre1 V c t ⊢ wp frame (wpE (defs₀ (F := F)) Variants.none c none) Set.univ (bodyAt1 t) (fun _ => bodyPost1 V c t) := by
  have ht : t.val < 16 := Nat.lt_of_lt_of_eq t.isLt N_1
  unfold bodyPre1 bodyPost1 bodyAt1
  simp only [before1_0, before1_1, before1_2, before1_3, before1_4, before1_5]
  rw [show (dat1 V c).Φ t.succ = PhiW1 V c from rfl,
    after1_0, after1_1, after1_2, after1_3, after1_4, after1_5, after1_6]
  rw [show (dat1 V c).Φ t.castSucc = Pipeline.ΦD osem1 spec1 H1 V c from by
    show PhiS1 V c t.val = _
    rw [show t.val = 0 by omega]; rfl, PhiD1_eq]
  unfold PhiW1
  unfold Dat.owesAt Pipeline.owesWithin
  rw [show (dat1 V c).owed t.castSucc = 0 from rfl, show (dat1 V c).owed t.succ = 0 from rfl]
  rw [outsAt1_A V c t h]
  unfold out1_A
  iintro ⟨⟨⟨HR0, HR1, HR2, HR3, HR4, HR5, HR6, HR7, HR8, HR9, HR10, HR11, HR12, HR13, HR14, HS0, HS1⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply ((kernelRun1_A c (grid1.coords t) _ _ _ _ _ _ _ _ _ _ _ _ _ _ _ _ _ _ ((hcond1_0 t).mpr h) (iblk1 V c 0 t) (iblk1 V c 1 t) (iblk1 V c 2 t) (iblk1 V c 3 t) (iblk1 V c 4 t) (iblk1 V c 5 t) (V c main_v92) (V c main_v94)).2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, H5, ⟨%e6, H6⟩, ⟨%fT0, HS0⟩, ⟨%fT1, HS1⟩, Hq0, Hq1, Hh0, Hh1, ⟨%W', HW'⟩⟩
  isplitl [HR0 HR1 HR2 HR3 HR4 HR5 HR6 HR7 HR8 HR9 HR10 HR11 HR12 HR13 HR14 HS0 HS1 Hg Hq0 Hq1 Hh0 Hh1]
  · isplitl [HR0 HR1 HR2 HR3 HR4 HR5 HR6 HR7 HR8 HR9 HR10 HR11 HR12 HR13 HR14 HS0 HS1]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HS0]
      · unfold owns; iexists _; isplitr
        swap; · iexact HS0
        ipureintro; exact scratch1_A_0 c _ _ _ _ _ _ _ _ _ _ _ _ _ _ _ _ _ _ _ _ _ _ _ _ _ _ _ _ _
      unfold owns; iexists _; isplitr
      swap; · iexact HS1
      ipureintro; exact scratch1_A_1 c _ _ _ _ _ _ _ _ _ _ _ _ _ _ _ _ _ _ _ _ _ _ _ _ _ _ _ _ _
    isplitl [Hg]
    · iexact Hg
    isplitl [Hq0 Hq1]
    · isplitl [Hq0]; · iexact Hq0
      iexact Hq1
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover1_A c _ _ _ _ _ _ _ _ _ _ _ _ _ _ _ _ _ _ _ _ _ _ _ _ _ _ _ _)

set_option maxHeartbeats 1200000 in
/-- The body at a later point. -/
theorem sound_body1_B (c : Dev nD) (t : Fin cfg1.N) (h : ¬ t.val % 16 = 0) :
    bodyPre1 V c t ⊢ wp frame (wpE (defs₀ (F := F)) Variants.none c none) Set.univ (bodyAt1 t) (fun _ => bodyPost1 V c t) := by
  have ht : t.val < 16 := Nat.lt_of_lt_of_eq t.isLt N_1
  unfold bodyPre1 bodyPost1 bodyAt1
  simp only [before1_0, before1_1, before1_2, before1_3, before1_4, before1_5]
  rw [show (dat1 V c).Φ t.succ = PhiW1 V c from rfl,
    after1_0, after1_1, after1_2, after1_3, after1_4, after1_5, after1_6]
  rw [show (dat1 V c).Φ t.castSucc = PhiW1 V c from by
    show PhiS1 V c t.val = _
    obtain ⟨n, hn⟩ : ∃ n, t.val = n + 1 := ⟨t.val - 1, by omega⟩
    rw [hn]; rfl]
  unfold PhiW1
  unfold Dat.owesAt Pipeline.owesWithin
  rw [show (dat1 V c).owed t.castSucc = 0 from rfl, show (dat1 V c).owed t.succ = 0 from rfl]
  rw [outsAt1_B V c t h]
  unfold out1_B
  iintro ⟨⟨⟨HR0, HR1, HR2, HR3, HR4, HR5, HR6, HR7, HR8, HR9, HR10, HR11, HR12, HR13, HR14, HS0, HS1⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply ((kernelRun1_B c (grid1.coords t) _ _ _ _ _ _ _ _ _ _ _ _ _ _ _ _ _ _ (fun h' => h ((hcond1_0 t).mp h')) (iblk1 V c 0 t) (iblk1 V c 1 t) (iblk1 V c 2 t) (iblk1 V c 3 t) (iblk1 V c 4 t) (iblk1 V c 5 t) (wt1_0 V c) (wt1_1 V c) (V c main_v92) (V c main_v94)).2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, H5, ⟨%e6, H6⟩, HS0, HS1, Hq0, Hq1, Hh0, Hh1, ⟨%W', HW'⟩⟩
  isplitl [HR0 HR1 HR2 HR3 HR4 HR5 HR6 HR7 HR8 HR9 HR10 HR11 HR12 HR13 HR14 HS0 HS1 Hg Hq0 Hq1 Hh0 Hh1]
  · isplitl [HR0 HR1 HR2 HR3 HR4 HR5 HR6 HR7 HR8 HR9 HR10 HR11 HR12 HR13 HR14 HS0 HS1]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HS0]; · iexact HS0
      iexact HS1
    isplitl [Hg]
    · iexact Hg
    isplitl [Hq0 Hq1]
    · isplitl [Hq0]; · iexact Hq0
      iexact Hq1
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover1_B c _ _ _ _ _ _ _ _ _ _ _ _ _ _ _ _ _ _ _ _ _ _ _ _ _ _ _ _ _ _)

/-- The body table's row at point `t`'s slots is the body. -/
theorem defs₀_row1 (t : Fin cfg1.N) :
    defs₀ (F := F) .tc cfg1.body (cfg1.bodyArgs t (cfg1.slots t)) = bodyAt1 t := by
  unfold defs₀; rw [Defs.onTc_tc]

/-- The body obligation of the call's pipeline, at every point. -/
theorem body_obligation1 (c : Dev nD) : BodyObligation (dat1 (F := F) V c) (defs₀ (F := F)) Variants.none () Set.univ := fun t => by
  rw [bigSep_W1, bigSep_W1, defs₀_row1]
  rcases Classical.em (t.val % 16 = 0) with h | h
  · exact triple_restated (sound_body1_A V c t h) rfl .rfl fun _ => .rfl
  · exact triple_restated (sound_body1_B V c t h) rfl .rfl fun _ => .rfl

/-- The invariant after the last point gives the entry's back. -/
theorem Phi_out1 (c : Dev nD) : (dat1 V c).Φ (Fin.last _) ⊢ Pipeline.ΦD osem1 spec1 H1 V c := by
  rw [show (dat1 V c).Φ (Fin.last _) = PhiW1 V c from by
    show PhiS1 V c cfg1.N = _
    rw [show cfg1.N = 15 + 1 from N_1]; rfl, PhiD1_eq]
  unfold PhiW1
  iintro ⟨⟨HR0, HR1, HR2, HR3, HR4, HR5, HR6, HR7, HR8, HR9, HR10, HR11, HR12, HR13, HR14, HS0, HS1⟩, Hg, Hq, Hh⟩
  isplitl [HR0 HR1 HR2 HR3 HR4 HR5 HR6 HR7 HR8 HR9 HR10 HR11 HR12 HR13 HR14 HS0 HS1]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HS0]; · iexists _; iexact HS0
    iexists _; iexact HS1
  isplitl [Hg]; · iexact Hg
  isplitl [Hq]; · iexact Hq
  iexact Hh

end Cert.KernelIdeal.Whole
-- ==== Proof.Whole.lean ====
module

public import proofs.«01_k».proof.Proof.AttnBody
public import proofs.«01_k».proof.Proof.MlpBody
public import proofs.«01_k».proof.Proof.Gen.KernelIdeal.Regions
public import Idealize.ShloMosaic.Lib.Pipeline.RegionsLoop
public import Idealize.ShloMosaic.Lib.Pipeline.FrameSuffix
public import Idealize.ShloMosaic.Lib.Pipeline.FrameBody
public import Idealize.ShloMosaic.Lib.Ring
public import Idealize.ShloMosaic.Lib.Tactic
public import Idealize.ShloMosaic.Lib.WordCmp

@[expose] public section

/-!
The whole run: host preparation, attention call, the few host operations between, MLP call. The buffer contents at
every boundary, the two calls as segments, the launch, and what it leaves: the arguments as launched, the counters at
zero, the result array at what the MLP call's pipeline wrote back.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- @main's argument arrays, as TensorCore references. -/
abbrev argRefs : List (Ref sig .tc) := [main_arg0, main_arg1, main_arg2, main_arg3, main_arg4, main_arg5, main_arg6, main_arg7, main_arg8, main_arg9, main_arg10, main_arg11, main_arg12, main_arg13]

/-- Argument arrays are apart from a list of references, by the check over all of them. -/
theorem apart {l : List (Ref sig .tc)} (h : (argRefs.all fun a => decide (a ∉ l)) = true) {a : Ref sig .tc}
    (ha : a ∈ argRefs) : a ∉ l := of_decide_eq_true (List.all_eq_true.mp h a ha)

/-! ## The buffer contents at each boundary -/

/-- Core `c`'s buffers when the attention call is entered: the launch memory after the host preparation. -/
abbrev W21 (c : Dev nD) : Valuation τ sig (Elt F) := Gen.V21 m c
/-- The host preparation writes no argument array. -/
theorem W21_args (c : Dev nD) : ∀ a ∈ argRefs, W21 m c (Proc.devRef .tc a) = m ((c : Thread nD τ).loc a) := fun a ha =>
  (Gen.V21_of m c a (apart (by decide +kernel) ha)).trans <|
  (Gen.V20_of m c a (apart (by decide +kernel) ha)).trans <|
  (Gen.V19_of m c a (apart (by decide +kernel) ha)).trans <|
  (Gen.V18_of m c a (apart (by decide +kernel) ha)).trans <|
  (Gen.V17_of m c a (apart (by decide +kernel) ha)).trans <|
  (Gen.V16_of m c a (apart (by decide +kernel) ha)).trans <|
  (Gen.V15_of m c a (apart (by decide +kernel) ha)).trans <|
  (Gen.V14_of m c a (apart (by decide +kernel) ha)).trans <|
  (Gen.V13_of m c a (apart (by decide +kernel) ha)).trans <|
  (Gen.V12_of m c a (apart (by decide +kernel) ha)).trans <|
  (Gen.V11_of m c a (apart (by decide +kernel) ha)).trans <|
  (Gen.V10_of m c a (apart (by decide +kernel) ha)).trans <|
  (Gen.V9_of m c a (apart (by decide +kernel) ha)).trans <|
  (Gen.V8_of m c a (apart (by decide +kernel) ha)).trans <|
  (Gen.V7_of m c a (apart (by decide +kernel) ha)).trans <|
  (Gen.V6_of m c a (apart (by decide +kernel) ha)).trans <|
  (Gen.V5_of m c a (apart (by decide +kernel) ha)).trans <|
  (Gen.V4_of m c a (apart (by decide +kernel) ha)).trans <|
  (Gen.V3_of m c a (apart (by decide +kernel) ha)).trans <|
  (Gen.V2_of m c a (apart (by decide +kernel) ha)).trans <|
  (Gen.V1_of m c a (apart (by decide +kernel) ha)).trans <|
  rfl
/-- The same, read at the TensorCore's references. -/
abbrev E0 : (c : Dev nD) → (b : Ref sig .tc) → Buf (Elt F) ((c : Thread nD τ).loc b) := fun c b => W21 m c b
/-- At region 0's exit: its arrays at what the pipeline leaves (the inputs as entered, each output's write-backs
    folded: `Dat.arrAt … N`), every other buffer as entered (Lib/Pipeline/FrameSuffix.lean `withArrays`). -/
def W22 (c : Dev nD) : Valuation τ sig (Elt F) :=
  Pipeline.withArrays spec0 c (W21 m c) fun w => (dat0 (E0 m) c).arrAt w cfg0.N
theorem W22_arr (c : Dev nD) (w : Fin cfg0.W) :
    W22 m c (Proc.devRef .tc (Pipeline.arrRef spec0 w)) = (dat0 (E0 m) c).arrAt w cfg0.N := by
  unfold W22; exact Pipeline.withArrays_arr spec0 launch0.win.arr_inj c _ _ w
theorem W22_of_ne (c : Dev nD) (b : Ref sig .tc) (hb : ∀ w, Pipeline.arrRef spec0 w ≠ b) :
    W22 m c (Proc.devRef .tc b) = W21 m c (Proc.devRef .tc b) := by
  unfold W22; exact Pipeline.withArrays_of_ne spec0 c _ _ b hb
/-- A reference that is none of region 0's OUTPUT arrays keeps its entry contents across it: an input window's
    array is never written back (`Dat.arrAt_in`, `A_eq0`); any other buffer is left as is. -/
theorem W22_of (c : Dev nD) (r : Ref sig .tc) (h : ∀ w : Fin cfg0.W, Pipeline.arrRef spec0 w = r → (cfg0.win w).isOut = false) :
    W22 m c (Proc.devRef .tc r) = W21 m c (Proc.devRef .tc r) := by
  by_cases hw : ∃ w : Fin cfg0.W, Pipeline.arrRef spec0 w = r
  · obtain ⟨w, rfl⟩ := hw
    exact (W22_arr m c w).trans (((dat0 (E0 m) c).arrAt_in w (h w rfl) _).trans (A_eq0 (E0 m) c w))
  · exact W22_of_ne m c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W22_args (c : Dev nD) : ∀ a ∈ argRefs, W22 m c (Proc.devRef .tc a) = m ((c : Thread nD τ).loc a) :=
  fun a ha => (W22_of m c a (argsIn0 a ha)).trans (W21_args m c a ha)
/-- The same read at the TensorCore's references (region 0's exit contents). -/
abbrev X0 : (c : Dev nD) → (b : Ref sig .tc) → Buf (Elt F) ((c : Thread nD τ).loc b) := fun c b => W22 m c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (E0 m) c).arrAt w cfg0.N = X0 m c (Pipeline.arrRef spec0 w) :=
  (W22_arr m c w).symm
theorem hrest0 (c : Dev nD) : ∀ b, b ∉ Finset.univ.image (Pipeline.arrRef spec0) → X0 m c b = E0 m c b :=
  fun b hb => W22_of_ne m c b fun w e => hb (Finset.mem_image.mpr ⟨w, Finset.mem_univ _, e⟩)

/-- After `hostOps1` (region 1's entry). -/
abbrev W23 : Dev nD → Valuation τ sig (Elt F) := fun c => StableHlo.after hostOps1 (W22 m c)
/-- A reference `hostOps1` does not write keeps its contents across it. -/
theorem W23_of (c : Dev nD) (r : Ref sig .tc) (h : r ∉ hostOps1_W) : W23 m c (Proc.devRef .tc r) = W22 m c (Proc.devRef .tc r) :=
  StableHlo.after_of_writes_sub hostOps1 _ hostOps1_writes h
theorem W23_args (c : Dev nD) : ∀ a ∈ argRefs, W23 m c (Proc.devRef .tc a) = m ((c : Thread nD τ).loc a) :=
  fun a ha => (W23_of m c a (apart (by decide +kernel) ha)).trans (W22_args m c a ha)
/-- The same read at the TensorCore's references (what region 1's proof data take). -/
abbrev E1 : (c : Dev nD) → (b : Ref sig .tc) → Buf (Elt F) ((c : Thread nD τ).loc b) := fun c b => W23 m c b
/-- At region 1's exit: its arrays at what the pipeline leaves (the inputs as entered, each output's write-backs
    folded: `Dat.arrAt … N`), every other buffer as entered (Lib/Pipeline/FrameSuffix.lean `withArrays`). -/
def W24 (c : Dev nD) : Valuation τ sig (Elt F) :=
  Pipeline.withArrays spec1 c (W23 m c) fun w => (dat1 (E1 m) c).arrAt w cfg1.N
theorem W24_arr (c : Dev nD) (w : Fin cfg1.W) :
    W24 m c (Proc.devRef .tc (Pipeline.arrRef spec1 w)) = (dat1 (E1 m) c).arrAt w cfg1.N := by
  unfold W24; exact Pipeline.withArrays_arr spec1 launch1.win.arr_inj c _ _ w
theorem W24_of_ne (c : Dev nD) (b : Ref sig .tc) (hb : ∀ w, Pipeline.arrRef spec1 w ≠ b) :
    W24 m c (Proc.devRef .tc b) = W23 m c (Proc.devRef .tc b) := by
  unfold W24; exact Pipeline.withArrays_of_ne spec1 c _ _ b hb
/-- A reference that is none of region 1's OUTPUT arrays keeps its entry contents across it: an input window's
    array is never written back (`Dat.arrAt_in`, `A_eq1`); any other buffer is left as is. -/
theorem W24_of (c : Dev nD) (r : Ref sig .tc) (h : ∀ w : Fin cfg1.W, Pipeline.arrRef spec1 w = r → (cfg1.win w).isOut = false) :
    W24 m c (Proc.devRef .tc r) = W23 m c (Proc.devRef .tc r) := by
  by_cases hw : ∃ w : Fin cfg1.W, Pipeline.arrRef spec1 w = r
  · obtain ⟨w, rfl⟩ := hw
    exact (W24_arr m c w).trans (((dat1 (E1 m) c).arrAt_in w (h w rfl) _).trans (A_eq1 (E1 m) c w))
  · exact W24_of_ne m c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W24_args (c : Dev nD) : ∀ a ∈ argRefs, W24 m c (Proc.devRef .tc a) = m ((c : Thread nD τ).loc a) :=
  fun a ha => (W24_of m c a (argsIn1 a ha)).trans (W23_args m c a ha)
/-- The same read at the TensorCore's references (region 1's exit contents). -/
abbrev X1 : (c : Dev nD) → (b : Ref sig .tc) → Buf (Elt F) ((c : Thread nD τ).loc b) := fun c b => W24 m c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (E1 m) c).arrAt w cfg1.N = X1 m c (Pipeline.arrRef spec1 w) :=
  (W24_arr m c w).symm
theorem hrest1 (c : Dev nD) : ∀ b, b ∉ Finset.univ.image (Pipeline.arrRef spec1) → X1 m c b = E1 m c b :=
  fun b hb => W24_of_ne m c b fun w e => hb (Finset.mem_image.mpr ⟨w, Finset.mem_univ _, e⟩)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (Pipeline.UD sig nD τ) ℕ (Pipeline.pin (pcfgs (F := F)) adm p) c
  | ⟨0, _⟩ => fun c => dat0 (E0 m) c
  | ⟨1, _⟩ => fun c => dat1 (E1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W24`, the generator register at some state. -/
abbrev Tₙ (c : Dev nD) : sProp 𝕄 := iprop(StableHlo.held (c : Thread nD τ) (Pipeline.ucRefs τ sig) (W24 m c) ∗ ∃ r, prngReg c r)

/-! ## The regions as segments -/

set_option backward.isDefEq.respectTransparency.types false in
/-- The attention call as a segment of the run: entered and left at the buffer contents above, its arrays, its semaphores and
    the weights it copies itself split out of the unscoped buffers and put back. -/
def reg0 : Pipeline.RegionSeg (pcfgs (F := F)) adm (pdats m) () defs₀ 𝒱₀ L lv 0 where
  win := launch0.win.to₀
  block_pos := launch0.block_pos
  stage_whole := launch0.stage_whole
  K := Fin 2
  osem := osem0
  ho := ownSemFacts0
  hbody c := (body_obligation0 (E0 m) c).loose
  hwaits := Pipeline.hwaits_of_owed_zero _ _ _ _ L lv 0 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop((∃ r, prngReg c r) ∗ Pipeline.ownSems0 (Ix := Unit) (Name := ℕ) (U := Pipeline.UD sig nD τ) (Lvl := ℕ) (Val := Elt F) (τ := τ) osem0 c ∗ (bigSep H0 fun b => (((c : Thread nD τ)).loc b) ↦{fullShare} E0 m c b))
  Y c := iprop((∃ r, prngReg c r) ∗ (bigSep H0 fun b => (((c : Thread nD τ)).loc b) ↦{fullShare} E0 m c b))
  Z c := bigSep (Pipeline.restRefs sig spec0 \ H0) fun b => (((c : Thread nD τ)).loc b) ↦{fullShare} E0 m c b
  hentry c := by
    have hsplit := Pipeline.arrays_of_unscopedBufs (p := 0) (pcfgs (F := F)) adm (pdats m) launch0.win launch0.arr_whole c
      ((pdats m 0 c).share_full fun _ => rfl) (E0 m c) (A_eq0 (E0 m) c)
    rw [Pipeline.unscopedBufs_held] at hsplit
    have hH : (Pipeline.unscopedRest (Ix := Unit) (Name := ℕ) (U := Pipeline.UD sig nD τ) (Lvl := ℕ) spec0 c (E0 m c) : sProp 𝕄)
        = iprop((bigSep H0 fun b => (((c : Thread nD τ)).loc b) ↦{fullShare} E0 m c b) ∗ (bigSep (Pipeline.restRefs sig spec0 \ H0) fun b => (((c : Thread nD τ)).loc b) ↦{fullShare} E0 m c b)) := by
      unfold Pipeline.unscopedRest; exact BI.bigSep_sdiff_split H0_sub
    iintro ⟨⟨Hub, Hp, HO⟩, Hos, -⟩
    ihave H := hsplit $$ Hub
    icases H with ⟨Ha, Hrest⟩
    ihave H' := (Entails.of_eq hH) $$ Hrest
    icases H' with ⟨HH, HR⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m 0 c).Φ 0 = Pipeline.ΦD osem0 spec0 H0 (E0 m) c from rfl, Pipeline.ΦD_eq]
    iintro ⟨⟨Hp, Ho, HH⟩, -, Hr⟩
    isplitl [Hr]; · iexact Hr
    isplitl [Hp]; · iexact Hp
    isplitl [Ho]; · iexact Ho
    iexact HH
  hout c := by
    refine (Phi_out0 (E0 m) c).trans ?_
    rw [Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    have hH : (Pipeline.unscopedRest (Ix := Unit) (Name := ℕ) (U := Pipeline.UD sig nD τ) (Lvl := ℕ) spec0 c (E0 m c) : sProp 𝕄)
        = iprop((bigSep H0 fun b => (((c : Thread nD τ)).loc b) ↦{fullShare} E0 m c b) ∗ (bigSep (Pipeline.restRefs sig spec0 \ H0) fun b => (((c : Thread nD τ)).loc b) ↦{fullShare} E0 m c b)) := by
      unfold Pipeline.unscopedRest; exact BI.bigSep_sdiff_split H0_sub
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The MLP call as a segment of the run: entered and left at the buffer contents above, its arrays, its semaphores and
    the weights it copies itself split out of the unscoped buffers and put back. -/
def reg1 : Pipeline.RegionSeg (pcfgs (F := F)) adm (pdats m) () defs₀ 𝒱₀ L lv 1 where
  win := launch1.win.to₀
  block_pos := launch1.block_pos
  stage_whole := launch1.stage_whole
  K := Fin 2
  osem := osem1
  ho := ownSemFacts1
  hbody c := (body_obligation1 (E1 m) c).loose
  hwaits := Pipeline.hwaits_of_owed_zero _ _ _ _ L lv 1 fun _ _ => rfl
  pre c := iprop(StableHlo.held (c : Thread nD τ) (Pipeline.ucRefs τ sig) (W23 m c) ∗ R c)
  post c := iprop(Tₙ m c ∗ ∃ W, owes (c : Thread nD τ) (0 : CellTallies nD τ sig Unit) W)
  X c := iprop((∃ r, prngReg c r) ∗ Pipeline.ownSems0 (Ix := Unit) (Name := ℕ) (U := Pipeline.UD sig nD τ) (Lvl := ℕ) (Val := Elt F) (τ := τ) osem1 c ∗ (bigSep H1 fun b => (((c : Thread nD τ)).loc b) ↦{fullShare} E1 m c b))
  Y c := iprop((∃ r, prngReg c r) ∗ (bigSep H1 fun b => (((c : Thread nD τ)).loc b) ↦{fullShare} E1 m c b))
  Z c := bigSep (Pipeline.restRefs sig spec1 \ H1) fun b => (((c : Thread nD τ)).loc b) ↦{fullShare} E1 m c b
  hentry c := by
    have hsplit := Pipeline.arrays_of_unscopedBufs (p := 1) (pcfgs (F := F)) adm (pdats m) launch1.win launch1.arr_whole c
      ((pdats m 1 c).share_full fun _ => rfl) (E1 m c) (A_eq1 (E1 m) c)
    rw [Pipeline.unscopedBufs_held] at hsplit
    have hH : (Pipeline.unscopedRest (Ix := Unit) (Name := ℕ) (U := Pipeline.UD sig nD τ) (Lvl := ℕ) spec1 c (E1 m c) : sProp 𝕄)
        = iprop((bigSep H1 fun b => (((c : Thread nD τ)).loc b) ↦{fullShare} E1 m c b) ∗ (bigSep (Pipeline.restRefs sig spec1 \ H1) fun b => (((c : Thread nD τ)).loc b) ↦{fullShare} E1 m c b)) := by
      unfold Pipeline.unscopedRest; exact BI.bigSep_sdiff_split H1_sub
    iintro ⟨⟨Hub, Hp, HO⟩, Hos, -⟩
    ihave H := hsplit $$ Hub
    icases H with ⟨Ha, Hrest⟩
    ihave H' := (Entails.of_eq hH) $$ Hrest
    icases H' with ⟨HH, HR⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m 1 c).Φ 0 = Pipeline.ΦD osem1 spec1 H1 (E1 m) c from rfl, Pipeline.ΦD_eq]
    iintro ⟨⟨Hp, Ho, HH⟩, -, Hr⟩
    isplitl [Hr]; · iexact Hr
    isplitl [Hp]; · iexact Hp
    isplitl [Ho]; · iexact Ho
    iexact HH
  hout c := by
    refine (Phi_out1 (E1 m) c).trans ?_
    rw [Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    have hH : (Pipeline.unscopedRest (Ix := Unit) (Name := ℕ) (U := Pipeline.UD sig nD τ) (Lvl := ℕ) spec1 c (E1 m c) : sProp 𝕄)
        = iprop((bigSep H1 fun b => (((c : Thread nD τ)).loc b) ↦{fullShare} E1 m c b) ∗ (bigSep (Pipeline.restRefs sig spec1 \ H1) fun b => (((c : Thread nD τ)).loc b) ↦{fullShare} E1 m c b)) := by
      unfold Pipeline.unscopedRest; exact BI.bigSep_sdiff_split H1_sub
    iintro ⟨Ha, HO, ⟨HY, HH⟩, HR⟩
    ihave Hrest := (Entails.of_eq hH.symm) $$ [HH HR]
    · isplitl [HH]; · iexact HH
      iexact HR
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 24 segments in order: a host segment per stretch from its boundary's contents, a region per pallas_call. -/
abbrev segs : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .host (hseg hostOps0_3 hostOps0_3_sub hostOps0_3_fresh (Gen.V3 m)),
    .host (hseg hostOps0_4 hostOps0_4_sub hostOps0_4_fresh (Gen.V4 m)),
    .host (hseg hostOps0_5 hostOps0_5_sub hostOps0_5_fresh (Gen.V5 m)),
    .host (hseg hostOps0_6 hostOps0_6_sub hostOps0_6_fresh (Gen.V6 m)),
    .host (hseg hostOps0_7 hostOps0_7_sub hostOps0_7_fresh (Gen.V7 m)),
    .host (hseg hostOps0_8 hostOps0_8_sub hostOps0_8_fresh (Gen.V8 m)),
    .host (hseg hostOps0_9 hostOps0_9_sub hostOps0_9_fresh (Gen.V9 m)),
    .host (hseg hostOps0_10 hostOps0_10_sub hostOps0_10_fresh (Gen.V10 m)),
    .host (hseg hostOps0_11 hostOps0_11_sub hostOps0_11_fresh (Gen.V11 m)),
    .host (hseg hostOps0_12 hostOps0_12_sub hostOps0_12_fresh (Gen.V12 m)),
    .host (hseg hostOps0_13 hostOps0_13_sub hostOps0_13_fresh (Gen.V13 m)),
    .host (hseg hostOps0_14 hostOps0_14_sub hostOps0_14_fresh (Gen.V14 m)),
    .host (hseg hostOps0_15 hostOps0_15_sub hostOps0_15_fresh (Gen.V15 m)),
    .host (hseg hostOps0_16 hostOps0_16_sub hostOps0_16_fresh (Gen.V16 m)),
    .host (hseg hostOps0_17 hostOps0_17_sub hostOps0_17_fresh (Gen.V17 m)),
    .host (hseg hostOps0_18 hostOps0_18_sub hostOps0_18_fresh (Gen.V18 m)),
    .host (hseg hostOps0_19 hostOps0_19_sub hostOps0_19_fresh (Gen.V19 m)),
    .host (hseg hostOps0_20 hostOps0_20_sub hostOps0_20_fresh (Gen.V20 m)),
    .region (reg0 m),
    .host (hseg hostOps1 hostOps1_sub hostOps1_fresh (W22 m)),
    .region (reg1 m) ]
/-- @main IS the run of the segments: `Gen.main_chain`, then the segments' run against that chain by the kernel's
    definitional check (`chain_rfl`). -/
theorem main_run (c : Dev nD) : main (F := F) c = Pipeline.Seg.run (segs m) := (main_chain c).trans (by chain_rfl)

/-- The TensorCore has no unscoped semaphore. -/
theorem no_unscoped : ∀ sm : SemLoc sig, sm.isScoped .tc = true := by decide
set_option backward.isDefEq.respectTransparency.types false in
/-- The run of @main: from any memory with zero counters every execution ends, with every unscoped buffer of each core
    at the last boundary's contents and every counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W24 m c b) ∧ r.2.sem = fun _ => 0) :=
  Pipeline.θ_run_regions_kit_sems (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m c b)
    (hfin := fun c s' => by
      iintro ⟨⟨Hh, -⟩, HSI⟩
      unfold StableHlo.held
      imodintro
      iapply (pointsTo_read_all (Pipeline.ucRefs τ sig) (fun b => (((c : Thread nD τ)).1, b)) (W24 m c) s')
      isplitl [Hh] <;> iassumption)
    (hQ := fun s h hz => ⟨h, funext fun g => hz g (.inr (no_unscoped g.2))⟩)

/-- The frame: every argument array ends as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨fun c => ⟨(h.1 c _ (mem_uc main_arg0 (by decide))).trans (W24_args m c main_arg0 (by decide)),
    (h.1 c _ (mem_uc main_arg1 (by decide))).trans (W24_args m c main_arg1 (by decide)),
    (h.1 c _ (mem_uc main_arg2 (by decide))).trans (W24_args m c main_arg2 (by decide)),
    (h.1 c _ (mem_uc main_arg3 (by decide))).trans (W24_args m c main_arg3 (by decide)),
    (h.1 c _ (mem_uc main_arg4 (by decide))).trans (W24_args m c main_arg4 (by decide)),
    (h.1 c _ (mem_uc main_arg5 (by decide))).trans (W24_args m c main_arg5 (by decide)),
    (h.1 c _ (mem_uc main_arg6 (by decide))).trans (W24_args m c main_arg6 (by decide)),
    (h.1 c _ (mem_uc main_arg7 (by decide))).trans (W24_args m c main_arg7 (by decide)),
    (h.1 c _ (mem_uc main_arg8 (by decide))).trans (W24_args m c main_arg8 (by decide)),
    (h.1 c _ (mem_uc main_arg9 (by decide))).trans (W24_args m c main_arg9 (by decide)),
    (h.1 c _ (mem_uc main_arg10 (by decide))).trans (W24_args m c main_arg10 (by decide)),
    (h.1 c _ (mem_uc main_arg11 (by decide))).trans (W24_args m c main_arg11 (by decide)),
    (h.1 c _ (mem_uc main_arg12 (by decide))).trans (W24_args m c main_arg12 (by decide)),
    (h.1 c _ (mem_uc main_arg13 (by decide))).trans (W24_args m c main_arg13 (by decide))⟩, h.2⟩) (run m ρ)

/-- The run with its result array: what the MLP call's pipeline leaves in its output array. -/
theorem run_value : θ_run defs (onTc (τ := τ) (main (F := F))) ⟨m, fun _ => 0, ρ⟩ (fun r => ∀ c : Dev nD,
      r.2.mem ((c.tc : Thread nD τ).loc main_v98) = (dat1 (E1 m) c).arrAt 6 cfg1.N) :=
  (θ_run defs _ _).mono (fun _ h c => (h.1 c _ (mem_uc main_v98 (by decide))).trans (W24_arr m c 6)) (run m ρ)

end Cert.KernelIdeal.Whole
-- ==== Proof.RefOps.lean ====
/-
  The reference's host operations as lists (`ops0` …, a called function's operations a list of their own), with what
  each list touches and writes.
-/
module

public import proofs.«01_k».proof.Proof.Gen.ReferenceIdeal
public import Idealize.ShloMosaic.Lib.Pipeline.Frame
public import Idealize.ShloMosaic.Lib.Pipeline.Regions

@[expose] public section

set_option maxRecDepth 16384

noncomputable section

namespace Cert.ReferenceIdeal.Whole

open Idealize.ShloMosaic Idealize.ShloMosaic.TcCoe Idealize.SL.Sem
open Cert.ReferenceIdeal.Gen

variable {F : FTy → Type} [FloatOps F]

open StableHlo (TRef unary binary nullary ternary reshape)

/-- An array's contents. -/
abbrev Arr (F : FTy → Type) (s : Shape) (t : EltTy) : Type := (⟨s, t⟩ : BufTy).Contents (Elt F)
/-- A reference to an array of the given shape and elements. -/
abbrev Place (s : Shape) (t : EltTy) := StableHlo.TRef sig ⟨s, t⟩

/-! ## The operations -/

/-- 5 host operations of @norm (main_call0), in order. -/
abbrev ops0 : List (HloOp τ sig (Elt F)) :=
  [ TRef.binary (.of main_arg0 : Place S16x1024x1152 .f32) (.of main_arg0 : Place S16x1024x1152 .f32) (.of main_call0_v0 : Place S16x1024x1152 .f32) mulf,
    TRef.nullary (.of main_call0_cst : Place S_ .f32) (constant S_ .f32 0x00000000#32),
    TRef.binary (.of main_call0_v0 : Place S16x1024x1152 .f32) (.of main_call0_cst : Place S_ .f32) (.of main_call0_v1 : Place S16x1024 .f32) (fun x v => Host.reduceAdd x v reducesTo_S16x1024x1152_S16x1024_d2 h_S_),
    TRef.unary (.of main_call0_v1 : Place S16x1024 .f32) (.of main_call0_v2 : Place S16x1024x1 .f32) (broadcastInDim S16x1024x1 ![0, 1] bcast_S16x1024_S16x1024x1_0_1),
    TRef.unary (.of main_call0_v2 : Place S16x1024x1 .f32) (.of main_v0 : Place S16x1024x1 .f32) Host.sqrt ]

/-- 36 host operations of @main, in order. -/
abbrev ops1 : List (HloOp τ sig (Elt F)) :=
  [ nullary main_cst (constant S_ .f32 0x358637BD#32),
    unary main_cst main_v1 (broadcastInDim S16x1024x1 ![] bcast_S_S16x1024x1 : Arr F S_ .f32 → Arr F S16x1024x1 .f32),
    binary main_v0 main_v1 main_v2 (addf : Arr F S16x1024x1 .f32 → Arr F S16x1024x1 .f32 → Arr F S16x1024x1 .f32),
    unary main_v2 main_v3 (broadcastInDim S16x1024x1152 ![0, 1, 2] bcast_S16x1024x1_S16x1024x1152_0_1_2 : Arr F S16x1024x1 .f32 → Arr F S16x1024x1152 .f32),
    binary main_arg0 main_v3 main_v4 (Host.divf : Arr F S16x1024x1152 .f32 → Arr F S16x1024x1152 .f32 → Arr F S16x1024x1152 .f32),
    nullary main_v5 (iotaInDim S1024 32 0),
    reshape main_v5 main_v6 (rfl : (.i32 : EltTy) = .i32) shapeCasts_S1024_S32x32,
    reshape main_v6 main_v7 (rfl : (.i32 : EltTy) = .i32) shapeCasts_S32x32_S16x2x16x2,
    unary main_v7 main_v8 ((transpose S16x16x2x2 [0, 2, 1, 3] · transposes_S16x2x16x2_S16x16x2x2_0_2_1_3) : Arr F S16x2x16x2 .i32 → Arr F S16x16x2x2 .i32),
    reshape main_v8 main_v9 (rfl : (.i32 : EltTy) = .i32) shapeCasts_S16x16x2x2_S256x4,
    nullary main_c (constantI S_ 32 0#32),
    unary main_c main_v10 (broadcastInDim S256x4 ![] bcast_S_S256x4 : Arr F S_ .i32 → Arr F S256x4 .i32),
    binary main_v9 main_v10 main_v11 (cmpi .slt : Arr F S256x4 .i32 → Arr F S256x4 .i32 → Arr F S256x4 .i1),
    nullary main_c_0 (constantI S_ 32 1024#32),
    unary main_c_0 main_v12 (broadcastInDim S256x4 ![] bcast_S_S256x4 : Arr F S_ .i32 → Arr F S256x4 .i32),
    binary main_v9 main_v12 main_v13 (addi : Arr F S256x4 .i32 → Arr F S256x4 .i32 → Arr F S256x4 .i32),
    ternary main_v11 main_v13 main_v9 main_v14 (select : Arr F S256x4 .i1 → Arr F S256x4 .i32 → Arr F S256x4 .i32 → Arr F S256x4 .i32),
    unary main_v14 main_v15 (broadcastInDim S256x4x1 ![0, 1] bcast_S256x4_S256x4x1_0_1 : Arr F S256x4 .i32 → Arr F S256x4x1 .i32),
    binary main_v4 main_v15 main_v16 ((fun x i => Host.gather gather_S16x1024x1152_S256x4x1_S16x256x4x1152_03_1_n_n_1_2_1611152 x i) : Arr F S16x1024x1152 .f32 → Arr F S256x4x1 .i32 → Arr F S16x256x4x1152 .f32),
    nullary main_cst_1 (constant S_ .f32 0x00000000#32),
    binary main_v16 main_cst_1 main_v17 ((fun x v => Host.reduceAdd x v reducesTo_S16x256x4x1152_S16x256x1152_d2 h_S_) : Arr F S16x256x4x1152 .f32 → Arr F S_ .f32 → Arr F S16x256x1152 .f32),
    unary main_v17 main_v18 (broadcastInDim S16x256x1x1152 ![0, 1, 3] bcast_S16x256x1152_S16x256x1x1152_0_1_3 : Arr F S16x256x1152 .f32 → Arr F S16x256x1x1152 .f32),
    nullary main_cst_2 (constant S_ .f32 0x40800000#32),
    unary main_cst_2 main_v19 (broadcastInDim S16x256x1x1152 ![] bcast_S_S16x256x1x1152 : Arr F S_ .f32 → Arr F S16x256x1x1152 .f32),
    binary main_v18 main_v19 main_v20 (Host.divf : Arr F S16x256x1x1152 .f32 → Arr F S16x256x1x1152 .f32 → Arr F S16x256x1x1152 .f32),
    unary main_v20 main_v21 (broadcastInDim S16x256x4x1152 ![0, 1, 2, 3] bcast_S16x256x1x1152_S16x256x4x1152_0_1_2_3 : Arr F S16x256x1x1152 .f32 → Arr F S16x256x4x1152 .f32),
    binary main_v16 main_v21 main_v22 (mulf : Arr F S16x256x4x1152 .f32 → Arr F S16x256x4x1152 .f32 → Arr F S16x256x4x1152 .f32),
    nullary main_cst_3 (constant S_ .f32 0x00000000#32),
    binary main_v22 main_cst_3 main_v23 ((fun x v => Host.reduceAdd x v reducesTo_S16x256x4x1152_S16x256x4_d3 h_S_) : Arr F S16x256x4x1152 .f32 → Arr F S_ .f32 → Arr F S16x256x4 .f32),
    nullary main_cst_4 (constant S_ .f32 0x3F800000#32),
    unary main_cst_4 main_v24 (broadcastInDim S16x256x4 ![] bcast_S_S16x256x4 : Arr F S_ .f32 → Arr F S16x256x4 .f32),
    binary main_v24 main_v23 main_v25 (mulf : Arr F S16x256x4 .f32 → Arr F S16x256x4 .f32 → Arr F S16x256x4 .f32),
    nullary main_cst_5 (constant S_ .f32 0x3DCCCCCD#32),
    unary main_cst_5 main_v26 (broadcastInDim S16x256x4 ![] bcast_S_S16x256x4 : Arr F S_ .f32 → Arr F S16x256x4 .f32),
    binary main_v26 main_arg1 main_v27 (mulf : Arr F S16x256x4 .f32 → Arr F S16x256x4 .f32 → Arr F S16x256x4 .f32),
    binary main_v25 main_v27 main_v28 (addf : Arr F S16x256x4 .f32 → Arr F S16x256x4 .f32 → Arr F S16x256x4 .f32) ]

/-- 5 host operations of @argmax (main_call1), in order. -/
abbrev ops2 : List (HloOp τ sig (Elt F)) :=
  [ TRef.nullary (.of main_call1_v0 : Place S16x256x4 .i32) (iotaInDim S16x256x4 32 2),
    TRef.nullary (.of main_call1_cst : Place S_ .f32) (constant S_ .f32 0xFF800000#32),
    TRef.nullary (.of main_call1_c : Place S_ .i32) (constantI S_ 32 0#32),
    StableHlo.TRef.quaternary (.of main_v28 : Place S16x256x4 .f32) (.of main_call1_v0 : Place S16x256x4 .i32) (.of main_call1_cst : Place S_ .f32) (.of main_call1_c : Place S_ .i32) (.of main_call1_v1_0 : Place S16x256 .f32) (fun x y u v j => (Host.argReduce reducer_argmax_f32_i32 x y u v reducesTo_S16x256x4_S16x256_d2 h_S_ j).1),
    StableHlo.TRef.quaternary (.of main_v28 : Place S16x256x4 .f32) (.of main_call1_v0 : Place S16x256x4 .i32) (.of main_call1_cst : Place S_ .f32) (.of main_call1_c : Place S_ .i32) (.of main_v29 : Place S16x256 .i32) (fun x y u v j => (Host.argReduce reducer_argmax_f32_i32 x y u v reducesTo_S16x256x4_S16x256_d2 h_S_ j).2) ]

/-- 2 host operations of @main, in order. -/
abbrev ops3 : List (HloOp τ sig (Elt F)) :=
  [ unary main_v9 main_v30 (broadcastInDim S16x256x4 ![1, 2] bcast_S256x4_S16x256x4_1_2 : Arr F S256x4 .i32 → Arr F S16x256x4 .i32),
    unary main_v29 main_v31 (broadcastInDim S16x256x1 ![0, 1] bcast_S16x256_S16x256x1_0_1 : Arr F S16x256 .i32 → Arr F S16x256x1 .i32) ]

/-- 22 host operations of @take_along_axis (main_call2), in order. -/
abbrev ops4 : List (HloOp τ sig (Elt F)) :=
  [ TRef.nullary (.of main_call2_c : Place S_ .i32) (constantI S_ 32 0#32),
    TRef.unary (.of main_call2_c : Place S_ .i32) (.of main_call2_v0 : Place S16x256x1 .i32) (broadcastInDim S16x256x1 ![] bcast_S_S16x256x1),
    TRef.binary (.of main_v31 : Place S16x256x1 .i32) (.of main_call2_v0 : Place S16x256x1 .i32) (.of main_call2_v1 : Place S16x256x1 .i1) (cmpi .slt),
    TRef.nullary (.of main_call2_c_0 : Place S_ .i32) (constantI S_ 32 4#32),
    TRef.unary (.of main_call2_c_0 : Place S_ .i32) (.of main_call2_v2 : Place S16x256x1 .i32) (broadcastInDim S16x256x1 ![] bcast_S_S16x256x1),
    TRef.binary (.of main_v31 : Place S16x256x1 .i32) (.of main_call2_v2 : Place S16x256x1 .i32) (.of main_call2_v3 : Place S16x256x1 .i32) addi,
    TRef.ternary (.of main_call2_v1 : Place S16x256x1 .i1) (.of main_call2_v3 : Place S16x256x1 .i32) (.of main_v31 : Place S16x256x1 .i32) (.of main_call2_v4 : Place S16x256x1 .i32) select,
    TRef.reshape (.of main_call2_v4 : Place S16x256x1 .i32) (.of main_call2_v5 : Place S16x256x1x1 .i32) (rfl : (.i32 : EltTy) = .i32) shapeCasts_S16x256x1_S16x256x1x1,
    TRef.nullary (.of main_call2_c_1 : Place S1 .i32) (constantI S1 32 3#32),
    TRef.nullary (.of main_call2_c_2 : Place S_ .i32) (constantI S_ 32 0#32),
    TRef.unary (.of main_call2_c_2 : Place S_ .i32) (.of main_call2_v6 : Place S16x256x1x1 .i32) (broadcastInDim S16x256x1x1 ![] bcast_S_S16x256x1x1),
    TRef.binary (.of main_call2_v5 : Place S16x256x1x1 .i32) (.of main_call2_v6 : Place S16x256x1x1 .i32) (.of main_call2_v7 : Place S16x256x1x1 .i1) (cmpi .sge),
    TRef.unary (.of main_call2_c_1 : Place S1 .i32) (.of main_call2_v8 : Place S1x1x1x1 .i32) (broadcastInDim S1x1x1x1 ![3] bcast_S1_S1x1x1x1_3),
    TRef.unary (.of main_call2_v8 : Place S1x1x1x1 .i32) (.of main_call2_v9 : Place S16x256x1x1 .i32) (broadcastInDim S16x256x1x1 ![0, 1, 2, 3] bcast_S1x1x1x1_S16x256x1x1_0_1_2_3),
    TRef.binary (.of main_call2_v5 : Place S16x256x1x1 .i32) (.of main_call2_v9 : Place S16x256x1x1 .i32) (.of main_call2_v10 : Place S16x256x1x1 .i1) (cmpi .sle),
    TRef.binary (.of main_call2_v7 : Place S16x256x1x1 .i1) (.of main_call2_v10 : Place S16x256x1x1 .i1) (.of main_call2_v11 : Place S16x256x1x1 .i1) andi,
    TRef.nullary (.of main_call2_c_3 : Place S_ .i1) (constantI S_ 1 1#1),
    TRef.binary (.of main_call2_v11 : Place S16x256x1x1 .i1) (.of main_call2_c_3 : Place S_ .i1) (.of main_call2_v12 : Place S16x256x1 .i1) (fun x v => Host.reduce IntOp.andi x v reducesTo_S16x256x1x1_S16x256x1_d3 h_S_),
    TRef.binary (.of main_v30 : Place S16x256x4 .i32) (.of main_call2_v5 : Place S16x256x1x1 .i32) (.of main_call2_v13 : Place S16x256x1 .i32) (fun x i => Host.gather gather_S16x256x4_S16x256x1x1_S16x256x1_n_2_01_01_2_3_111 x i),
    TRef.nullary (.of main_call2_c_4 : Place S_ .i32) (constantI S_ 32 2147483648#32),
    TRef.unary (.of main_call2_c_4 : Place S_ .i32) (.of main_call2_v14 : Place S16x256x1 .i32) (broadcastInDim S16x256x1 ![] bcast_S_S16x256x1),
    TRef.ternary (.of main_call2_v12 : Place S16x256x1 .i1) (.of main_call2_v13 : Place S16x256x1 .i32) (.of main_call2_v14 : Place S16x256x1 .i32) (.of main_v32 : Place S16x256x1 .i32) select ]

/-- 8 host operations of @main, in order. -/
abbrev ops5 : List (HloOp τ sig (Elt F)) :=
  [ reshape main_v32 main_v33 (rfl : (.i32 : EltTy) = .i32) shapeCasts_S16x256x1_S16x256,
    nullary main_v34 (iotaInDim S4 32 0),
    unary main_v34 main_v35 (broadcastInDim S1x1x4 ![2] bcast_S4_S1x1x4_2 : Arr F S4 .i32 → Arr F S1x1x4 .i32),
    unary main_v29 main_v36 (broadcastInDim S16x256x1 ![0, 1] bcast_S16x256_S16x256x1_0_1 : Arr F S16x256 .i32 → Arr F S16x256x1 .i32),
    unary main_v35 main_v37 (broadcastInDim S16x256x4 ![0, 1, 2] bcast_S1x1x4_S16x256x4_0_1_2 : Arr F S1x1x4 .i32 → Arr F S16x256x4 .i32),
    unary main_v36 main_v38 (broadcastInDim S16x256x4 ![0, 1, 2] bcast_S16x256x1_S16x256x4_0_1_2 : Arr F S16x256x1 .i32 → Arr F S16x256x4 .i32),
    binary main_v37 main_v38 main_v39 (cmpi .ne : Arr F S16x256x4 .i32 → Arr F S16x256x4 .i32 → Arr F S16x256x4 .i1),
    nullary main_c_6 (constantI S_ 32 4#32) ]

/-- 4 host operations of @where (main_call3), in order. -/
abbrev ops6 : List (HloOp τ sig (Elt F)) :=
  [ TRef.unary (.of main_c_6 : Place S_ .i32) (.of main_call3_v0 : Place S_ .i32) id,
    TRef.unary (.of main_v35 : Place S1x1x4 .i32) (.of main_call3_v1 : Place S16x256x4 .i32) (broadcastInDim S16x256x4 ![0, 1, 2] bcast_S1x1x4_S16x256x4_0_1_2),
    TRef.unary (.of main_call3_v0 : Place S_ .i32) (.of main_call3_v2 : Place S16x256x4 .i32) (broadcastInDim S16x256x4 ![] bcast_S_S16x256x4),
    TRef.ternary (.of main_v39 : Place S16x256x4 .i1) (.of main_call3_v1 : Place S16x256x4 .i32) (.of main_call3_v2 : Place S16x256x4 .i32) (.of main_v40 : Place S16x256x4 .i32) select ]

/-- 1 host operations of @sort (main_call4), in order. -/
abbrev ops7 : List (HloOp τ sig (Elt F)) :=
  [ TRef.unary (.of main_v40 : Place S16x256x4 .i32) (.of main_v41 : Place S16x256x4 .i32) (fun x => Host.sort S16x256x4 2 comparator_i32_d2 x) ]

/-- 1 host operations of @main, in order. -/
abbrev ops8 : List (HloOp τ sig (Elt F)) :=
  [ unary main_v41 main_v42 ((extractStridedSlice S16x256x3 ![0, 0, 0] · slices_S16x256x4_S16x256x3_0_0_0) : Arr F S16x256x4 .i32 → Arr F S16x256x3 .i32) ]

/-- 22 host operations of @take_along_axis_0 (main_call5), in order. -/
abbrev ops9 : List (HloOp τ sig (Elt F)) :=
  [ TRef.nullary (.of main_call5_c : Place S_ .i32) (constantI S_ 32 0#32),
    TRef.unary (.of main_call5_c : Place S_ .i32) (.of main_call5_v0 : Place S16x256x3 .i32) (broadcastInDim S16x256x3 ![] bcast_S_S16x256x3),
    TRef.binary (.of main_v42 : Place S16x256x3 .i32) (.of main_call5_v0 : Place S16x256x3 .i32) (.of main_call5_v1 : Place S16x256x3 .i1) (cmpi .slt),
    TRef.nullary (.of main_call5_c_0 : Place S_ .i32) (constantI S_ 32 4#32),
    TRef.unary (.of main_call5_c_0 : Place S_ .i32) (.of main_call5_v2 : Place S16x256x3 .i32) (broadcastInDim S16x256x3 ![] bcast_S_S16x256x3),
    TRef.binary (.of main_v42 : Place S16x256x3 .i32) (.of main_call5_v2 : Place S16x256x3 .i32) (.of main_call5_v3 : Place S16x256x3 .i32) addi,
    TRef.ternary (.of main_call5_v1 : Place S16x256x3 .i1) (.of main_call5_v3 : Place S16x256x3 .i32) (.of main_v42 : Place S16x256x3 .i32) (.of main_call5_v4 : Place S16x256x3 .i32) select,
    TRef.reshape (.of main_call5_v4 : Place S16x256x3 .i32) (.of main_call5_v5 : Place S16x256x3x1 .i32) (rfl : (.i32 : EltTy) = .i32) shapeCasts_S16x256x3_S16x256x3x1,
    TRef.nullary (.of main_call5_c_1 : Place S1 .i32) (constantI S1 32 3#32),
    TRef.nullary (.of main_call5_c_2 : Place S_ .i32) (constantI S_ 32 0#32),
    TRef.unary (.of main_call5_c_2 : Place S_ .i32) (.of main_call5_v6 : Place S16x256x3x1 .i32) (broadcastInDim S16x256x3x1 ![] bcast_S_S16x256x3x1),
    TRef.binary (.of main_call5_v5 : Place S16x256x3x1 .i32) (.of main_call5_v6 : Place S16x256x3x1 .i32) (.of main_call5_v7 : Place S16x256x3x1 .i1) (cmpi .sge),
    TRef.unary (.of main_call5_c_1 : Place S1 .i32) (.of main_call5_v8 : Place S1x1x1x1 .i32) (broadcastInDim S1x1x1x1 ![3] bcast_S1_S1x1x1x1_3),
    TRef.unary (.of main_call5_v8 : Place S1x1x1x1 .i32) (.of main_call5_v9 : Place S16x256x3x1 .i32) (broadcastInDim S16x256x3x1 ![0, 1, 2, 3] bcast_S1x1x1x1_S16x256x3x1_0_1_2_3),
    TRef.binary (.of main_call5_v5 : Place S16x256x3x1 .i32) (.of main_call5_v9 : Place S16x256x3x1 .i32) (.of main_call5_v10 : Place S16x256x3x1 .i1) (cmpi .sle),
    TRef.binary (.of main_call5_v7 : Place S16x256x3x1 .i1) (.of main_call5_v10 : Place S16x256x3x1 .i1) (.of main_call5_v11 : Place S16x256x3x1 .i1) andi,
    TRef.nullary (.of main_call5_c_3 : Place S_ .i1) (constantI S_ 1 1#1),
    TRef.binary (.of main_call5_v11 : Place S16x256x3x1 .i1) (.of main_call5_c_3 : Place S_ .i1) (.of main_call5_v12 : Place S16x256x3 .i1) (fun x v => Host.reduce IntOp.andi x v reducesTo_S16x256x3x1_S16x256x3_d3 h_S_),
    TRef.binary (.of main_v30 : Place S16x256x4 .i32) (.of main_call5_v5 : Place S16x256x3x1 .i32) (.of main_call5_v13 : Place S16x256x3 .i32) (fun x i => Host.gather gather_S16x256x4_S16x256x3x1_S16x256x3_n_2_01_01_2_3_111 x i),
    TRef.nullary (.of main_call5_c_4 : Place S_ .i32) (constantI S_ 32 2147483648#32),
    TRef.unary (.of main_call5_c_4 : Place S_ .i32) (.of main_call5_v14 : Place S16x256x3 .i32) (broadcastInDim S16x256x3 ![] bcast_S_S16x256x3),
    TRef.ternary (.of main_call5_v12 : Place S16x256x3 .i1) (.of main_call5_v13 : Place S16x256x3 .i32) (.of main_call5_v14 : Place S16x256x3 .i32) (.of main_v43 : Place S16x256x3 .i32) select ]

/-- 2 host operations of @main, in order. -/
abbrev ops10 : List (HloOp τ sig (Elt F)) :=
  [ reshape main_v43 main_v44 (rfl : (.i32 : EltTy) = .i32) shapeCasts_S16x256x3_S16x768,
    unary main_v44 main_v45 (broadcastInDim S16x768x1 ![0, 1] bcast_S16x768_S16x768x1_0_1 : Arr F S16x768 .i32 → Arr F S16x768x1 .i32) ]

/-- 22 host operations of @take_along_axis_1 (main_call6), in order. -/
abbrev ops11 : List (HloOp τ sig (Elt F)) :=
  [ TRef.nullary (.of main_call6_c : Place S_ .i32) (constantI S_ 32 0#32),
    TRef.unary (.of main_call6_c : Place S_ .i32) (.of main_call6_v0 : Place S16x768x1 .i32) (broadcastInDim S16x768x1 ![] bcast_S_S16x768x1),
    TRef.binary (.of main_v45 : Place S16x768x1 .i32) (.of main_call6_v0 : Place S16x768x1 .i32) (.of main_call6_v1 : Place S16x768x1 .i1) (cmpi .slt),
    TRef.nullary (.of main_call6_c_0 : Place S_ .i32) (constantI S_ 32 1024#32),
    TRef.unary (.of main_call6_c_0 : Place S_ .i32) (.of main_call6_v2 : Place S16x768x1 .i32) (broadcastInDim S16x768x1 ![] bcast_S_S16x768x1),
    TRef.binary (.of main_v45 : Place S16x768x1 .i32) (.of main_call6_v2 : Place S16x768x1 .i32) (.of main_call6_v3 : Place S16x768x1 .i32) addi,
    TRef.ternary (.of main_call6_v1 : Place S16x768x1 .i1) (.of main_call6_v3 : Place S16x768x1 .i32) (.of main_v45 : Place S16x768x1 .i32) (.of main_call6_v4 : Place S16x768x1 .i32) select,
    TRef.nullary (.of main_call6_c_1 : Place S1 .i32) (constantI S1 32 1023#32),
    TRef.nullary (.of main_call6_c_2 : Place S_ .i32) (constantI S_ 32 0#32),
    TRef.unary (.of main_call6_c_2 : Place S_ .i32) (.of main_call6_v5 : Place S16x768x1 .i32) (broadcastInDim S16x768x1 ![] bcast_S_S16x768x1),
    TRef.binary (.of main_call6_v4 : Place S16x768x1 .i32) (.of main_call6_v5 : Place S16x768x1 .i32) (.of main_call6_v6 : Place S16x768x1 .i1) (cmpi .sge),
    TRef.unary (.of main_call6_c_1 : Place S1 .i32) (.of main_call6_v7 : Place S1x1x1 .i32) (broadcastInDim S1x1x1 ![2] bcast_S1_S1x1x1_2),
    TRef.unary (.of main_call6_v7 : Place S1x1x1 .i32) (.of main_call6_v8 : Place S16x768x1 .i32) (broadcastInDim S16x768x1 ![0, 1, 2] bcast_S1x1x1_S16x768x1_0_1_2),
    TRef.binary (.of main_call6_v4 : Place S16x768x1 .i32) (.of main_call6_v8 : Place S16x768x1 .i32) (.of main_call6_v9 : Place S16x768x1 .i1) (cmpi .sle),
    TRef.binary (.of main_call6_v6 : Place S16x768x1 .i1) (.of main_call6_v9 : Place S16x768x1 .i1) (.of main_call6_v10 : Place S16x768x1 .i1) andi,
    TRef.nullary (.of main_call6_c_3 : Place S_ .i1) (constantI S_ 1 1#1),
    TRef.binary (.of main_call6_v10 : Place S16x768x1 .i1) (.of main_call6_c_3 : Place S_ .i1) (.of main_call6_v11 : Place S16x768 .i1) (fun x v => Host.reduce IntOp.andi x v reducesTo_S16x768x1_S16x768_d2 h_S_),
    TRef.binary (.of main_v4 : Place S16x1024x1152 .f32) (.of main_call6_v4 : Place S16x768x1 .i32) (.of main_call6_v12 : Place S16x768x1152 .f32) (fun x i => Host.gather gather_S16x1024x1152_S16x768x1_S16x768x1152_2_1_0_0_1_2_111152 x i),
    TRef.unary (.of main_call6_v11 : Place S16x768 .i1) (.of main_call6_v13 : Place S16x768x1152 .i1) (broadcastInDim S16x768x1152 ![0, 1] bcast_S16x768_S16x768x1152_0_1),
    TRef.nullary (.of main_call6_cst : Place S_ .f32) (constant S_ .f32 0x7FC00000#32),
    TRef.unary (.of main_call6_cst : Place S_ .f32) (.of main_call6_v14 : Place S16x768x1152 .f32) (broadcastInDim S16x768x1152 ![] bcast_S_S16x768x1152),
    TRef.ternary (.of main_call6_v13 : Place S16x768x1152 .i1) (.of main_call6_v12 : Place S16x768x1152 .f32) (.of main_call6_v14 : Place S16x768x1152 .f32) (.of main_v46 : Place S16x768x1152 .f32) select ]

/-- 1 host operations of @main, in order. -/
abbrev ops12 : List (HloOp τ sig (Elt F)) :=
  [ unary main_v33 main_v47 (broadcastInDim S16x256x1 ![0, 1] bcast_S16x256_S16x256x1_0_1 : Arr F S16x256 .i32 → Arr F S16x256x1 .i32) ]

/-- 22 host operations of @take_along_axis_2 (main_call7), in order. -/
abbrev ops13 : List (HloOp τ sig (Elt F)) :=
  [ TRef.nullary (.of main_call7_c : Place S_ .i32) (constantI S_ 32 0#32),
    TRef.unary (.of main_call7_c : Place S_ .i32) (.of main_call7_v0 : Place S16x256x1 .i32) (broadcastInDim S16x256x1 ![] bcast_S_S16x256x1),
    TRef.binary (.of main_v47 : Place S16x256x1 .i32) (.of main_call7_v0 : Place S16x256x1 .i32) (.of main_call7_v1 : Place S16x256x1 .i1) (cmpi .slt),
    TRef.nullary (.of main_call7_c_0 : Place S_ .i32) (constantI S_ 32 1024#32),
    TRef.unary (.of main_call7_c_0 : Place S_ .i32) (.of main_call7_v2 : Place S16x256x1 .i32) (broadcastInDim S16x256x1 ![] bcast_S_S16x256x1),
    TRef.binary (.of main_v47 : Place S16x256x1 .i32) (.of main_call7_v2 : Place S16x256x1 .i32) (.of main_call7_v3 : Place S16x256x1 .i32) addi,
    TRef.ternary (.of main_call7_v1 : Place S16x256x1 .i1) (.of main_call7_v3 : Place S16x256x1 .i32) (.of main_v47 : Place S16x256x1 .i32) (.of main_call7_v4 : Place S16x256x1 .i32) select,
    TRef.nullary (.of main_call7_c_1 : Place S1 .i32) (constantI S1 32 1023#32),
    TRef.nullary (.of main_call7_c_2 : Place S_ .i32) (constantI S_ 32 0#32),
    TRef.unary (.of main_call7_c_2 : Place S_ .i32) (.of main_call7_v5 : Place S16x256x1 .i32) (broadcastInDim S16x256x1 ![] bcast_S_S16x256x1),
    TRef.binary (.of main_call7_v4 : Place S16x256x1 .i32) (.of main_call7_v5 : Place S16x256x1 .i32) (.of main_call7_v6 : Place S16x256x1 .i1) (cmpi .sge),
    TRef.unary (.of main_call7_c_1 : Place S1 .i32) (.of main_call7_v7 : Place S1x1x1 .i32) (broadcastInDim S1x1x1 ![2] bcast_S1_S1x1x1_2),
    TRef.unary (.of main_call7_v7 : Place S1x1x1 .i32) (.of main_call7_v8 : Place S16x256x1 .i32) (broadcastInDim S16x256x1 ![0, 1, 2] bcast_S1x1x1_S16x256x1_0_1_2),
    TRef.binary (.of main_call7_v4 : Place S16x256x1 .i32) (.of main_call7_v8 : Place S16x256x1 .i32) (.of main_call7_v9 : Place S16x256x1 .i1) (cmpi .sle),
    TRef.binary (.of main_call7_v6 : Place S16x256x1 .i1) (.of main_call7_v9 : Place S16x256x1 .i1) (.of main_call7_v10 : Place S16x256x1 .i1) andi,
    TRef.nullary (.of main_call7_c_3 : Place S_ .i1) (constantI S_ 1 1#1),
    TRef.binary (.of main_call7_v10 : Place S16x256x1 .i1) (.of main_call7_c_3 : Place S_ .i1) (.of main_call7_v11 : Place S16x256 .i1) (fun x v => Host.reduce IntOp.andi x v reducesTo_S16x256x1_S16x256_d2 h_S_),
    TRef.binary (.of main_v4 : Place S16x1024x1152 .f32) (.of main_call7_v4 : Place S16x256x1 .i32) (.of main_call7_v12 : Place S16x256x1152 .f32) (fun x i => Host.gather gather_S16x1024x1152_S16x256x1_S16x256x1152_2_1_0_0_1_2_111152 x i),
    TRef.unary (.of main_call7_v11 : Place S16x256 .i1) (.of main_call7_v13 : Place S16x256x1152 .i1) (broadcastInDim S16x256x1152 ![0, 1] bcast_S16x256_S16x256x1152_0_1),
    TRef.nullary (.of main_call7_cst : Place S_ .f32) (constant S_ .f32 0x7FC00000#32),
    TRef.unary (.of main_call7_cst : Place S_ .f32) (.of main_call7_v14 : Place S16x256x1152 .f32) (broadcastInDim S16x256x1152 ![] bcast_S_S16x256x1152),
    TRef.ternary (.of main_call7_v13 : Place S16x256x1152 .i1) (.of main_call7_v12 : Place S16x256x1152 .f32) (.of main_call7_v14 : Place S16x256x1152 .f32) (.of main_v48 : Place S16x256x1152 .f32) select ]

/-- 1 host operations of @main, in order. -/
abbrev ops14 : List (HloOp τ sig (Elt F)) :=
  [ binary main_v46 main_v48 main_v49 ((fun l r => Host.dotGeneral dot_S16x768x1152_S16x256x1152_S16x768x256_2_2_1_1_0_0 none l r) : Arr F S16x768x1152 .f32 → Arr F S16x256x1152 .f32 → Arr F S16x768x256 .f32) ]

/-- 5 host operations of @argmax_3 (main_call8), in order. -/
abbrev ops15 : List (HloOp τ sig (Elt F)) :=
  [ TRef.nullary (.of main_call8_v0 : Place S16x768x256 .i32) (iotaInDim S16x768x256 32 2),
    TRef.nullary (.of main_call8_cst : Place S_ .f32) (constant S_ .f32 0xFF800000#32),
    TRef.nullary (.of main_call8_c : Place S_ .i32) (constantI S_ 32 0#32),
    StableHlo.TRef.quaternary (.of main_v49 : Place S16x768x256 .f32) (.of main_call8_v0 : Place S16x768x256 .i32) (.of main_call8_cst : Place S_ .f32) (.of main_call8_c : Place S_ .i32) (.of main_call8_v1_0 : Place S16x768 .f32) (fun x y u v j => (Host.argReduce reducer_argmax_f32_i32 x y u v reducesTo_S16x768x256_S16x768_d2 h_S_ j).1),
    StableHlo.TRef.quaternary (.of main_v49 : Place S16x768x256 .f32) (.of main_call8_v0 : Place S16x768x256 .i32) (.of main_call8_cst : Place S_ .f32) (.of main_call8_c : Place S_ .i32) (.of main_v50 : Place S16x768 .i32) (fun x y u v j => (Host.argReduce reducer_argmax_f32_i32 x y u v reducesTo_S16x768x256_S16x768_d2 h_S_ j).2) ]

/-- 3 host operations of @main, in order. -/
abbrev ops16 : List (HloOp τ sig (Elt F)) :=
  [ nullary main_cst_7 (constant S_ .f32 0xFF800000#32),
    binary main_v49 main_cst_7 main_v51 ((fun x v => Host.reduce FloatOps.maximumf x v reducesTo_S16x768x256_S16x768_d2 h_S_) : Arr F S16x768x256 .f32 → Arr F S_ .f32 → Arr F S16x768 .f32),
    unary main_v51 main_v52 (Host.negf : Arr F S16x768 .f32 → Arr F S16x768 .f32) ]

/-- 3 host operations of @argsort (main_call9), in order. -/
abbrev ops17 : List (HloOp τ sig (Elt F)) :=
  [ TRef.nullary (.of main_call9_v0 : Place S16x768 .i32) (iotaInDim S16x768 32 1),
    TRef.binary (.of main_v52 : Place S16x768 .f32) (.of main_call9_v0 : Place S16x768 .i32) (.of main_call9_v1_0 : Place S16x768 .f32) (fun x y => (Host.sort2 S16x768 1 comparator_f32_i32_d1 x y).1),
    TRef.binary (.of main_v52 : Place S16x768 .f32) (.of main_call9_v0 : Place S16x768 .i32) (.of main_v53 : Place S16x768 .i32) (fun x y => (Host.sort2 S16x768 1 comparator_f32_i32_d1 x y).2) ]

/-- 2 host operations of @main, in order. -/
abbrev ops18 : List (HloOp τ sig (Elt F)) :=
  [ unary main_v53 main_v54 ((extractStridedSlice S16x512 ![0, 0] · slices_S16x768_S16x512_0_0) : Arr F S16x768 .i32 → Arr F S16x512 .i32),
    unary main_v53 main_v55 ((extractStridedSlice S16x256 ![0, 512] · slices_S16x768_S16x256_0_512) : Arr F S16x768 .i32 → Arr F S16x256 .i32) ]

/-- 22 host operations of @take_along_axis_4 (main_call10), in order. -/
abbrev ops19 : List (HloOp τ sig (Elt F)) :=
  [ TRef.nullary (.of main_call10_c : Place S_ .i32) (constantI S_ 32 0#32),
    TRef.unary (.of main_call10_c : Place S_ .i32) (.of main_call10_v0 : Place S16x256 .i32) (broadcastInDim S16x256 ![] bcast_S_S16x256),
    TRef.binary (.of main_v55 : Place S16x256 .i32) (.of main_call10_v0 : Place S16x256 .i32) (.of main_call10_v1 : Place S16x256 .i1) (cmpi .slt),
    TRef.nullary (.of main_call10_c_0 : Place S_ .i32) (constantI S_ 32 768#32),
    TRef.unary (.of main_call10_c_0 : Place S_ .i32) (.of main_call10_v2 : Place S16x256 .i32) (broadcastInDim S16x256 ![] bcast_S_S16x256),
    TRef.binary (.of main_v55 : Place S16x256 .i32) (.of main_call10_v2 : Place S16x256 .i32) (.of main_call10_v3 : Place S16x256 .i32) addi,
    TRef.ternary (.of main_call10_v1 : Place S16x256 .i1) (.of main_call10_v3 : Place S16x256 .i32) (.of main_v55 : Place S16x256 .i32) (.of main_call10_v4 : Place S16x256 .i32) select,
    TRef.reshape (.of main_call10_v4 : Place S16x256 .i32) (.of main_call10_v5 : Place S16x256x1 .i32) (rfl : (.i32 : EltTy) = .i32) shapeCasts_S16x256_S16x256x1,
    TRef.nullary (.of main_call10_c_1 : Place S1 .i32) (constantI S1 32 767#32),
    TRef.nullary (.of main_call10_c_2 : Place S_ .i32) (constantI S_ 32 0#32),
    TRef.unary (.of main_call10_c_2 : Place S_ .i32) (.of main_call10_v6 : Place S16x256x1 .i32) (broadcastInDim S16x256x1 ![] bcast_S_S16x256x1),
    TRef.binary (.of main_call10_v5 : Place S16x256x1 .i32) (.of main_call10_v6 : Place S16x256x1 .i32) (.of main_call10_v7 : Place S16x256x1 .i1) (cmpi .sge),
    TRef.unary (.of main_call10_c_1 : Place S1 .i32) (.of main_call10_v8 : Place S1x1x1 .i32) (broadcastInDim S1x1x1 ![2] bcast_S1_S1x1x1_2),
    TRef.unary (.of main_call10_v8 : Place S1x1x1 .i32) (.of main_call10_v9 : Place S16x256x1 .i32) (broadcastInDim S16x256x1 ![0, 1, 2] bcast_S1x1x1_S16x256x1_0_1_2),
    TRef.binary (.of main_call10_v5 : Place S16x256x1 .i32) (.of main_call10_v9 : Place S16x256x1 .i32) (.of main_call10_v10 : Place S16x256x1 .i1) (cmpi .sle),
    TRef.binary (.of main_call10_v7 : Place S16x256x1 .i1) (.of main_call10_v10 : Place S16x256x1 .i1) (.of main_call10_v11 : Place S16x256x1 .i1) andi,
    TRef.nullary (.of main_call10_c_3 : Place S_ .i1) (constantI S_ 1 1#1),
    TRef.binary (.of main_call10_v11 : Place S16x256x1 .i1) (.of main_call10_c_3 : Place S_ .i1) (.of main_call10_v12 : Place S16x256 .i1) (fun x v => Host.reduce IntOp.andi x v reducesTo_S16x256x1_S16x256_d2 h_S_),
    TRef.binary (.of main_v44 : Place S16x768 .i32) (.of main_call10_v5 : Place S16x256x1 .i32) (.of main_call10_v13 : Place S16x256 .i32) (fun x i => Host.gather gather_S16x768_S16x256x1_S16x256_n_1_0_0_1_2_11 x i),
    TRef.nullary (.of main_call10_c_4 : Place S_ .i32) (constantI S_ 32 2147483648#32),
    TRef.unary (.of main_call10_c_4 : Place S_ .i32) (.of main_call10_v14 : Place S16x256 .i32) (broadcastInDim S16x256 ![] bcast_S_S16x256),
    TRef.ternary (.of main_call10_v12 : Place S16x256 .i1) (.of main_call10_v13 : Place S16x256 .i32) (.of main_call10_v14 : Place S16x256 .i32) (.of main_v56 : Place S16x256 .i32) select ]

/-- 22 host operations of @take_along_axis_5 (main_call11), in order. -/
abbrev ops20 : List (HloOp τ sig (Elt F)) :=
  [ TRef.nullary (.of main_call11_c : Place S_ .i32) (constantI S_ 32 0#32),
    TRef.unary (.of main_call11_c : Place S_ .i32) (.of main_call11_v0 : Place S16x512 .i32) (broadcastInDim S16x512 ![] bcast_S_S16x512),
    TRef.binary (.of main_v54 : Place S16x512 .i32) (.of main_call11_v0 : Place S16x512 .i32) (.of main_call11_v1 : Place S16x512 .i1) (cmpi .slt),
    TRef.nullary (.of main_call11_c_0 : Place S_ .i32) (constantI S_ 32 768#32),
    TRef.unary (.of main_call11_c_0 : Place S_ .i32) (.of main_call11_v2 : Place S16x512 .i32) (broadcastInDim S16x512 ![] bcast_S_S16x512),
    TRef.binary (.of main_v54 : Place S16x512 .i32) (.of main_call11_v2 : Place S16x512 .i32) (.of main_call11_v3 : Place S16x512 .i32) addi,
    TRef.ternary (.of main_call11_v1 : Place S16x512 .i1) (.of main_call11_v3 : Place S16x512 .i32) (.of main_v54 : Place S16x512 .i32) (.of main_call11_v4 : Place S16x512 .i32) select,
    TRef.reshape (.of main_call11_v4 : Place S16x512 .i32) (.of main_call11_v5 : Place S16x512x1 .i32) (rfl : (.i32 : EltTy) = .i32) shapeCasts_S16x512_S16x512x1,
    TRef.nullary (.of main_call11_c_1 : Place S1 .i32) (constantI S1 32 767#32),
    TRef.nullary (.of main_call11_c_2 : Place S_ .i32) (constantI S_ 32 0#32),
    TRef.unary (.of main_call11_c_2 : Place S_ .i32) (.of main_call11_v6 : Place S16x512x1 .i32) (broadcastInDim S16x512x1 ![] bcast_S_S16x512x1),
    TRef.binary (.of main_call11_v5 : Place S16x512x1 .i32) (.of main_call11_v6 : Place S16x512x1 .i32) (.of main_call11_v7 : Place S16x512x1 .i1) (cmpi .sge),
    TRef.unary (.of main_call11_c_1 : Place S1 .i32) (.of main_call11_v8 : Place S1x1x1 .i32) (broadcastInDim S1x1x1 ![2] bcast_S1_S1x1x1_2),
    TRef.unary (.of main_call11_v8 : Place S1x1x1 .i32) (.of main_call11_v9 : Place S16x512x1 .i32) (broadcastInDim S16x512x1 ![0, 1, 2] bcast_S1x1x1_S16x512x1_0_1_2),
    TRef.binary (.of main_call11_v5 : Place S16x512x1 .i32) (.of main_call11_v9 : Place S16x512x1 .i32) (.of main_call11_v10 : Place S16x512x1 .i1) (cmpi .sle),
    TRef.binary (.of main_call11_v7 : Place S16x512x1 .i1) (.of main_call11_v10 : Place S16x512x1 .i1) (.of main_call11_v11 : Place S16x512x1 .i1) andi,
    TRef.nullary (.of main_call11_c_3 : Place S_ .i1) (constantI S_ 1 1#1),
    TRef.binary (.of main_call11_v11 : Place S16x512x1 .i1) (.of main_call11_c_3 : Place S_ .i1) (.of main_call11_v12 : Place S16x512 .i1) (fun x v => Host.reduce IntOp.andi x v reducesTo_S16x512x1_S16x512_d2 h_S_),
    TRef.binary (.of main_v44 : Place S16x768 .i32) (.of main_call11_v5 : Place S16x512x1 .i32) (.of main_call11_v13 : Place S16x512 .i32) (fun x i => Host.gather gather_S16x768_S16x512x1_S16x512_n_1_0_0_1_2_11 x i),
    TRef.nullary (.of main_call11_c_4 : Place S_ .i32) (constantI S_ 32 2147483648#32),
    TRef.unary (.of main_call11_c_4 : Place S_ .i32) (.of main_call11_v14 : Place S16x512 .i32) (broadcastInDim S16x512 ![] bcast_S_S16x512),
    TRef.ternary (.of main_call11_v12 : Place S16x512 .i1) (.of main_call11_v13 : Place S16x512 .i32) (.of main_call11_v14 : Place S16x512 .i32) (.of main_v57 : Place S16x512 .i32) select ]

/-- 22 host operations of @take_along_axis_5 (main_call12), in order. -/
abbrev ops21 : List (HloOp τ sig (Elt F)) :=
  [ TRef.nullary (.of main_call12_c : Place S_ .i32) (constantI S_ 32 0#32),
    TRef.unary (.of main_call12_c : Place S_ .i32) (.of main_call12_v0 : Place S16x512 .i32) (broadcastInDim S16x512 ![] bcast_S_S16x512),
    TRef.binary (.of main_v54 : Place S16x512 .i32) (.of main_call12_v0 : Place S16x512 .i32) (.of main_call12_v1 : Place S16x512 .i1) (cmpi .slt),
    TRef.nullary (.of main_call12_c_0 : Place S_ .i32) (constantI S_ 32 768#32),
    TRef.unary (.of main_call12_c_0 : Place S_ .i32) (.of main_call12_v2 : Place S16x512 .i32) (broadcastInDim S16x512 ![] bcast_S_S16x512),
    TRef.binary (.of main_v54 : Place S16x512 .i32) (.of main_call12_v2 : Place S16x512 .i32) (.of main_call12_v3 : Place S16x512 .i32) addi,
    TRef.ternary (.of main_call12_v1 : Place S16x512 .i1) (.of main_call12_v3 : Place S16x512 .i32) (.of main_v54 : Place S16x512 .i32) (.of main_call12_v4 : Place S16x512 .i32) select,
    TRef.reshape (.of main_call12_v4 : Place S16x512 .i32) (.of main_call12_v5 : Place S16x512x1 .i32) (rfl : (.i32 : EltTy) = .i32) shapeCasts_S16x512_S16x512x1,
    TRef.nullary (.of main_call12_c_1 : Place S1 .i32) (constantI S1 32 767#32),
    TRef.nullary (.of main_call12_c_2 : Place S_ .i32) (constantI S_ 32 0#32),
    TRef.unary (.of main_call12_c_2 : Place S_ .i32) (.of main_call12_v6 : Place S16x512x1 .i32) (broadcastInDim S16x512x1 ![] bcast_S_S16x512x1),
    TRef.binary (.of main_call12_v5 : Place S16x512x1 .i32) (.of main_call12_v6 : Place S16x512x1 .i32) (.of main_call12_v7 : Place S16x512x1 .i1) (cmpi .sge),
    TRef.unary (.of main_call12_c_1 : Place S1 .i32) (.of main_call12_v8 : Place S1x1x1 .i32) (broadcastInDim S1x1x1 ![2] bcast_S1_S1x1x1_2),
    TRef.unary (.of main_call12_v8 : Place S1x1x1 .i32) (.of main_call12_v9 : Place S16x512x1 .i32) (broadcastInDim S16x512x1 ![0, 1, 2] bcast_S1x1x1_S16x512x1_0_1_2),
    TRef.binary (.of main_call12_v5 : Place S16x512x1 .i32) (.of main_call12_v9 : Place S16x512x1 .i32) (.of main_call12_v10 : Place S16x512x1 .i1) (cmpi .sle),
    TRef.binary (.of main_call12_v7 : Place S16x512x1 .i1) (.of main_call12_v10 : Place S16x512x1 .i1) (.of main_call12_v11 : Place S16x512x1 .i1) andi,
    TRef.nullary (.of main_call12_c_3 : Place S_ .i1) (constantI S_ 1 1#1),
    TRef.binary (.of main_call12_v11 : Place S16x512x1 .i1) (.of main_call12_c_3 : Place S_ .i1) (.of main_call12_v12 : Place S16x512 .i1) (fun x v => Host.reduce IntOp.andi x v reducesTo_S16x512x1_S16x512_d2 h_S_),
    TRef.binary (.of main_v50 : Place S16x768 .i32) (.of main_call12_v5 : Place S16x512x1 .i32) (.of main_call12_v13 : Place S16x512 .i32) (fun x i => Host.gather gather_S16x768_S16x512x1_S16x512_n_1_0_0_1_2_11 x i),
    TRef.nullary (.of main_call12_c_4 : Place S_ .i32) (constantI S_ 32 2147483648#32),
    TRef.unary (.of main_call12_c_4 : Place S_ .i32) (.of main_call12_v14 : Place S16x512 .i32) (broadcastInDim S16x512 ![] bcast_S_S16x512),
    TRef.ternary (.of main_call12_v12 : Place S16x512 .i1) (.of main_call12_v13 : Place S16x512 .i32) (.of main_call12_v14 : Place S16x512 .i32) (.of main_v58 : Place S16x512 .i32) select ]

/-- 2 host operations of @main, in order. -/
abbrev ops22 : List (HloOp τ sig (Elt F)) :=
  [ binary main_v33 main_v56 main_v59 ((fun a b => concatenate S16x512 1 [⟨S16x256, a⟩, ⟨S16x256, b⟩] concatenates_S16x256_S16x256_S16x512_d1) : Arr F S16x256 .i32 → Arr F S16x256 .i32 → Arr F S16x512 .i32),
    unary main_v59 main_v60 (broadcastInDim S16x512x1 ![0, 1] bcast_S16x512_S16x512x1_0_1 : Arr F S16x512 .i32 → Arr F S16x512x1 .i32) ]

/-- 22 host operations of @take_along_axis_6 (main_call13), in order. -/
abbrev ops23 : List (HloOp τ sig (Elt F)) :=
  [ TRef.nullary (.of main_call13_c : Place S_ .i32) (constantI S_ 32 0#32),
    TRef.unary (.of main_call13_c : Place S_ .i32) (.of main_call13_v0 : Place S16x512x1 .i32) (broadcastInDim S16x512x1 ![] bcast_S_S16x512x1),
    TRef.binary (.of main_v60 : Place S16x512x1 .i32) (.of main_call13_v0 : Place S16x512x1 .i32) (.of main_call13_v1 : Place S16x512x1 .i1) (cmpi .slt),
    TRef.nullary (.of main_call13_c_0 : Place S_ .i32) (constantI S_ 32 1024#32),
    TRef.unary (.of main_call13_c_0 : Place S_ .i32) (.of main_call13_v2 : Place S16x512x1 .i32) (broadcastInDim S16x512x1 ![] bcast_S_S16x512x1),
    TRef.binary (.of main_v60 : Place S16x512x1 .i32) (.of main_call13_v2 : Place S16x512x1 .i32) (.of main_call13_v3 : Place S16x512x1 .i32) addi,
    TRef.ternary (.of main_call13_v1 : Place S16x512x1 .i1) (.of main_call13_v3 : Place S16x512x1 .i32) (.of main_v60 : Place S16x512x1 .i32) (.of main_call13_v4 : Place S16x512x1 .i32) select,
    TRef.nullary (.of main_call13_c_1 : Place S1 .i32) (constantI S1 32 1023#32),
    TRef.nullary (.of main_call13_c_2 : Place S_ .i32) (constantI S_ 32 0#32),
    TRef.unary (.of main_call13_c_2 : Place S_ .i32) (.of main_call13_v5 : Place S16x512x1 .i32) (broadcastInDim S16x512x1 ![] bcast_S_S16x512x1),
    TRef.binary (.of main_call13_v4 : Place S16x512x1 .i32) (.of main_call13_v5 : Place S16x512x1 .i32) (.of main_call13_v6 : Place S16x512x1 .i1) (cmpi .sge),
    TRef.unary (.of main_call13_c_1 : Place S1 .i32) (.of main_call13_v7 : Place S1x1x1 .i32) (broadcastInDim S1x1x1 ![2] bcast_S1_S1x1x1_2),
    TRef.unary (.of main_call13_v7 : Place S1x1x1 .i32) (.of main_call13_v8 : Place S16x512x1 .i32) (broadcastInDim S16x512x1 ![0, 1, 2] bcast_S1x1x1_S16x512x1_0_1_2),
    TRef.binary (.of main_call13_v4 : Place S16x512x1 .i32) (.of main_call13_v8 : Place S16x512x1 .i32) (.of main_call13_v9 : Place S16x512x1 .i1) (cmpi .sle),
    TRef.binary (.of main_call13_v6 : Place S16x512x1 .i1) (.of main_call13_v9 : Place S16x512x1 .i1) (.of main_call13_v10 : Place S16x512x1 .i1) andi,
    TRef.nullary (.of main_call13_c_3 : Place S_ .i1) (constantI S_ 1 1#1),
    TRef.binary (.of main_call13_v10 : Place S16x512x1 .i1) (.of main_call13_c_3 : Place S_ .i1) (.of main_call13_v11 : Place S16x512 .i1) (fun x v => Host.reduce IntOp.andi x v reducesTo_S16x512x1_S16x512_d2 h_S_),
    TRef.binary (.of main_arg0 : Place S16x1024x1152 .f32) (.of main_call13_v4 : Place S16x512x1 .i32) (.of main_call13_v12 : Place S16x512x1152 .f32) (fun x i => Host.gather gather_S16x1024x1152_S16x512x1_S16x512x1152_2_1_0_0_1_2_111152 x i),
    TRef.unary (.of main_call13_v11 : Place S16x512 .i1) (.of main_call13_v13 : Place S16x512x1152 .i1) (broadcastInDim S16x512x1152 ![0, 1] bcast_S16x512_S16x512x1152_0_1),
    TRef.nullary (.of main_call13_cst : Place S_ .f32) (constant S_ .f32 0x7FC00000#32),
    TRef.unary (.of main_call13_cst : Place S_ .f32) (.of main_call13_v14 : Place S16x512x1152 .f32) (broadcastInDim S16x512x1152 ![] bcast_S_S16x512x1152),
    TRef.ternary (.of main_call13_v13 : Place S16x512x1152 .i1) (.of main_call13_v12 : Place S16x512x1152 .f32) (.of main_call13_v14 : Place S16x512x1152 .f32) (.of main_v61 : Place S16x512x1152 .f32) select ]

/-- 48 host operations of @main, in order. -/
abbrev ops24 : List (HloOp τ sig (Elt F)) :=
  [ nullary main_cst_8 (constant S_ .f32 0x00000000#32),
    binary main_v61 main_cst_8 main_v62 ((fun x v => Host.reduceAdd x v reducesTo_S16x512x1152_S16x512_d2 h_S_) : Arr F S16x512x1152 .f32 → Arr F S_ .f32 → Arr F S16x512 .f32),
    unary main_v62 main_v63 (broadcastInDim S16x512x1 ![0, 1] bcast_S16x512_S16x512x1_0_1 : Arr F S16x512 .f32 → Arr F S16x512x1 .f32),
    nullary main_cst_9 (constant S_ .f32 0x44900000#32),
    unary main_cst_9 main_v64 (broadcastInDim S16x512x1 ![] bcast_S_S16x512x1 : Arr F S_ .f32 → Arr F S16x512x1 .f32),
    binary main_v63 main_v64 main_v65 (Host.divf : Arr F S16x512x1 .f32 → Arr F S16x512x1 .f32 → Arr F S16x512x1 .f32),
    unary main_v65 main_v66 (broadcastInDim S16x512x1152 ![0, 1, 2] bcast_S16x512x1_S16x512x1152_0_1_2 : Arr F S16x512x1 .f32 → Arr F S16x512x1152 .f32),
    binary main_v61 main_v66 main_v67 (subf : Arr F S16x512x1152 .f32 → Arr F S16x512x1152 .f32 → Arr F S16x512x1152 .f32),
    binary main_v67 main_v67 main_v68 (mulf : Arr F S16x512x1152 .f32 → Arr F S16x512x1152 .f32 → Arr F S16x512x1152 .f32),
    nullary main_cst_10 (constant S_ .f32 0x00000000#32),
    binary main_v68 main_cst_10 main_v69 ((fun x v => Host.reduceAdd x v reducesTo_S16x512x1152_S16x512_d2 h_S_) : Arr F S16x512x1152 .f32 → Arr F S_ .f32 → Arr F S16x512 .f32),
    unary main_v69 main_v70 (broadcastInDim S16x512x1 ![0, 1] bcast_S16x512_S16x512x1_0_1 : Arr F S16x512 .f32 → Arr F S16x512x1 .f32),
    nullary main_cst_11 (constant S_ .f32 0x44900000#32),
    unary main_cst_11 main_v71 (broadcastInDim S16x512x1 ![] bcast_S_S16x512x1 : Arr F S_ .f32 → Arr F S16x512x1 .f32),
    binary main_v70 main_v71 main_v72 (Host.divf : Arr F S16x512x1 .f32 → Arr F S16x512x1 .f32 → Arr F S16x512x1 .f32),
    unary main_v65 main_v73 (broadcastInDim S16x512x1152 ![0, 1, 2] bcast_S16x512x1_S16x512x1152_0_1_2 : Arr F S16x512x1 .f32 → Arr F S16x512x1152 .f32),
    binary main_v61 main_v73 main_v74 (subf : Arr F S16x512x1152 .f32 → Arr F S16x512x1152 .f32 → Arr F S16x512x1152 .f32),
    nullary main_cst_12 (constant S_ .f32 0x358637BD#32),
    unary main_cst_12 main_v75 (broadcastInDim S16x512x1 ![] bcast_S_S16x512x1 : Arr F S_ .f32 → Arr F S16x512x1 .f32),
    binary main_v72 main_v75 main_v76 (addf : Arr F S16x512x1 .f32 → Arr F S16x512x1 .f32 → Arr F S16x512x1 .f32),
    unary main_v76 main_v77 (Host.rsqrt : Arr F S16x512x1 .f32 → Arr F S16x512x1 .f32),
    unary main_v77 main_v78 (broadcastInDim S16x512x1152 ![0, 1, 2] bcast_S16x512x1_S16x512x1152_0_1_2 : Arr F S16x512x1 .f32 → Arr F S16x512x1152 .f32),
    binary main_v74 main_v78 main_v79 (mulf : Arr F S16x512x1152 .f32 → Arr F S16x512x1152 .f32 → Arr F S16x512x1152 .f32),
    unary main_arg2 main_v80 (broadcastInDim S1x1x1152 ![2] bcast_S1152_S1x1x1152_2 : Arr F S1152 .f32 → Arr F S1x1x1152 .f32),
    unary main_v80 main_v81 (broadcastInDim S16x512x1152 ![0, 1, 2] bcast_S1x1x1152_S16x512x1152_0_1_2 : Arr F S1x1x1152 .f32 → Arr F S16x512x1152 .f32),
    binary main_v79 main_v81 main_v82 (mulf : Arr F S16x512x1152 .f32 → Arr F S16x512x1152 .f32 → Arr F S16x512x1152 .f32),
    unary main_arg3 main_v83 (broadcastInDim S1x1x1152 ![2] bcast_S1152_S1x1x1152_2 : Arr F S1152 .f32 → Arr F S1x1x1152 .f32),
    unary main_v83 main_v84 (broadcastInDim S16x512x1152 ![0, 1, 2] bcast_S1x1x1152_S16x512x1152_0_1_2 : Arr F S1x1x1152 .f32 → Arr F S16x512x1152 .f32),
    binary main_v82 main_v84 main_v85 (addf : Arr F S16x512x1152 .f32 → Arr F S16x512x1152 .f32 → Arr F S16x512x1152 .f32),
    binary main_v85 main_arg6 main_v86 ((fun l r => Host.dotGeneral dot_S16x512x1152_S1152x3456_S16x512x3456_2_0_01_1_n_n none l r) : Arr F S16x512x1152 .f32 → Arr F S1152x3456 .f32 → Arr F S16x512x3456 .f32),
    unary main_arg7 main_v87 (broadcastInDim S1x1x3456 ![2] bcast_S3456_S1x1x3456_2 : Arr F S3456 .f32 → Arr F S1x1x3456 .f32),
    unary main_v87 main_v88 (broadcastInDim S16x512x3456 ![0, 1, 2] bcast_S1x1x3456_S16x512x3456_0_1_2 : Arr F S1x1x3456 .f32 → Arr F S16x512x3456 .f32),
    binary main_v86 main_v88 main_v89 (addf : Arr F S16x512x3456 .f32 → Arr F S16x512x3456 .f32 → Arr F S16x512x3456 .f32),
    unary main_v89 main_v90 ((extractStridedSlice S16x512x1152 ![0, 0, 0] · slices_S16x512x3456_S16x512x1152_0_0_0) : Arr F S16x512x3456 .f32 → Arr F S16x512x1152 .f32),
    unary main_v89 main_v91 ((extractStridedSlice S16x512x1152 ![0, 0, 1152] · slices_S16x512x3456_S16x512x1152_0_0_1152) : Arr F S16x512x3456 .f32 → Arr F S16x512x1152 .f32),
    unary main_v89 main_v92 ((extractStridedSlice S16x512x1152 ![0, 0, 2304] · slices_S16x512x3456_S16x512x1152_0_0_2304) : Arr F S16x512x3456 .f32 → Arr F S16x512x1152 .f32),
    reshape main_v90 main_v93 (rfl : (.f32 : EltTy) = .f32) shapeCasts_S16x512x1152_S16x512x16x72,
    unary main_v93 main_v94 ((transpose S16x16x512x72 [0, 2, 1, 3] · transposes_S16x512x16x72_S16x16x512x72_0_2_1_3) : Arr F S16x512x16x72 .f32 → Arr F S16x16x512x72 .f32),
    reshape main_v91 main_v95 (rfl : (.f32 : EltTy) = .f32) shapeCasts_S16x512x1152_S16x512x16x72,
    unary main_v95 main_v96 ((transpose S16x16x512x72 [0, 2, 1, 3] · transposes_S16x512x16x72_S16x16x512x72_0_2_1_3) : Arr F S16x512x16x72 .f32 → Arr F S16x16x512x72 .f32),
    reshape main_v92 main_v97 (rfl : (.f32 : EltTy) = .f32) shapeCasts_S16x512x1152_S16x512x16x72,
    unary main_v97 main_v98 ((transpose S16x16x512x72 [0, 2, 1, 3] · transposes_S16x512x16x72_S16x16x512x72_0_2_1_3) : Arr F S16x512x16x72 .f32 → Arr F S16x16x512x72 .f32),
    binary main_v94 main_v96 main_v99 ((fun l r => Host.dotGeneral dot_S16x16x512x72_S16x16x512x72_S16x16x512x512_3_3_2_2_01_01 none l r) : Arr F S16x16x512x72 .f32 → Arr F S16x16x512x72 .f32 → Arr F S16x16x512x512 .f32),
    nullary main_cst_13 (constant S_ .f32 0x3DF15BEF#32),
    unary main_cst_13 main_v100 (broadcastInDim S16x16x512x512 ![] bcast_S_S16x16x512x512 : Arr F S_ .f32 → Arr F S16x16x512x512 .f32),
    binary main_v99 main_v100 main_v101 (mulf : Arr F S16x16x512x512 .f32 → Arr F S16x16x512x512 .f32 → Arr F S16x16x512x512 .f32),
    nullary main_cst_14 (constant S_ .f32 0xFF800000#32),
    binary main_v101 main_cst_14 main_v102 ((fun x v => Host.reduce FloatOps.maximumf x v reducesTo_S16x16x512x512_S16x16x512_d3 h_S_) : Arr F S16x16x512x512 .f32 → Arr F S_ .f32 → Arr F S16x16x512 .f32) ]

/-- 60 host operations of @main, in order. -/
abbrev ops25 : List (HloOp τ sig (Elt F)) :=
  [ nullary main_cst_15 (constant S_ .f32 0xFF800000#32),
    unary main_cst_15 main_v103 (broadcastInDim S16x16x512 ![] bcast_S_S16x16x512 : Arr F S_ .f32 → Arr F S16x16x512 .f32),
    binary main_v103 main_v102 main_v104 (maximumf : Arr F S16x16x512 .f32 → Arr F S16x16x512 .f32 → Arr F S16x16x512 .f32),
    unary main_v104 main_v105 (broadcastInDim S16x16x512x1 ![0, 1, 2] bcast_S16x16x512_S16x16x512x1_0_1_2 : Arr F S16x16x512 .f32 → Arr F S16x16x512x1 .f32),
    unary main_v105 main_v106 (broadcastInDim S16x16x512x512 ![0, 1, 2, 3] bcast_S16x16x512x1_S16x16x512x512_0_1_2_3 : Arr F S16x16x512x1 .f32 → Arr F S16x16x512x512 .f32),
    binary main_v101 main_v106 main_v107 (subf : Arr F S16x16x512x512 .f32 → Arr F S16x16x512x512 .f32 → Arr F S16x16x512x512 .f32),
    unary main_v107 main_v108 (Host.exp : Arr F S16x16x512x512 .f32 → Arr F S16x16x512x512 .f32),
    nullary main_cst_16 (constant S_ .f32 0x00000000#32),
    binary main_v108 main_cst_16 main_v109 ((fun x v => Host.reduceAdd x v reducesTo_S16x16x512x512_S16x16x512_d3 h_S_) : Arr F S16x16x512x512 .f32 → Arr F S_ .f32 → Arr F S16x16x512 .f32),
    unary main_v109 main_v110 (broadcastInDim S16x16x512x1 ![0, 1, 2] bcast_S16x16x512_S16x16x512x1_0_1_2 : Arr F S16x16x512 .f32 → Arr F S16x16x512x1 .f32),
    unary main_v110 main_v111 (broadcastInDim S16x16x512x512 ![0, 1, 2, 3] bcast_S16x16x512x1_S16x16x512x512_0_1_2_3 : Arr F S16x16x512x1 .f32 → Arr F S16x16x512x512 .f32),
    binary main_v108 main_v111 main_v112 (Host.divf : Arr F S16x16x512x512 .f32 → Arr F S16x16x512x512 .f32 → Arr F S16x16x512x512 .f32),
    binary main_v112 main_v98 main_v113 ((fun l r => Host.dotGeneral dot_S16x16x512x512_S16x16x512x72_S16x16x512x72_3_2_2_3_01_01 none l r) : Arr F S16x16x512x512 .f32 → Arr F S16x16x512x72 .f32 → Arr F S16x16x512x72 .f32),
    unary main_v113 main_v114 ((transpose S16x512x16x72 [0, 2, 1, 3] · transposes_S16x16x512x72_S16x512x16x72_0_2_1_3) : Arr F S16x16x512x72 .f32 → Arr F S16x512x16x72 .f32),
    reshape main_v114 main_v115 (rfl : (.f32 : EltTy) = .f32) shapeCasts_S16x512x16x72_S16x512x1152,
    binary main_v115 main_arg8 main_v116 ((fun l r => Host.dotGeneral dot_S16x512x1152_S1152x1152_S16x512x1152_2_0_01_1_n_n none l r) : Arr F S16x512x1152 .f32 → Arr F S1152x1152 .f32 → Arr F S16x512x1152 .f32),
    binary main_v61 main_v116 main_v117 (addf : Arr F S16x512x1152 .f32 → Arr F S16x512x1152 .f32 → Arr F S16x512x1152 .f32),
    unary main_arg9 main_v118 (broadcastInDim S1x1x1152 ![2] bcast_S1152_S1x1x1152_2 : Arr F S1152 .f32 → Arr F S1x1x1152 .f32),
    unary main_v118 main_v119 (broadcastInDim S16x512x1152 ![0, 1, 2] bcast_S1x1x1152_S16x512x1152_0_1_2 : Arr F S1x1x1152 .f32 → Arr F S16x512x1152 .f32),
    binary main_v117 main_v119 main_v120 (addf : Arr F S16x512x1152 .f32 → Arr F S16x512x1152 .f32 → Arr F S16x512x1152 .f32),
    nullary main_cst_17 (constant S_ .f32 0x00000000#32),
    binary main_v120 main_cst_17 main_v121 ((fun x v => Host.reduceAdd x v reducesTo_S16x512x1152_S16x512_d2 h_S_) : Arr F S16x512x1152 .f32 → Arr F S_ .f32 → Arr F S16x512 .f32),
    unary main_v121 main_v122 (broadcastInDim S16x512x1 ![0, 1] bcast_S16x512_S16x512x1_0_1 : Arr F S16x512 .f32 → Arr F S16x512x1 .f32),
    nullary main_cst_18 (constant S_ .f32 0x44900000#32),
    unary main_cst_18 main_v123 (broadcastInDim S16x512x1 ![] bcast_S_S16x512x1 : Arr F S_ .f32 → Arr F S16x512x1 .f32),
    binary main_v122 main_v123 main_v124 (Host.divf : Arr F S16x512x1 .f32 → Arr F S16x512x1 .f32 → Arr F S16x512x1 .f32),
    unary main_v124 main_v125 (broadcastInDim S16x512x1152 ![0, 1, 2] bcast_S16x512x1_S16x512x1152_0_1_2 : Arr F S16x512x1 .f32 → Arr F S16x512x1152 .f32),
    binary main_v120 main_v125 main_v126 (subf : Arr F S16x512x1152 .f32 → Arr F S16x512x1152 .f32 → Arr F S16x512x1152 .f32),
    binary main_v126 main_v126 main_v127 (mulf : Arr F S16x512x1152 .f32 → Arr F S16x512x1152 .f32 → Arr F S16x512x1152 .f32),
    nullary main_cst_19 (constant S_ .f32 0x00000000#32),
    binary main_v127 main_cst_19 main_v128 ((fun x v => Host.reduceAdd x v reducesTo_S16x512x1152_S16x512_d2 h_S_) : Arr F S16x512x1152 .f32 → Arr F S_ .f32 → Arr F S16x512 .f32),
    unary main_v128 main_v129 (broadcastInDim S16x512x1 ![0, 1] bcast_S16x512_S16x512x1_0_1 : Arr F S16x512 .f32 → Arr F S16x512x1 .f32),
    nullary main_cst_20 (constant S_ .f32 0x44900000#32),
    unary main_cst_20 main_v130 (broadcastInDim S16x512x1 ![] bcast_S_S16x512x1 : Arr F S_ .f32 → Arr F S16x512x1 .f32),
    binary main_v129 main_v130 main_v131 (Host.divf : Arr F S16x512x1 .f32 → Arr F S16x512x1 .f32 → Arr F S16x512x1 .f32),
    unary main_v124 main_v132 (broadcastInDim S16x512x1152 ![0, 1, 2] bcast_S16x512x1_S16x512x1152_0_1_2 : Arr F S16x512x1 .f32 → Arr F S16x512x1152 .f32),
    binary main_v120 main_v132 main_v133 (subf : Arr F S16x512x1152 .f32 → Arr F S16x512x1152 .f32 → Arr F S16x512x1152 .f32),
    nullary main_cst_21 (constant S_ .f32 0x358637BD#32),
    unary main_cst_21 main_v134 (broadcastInDim S16x512x1 ![] bcast_S_S16x512x1 : Arr F S_ .f32 → Arr F S16x512x1 .f32),
    binary main_v131 main_v134 main_v135 (addf : Arr F S16x512x1 .f32 → Arr F S16x512x1 .f32 → Arr F S16x512x1 .f32),
    unary main_v135 main_v136 (Host.rsqrt : Arr F S16x512x1 .f32 → Arr F S16x512x1 .f32),
    unary main_v136 main_v137 (broadcastInDim S16x512x1152 ![0, 1, 2] bcast_S16x512x1_S16x512x1152_0_1_2 : Arr F S16x512x1 .f32 → Arr F S16x512x1152 .f32),
    binary main_v133 main_v137 main_v138 (mulf : Arr F S16x512x1152 .f32 → Arr F S16x512x1152 .f32 → Arr F S16x512x1152 .f32),
    unary main_arg4 main_v139 (broadcastInDim S1x1x1152 ![2] bcast_S1152_S1x1x1152_2 : Arr F S1152 .f32 → Arr F S1x1x1152 .f32),
    unary main_v139 main_v140 (broadcastInDim S16x512x1152 ![0, 1, 2] bcast_S1x1x1152_S16x512x1152_0_1_2 : Arr F S1x1x1152 .f32 → Arr F S16x512x1152 .f32),
    binary main_v138 main_v140 main_v141 (mulf : Arr F S16x512x1152 .f32 → Arr F S16x512x1152 .f32 → Arr F S16x512x1152 .f32),
    unary main_arg5 main_v142 (broadcastInDim S1x1x1152 ![2] bcast_S1152_S1x1x1152_2 : Arr F S1152 .f32 → Arr F S1x1x1152 .f32),
    unary main_v142 main_v143 (broadcastInDim S16x512x1152 ![0, 1, 2] bcast_S1x1x1152_S16x512x1152_0_1_2 : Arr F S1x1x1152 .f32 → Arr F S16x512x1152 .f32),
    binary main_v141 main_v143 main_v144 (addf : Arr F S16x512x1152 .f32 → Arr F S16x512x1152 .f32 → Arr F S16x512x1152 .f32),
    binary main_v144 main_arg10 main_v145 ((fun l r => Host.dotGeneral dot_S16x512x1152_S1152x4608_S16x512x4608_2_0_01_1_n_n none l r) : Arr F S16x512x1152 .f32 → Arr F S1152x4608 .f32 → Arr F S16x512x4608 .f32),
    unary main_arg11 main_v146 (broadcastInDim S1x1x4608 ![2] bcast_S4608_S1x1x4608_2 : Arr F S4608 .f32 → Arr F S1x1x4608 .f32),
    unary main_v146 main_v147 (broadcastInDim S16x512x4608 ![0, 1, 2] bcast_S1x1x4608_S16x512x4608_0_1_2 : Arr F S1x1x4608 .f32 → Arr F S16x512x4608 .f32),
    binary main_v145 main_v147 main_v148 (addf : Arr F S16x512x4608 .f32 → Arr F S16x512x4608 .f32 → Arr F S16x512x4608 .f32),
    binary main_v148 main_v148 main_v149 (mulf : Arr F S16x512x4608 .f32 → Arr F S16x512x4608 .f32 → Arr F S16x512x4608 .f32),
    binary main_v149 main_v148 main_v150 (mulf : Arr F S16x512x4608 .f32 → Arr F S16x512x4608 .f32 → Arr F S16x512x4608 .f32),
    nullary main_cst_22 (constant S_ .f32 0x3D372713#32),
    unary main_cst_22 main_v151 (broadcastInDim S16x512x4608 ![] bcast_S_S16x512x4608 : Arr F S_ .f32 → Arr F S16x512x4608 .f32),
    binary main_v151 main_v150 main_v152 (mulf : Arr F S16x512x4608 .f32 → Arr F S16x512x4608 .f32 → Arr F S16x512x4608 .f32),
    binary main_v148 main_v152 main_v153 (addf : Arr F S16x512x4608 .f32 → Arr F S16x512x4608 .f32 → Arr F S16x512x4608 .f32),
    nullary main_cst_23 (constant S_ .f32 0x3F4C422A#32) ]

/-- 60 host operations of @main, in order. -/
abbrev ops26 : List (HloOp τ sig (Elt F)) :=
  [ unary main_cst_23 main_v154 (broadcastInDim S16x512x4608 ![] bcast_S_S16x512x4608 : Arr F S_ .f32 → Arr F S16x512x4608 .f32),
    binary main_v154 main_v153 main_v155 (mulf : Arr F S16x512x4608 .f32 → Arr F S16x512x4608 .f32 → Arr F S16x512x4608 .f32),
    unary main_v155 main_v156 (Host.tanh : Arr F S16x512x4608 .f32 → Arr F S16x512x4608 .f32),
    nullary main_cst_24 (constant S_ .f32 0x3F800000#32),
    unary main_cst_24 main_v157 (broadcastInDim S16x512x4608 ![] bcast_S_S16x512x4608 : Arr F S_ .f32 → Arr F S16x512x4608 .f32),
    binary main_v157 main_v156 main_v158 (addf : Arr F S16x512x4608 .f32 → Arr F S16x512x4608 .f32 → Arr F S16x512x4608 .f32),
    nullary main_cst_25 (constant S_ .f32 0x3F000000#32),
    unary main_cst_25 main_v159 (broadcastInDim S16x512x4608 ![] bcast_S_S16x512x4608 : Arr F S_ .f32 → Arr F S16x512x4608 .f32),
    binary main_v159 main_v158 main_v160 (mulf : Arr F S16x512x4608 .f32 → Arr F S16x512x4608 .f32 → Arr F S16x512x4608 .f32),
    binary main_v148 main_v160 main_v161 (mulf : Arr F S16x512x4608 .f32 → Arr F S16x512x4608 .f32 → Arr F S16x512x4608 .f32),
    binary main_v161 main_arg12 main_v162 ((fun l r => Host.dotGeneral dot_S16x512x4608_S4608x1152_S16x512x1152_2_0_01_1_n_n none l r) : Arr F S16x512x4608 .f32 → Arr F S4608x1152 .f32 → Arr F S16x512x1152 .f32),
    binary main_v120 main_v162 main_v163 (addf : Arr F S16x512x1152 .f32 → Arr F S16x512x1152 .f32 → Arr F S16x512x1152 .f32),
    unary main_arg13 main_v164 (broadcastInDim S1x1x1152 ![2] bcast_S1152_S1x1x1152_2 : Arr F S1152 .f32 → Arr F S1x1x1152 .f32),
    unary main_v164 main_v165 (broadcastInDim S16x512x1152 ![0, 1, 2] bcast_S1x1x1152_S16x512x1152_0_1_2 : Arr F S1x1x1152 .f32 → Arr F S16x512x1152 .f32),
    binary main_v163 main_v165 main_v166 (addf : Arr F S16x512x1152 .f32 → Arr F S16x512x1152 .f32 → Arr F S16x512x1152 .f32),
    nullary main_v167 (iotaInDim S16 32 0),
    unary main_v167 main_v168 (broadcastInDim S16x1 ![0] bcast_S16_S16x1_0 : Arr F S16 .i32 → Arr F S16x1 .i32),
    unary main_v166 main_v169 ((extractStridedSlice S16x256x1152 ![0, 0, 0] · slices_S16x512x1152_S16x256x1152_0_0_0) : Arr F S16x512x1152 .f32 → Arr F S16x256x1152 .f32),
    unary main_v166 main_v170 ((extractStridedSlice S16x256x1152 ![0, 256, 0] · slices_S16x512x1152_S16x256x1152_0_256_0) : Arr F S16x512x1152 .f32 → Arr F S16x256x1152 .f32),
    nullary main_cst_26 (constant S_ .f32 0x00000000#32),
    unary main_cst_26 main_v171 (broadcastInDim S16x1024x1152 ![] bcast_S_S16x1024x1152 : Arr F S_ .f32 → Arr F S16x1024x1152 .f32),
    nullary main_c_27 (constantI S_ 32 0#32),
    unary main_c_27 main_v172 (broadcastInDim S16x1 ![] bcast_S_S16x1 : Arr F S_ .i32 → Arr F S16x1 .i32),
    binary main_v168 main_v172 main_v173 (cmpi .slt : Arr F S16x1 .i32 → Arr F S16x1 .i32 → Arr F S16x1 .i1),
    nullary main_c_28 (constantI S_ 32 16#32),
    unary main_c_28 main_v174 (broadcastInDim S16x1 ![] bcast_S_S16x1 : Arr F S_ .i32 → Arr F S16x1 .i32),
    binary main_v168 main_v174 main_v175 (addi : Arr F S16x1 .i32 → Arr F S16x1 .i32 → Arr F S16x1 .i32),
    ternary main_v173 main_v175 main_v168 main_v176 (select : Arr F S16x1 .i1 → Arr F S16x1 .i32 → Arr F S16x1 .i32 → Arr F S16x1 .i32),
    nullary main_c_29 (constantI S_ 32 0#32),
    unary main_c_29 main_v177 (broadcastInDim S16x256 ![] bcast_S_S16x256 : Arr F S_ .i32 → Arr F S16x256 .i32),
    binary main_v33 main_v177 main_v178 (cmpi .slt : Arr F S16x256 .i32 → Arr F S16x256 .i32 → Arr F S16x256 .i1),
    nullary main_c_30 (constantI S_ 32 1024#32),
    unary main_c_30 main_v179 (broadcastInDim S16x256 ![] bcast_S_S16x256 : Arr F S_ .i32 → Arr F S16x256 .i32),
    binary main_v33 main_v179 main_v180 (addi : Arr F S16x256 .i32 → Arr F S16x256 .i32 → Arr F S16x256 .i32),
    ternary main_v178 main_v180 main_v33 main_v181 (select : Arr F S16x256 .i1 → Arr F S16x256 .i32 → Arr F S16x256 .i32 → Arr F S16x256 .i32),
    unary main_v176 main_v182 (broadcastInDim S16x256 ![0, 1] bcast_S16x1_S16x256_0_1 : Arr F S16x1 .i32 → Arr F S16x256 .i32),
    unary main_v182 main_v183 (broadcastInDim S16x256x1 ![0, 1] bcast_S16x256_S16x256x1_0_1 : Arr F S16x256 .i32 → Arr F S16x256x1 .i32),
    unary main_v181 main_v184 (broadcastInDim S16x256x1 ![0, 1] bcast_S16x256_S16x256x1_0_1 : Arr F S16x256 .i32 → Arr F S16x256x1 .i32),
    binary main_v183 main_v184 main_v185 ((fun a b => concatenate S16x256x2 2 [⟨S16x256x1, a⟩, ⟨S16x256x1, b⟩] concatenates_S16x256x1_S16x256x1_S16x256x2_d2) : Arr F S16x256x1 .i32 → Arr F S16x256x1 .i32 → Arr F S16x256x2 .i32),
    ternary main_v171 main_v185 main_v169 main_v186 ((fun x i u => Host.scatter scatter_S16x1024x1152_S16x256x2_S16x256x1152_2_01_01_2 (fun _ b => b) x i u) : Arr F S16x1024x1152 .f32 → Arr F S16x256x2 .i32 → Arr F S16x256x1152 .f32 → Arr F S16x1024x1152 .f32),
    nullary main_c_31 (constantI S_ 32 0#32),
    unary main_c_31 main_v187 (broadcastInDim S16x1 ![] bcast_S_S16x1 : Arr F S_ .i32 → Arr F S16x1 .i32),
    binary main_v168 main_v187 main_v188 (cmpi .slt : Arr F S16x1 .i32 → Arr F S16x1 .i32 → Arr F S16x1 .i1),
    nullary main_c_32 (constantI S_ 32 16#32),
    unary main_c_32 main_v189 (broadcastInDim S16x1 ![] bcast_S_S16x1 : Arr F S_ .i32 → Arr F S16x1 .i32),
    binary main_v168 main_v189 main_v190 (addi : Arr F S16x1 .i32 → Arr F S16x1 .i32 → Arr F S16x1 .i32),
    ternary main_v188 main_v190 main_v168 main_v191 (select : Arr F S16x1 .i1 → Arr F S16x1 .i32 → Arr F S16x1 .i32 → Arr F S16x1 .i32),
    nullary main_c_33 (constantI S_ 32 0#32),
    unary main_c_33 main_v192 (broadcastInDim S16x256 ![] bcast_S_S16x256 : Arr F S_ .i32 → Arr F S16x256 .i32),
    binary main_v56 main_v192 main_v193 (cmpi .slt : Arr F S16x256 .i32 → Arr F S16x256 .i32 → Arr F S16x256 .i1),
    nullary main_c_34 (constantI S_ 32 1024#32),
    unary main_c_34 main_v194 (broadcastInDim S16x256 ![] bcast_S_S16x256 : Arr F S_ .i32 → Arr F S16x256 .i32),
    binary main_v56 main_v194 main_v195 (addi : Arr F S16x256 .i32 → Arr F S16x256 .i32 → Arr F S16x256 .i32),
    ternary main_v193 main_v195 main_v56 main_v196 (select : Arr F S16x256 .i1 → Arr F S16x256 .i32 → Arr F S16x256 .i32 → Arr F S16x256 .i32),
    unary main_v191 main_v197 (broadcastInDim S16x256 ![0, 1] bcast_S16x1_S16x256_0_1 : Arr F S16x1 .i32 → Arr F S16x256 .i32),
    unary main_v197 main_v198 (broadcastInDim S16x256x1 ![0, 1] bcast_S16x256_S16x256x1_0_1 : Arr F S16x256 .i32 → Arr F S16x256x1 .i32),
    unary main_v196 main_v199 (broadcastInDim S16x256x1 ![0, 1] bcast_S16x256_S16x256x1_0_1 : Arr F S16x256 .i32 → Arr F S16x256x1 .i32),
    binary main_v198 main_v199 main_v200 ((fun a b => concatenate S16x256x2 2 [⟨S16x256x1, a⟩, ⟨S16x256x1, b⟩] concatenates_S16x256x1_S16x256x1_S16x256x2_d2) : Arr F S16x256x1 .i32 → Arr F S16x256x1 .i32 → Arr F S16x256x2 .i32),
    ternary main_v186 main_v200 main_v170 main_v201 ((fun x i u => Host.scatter scatter_S16x1024x1152_S16x256x2_S16x256x1152_2_01_01_2 (fun _ b => b) x i u) : Arr F S16x1024x1152 .f32 → Arr F S16x256x2 .i32 → Arr F S16x256x1152 .f32 → Arr F S16x1024x1152 .f32),
    nullary main_c_35 (constantI S_ 32 0#32) ]

/-- 37 host operations of @main, in order. -/
abbrev ops27 : List (HloOp τ sig (Elt F)) :=
  [ unary main_c_35 main_v202 (broadcastInDim S16x1 ![] bcast_S_S16x1 : Arr F S_ .i32 → Arr F S16x1 .i32),
    binary main_v168 main_v202 main_v203 (cmpi .slt : Arr F S16x1 .i32 → Arr F S16x1 .i32 → Arr F S16x1 .i1),
    nullary main_c_36 (constantI S_ 32 16#32),
    unary main_c_36 main_v204 (broadcastInDim S16x1 ![] bcast_S_S16x1 : Arr F S_ .i32 → Arr F S16x1 .i32),
    binary main_v168 main_v204 main_v205 (addi : Arr F S16x1 .i32 → Arr F S16x1 .i32 → Arr F S16x1 .i32),
    ternary main_v203 main_v205 main_v168 main_v206 (select : Arr F S16x1 .i1 → Arr F S16x1 .i32 → Arr F S16x1 .i32 → Arr F S16x1 .i32),
    nullary main_c_37 (constantI S_ 32 0#32),
    unary main_c_37 main_v207 (broadcastInDim S16x512 ![] bcast_S_S16x512 : Arr F S_ .i32 → Arr F S16x512 .i32),
    binary main_v58 main_v207 main_v208 (cmpi .slt : Arr F S16x512 .i32 → Arr F S16x512 .i32 → Arr F S16x512 .i1),
    nullary main_c_38 (constantI S_ 32 256#32),
    unary main_c_38 main_v209 (broadcastInDim S16x512 ![] bcast_S_S16x512 : Arr F S_ .i32 → Arr F S16x512 .i32),
    binary main_v58 main_v209 main_v210 (addi : Arr F S16x512 .i32 → Arr F S16x512 .i32 → Arr F S16x512 .i32),
    ternary main_v208 main_v210 main_v58 main_v211 (select : Arr F S16x512 .i1 → Arr F S16x512 .i32 → Arr F S16x512 .i32 → Arr F S16x512 .i32),
    unary main_v206 main_v212 (broadcastInDim S16x512 ![0, 1] bcast_S16x1_S16x512_0_1 : Arr F S16x1 .i32 → Arr F S16x512 .i32),
    unary main_v212 main_v213 (broadcastInDim S16x512x1 ![0, 1] bcast_S16x512_S16x512x1_0_1 : Arr F S16x512 .i32 → Arr F S16x512x1 .i32),
    unary main_v211 main_v214 (broadcastInDim S16x512x1 ![0, 1] bcast_S16x512_S16x512x1_0_1 : Arr F S16x512 .i32 → Arr F S16x512x1 .i32),
    binary main_v213 main_v214 main_v215 ((fun a b => concatenate S16x512x2 2 [⟨S16x512x1, a⟩, ⟨S16x512x1, b⟩] concatenates_S16x512x1_S16x512x1_S16x512x2_d2) : Arr F S16x512x1 .i32 → Arr F S16x512x1 .i32 → Arr F S16x512x2 .i32),
    binary main_v169 main_v215 main_v216 ((fun x i => Host.gather gather_S16x256x1152_S16x512x2_S16x512x1152_2_01_n_n_01_2_111152 x i) : Arr F S16x256x1152 .f32 → Arr F S16x512x2 .i32 → Arr F S16x512x1152 .f32),
    nullary main_c_39 (constantI S_ 32 0#32),
    unary main_c_39 main_v217 (broadcastInDim S16x1 ![] bcast_S_S16x1 : Arr F S_ .i32 → Arr F S16x1 .i32),
    binary main_v168 main_v217 main_v218 (cmpi .slt : Arr F S16x1 .i32 → Arr F S16x1 .i32 → Arr F S16x1 .i1),
    nullary main_c_40 (constantI S_ 32 16#32),
    unary main_c_40 main_v219 (broadcastInDim S16x1 ![] bcast_S_S16x1 : Arr F S_ .i32 → Arr F S16x1 .i32),
    binary main_v168 main_v219 main_v220 (addi : Arr F S16x1 .i32 → Arr F S16x1 .i32 → Arr F S16x1 .i32),
    ternary main_v218 main_v220 main_v168 main_v221 (select : Arr F S16x1 .i1 → Arr F S16x1 .i32 → Arr F S16x1 .i32 → Arr F S16x1 .i32),
    nullary main_c_41 (constantI S_ 32 0#32),
    unary main_c_41 main_v222 (broadcastInDim S16x512 ![] bcast_S_S16x512 : Arr F S_ .i32 → Arr F S16x512 .i32),
    binary main_v57 main_v222 main_v223 (cmpi .slt : Arr F S16x512 .i32 → Arr F S16x512 .i32 → Arr F S16x512 .i1),
    nullary main_c_42 (constantI S_ 32 1024#32),
    unary main_c_42 main_v224 (broadcastInDim S16x512 ![] bcast_S_S16x512 : Arr F S_ .i32 → Arr F S16x512 .i32),
    binary main_v57 main_v224 main_v225 (addi : Arr F S16x512 .i32 → Arr F S16x512 .i32 → Arr F S16x512 .i32),
    ternary main_v223 main_v225 main_v57 main_v226 (select : Arr F S16x512 .i1 → Arr F S16x512 .i32 → Arr F S16x512 .i32 → Arr F S16x512 .i32),
    unary main_v221 main_v227 (broadcastInDim S16x512 ![0, 1] bcast_S16x1_S16x512_0_1 : Arr F S16x1 .i32 → Arr F S16x512 .i32),
    unary main_v227 main_v228 (broadcastInDim S16x512x1 ![0, 1] bcast_S16x512_S16x512x1_0_1 : Arr F S16x512 .i32 → Arr F S16x512x1 .i32),
    unary main_v226 main_v229 (broadcastInDim S16x512x1 ![0, 1] bcast_S16x512_S16x512x1_0_1 : Arr F S16x512 .i32 → Arr F S16x512x1 .i32),
    binary main_v228 main_v229 main_v230 ((fun a b => concatenate S16x512x2 2 [⟨S16x512x1, a⟩, ⟨S16x512x1, b⟩] concatenates_S16x512x1_S16x512x1_S16x512x2_d2) : Arr F S16x512x1 .i32 → Arr F S16x512x1 .i32 → Arr F S16x512x2 .i32),
    ternary main_v201 main_v230 main_v216 main_v231 ((fun x i u => Host.scatter scatter_S16x1024x1152_S16x512x2_S16x512x1152_2_01_01_2 (fun _ b => b) x i u) : Arr F S16x1024x1152 .f32 → Arr F S16x512x2 .i32 → Arr F S16x512x1152 .f32 → Arr F S16x1024x1152 .f32) ]

/-! ## Each list: what it touches, what it writes -/

theorem ops0_sub : (ops0 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub ..⟩
theorem ops0_fresh : (ops0 : List (HloOp τ sig (Elt F))).Forall fun op => op.fresh = ∅ := by
  simp only [List.Forall]; repeat' constructor
/-- The reference each operation of `ops0` writes, in order. -/
abbrev ops0_W : List (Ref sig .tc) := [main_call0_v0, main_call0_cst, main_call0_v1, main_call0_v2, main_v0]
theorem ops0_writes : (ops0 : List (HloOp τ sig (Elt F))).Forall fun op => op.writes ⊆ (ops0_W.map (Proc.devRef (τ := τ) .tc)).toFinset :=
  StableHlo.forall_writes_sub_of_map rfl
theorem ops1_sub : (ops1 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.nullary_bufs_sub .., StableHlo.reshape_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩
theorem ops1_fresh : (ops1 : List (HloOp τ sig (Elt F))).Forall fun op => op.fresh = ∅ := by
  simp only [List.Forall]; repeat' constructor
/-- The reference each operation of `ops1` writes, in order. -/
abbrev ops1_W : List (Ref sig .tc) := [main_cst, main_v1, main_v2, main_v3, main_v4, main_v5, main_v6, main_v7, main_v8, main_v9, main_c, main_v10, main_v11, main_c_0, main_v12, main_v13, main_v14, main_v15, main_v16, main_cst_1, main_v17, main_v18, main_cst_2, main_v19, main_v20, main_v21, main_v22, main_cst_3, main_v23, main_cst_4, main_v24, main_v25, main_cst_5, main_v26, main_v27, main_v28]
theorem ops1_writes : (ops1 : List (HloOp τ sig (Elt F))).Forall fun op => op.writes ⊆ (ops1_W.map (Proc.devRef (τ := τ) .tc)).toFinset :=
  StableHlo.forall_writes_sub_of_map rfl
theorem ops2_sub : (ops2 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
theorem ops2_fresh : (ops2 : List (HloOp τ sig (Elt F))).Forall fun op => op.fresh = ∅ := by
  simp only [List.Forall]; repeat' constructor
/-- The reference each operation of `ops2` writes, in order. -/
abbrev ops2_W : List (Ref sig .tc) := [main_call1_v0, main_call1_cst, main_call1_c, main_call1_v1_0, main_v29]
theorem ops2_writes : (ops2 : List (HloOp τ sig (Elt F))).Forall fun op => op.writes ⊆ (ops2_W.map (Proc.devRef (τ := τ) .tc)).toFinset :=
  StableHlo.forall_writes_sub_of_map rfl
theorem ops3_sub : (ops3 : List (HloOp τ sig (Elt F))).Forall fun op => op.bufs ⊆ StableHlo.tcRefs τ sig :=
  ⟨StableHlo.unary_bufs_sub .., StableHlo.unary_bufs_sub ..⟩
theorem ops3_fresh : (ops3 : List (HloOp τ sig (Elt F))).Forall fun op => op.fresh = ∅ := by
  simp only [List.Forall]; repeat' constructor
/-- The reference each operation of `ops3` writes, in order. -/
abbrev ops3_W : List (Ref sig .tc) := [main_v30, main_v31]
theorem ops3_writes : (ops3 : List (HloOp τ sig (Elt F))).Forall fun op => op.writes ⊆ (ops3_W.map (Proc.devRef (τ := τ) .tc)).toFinset :=
  StableHlo.forall_writes_sub_of_map rfl
theorem ops4_sub : (ops4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
theorem ops4_fresh : (ops4 : List (HloOp τ sig (Elt F))).Forall fun op => op.fresh = ∅ := by
  simp only [List.Forall]; repeat' constructor
/-- The reference each operation of `ops4` writes, in order. -/
abbrev ops4_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_c_4, main_call2_v14, main_v32]
theorem ops4_writes : (ops4 : List (HloOp τ sig (Elt F))).Forall fun op => op.writes ⊆ (ops4_W.map (Proc.devRef (τ := τ) .tc)).toFinset :=
  StableHlo.forall_writes_sub_of_map rfl
theorem ops5_sub : (ops5 : List (HloOp τ sig (Elt F))).Forall fun op => op.bufs ⊆ StableHlo.tcRefs τ sig :=
  ⟨StableHlo.reshape_bufs_sub .., StableHlo.nullary_bufs_sub .., StableHlo.unary_bufs_sub .., StableHlo.unary_bufs_sub .., StableHlo.unary_bufs_sub .., StableHlo.unary_bufs_sub .., StableHlo.binary_bufs_sub .., StableHlo.nullary_bufs_sub ..⟩
theorem ops5_fresh : (ops5 : List (HloOp τ sig (Elt F))).Forall fun op => op.fresh = ∅ := by
  simp only [List.Forall]; repeat' constructor
/-- The reference each operation of `ops5` writes, in order. -/
abbrev ops5_W : List (Ref sig .tc) := [main_v33, main_v34, main_v35, main_v36, main_v37, main_v38, main_v39, main_c_6]
theorem ops5_writes : (ops5 : List (HloOp τ sig (Elt F))).Forall fun op => op.writes ⊆ (ops5_W.map (Proc.devRef (τ := τ) .tc)).toFinset :=
  StableHlo.forall_writes_sub_of_map rfl
theorem ops6_sub : (ops6 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops6_fresh : (ops6 : List (HloOp τ sig (Elt F))).Forall fun op => op.fresh = ∅ := by
  simp only [List.Forall]; repeat' constructor
/-- The reference each operation of `ops6` writes, in order. -/
abbrev ops6_W : List (Ref sig .tc) := [main_call3_v0, main_call3_v1, main_call3_v2, main_v40]
theorem ops6_writes : (ops6 : List (HloOp τ sig (Elt F))).Forall fun op => op.writes ⊆ (ops6_W.map (Proc.devRef (τ := τ) .tc)).toFinset :=
  StableHlo.forall_writes_sub_of_map rfl
theorem ops7_sub : (ops7 : List (HloOp τ sig (Elt F))).Forall fun op => op.bufs ⊆ StableHlo.tcRefs τ sig :=
  StableHlo.unary_bufs_sub ..
theorem ops7_fresh : (ops7 : List (HloOp τ sig (Elt F))).Forall fun op => op.fresh = ∅ := by
  simp only [List.Forall]; repeat' constructor
/-- The reference each operation of `ops7` writes, in order. -/
abbrev ops7_W : List (Ref sig .tc) := [main_v41]
theorem ops7_writes : (ops7 : List (HloOp τ sig (Elt F))).Forall fun op => op.writes ⊆ (ops7_W.map (Proc.devRef (τ := τ) .tc)).toFinset :=
  StableHlo.forall_writes_sub_of_map rfl
theorem ops8_sub : (ops8 : List (HloOp τ sig (Elt F))).Forall fun op => op.bufs ⊆ StableHlo.tcRefs τ sig :=
  StableHlo.unary_bufs_sub ..
theorem ops8_fresh : (ops8 : List (HloOp τ sig (Elt F))).Forall fun op => op.fresh = ∅ := by
  simp only [List.Forall]; repeat' constructor
/-- The reference each operation of `ops8` writes, in order. -/
abbrev ops8_W : List (Ref sig .tc) := [main_v42]
theorem ops8_writes : (ops8 : List (HloOp τ sig (Elt F))).Forall fun op => op.writes ⊆ (ops8_W.map (Proc.devRef (τ := τ) .tc)).toFinset :=
  StableHlo.forall_writes_sub_of_map rfl
theorem ops9_sub : (ops9 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
theorem ops9_fresh : (ops9 : List (HloOp τ sig (Elt F))).Forall fun op => op.fresh = ∅ := by
  simp only [List.Forall]; repeat' constructor
/-- The reference each operation of `ops9` writes, in order. -/
abbrev ops9_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_c_4, main_call5_v14, main_v43]
theorem ops9_writes : (ops9 : List (HloOp τ sig (Elt F))).Forall fun op => op.writes ⊆ (ops9_W.map (Proc.devRef (τ := τ) .tc)).toFinset :=
  StableHlo.forall_writes_sub_of_map rfl
theorem ops10_sub : (ops10 : List (HloOp τ sig (Elt F))).Forall fun op => op.bufs ⊆ StableHlo.tcRefs τ sig :=
  ⟨StableHlo.reshape_bufs_sub .., StableHlo.unary_bufs_sub ..⟩
theorem ops10_fresh : (ops10 : List (HloOp τ sig (Elt F))).Forall fun op => op.fresh = ∅ := by
  simp only [List.Forall]; repeat' constructor
/-- The reference each operation of `ops10` writes, in order. -/
abbrev ops10_W : List (Ref sig .tc) := [main_v44, main_v45]
theorem ops10_writes : (ops10 : List (HloOp τ sig (Elt F))).Forall fun op => op.writes ⊆ (ops10_W.map (Proc.devRef (τ := τ) .tc)).toFinset :=
  StableHlo.forall_writes_sub_of_map rfl
theorem ops11_sub : (ops11 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
theorem ops11_fresh : (ops11 : List (HloOp τ sig (Elt F))).Forall fun op => op.fresh = ∅ := by
  simp only [List.Forall]; repeat' constructor
/-- The reference each operation of `ops11` writes, in order. -/
abbrev ops11_W : List (Ref sig .tc) := [main_call6_c, main_call6_v0, main_call6_v1, main_call6_c_0, main_call6_v2, main_call6_v3, main_call6_v4, main_call6_c_1, main_call6_c_2, main_call6_v5, main_call6_v6, main_call6_v7, main_call6_v8, main_call6_v9, main_call6_v10, main_call6_c_3, main_call6_v11, main_call6_v12, main_call6_v13, main_call6_cst, main_call6_v14, main_v46]
theorem ops11_writes : (ops11 : List (HloOp τ sig (Elt F))).Forall fun op => op.writes ⊆ (ops11_W.map (Proc.devRef (τ := τ) .tc)).toFinset :=
  StableHlo.forall_writes_sub_of_map rfl
theorem ops12_sub : (ops12 : List (HloOp τ sig (Elt F))).Forall fun op => op.bufs ⊆ StableHlo.tcRefs τ sig :=
  StableHlo.unary_bufs_sub ..
theorem ops12_fresh : (ops12 : List (HloOp τ sig (Elt F))).Forall fun op => op.fresh = ∅ := by
  simp only [List.Forall]; repeat' constructor
/-- The reference each operation of `ops12` writes, in order. -/
abbrev ops12_W : List (Ref sig .tc) := [main_v47]
theorem ops12_writes : (ops12 : List (HloOp τ sig (Elt F))).Forall fun op => op.writes ⊆ (ops12_W.map (Proc.devRef (τ := τ) .tc)).toFinset :=
  StableHlo.forall_writes_sub_of_map rfl
theorem ops13_sub : (ops13 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
theorem ops13_fresh : (ops13 : List (HloOp τ sig (Elt F))).Forall fun op => op.fresh = ∅ := by
  simp only [List.Forall]; repeat' constructor
/-- The reference each operation of `ops13` writes, in order. -/
abbrev ops13_W : List (Ref sig .tc) := [main_call7_c, main_call7_v0, main_call7_v1, main_call7_c_0, main_call7_v2, main_call7_v3, main_call7_v4, main_call7_c_1, main_call7_c_2, main_call7_v5, main_call7_v6, main_call7_v7, main_call7_v8, main_call7_v9, main_call7_v10, main_call7_c_3, main_call7_v11, main_call7_v12, main_call7_v13, main_call7_cst, main_call7_v14, main_v48]
theorem ops13_writes : (ops13 : List (HloOp τ sig (Elt F))).Forall fun op => op.writes ⊆ (ops13_W.map (Proc.devRef (τ := τ) .tc)).toFinset :=
  StableHlo.forall_writes_sub_of_map rfl
theorem ops14_sub : (ops14 : List (HloOp τ sig (Elt F))).Forall fun op => op.bufs ⊆ StableHlo.tcRefs τ sig :=
  StableHlo.binary_bufs_sub ..
theorem ops14_fresh : (ops14 : List (HloOp τ sig (Elt F))).Forall fun op => op.fresh = ∅ := by
  simp only [List.Forall]; repeat' constructor
/-- The reference each operation of `ops14` writes, in order. -/
abbrev ops14_W : List (Ref sig .tc) := [main_v49]
theorem ops14_writes : (ops14 : List (HloOp τ sig (Elt F))).Forall fun op => op.writes ⊆ (ops14_W.map (Proc.devRef (τ := τ) .tc)).toFinset :=
  StableHlo.forall_writes_sub_of_map rfl
theorem ops15_sub : (ops15 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
theorem ops15_fresh : (ops15 : List (HloOp τ sig (Elt F))).Forall fun op => op.fresh = ∅ := by
  simp only [List.Forall]; repeat' constructor
/-- The reference each operation of `ops15` writes, in order. -/
abbrev ops15_W : List (Ref sig .tc) := [main_call8_v0, main_call8_cst, main_call8_c, main_call8_v1_0, main_v50]
theorem ops15_writes : (ops15 : List (HloOp τ sig (Elt F))).Forall fun op => op.writes ⊆ (ops15_W.map (Proc.devRef (τ := τ) .tc)).toFinset :=
  StableHlo.forall_writes_sub_of_map rfl
theorem ops16_sub : (ops16 : List (HloOp τ sig (Elt F))).Forall fun op => op.bufs ⊆ StableHlo.tcRefs τ sig :=
  ⟨StableHlo.nullary_bufs_sub .., StableHlo.binary_bufs_sub .., StableHlo.unary_bufs_sub ..⟩
theorem ops16_fresh : (ops16 : List (HloOp τ sig (Elt F))).Forall fun op => op.fresh = ∅ := by
  simp only [List.Forall]; repeat' constructor
/-- The reference each operation of `ops16` writes, in order. -/
abbrev ops16_W : List (Ref sig .tc) := [main_cst_7, main_v51, main_v52]
theorem ops16_writes : (ops16 : List (HloOp τ sig (Elt F))).Forall fun op => op.writes ⊆ (ops16_W.map (Proc.devRef (τ := τ) .tc)).toFinset :=
  StableHlo.forall_writes_sub_of_map rfl
theorem ops17_sub : (ops17 : List (HloOp τ sig (Elt F))).Forall fun op => op.bufs ⊆ StableHlo.tcRefs τ sig :=
  ⟨StableHlo.nullary_bufs_sub .., StableHlo.binary_bufs_sub .., StableHlo.binary_bufs_sub ..⟩
theorem ops17_fresh : (ops17 : List (HloOp τ sig (Elt F))).Forall fun op => op.fresh = ∅ := by
  simp only [List.Forall]; repeat' constructor
/-- The reference each operation of `ops17` writes, in order. -/
abbrev ops17_W : List (Ref sig .tc) := [main_call9_v0, main_call9_v1_0, main_v53]
theorem ops17_writes : (ops17 : List (HloOp τ sig (Elt F))).Forall fun op => op.writes ⊆ (ops17_W.map (Proc.devRef (τ := τ) .tc)).toFinset :=
  StableHlo.forall_writes_sub_of_map rfl
theorem ops18_sub : (ops18 : List (HloOp τ sig (Elt F))).Forall fun op => op.bufs ⊆ StableHlo.tcRefs τ sig :=
  ⟨StableHlo.unary_bufs_sub .., StableHlo.unary_bufs_sub ..⟩
theorem ops18_fresh : (ops18 : List (HloOp τ sig (Elt F))).Forall fun op => op.fresh = ∅ := by
  simp only [List.Forall]; repeat' constructor
/-- The reference each operation of `ops18` writes, in order. -/
abbrev ops18_W : List (Ref sig .tc) := [main_v54, main_v55]
theorem ops18_writes : (ops18 : List (HloOp τ sig (Elt F))).Forall fun op => op.writes ⊆ (ops18_W.map (Proc.devRef (τ := τ) .tc)).toFinset :=
  StableHlo.forall_writes_sub_of_map rfl
theorem ops19_sub : (ops19 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
theorem ops19_fresh : (ops19 : List (HloOp τ sig (Elt F))).Forall fun op => op.fresh = ∅ := by
  simp only [List.Forall]; repeat' constructor
/-- The reference each operation of `ops19` writes, in order. -/
abbrev ops19_W : List (Ref sig .tc) := [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_c_4, main_call10_v14, main_v56]
theorem ops19_writes : (ops19 : List (HloOp τ sig (Elt F))).Forall fun op => op.writes ⊆ (ops19_W.map (Proc.devRef (τ := τ) .tc)).toFinset :=
  StableHlo.forall_writes_sub_of_map rfl
theorem ops20_sub : (ops20 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
theorem ops20_fresh : (ops20 : List (HloOp τ sig (Elt F))).Forall fun op => op.fresh = ∅ := by
  simp only [List.Forall]; repeat' constructor
/-- The reference each operation of `ops20` writes, in order. -/
abbrev ops20_W : List (Ref sig .tc) := [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_c_4, main_call11_v14, main_v57]
theorem ops20_writes : (ops20 : List (HloOp τ sig (Elt F))).Forall fun op => op.writes ⊆ (ops20_W.map (Proc.devRef (τ := τ) .tc)).toFinset :=
  StableHlo.forall_writes_sub_of_map rfl
theorem ops21_sub : (ops21 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
theorem ops21_fresh : (ops21 : List (HloOp τ sig (Elt F))).Forall fun op => op.fresh = ∅ := by
  simp only [List.Forall]; repeat' constructor
/-- The reference each operation of `ops21` writes, in order. -/
abbrev ops21_W : List (Ref sig .tc) := [main_call12_c, main_call12_v0, main_call12_v1, main_call12_c_0, main_call12_v2, main_call12_v3, main_call12_v4, main_call12_v5, main_call12_c_1, main_call12_c_2, main_call12_v6, main_call12_v7, main_call12_v8, main_call12_v9, main_call12_v10, main_call12_v11, main_call12_c_3, main_call12_v12, main_call12_v13, main_call12_c_4, main_call12_v14, main_v58]
theorem ops21_writes : (ops21 : List (HloOp τ sig (Elt F))).Forall fun op => op.writes ⊆ (ops21_W.map (Proc.devRef (τ := τ) .tc)).toFinset :=
  StableHlo.forall_writes_sub_of_map rfl
theorem ops22_sub : (ops22 : List (HloOp τ sig (Elt F))).Forall fun op => op.bufs ⊆ StableHlo.tcRefs τ sig :=
  ⟨StableHlo.binary_bufs_sub .., StableHlo.unary_bufs_sub ..⟩
theorem ops22_fresh : (ops22 : List (HloOp τ sig (Elt F))).Forall fun op => op.fresh = ∅ := by
  simp only [List.Forall]; repeat' constructor
/-- The reference each operation of `ops22` writes, in order. -/
abbrev ops22_W : List (Ref sig .tc) := [main_v59, main_v60]
theorem ops22_writes : (ops22 : List (HloOp τ sig (Elt F))).Forall fun op => op.writes ⊆ (ops22_W.map (Proc.devRef (τ := τ) .tc)).toFinset :=
  StableHlo.forall_writes_sub_of_map rfl
theorem ops23_sub : (ops23 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
theorem ops23_fresh : (ops23 : List (HloOp τ sig (Elt F))).Forall fun op => op.fresh = ∅ := by
  simp only [List.Forall]; repeat' constructor
/-- The reference each operation of `ops23` writes, in order. -/
abbrev ops23_W : List (Ref sig .tc) := [main_call13_c, main_call13_v0, main_call13_v1, main_call13_c_0, main_call13_v2, main_call13_v3, main_call13_v4, main_call13_c_1, main_call13_c_2, main_call13_v5, main_call13_v6, main_call13_v7, main_call13_v8, main_call13_v9, main_call13_v10, main_call13_c_3, main_call13_v11, main_call13_v12, main_call13_v13, main_call13_cst, main_call13_v14, main_v61]
theorem ops23_writes : (ops23 : List (HloOp τ sig (Elt F))).Forall fun op => op.writes ⊆ (ops23_W.map (Proc.devRef (τ := τ) .tc)).toFinset :=
  StableHlo.forall_writes_sub_of_map rfl
theorem ops24_sub : (ops24 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub ..⟩
theorem ops24_fresh : (ops24 : List (HloOp τ sig (Elt F))).Forall fun op => op.fresh = ∅ := by
  simp only [List.Forall]; repeat' constructor
/-- The reference each operation of `ops24` writes, in order. -/
abbrev ops24_W : List (Ref sig .tc) := [main_cst_8, main_v62, main_v63, main_cst_9, main_v64, main_v65, main_v66, main_v67, main_v68, main_cst_10, main_v69, main_v70, main_cst_11, main_v71, main_v72, main_v73, main_v74, main_cst_12, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_cst_13, main_v100, main_v101, main_cst_14, main_v102]
theorem ops24_writes : (ops24 : List (HloOp τ sig (Elt F))).Forall fun op => op.writes ⊆ (ops24_W.map (Proc.devRef (τ := τ) .tc)).toFinset :=
  StableHlo.forall_writes_sub_of_map rfl
theorem ops25_sub : (ops25 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.binary_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub ..⟩
theorem ops25_fresh : (ops25 : List (HloOp τ sig (Elt F))).Forall fun op => op.fresh = ∅ := by
  simp only [List.Forall]; repeat' constructor
/-- The reference each operation of `ops25` writes, in order. -/
abbrev ops25_W : List (Ref sig .tc) := [main_cst_15, main_v103, main_v104, main_v105, main_v106, main_v107, main_v108, main_cst_16, main_v109, main_v110, main_v111, main_v112, main_v113, main_v114, main_v115, main_v116, main_v117, main_v118, main_v119, main_v120, main_cst_17, main_v121, main_v122, main_cst_18, main_v123, main_v124, main_v125, main_v126, main_v127, main_cst_19, main_v128, main_v129, main_cst_20, main_v130, main_v131, main_v132, main_v133, main_cst_21, main_v134, main_v135, main_v136, main_v137, main_v138, main_v139, main_v140, main_v141, main_v142, main_v143, main_v144, main_v145, main_v146, main_v147, main_v148, main_v149, main_v150, main_cst_22, main_v151, main_v152, main_v153, main_cst_23]
theorem ops25_writes : (ops25 : List (HloOp τ sig (Elt F))).Forall fun op => op.writes ⊆ (ops25_W.map (Proc.devRef (τ := τ) .tc)).toFinset :=
  StableHlo.forall_writes_sub_of_map rfl
theorem ops26_sub : (ops26 : List (HloOp τ sig (Elt F))).Forall fun op => op.bufs ⊆ StableHlo.tcRefs τ sig :=
  ⟨StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.ternary_bufs_sub .., StableHlo.nullary_bufs_sub ..⟩
theorem ops26_fresh : (ops26 : List (HloOp τ sig (Elt F))).Forall fun op => op.fresh = ∅ := by
  simp only [List.Forall]; repeat' constructor
/-- The reference each operation of `ops26` writes, in order. -/
abbrev ops26_W : List (Ref sig .tc) := [main_v154, main_v155, main_v156, main_cst_24, main_v157, main_v158, main_cst_25, main_v159, main_v160, main_v161, main_v162, main_v163, main_v164, main_v165, main_v166, main_v167, main_v168, main_v169, main_v170, main_cst_26, main_v171, main_c_27, main_v172, main_v173, main_c_28, main_v174, main_v175, main_v176, main_c_29, main_v177, main_v178, main_c_30, main_v179, main_v180, main_v181, main_v182, main_v183, main_v184, main_v185, main_v186, main_c_31, main_v187, main_v188, main_c_32, main_v189, main_v190, main_v191, main_c_33, main_v192, main_v193, main_c_34, main_v194, main_v195, main_v196, main_v197, main_v198, main_v199, main_v200, main_v201, main_c_35]
theorem ops26_writes : (ops26 : List (HloOp τ sig (Elt F))).Forall fun op => op.writes ⊆ (ops26_W.map (Proc.devRef (τ := τ) .tc)).toFinset :=
  StableHlo.forall_writes_sub_of_map rfl
theorem ops27_sub : (ops27 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.ternary_bufs_sub ..⟩
theorem ops27_fresh : (ops27 : List (HloOp τ sig (Elt F))).Forall fun op => op.fresh = ∅ := by
  simp only [List.Forall]; repeat' constructor
/-- The reference each operation of `ops27` writes, in order. -/
abbrev ops27_W : List (Ref sig .tc) := [main_v202, main_v203, main_c_36, main_v204, main_v205, main_v206, main_c_37, main_v207, main_v208, main_c_38, main_v209, main_v210, main_v211, main_v212, main_v213, main_v214, main_v215, main_v216, main_c_39, main_v217, main_v218, main_c_40, main_v219, main_v220, main_v221, main_c_41, main_v222, main_v223, main_c_42, main_v224, main_v225, main_v226, main_v227, main_v228, main_v229, main_v230, main_v231]
theorem ops27_writes : (ops27 : List (HloOp τ sig (Elt F))).Forall fun op => op.writes ⊆ (ops27_W.map (Proc.devRef (τ := τ) .tc)).toFinset :=
  StableHlo.forall_writes_sub_of_map rfl

end Cert.ReferenceIdeal.Whole

end
-- ==== Proof.RefRun.lean ====
/-
  The run of the reference: @main as the straight line of its operations (RefOps.lean), and from it the frame claim and the contents of every buffer at the end
  (`run`): the fold `W` of the lists over the launch contents.
-/
module

public import proofs.«01_k».proof.Proof.RefOps
public import Idealize.ShloMosaic.Lib.Pipeline.Frame
public import Idealize.ShloMosaic.Lib.Pipeline.Regions

@[expose] public section

set_option maxRecDepth 16384

noncomputable section

namespace Cert.ReferenceIdeal.Whole

open Idealize.ShloMosaic Idealize.ShloMosaic.TcCoe Idealize.SL.Sem
open Cert.ReferenceIdeal.Gen

variable {F : FTy → Type} [FloatOps F]

/-! ## @main as the chain of the lists -/

theorem main_part0_chain (c : Dev nD) : main_part0 (F := F) c = (Pipeline.chainK
  [ StableHlo.seq ops0,
    StableHlo.seq ops1,
    StableHlo.seq ops2,
    StableHlo.seq ops3,
    StableHlo.seq ops4,
    StableHlo.seq ops5,
    StableHlo.seq ops6,
    StableHlo.seq ops7,
    StableHlo.seq ops8,
    StableHlo.seq ops9,
    StableHlo.seq ops10,
    StableHlo.seq ops11,
    StableHlo.seq ops12,
    StableHlo.seq ops13,
    StableHlo.seq ops14 ]
  (StableHlo.seq ops15) : Prog (TpuEff nD τ sig (Elt F) (Pipeline.Sig Λ₀ (Fin 0) fun p => (pcfgs (F := F) p).Adm) .tc) PUnit) := by
  rewrite [Pipeline.chainK_cons, StableHlo.chainK_seq_cons, Pipeline.chainK_cons, StableHlo.chainK_seq_cons, Pipeline.chainK_cons, StableHlo.chainK_seq_cons, Pipeline.chainK_cons, Pipeline.chainK_cons, StableHlo.chainK_seq_cons, Pipeline.chainK_cons, StableHlo.chainK_seq_cons, Pipeline.chainK_cons, StableHlo.chainK_seq_cons, Pipeline.chainK_cons, StableHlo.chainK_seq_cons]
  chain_rfl

theorem main_part1_chain (c : Dev nD) : main_part1 (F := F) c = (Pipeline.chainK
  [ StableHlo.seq ops16,
    StableHlo.seq ops17,
    StableHlo.seq ops18,
    StableHlo.seq ops19,
    StableHlo.seq ops20,
    StableHlo.seq ops21,
    StableHlo.seq ops22,
    StableHlo.seq ops23 ]
  (StableHlo.seq ops24) : Prog (TpuEff nD τ sig (Elt F) (Pipeline.Sig Λ₀ (Fin 0) fun p => (pcfgs (F := F) p).Adm) .tc) PUnit) := by
  rewrite [StableHlo.chainK_seq_cons, Pipeline.chainK_cons, StableHlo.chainK_seq_cons, Pipeline.chainK_cons, Pipeline.chainK_cons, Pipeline.chainK_cons, StableHlo.chainK_seq_cons, Pipeline.chainK_cons]
  chain_rfl

theorem main_part2_chain (c : Dev nD) : main_part2 (F := F) c = (Pipeline.chainK
  [  ]
  (StableHlo.seq ops25) : Prog (TpuEff nD τ sig (Elt F) (Pipeline.Sig Λ₀ (Fin 0) fun p => (pcfgs (F := F) p).Adm) .tc) PUnit) := by
  chain_rfl

theorem main_part3_chain (c : Dev nD) : main_part3 (F := F) c = (Pipeline.chainK
  [  ]
  (StableHlo.seq ops26) : Prog (TpuEff nD τ sig (Elt F) (Pipeline.Sig Λ₀ (Fin 0) fun p => (pcfgs (F := F) p).Adm) .tc) PUnit) := by
  chain_rfl

theorem main_part4_chain (c : Dev nD) : main_part4 (F := F) c = (Pipeline.chain
  [ StableHlo.seq ops27 ] : Prog (TpuEff nD τ sig (Elt F) (Pipeline.Sig Λ₀ (Fin 0) fun p => (pcfgs (F := F) p).Adm) .tc) PUnit) := by
  rewrite [StableHlo.chain_seq_cons]
  chain_rfl

/-- Every list, in @main's order. -/
abbrev opsL : List (List (HloOp τ sig (Elt F))) := [ ops0, ops1, ops2, ops3, ops4, ops5, ops6, ops7, ops8, ops9, ops10, ops11, ops12, ops13, ops14, ops15, ops16, ops17, ops18, ops19, ops20, ops21, ops22, ops23, ops24, ops25, ops26, ops27 ]
/-- The references each list writes. -/
abbrev writesL : List (List (Ref sig .tc)) := [ ops0_W, ops1_W, ops2_W, ops3_W, ops4_W, ops5_W, ops6_W, ops7_W, ops8_W, ops9_W, ops10_W, ops11_W, ops12_W, ops13_W, ops14_W, ops15_W, ops16_W, ops17_W, ops18_W, ops19_W, ops20_W, ops21_W, ops22_W, ops23_W, ops24_W, ops25_W, ops26_W, ops27_W ]

theorem main_chain (c : Dev nD) : main (F := F) c = Pipeline.chain ((opsL (F := F)).map StableHlo.seq) := by
  refine Eq.trans ?_ ((Pipeline.chain_of_window (main_part0_chain c) (Pipeline.chain_of_window (main_part1_chain c) (Pipeline.chain_of_window (main_part2_chain c) (Pipeline.chain_of_window (main_part3_chain c) (main_part4_chain c))))).trans ?_)
  · chain_rfl
  · chain_rfl

theorem main_eq (c : Dev nD) : main (F := F) c = StableHlo.seq (opsL (F := F)).flatten := by
  rw [main_chain, ← List.append_nil (List.map _ _), StableHlo.chain_map_seq_append, Pipeline.chain_nil]
  exact bind_pure _

/-! ## The contents between the lists -/

variable (m : (ℓ : Loc nD τ sig) → Buf (Elt F) ℓ) (ρ : Dev nD → PrngReg)

/-- Core `c`'s buffers at launch. -/
abbrev W0 (c : Dev nD) : Valuation τ sig (Elt F) := fun b => m (c, b)
/-- … after `ops0`. -/
abbrev W1 (c : Dev nD) : Valuation τ sig (Elt F) := StableHlo.after ops0 (W0 m c)
/-- … after `ops1`. -/
abbrev W2 (c : Dev nD) : Valuation τ sig (Elt F) := StableHlo.after ops1 (W1 m c)
/-- … after `ops2`. -/
abbrev W3 (c : Dev nD) : Valuation τ sig (Elt F) := StableHlo.after ops2 (W2 m c)
/-- … after `ops3`. -/
abbrev W4 (c : Dev nD) : Valuation τ sig (Elt F) := StableHlo.after ops3 (W3 m c)
/-- … after `ops4`. -/
abbrev W5 (c : Dev nD) : Valuation τ sig (Elt F) := StableHlo.after ops4 (W4 m c)
/-- … after `ops5`. -/
abbrev W6 (c : Dev nD) : Valuation τ sig (Elt F) := StableHlo.after ops5 (W5 m c)
/-- … after `ops6`. -/
abbrev W7 (c : Dev nD) : Valuation τ sig (Elt F) := StableHlo.after ops6 (W6 m c)
/-- … after `ops7`. -/
abbrev W8 (c : Dev nD) : Valuation τ sig (Elt F) := StableHlo.after ops7 (W7 m c)
/-- … after `ops8`. -/
abbrev W9 (c : Dev nD) : Valuation τ sig (Elt F) := StableHlo.after ops8 (W8 m c)
/-- … after `ops9`. -/
abbrev W10 (c : Dev nD) : Valuation τ sig (Elt F) := StableHlo.after ops9 (W9 m c)
/-- … after `ops10`. -/
abbrev W11 (c : Dev nD) : Valuation τ sig (Elt F) := StableHlo.after ops10 (W10 m c)
/-- … after `ops11`. -/
abbrev W12 (c : Dev nD) : Valuation τ sig (Elt F) := StableHlo.after ops11 (W11 m c)
/-- … after `ops12`. -/
abbrev W13 (c : Dev nD) : Valuation τ sig (Elt F) := StableHlo.after ops12 (W12 m c)
/-- … after `ops13`. -/
abbrev W14 (c : Dev nD) : Valuation τ sig (Elt F) := StableHlo.after ops13 (W13 m c)
/-- … after `ops14`. -/
abbrev W15 (c : Dev nD) : Valuation τ sig (Elt F) := StableHlo.after ops14 (W14 m c)
/-- … after `ops15`. -/
abbrev W16 (c : Dev nD) : Valuation τ sig (Elt F) := StableHlo.after ops15 (W15 m c)
/-- … after `ops16`. -/
abbrev W17 (c : Dev nD) : Valuation τ sig (Elt F) := StableHlo.after ops16 (W16 m c)
/-- … after `ops17`. -/
abbrev W18 (c : Dev nD) : Valuation τ sig (Elt F) := StableHlo.after ops17 (W17 m c)
/-- … after `ops18`. -/
abbrev W19 (c : Dev nD) : Valuation τ sig (Elt F) := StableHlo.after ops18 (W18 m c)
/-- … after `ops19`. -/
abbrev W20 (c : Dev nD) : Valuation τ sig (Elt F) := StableHlo.after ops19 (W19 m c)
/-- … after `ops20`. -/
abbrev W21 (c : Dev nD) : Valuation τ sig (Elt F) := StableHlo.after ops20 (W20 m c)
/-- … after `ops21`. -/
abbrev W22 (c : Dev nD) : Valuation τ sig (Elt F) := StableHlo.after ops21 (W21 m c)
/-- … after `ops22`. -/
abbrev W23 (c : Dev nD) : Valuation τ sig (Elt F) := StableHlo.after ops22 (W22 m c)
/-- … after `ops23`. -/
abbrev W24 (c : Dev nD) : Valuation τ sig (Elt F) := StableHlo.after ops23 (W23 m c)
/-- … after `ops24`. -/
abbrev W25 (c : Dev nD) : Valuation τ sig (Elt F) := StableHlo.after ops24 (W24 m c)
/-- … after `ops25`. -/
abbrev W26 (c : Dev nD) : Valuation τ sig (Elt F) := StableHlo.after ops25 (W25 m c)
/-- … after `ops26`. -/
abbrev W27 (c : Dev nD) : Valuation τ sig (Elt F) := StableHlo.after ops26 (W26 m c)
/-- … after `ops27`. -/
abbrev W28 (c : Dev nD) : Valuation τ sig (Elt F) := StableHlo.after ops27 (W27 m c)

theorem W1_of (c : Dev nD) (r : Ref sig .tc) (h : r ∉ ops0_W) : W1 m c (Proc.devRef .tc r) = W0 m c (Proc.devRef .tc r) :=
  StableHlo.after_of_writes_sub _ _ ops0_writes h
theorem W2_of (c : Dev nD) (r : Ref sig .tc) (h : r ∉ ops1_W) : W2 m c (Proc.devRef .tc r) = W1 m c (Proc.devRef .tc r) :=
  StableHlo.after_of_writes_sub _ _ ops1_writes h
theorem W3_of (c : Dev nD) (r : Ref sig .tc) (h : r ∉ ops2_W) : W3 m c (Proc.devRef .tc r) = W2 m c (Proc.devRef .tc r) :=
  StableHlo.after_of_writes_sub _ _ ops2_writes h
theorem W4_of (c : Dev nD) (r : Ref sig .tc) (h : r ∉ ops3_W) : W4 m c (Proc.devRef .tc r) = W3 m c (Proc.devRef .tc r) :=
  StableHlo.after_of_writes_sub _ _ ops3_writes h
theorem W5_of (c : Dev nD) (r : Ref sig .tc) (h : r ∉ ops4_W) : W5 m c (Proc.devRef .tc r) = W4 m c (Proc.devRef .tc r) :=
  StableHlo.after_of_writes_sub _ _ ops4_writes h
theorem W6_of (c : Dev nD) (r : Ref sig .tc) (h : r ∉ ops5_W) : W6 m c (Proc.devRef .tc r) = W5 m c (Proc.devRef .tc r) :=
  StableHlo.after_of_writes_sub _ _ ops5_writes h
theorem W7_of (c : Dev nD) (r : Ref sig .tc) (h : r ∉ ops6_W) : W7 m c (Proc.devRef .tc r) = W6 m c (Proc.devRef .tc r) :=
  StableHlo.after_of_writes_sub _ _ ops6_writes h
theorem W8_of (c : Dev nD) (r : Ref sig .tc) (h : r ∉ ops7_W) : W8 m c (Proc.devRef .tc r) = W7 m c (Proc.devRef .tc r) :=
  StableHlo.after_of_writes_sub _ _ ops7_writes h
theorem W9_of (c : Dev nD) (r : Ref sig .tc) (h : r ∉ ops8_W) : W9 m c (Proc.devRef .tc r) = W8 m c (Proc.devRef .tc r) :=
  StableHlo.after_of_writes_sub _ _ ops8_writes h
theorem W10_of (c : Dev nD) (r : Ref sig .tc) (h : r ∉ ops9_W) : W10 m c (Proc.devRef .tc r) = W9 m c (Proc.devRef .tc r) :=
  StableHlo.after_of_writes_sub _ _ ops9_writes h
theorem W11_of (c : Dev nD) (r : Ref sig .tc) (h : r ∉ ops10_W) : W11 m c (Proc.devRef .tc r) = W10 m c (Proc.devRef .tc r) :=
  StableHlo.after_of_writes_sub _ _ ops10_writes h
theorem W12_of (c : Dev nD) (r : Ref sig .tc) (h : r ∉ ops11_W) : W12 m c (Proc.devRef .tc r) = W11 m c (Proc.devRef .tc r) :=
  StableHlo.after_of_writes_sub _ _ ops11_writes h
theorem W13_of (c : Dev nD) (r : Ref sig .tc) (h : r ∉ ops12_W) : W13 m c (Proc.devRef .tc r) = W12 m c (Proc.devRef .tc r) :=
  StableHlo.after_of_writes_sub _ _ ops12_writes h
theorem W14_of (c : Dev nD) (r : Ref sig .tc) (h : r ∉ ops13_W) : W14 m c (Proc.devRef .tc r) = W13 m c (Proc.devRef .tc r) :=
  StableHlo.after_of_writes_sub _ _ ops13_writes h
theorem W15_of (c : Dev nD) (r : Ref sig .tc) (h : r ∉ ops14_W) : W15 m c (Proc.devRef .tc r) = W14 m c (Proc.devRef .tc r) :=
  StableHlo.after_of_writes_sub _ _ ops14_writes h
theorem W16_of (c : Dev nD) (r : Ref sig .tc) (h : r ∉ ops15_W) : W16 m c (Proc.devRef .tc r) = W15 m c (Proc.devRef .tc r) :=
  StableHlo.after_of_writes_sub _ _ ops15_writes h
theorem W17_of (c : Dev nD) (r : Ref sig .tc) (h : r ∉ ops16_W) : W17 m c (Proc.devRef .tc r) = W16 m c (Proc.devRef .tc r) :=
  StableHlo.after_of_writes_sub _ _ ops16_writes h
theorem W18_of (c : Dev nD) (r : Ref sig .tc) (h : r ∉ ops17_W) : W18 m c (Proc.devRef .tc r) = W17 m c (Proc.devRef .tc r) :=
  StableHlo.after_of_writes_sub _ _ ops17_writes h
theorem W19_of (c : Dev nD) (r : Ref sig .tc) (h : r ∉ ops18_W) : W19 m c (Proc.devRef .tc r) = W18 m c (Proc.devRef .tc r) :=
  StableHlo.after_of_writes_sub _ _ ops18_writes h
theorem W20_of (c : Dev nD) (r : Ref sig .tc) (h : r ∉ ops19_W) : W20 m c (Proc.devRef .tc r) = W19 m c (Proc.devRef .tc r) :=
  StableHlo.after_of_writes_sub _ _ ops19_writes h
theorem W21_of (c : Dev nD) (r : Ref sig .tc) (h : r ∉ ops20_W) : W21 m c (Proc.devRef .tc r) = W20 m c (Proc.devRef .tc r) :=
  StableHlo.after_of_writes_sub _ _ ops20_writes h
theorem W22_of (c : Dev nD) (r : Ref sig .tc) (h : r ∉ ops21_W) : W22 m c (Proc.devRef .tc r) = W21 m c (Proc.devRef .tc r) :=
  StableHlo.after_of_writes_sub _ _ ops21_writes h
theorem W23_of (c : Dev nD) (r : Ref sig .tc) (h : r ∉ ops22_W) : W23 m c (Proc.devRef .tc r) = W22 m c (Proc.devRef .tc r) :=
  StableHlo.after_of_writes_sub _ _ ops22_writes h
theorem W24_of (c : Dev nD) (r : Ref sig .tc) (h : r ∉ ops23_W) : W24 m c (Proc.devRef .tc r) = W23 m c (Proc.devRef .tc r) :=
  StableHlo.after_of_writes_sub _ _ ops23_writes h
theorem W25_of (c : Dev nD) (r : Ref sig .tc) (h : r ∉ ops24_W) : W25 m c (Proc.devRef .tc r) = W24 m c (Proc.devRef .tc r) :=
  StableHlo.after_of_writes_sub _ _ ops24_writes h
theorem W26_of (c : Dev nD) (r : Ref sig .tc) (h : r ∉ ops25_W) : W26 m c (Proc.devRef .tc r) = W25 m c (Proc.devRef .tc r) :=
  StableHlo.after_of_writes_sub _ _ ops25_writes h
theorem W27_of (c : Dev nD) (r : Ref sig .tc) (h : r ∉ ops26_W) : W27 m c (Proc.devRef .tc r) = W26 m c (Proc.devRef .tc r) :=
  StableHlo.after_of_writes_sub _ _ ops26_writes h
theorem W28_of (c : Dev nD) (r : Ref sig .tc) (h : r ∉ ops27_W) : W28 m c (Proc.devRef .tc r) = W27 m c (Proc.devRef .tc r) :=
  StableHlo.after_of_writes_sub _ _ ops27_writes h

theorem after_eq (c : Dev nD) : StableHlo.after (opsL (F := F)).flatten (StableHlo.launchContents m c) = W28 m c := by
  simp only [List.flatten_cons, List.flatten_nil, StableHlo.after_append, StableHlo.after_nil]

/-- @main's argument arrays, as TensorCore references. -/
abbrev argRefs : List (Ref sig .tc) := [main_arg0, main_arg1, main_arg2, main_arg3, main_arg4, main_arg5, main_arg6, main_arg7, main_arg8, main_arg9, main_arg10, main_arg11, main_arg12, main_arg13]

/-- Argument arrays are apart from a list of references, by the check over all of them. -/
theorem apart {l : List (Ref sig .tc)} (h : (argRefs.all fun a => decide (a ∉ l)) = true) {a : Ref sig .tc}
    (ha : a ∈ argRefs) : a ∉ l := of_decide_eq_true (List.all_eq_true.mp h a ha)

/-- No list writes an argument array. -/
theorem W28_args (c : Dev nD) : ∀ a ∈ argRefs, W28 m c (Proc.devRef .tc a) = m ((c : Thread nD τ).loc a) := fun a ha =>
  (W28_of m c a (apart (by decide +kernel) ha)).trans <|
  (W27_of m c a (apart (by decide +kernel) ha)).trans <|
  (W26_of m c a (apart (by decide +kernel) ha)).trans <|
  (W25_of m c a (apart (by decide +kernel) ha)).trans <|
  (W24_of m c a (apart (by decide +kernel) ha)).trans <|
  (W23_of m c a (apart (by decide +kernel) ha)).trans <|
  (W22_of m c a (apart (by decide +kernel) ha)).trans <|
  (W21_of m c a (apart (by decide +kernel) ha)).trans <|
  (W20_of m c a (apart (by decide +kernel) ha)).trans <|
  (W19_of m c a (apart (by decide +kernel) ha)).trans <|
  (W18_of m c a (apart (by decide +kernel) ha)).trans <|
  (W17_of m c a (apart (by decide +kernel) ha)).trans <|
  (W16_of m c a (apart (by decide +kernel) ha)).trans <|
  (W15_of m c a (apart (by decide +kernel) ha)).trans <|
  (W14_of m c a (apart (by decide +kernel) ha)).trans <|
  (W13_of m c a (apart (by decide +kernel) ha)).trans <|
  (W12_of m c a (apart (by decide +kernel) ha)).trans <|
  (W11_of m c a (apart (by decide +kernel) ha)).trans <|
  (W10_of m c a (apart (by decide +kernel) ha)).trans <|
  (W9_of m c a (apart (by decide +kernel) ha)).trans <|
  (W8_of m c a (apart (by decide +kernel) ha)).trans <|
  (W7_of m c a (apart (by decide +kernel) ha)).trans <|
  (W6_of m c a (apart (by decide +kernel) ha)).trans <|
  (W5_of m c a (apart (by decide +kernel) ha)).trans <|
  (W4_of m c a (apart (by decide +kernel) ha)).trans <|
  (W3_of m c a (apart (by decide +kernel) ha)).trans <|
  (W2_of m c a (apart (by decide +kernel) ha)).trans <|
  (W1_of m c a (apart (by decide +kernel) ha))

theorem opsL_sub : (opsL (F := F)).Forall fun l => l.Forall fun op => op.bufs ⊆ StableHlo.tcRefs τ sig :=
  ⟨ops0_sub, ops1_sub, ops2_sub, ops3_sub, ops4_sub, ops5_sub, ops6_sub, ops7_sub, ops8_sub, ops9_sub, ops10_sub, ops11_sub, ops12_sub, ops13_sub, ops14_sub, ops15_sub, ops16_sub, ops17_sub, ops18_sub, ops19_sub, ops20_sub, ops21_sub, ops22_sub, ops23_sub, ops24_sub, ops25_sub, ops26_sub, ops27_sub⟩

theorem opsL_fresh : (opsL (F := F)).Forall fun l => l.Forall fun op => op.fresh = ∅ :=
  ⟨ops0_fresh, ops1_fresh, ops2_fresh, ops3_fresh, ops4_fresh, ops5_fresh, ops6_fresh, ops7_fresh, ops8_fresh, ops9_fresh, ops10_fresh, ops11_fresh, ops12_fresh, ops13_fresh, ops14_fresh, ops15_fresh, ops16_fresh, ops17_fresh, ops18_fresh, ops19_fresh, ops20_fresh, ops21_fresh, ops22_fresh, ops23_fresh, ops24_fresh, ops25_fresh, ops26_fresh, ops27_fresh⟩

/-- Every run ends with each buffer at the fold of the operations over the launch contents. -/
theorem run : θ_run defs (onTc (τ := τ) (main (F := F))) ⟨m, fun _ => 0, ρ⟩ fun r =>
    ∀ (c : Dev nD) (b : Ref sig .tc), r.2.mem ((c.tc : Thread nD τ).loc b) = W28 m c (Proc.devRef .tc b) := by
  have h := StableHlo.run_seq (by decide +kernel) (by decide +kernel) defs (main (F := F)) (fun _ => (opsL (F := F)).flatten) main_eq
    (fun _ => List.forall_iff_forall_mem.2 fun op h => by
      obtain ⟨l, hl, h⟩ := List.mem_flatten.1 h
      exact List.forall_iff_forall_mem.1 (List.forall_iff_forall_mem.1 opsL_sub l hl) op h)
    m ρ
    (fun _ op h => by
      obtain ⟨l, hl, h⟩ := List.mem_flatten.1 h
      exact List.forall_iff_forall_mem.1 (List.forall_iff_forall_mem.1 opsL_fresh l hl) op h)
  exact (θ_run defs _ _).mono (fun r h c b => (h c b).trans (congrFun (after_eq m c) _)) h

/-- The frame: the arguments end as launched, and every counter is at zero. -/
theorem frame : θ_run defs (onTc (τ := τ) (main (F := F))) ⟨m, fun _ => 0, ρ⟩ fun r =>
    (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13)) ∧ r.2.sem = fun _ => 0 := by
  exact (θ_run defs _ _).mono (fun r h => ⟨fun c => ⟨(h c main_arg0).trans (W28_args m c main_arg0 (by decide +kernel)), (h c main_arg1).trans (W28_args m c main_arg1 (by decide +kernel)), (h c main_arg2).trans (W28_args m c main_arg2 (by decide +kernel)), (h c main_arg3).trans (W28_args m c main_arg3 (by decide +kernel)), (h c main_arg4).trans (W28_args m c main_arg4 (by decide +kernel)), (h c main_arg5).trans (W28_args m c main_arg5 (by decide +kernel)), (h c main_arg6).trans (W28_args m c main_arg6 (by decide +kernel)), (h c main_arg7).trans (W28_args m c main_arg7 (by decide +kernel)), (h c main_arg8).trans (W28_args m c main_arg8 (by decide +kernel)), (h c main_arg9).trans (W28_args m c main_arg9 (by decide +kernel)), (h c main_arg10).trans (W28_args m c main_arg10 (by decide +kernel)), (h c main_arg11).trans (W28_args m c main_arg11 (by decide +kernel)), (h c main_arg12).trans (W28_args m c main_arg12 (by decide +kernel)), (h c main_arg13).trans (W28_args m c main_arg13 (by decide +kernel))⟩, Idealize.ShloMosaic.sem_eq_zero_of_no_sems (by decide) r.2⟩) (run m ρ)

end Cert.ReferenceIdeal.Whole

end
-- ==== Proof.Spec.lean ====
module

public import Idealize.ShloMosaic.Lib.Pipeline.ValueKit

@[expose] public section

/-!
The block's arithmetic on extended reals, one batch at a time: layer normalisation, the projections, the attention of
one head (in the two forms the programs use), the feed-forward network, and the selection of a row by its number.
-/

set_option maxRecDepth 16384

noncomputable section

namespace Cert.Spec

open Idealize.ShloMosaic

/-- The number of columns as the programs hold it, 1152. -/
abbrev cols : EReal := Ideal.ofBits FTy.f32 0x44900000#32
/-- The constant added to the variance. -/
abbrev eps : EReal := Ideal.ofBits FTy.f32 0x358637BD#32
/-- The scale of the attention scores. -/
abbrev scale : EReal := Ideal.ofBits FTy.f32 0x3DF15BEF#32

/-- The mean of a row. -/
def mean (v : Fin 1152 → EReal) : EReal := Ideal.div (∑ x, v x) cols

/-- Layer normalisation of a row. -/
def lnRow (v g b : Fin 1152 → EReal) (j : Fin 1152) : EReal :=
  (v j - mean v) * Ideal.rsqrt (Ideal.div (∑ x, (v x - mean v) * (v x - mean v)) cols + eps) * g j + b j

/-- The three attention projections of a batch's kept rows. -/
def qkv (xk : Fin 512 → Fin 1152 → EReal) (g b : Fin 1152 → EReal) (w : Fin 1152 → Fin 3456 → EReal) (bq : Fin 3456 → EReal)
    (t : Fin 512) (j : Fin 3456) : EReal :=
  (∑ x, lnRow (xk t) g b x * w x j) + bq j

/-- The score of row `u` for row `t` in the head of columns `h * 72 …`. -/
def score (p : Fin 512 → Fin 3456 → EReal) (h : Fin 16) (t u : Fin 512) : EReal :=
  (∑ d : Fin 72, p t ⟨h * 72 + d, by omega⟩ * p u ⟨1152 + (h * 72 + d), by omega⟩) * scale

/-- The attention's result at row `t`, column `j`, weights being the scores' exponentials over their sum. -/
def attPlain (p : Fin 512 → Fin 3456 → EReal) (t : Fin 512) (j : Fin 1152) : EReal :=
  ∑ u : Fin 512, Ideal.div (Ideal.exp (score p ⟨j / 72, by omega⟩ t u)) (∑ x, Ideal.exp (score p ⟨j / 72, by omega⟩ t x))
    * p u ⟨2304 + j, by omega⟩

/-- The rows after the attention, from the attention's result. -/
def resid (xk : Fin 512 → Fin 1152 → EReal) (o : Fin 512 → Fin 1152 → EReal) (w : Fin 1152 → Fin 1152 → EReal) (b : Fin 1152 → EReal)
    (t : Fin 512) (j : Fin 1152) : EReal :=
  xk t j + (∑ x, o t x * w x j) + b j

/-- The tanh form of the Gaussian error linear unit. -/
def gelu (h : EReal) : EReal :=
  h * (Ideal.ofBits FTy.f32 0x3F000000#32
    * (1 + Ideal.tanh (Ideal.ofBits FTy.f32 0x3F4C422A#32 * (h + Ideal.ofBits FTy.f32 0x3D372713#32 * (h * (h * h))))))

/-- The hidden layer of the feed-forward network. -/
def hidden (x2 : Fin 512 → Fin 1152 → EReal) (g b : Fin 1152 → EReal) (w1 : Fin 1152 → Fin 4608 → EReal) (b1 : Fin 4608 → EReal)
    (t : Fin 512) (l : Fin 4608) : EReal :=
  gelu ((∑ x, lnRow (x2 t) g b x * w1 x l) + b1 l)

/-- The block's result rows. -/
def block (x2 : Fin 512 → Fin 1152 → EReal) (g b : Fin 1152 → EReal) (w1 : Fin 1152 → Fin 4608 → EReal) (b1 : Fin 4608 → EReal)
    (w2 : Fin 4608 → Fin 1152 → EReal) (b2 : Fin 1152 → EReal) (t : Fin 512) (j : Fin 1152) : EReal :=
  x2 t j + (∑ l, hidden x2 g b w1 b1 t l * w2 l j) + b2 j

/-- The integer one, as a number. -/
theorem sitofp_one : (FloatOps.sitofp (F := Ideal) FTy.f32 (1#32) : EReal) = 1 := by
  show (((1#32 : BitVec 32).toInt : ℝ) : EReal) = 1
  norm_num

/-- The integer zero, as a number. -/
theorem sitofp_zero : (FloatOps.sitofp (F := Ideal) FTy.f32 (0#32) : EReal) = 0 := by
  show (((0#32 : BitVec 32).toInt : ℝ) : EReal) = 0
  norm_num

/-- One where the words agree, zero elsewhere. -/
def hot (a b : BitVec 32) : EReal := if a = b then 1 else 0

theorem sitofp_hot (a b : BitVec 32) :
    FloatOps.sitofp (F := Ideal) FTy.f32 (BitVec.setWidth 32 (IntOp.cmpi CmpIPredicate.eq a b)) = hot a b := by
  unfold hot
  by_cases h : a = b
  · rw [if_pos h]; subst h
    simp only [IntOp.cmpi, beq_self_eq_true]
    exact (congrArg _ (by decide)).trans sitofp_one
  · rw [if_neg h]
    have e : (a == b) = false := beq_false_of_ne h
    simp only [IntOp.cmpi, e]
    exact (congrArg _ (by decide)).trans sitofp_zero

/-- A sum against the indicator of a number's word is the term of that number. -/
theorem sum_hot {n : ℕ} (hn : n ≤ 2 ^ 32) (f : Fin n → EReal) (w : BitVec 32) (hw : w.toNat < n) :
    ∑ x : Fin n, hot (BitVec.ofNat 32 x) w * f x = f ⟨w.toNat, hw⟩ := by
  rw [Finset.sum_eq_single ⟨w.toNat, hw⟩]
  · unfold hot
    rw [if_pos (by simp), one_mul]
  · intro b _ hb
    unfold hot
    rw [if_neg, zero_mul]
    intro h
    apply hb
    apply Fin.ext
    have := congrArg BitVec.toNat h
    rw [BitVec.toNat_ofNat, Nat.mod_eq_of_lt (by omega)] at this
    exact this
  · intro h; exact absurd (Finset.mem_univ _) h

end Cert.Spec
-- ==== Proof.AttnValue.lean ====
module

public import proofs.«01_k».proof.Proof.Spec
public import proofs.«01_k».proof.Proof.AttnBody

@[expose] public section

/-!
What the attention call leaves in its output, element by element, in the terms of the block's arithmetic.
-/

set_option maxRecDepth 16384

noncomputable section

namespace Cert.KernelIdeal.Whole

open Cert.KernelIdeal Cert.KernelIdeal.Gen
open Idealize.ShloMosaic Idealize.ShloMosaic.TcCoe

/-- One head's result from its three column slices. -/
def headOf (q k v : FVec Ideal S512x72 .bf16) : FVec Ideal S512x72 .bf16 :=
  have s : FVec Ideal S512x512 .f32 := matmul dot_S512x72_S512x72_S512x512_1_1_0_0_n_n none q k (constant S512x512 .f32 0x00000000#32)
  have e : FVec Ideal S512x512 .f32 := exp (mulf s (broadcast S512x512 (Scalar.ofBits .f32 0x3DF15BEF#32)))
  have z : FVec Ideal S512x1 .f32 := shapeCast S512x1 (multiReduction .add [1] S512 e 0x00000000#32 reduces_S512x512_S512 (.inl rfl) rfl) shapeCasts_S512_S512x1
  have a : FVec Ideal S512x512 .bf16 := truncf .bf16 (divf e (broadcastTo S512x512 z broadcasts_S512x1_S512x512)) bitsLt_bf16_f32
  shapeCast S512x72 (truncf .bf16 (matmul dot_S512x512_S512x72_S512x72_1_0_0_1_n_n none a v (constant S512x72 .f32 0x00000000#32)) bitsLt_bf16_f32) shapeCasts_S512x72_S512x72

theorem headOf_at (q k v : FVec Ideal S512x72 .bf16) (x : S512x72.Idx) : headOf q k v x
    = ∑ u : Fin 512, Ideal.div (Ideal.exp ((∑ d : Fin 72, q (ix2 (x 0) d) * k (ix2 u d)) * Spec.scale))
        (∑ y : Fin 512, Ideal.exp ((∑ d : Fin 72, q (ix2 (x 0) d) * k (ix2 y d)) * Spec.scale)) * v (ix2 u (x 1)) := by
  pointwise [headOf]

/-- The head of the slices at columns `o`, `1152 + o`, `2304 + o`, `o = 72 h`, is the attention's result there. -/
theorem headOf_slices (X : Vec Ideal S512x3456 .bf16) (q k v : FVec Ideal S512x72 .bf16) (h : Fin 16)
    (hq : ∀ (a : Fin 512) (d : Fin 72) (e : Fin 3456), (e : ℕ) = 0 + h * 72 + d → q (ix2 a d) = X (ix2 a e))
    (hk : ∀ (a : Fin 512) (d : Fin 72) (e : Fin 3456), (e : ℕ) = 1152 + h * 72 + d → k (ix2 a d) = X (ix2 a e))
    (hv : ∀ (a : Fin 512) (d : Fin 72) (e : Fin 3456), (e : ℕ) = 2304 + h * 72 + d → v (ix2 a d) = X (ix2 a e))
    (x : S512x72.Idx) (t : Fin 512) (j : Fin 1152) (h0 : (t : ℕ) = x 0) (h1 : (j : ℕ) = h * 72 + x 1) :
    headOf q k v x = Spec.attPlain (fun a b => X (ix2 a b)) t j := by
  rw [headOf_at]
  unfold Spec.attPlain Spec.score
  have hx : (x 1 : ℕ) < 72 := (x 1).isLt
  have e0 : x 0 = t := Fin.ext h0.symm
  have e1 : (⟨(j : ℕ) / 72, by omega⟩ : Fin 16) = h := Fin.ext (by simp only; omega)
  rw [e1]
  have hq' := fun (a : Fin 512) (d : Fin 72) => hq a d ⟨h * 72 + d, by omega⟩ (by simp)
  have hk' := fun (a : Fin 512) (d : Fin 72) => hk a d ⟨1152 + (h * 72 + d), by omega⟩ (by simp only; omega)
  simp only [e0, hq', hk']
  refine Finset.sum_congr rfl fun u _ => ?_
  exact congrArg₂ _ rfl (hv u _ _ (by simp only; omega))

/-- A slice of 72 columns, read at an element. -/
theorem slice_at (X : Vec Ideal S512x3456 .bf16) (o k : ℕ) (hs : S512x3456.Slices ![0, o] S512x72) (hk : k = o)
    (a : Fin 512) (d : Fin 72) (e : Fin 3456) (he : (e : ℕ) = k + d) : extractStridedSlice S512x72 ![0, o] X hs (ix2 a d) = X (ix2 a e) := by
  refine congrArg X (funext fun b => Fin.ext ?_)
  subst hk
  match b with
  | ⟨0, _⟩ => exact Nat.zero_add _
  | ⟨1, _⟩ => exact he.symm

/-- The sixteen column blocks the heads are stored into, last first. -/
def headPieces (X : Vec Ideal S512x3456 .bf16) : List (View.Piece (Elt Ideal) S512x1152 .bf16) :=
  [⟨Rect.unit ![0, 1080] S512x72.size inb_S512x1152_S512x72_0_1080, k0_pay34 X⟩,
   ⟨Rect.unit ![0, 1008] S512x72.size inb_S512x1152_S512x72_0_1008, k0_pay33 X⟩,
   ⟨Rect.unit ![0, 936] S512x72.size inb_S512x1152_S512x72_0_936, k0_pay32 (k0_pay29 X) (k0_pay30 X) (k0_pay31 X)⟩,
   ⟨Rect.unit ![0, 864] S512x72.size inb_S512x1152_S512x72_0_864, k0_pay28 X⟩,
   ⟨Rect.unit ![0, 792] S512x72.size inb_S512x1152_S512x72_0_792, k0_pay27 X⟩,
   ⟨Rect.unit ![0, 720] S512x72.size inb_S512x1152_S512x72_0_720, k0_pay26 X⟩,
   ⟨Rect.unit ![0, 648] S512x72.size inb_S512x1152_S512x72_0_648, k0_pay25 X⟩,
   ⟨Rect.unit ![0, 576] S512x72.size inb_S512x1152_S512x72_0_576, k0_pay24 (k0_pay21 X) (k0_pay22 X) (k0_pay23 X)⟩,
   ⟨Rect.unit ![0, 504] S512x72.size inb_S512x1152_S512x72_0_504, k0_pay20 X⟩,
   ⟨Rect.unit ![0, 432] S512x72.size inb_S512x1152_S512x72_0_432, k0_pay19 X⟩,
   ⟨Rect.unit ![0, 360] S512x72.size inb_S512x1152_S512x72_0_360, k0_pay18 X⟩,
   ⟨Rect.unit ![0, 288] S512x72.size inb_S512x1152_S512x72_0_288, k0_pay17 X⟩,
   ⟨Rect.unit ![0, 216] S512x72.size inb_S512x1152_S512x72_0_216, k0_pay16 (k0_pay13 X) (k0_pay14 X) (k0_pay15 X)⟩,
   ⟨Rect.unit ![0, 144] S512x72.size inb_S512x1152_S512x72_0_144, k0_pay12 X⟩,
   ⟨Rect.unit ![0, 72] S512x72.size inb_S512x1152_S512x72_0_72, k0_pay11 X⟩,
   ⟨Rect.unit ![0, 0] S512x72.size inb_S512x1152_S512x72_0_0, k0_pay10 X⟩]

/-- They cover the buffer. -/
theorem headPieces_cover (X : Vec Ideal S512x3456 .bf16) (y : S512x1152.Idx) : ∃ p ∈ headPieces X, y ∈ p.1.set :=
  View.cover_of_tiledL (headPieces X) S512x72.size (by sl_kernel_rfl) y

/-- The buffer after the sixteen stores is the attention's result. -/
theorem headPieces_at (X : Vec Ideal S512x3456 .bf16) (y : S512x1152.Idx) :
    View.canon (headPieces X) y = Spec.attPlain (fun a b => X (ix2 a b)) (y 0) (y 1) := by
  unfold headPieces
  canon_tiles x h
  case piece0 => exact headOf_slices X _ _ _ 15 (slice_at X _ _ _ (by decide)) (slice_at X _ _ _ (by decide)) (slice_at X _ _ _ (by decide)) x _ _ (by omega) (by omega)
  case piece1 => exact headOf_slices X _ _ _ 14 (slice_at X _ _ _ (by decide)) (slice_at X _ _ _ (by decide)) (slice_at X _ _ _ (by decide)) x _ _ (by omega) (by omega)
  case piece2 => exact headOf_slices X _ _ (k0_pay29 X) 13 (slice_at X _ _ _ (by decide)) (slice_at X _ _ _ (by decide)) (slice_at X _ _ Facts₀.slices_S512x3456_o0_3240_S512x72 (by decide)) x _ _ (by omega) (by omega)
  case piece3 => exact headOf_slices X _ _ _ 12 (slice_at X _ _ _ (by decide)) (slice_at X _ _ _ (by decide)) (slice_at X _ _ _ (by decide)) x _ _ (by omega) (by omega)
  case piece4 => exact headOf_slices X _ _ _ 11 (slice_at X _ _ _ (by decide)) (slice_at X _ _ _ (by decide)) (slice_at X _ _ _ (by decide)) x _ _ (by omega) (by omega)
  case piece5 => exact headOf_slices X _ _ _ 10 (slice_at X _ _ _ (by decide)) (slice_at X _ _ _ (by decide)) (slice_at X _ _ _ (by decide)) x _ _ (by omega) (by omega)
  case piece6 => exact headOf_slices X _ _ _ 9 (slice_at X _ _ _ (by decide)) (slice_at X _ _ _ (by decide)) (slice_at X _ _ _ (by decide)) x _ _ (by omega) (by omega)
  case piece7 => exact headOf_slices X _ _ (k0_pay21 X) 8 (slice_at X _ _ _ (by decide)) (slice_at X _ _ _ (by decide)) (slice_at X _ _ Facts₀.slices_S512x3456_o0_2880_S512x72 (by decide)) x _ _ (by omega) (by omega)
  case piece8 => exact headOf_slices X _ _ _ 7 (slice_at X _ _ _ (by decide)) (slice_at X _ _ _ (by decide)) (slice_at X _ _ _ (by decide)) x _ _ (by omega) (by omega)
  case piece9 => exact headOf_slices X _ _ _ 6 (slice_at X _ _ _ (by decide)) (slice_at X _ _ _ (by decide)) (slice_at X _ _ _ (by decide)) x _ _ (by omega) (by omega)
  case piece10 => exact headOf_slices X _ _ _ 5 (slice_at X _ _ _ (by decide)) (slice_at X _ _ _ (by decide)) (slice_at X _ _ _ (by decide)) x _ _ (by omega) (by omega)
  case piece11 => exact headOf_slices X _ _ _ 4 (slice_at X _ _ _ (by decide)) (slice_at X _ _ _ (by decide)) (slice_at X _ _ _ (by decide)) x _ _ (by omega) (by omega)
  case piece12 => exact headOf_slices X _ _ (k0_pay13 X) 3 (slice_at X _ _ _ (by decide)) (slice_at X _ _ _ (by decide)) (slice_at X _ _ Facts₀.slices_S512x3456_o0_2520_S512x72 (by decide)) x _ _ (by omega) (by omega)
  case piece13 => exact headOf_slices X _ _ _ 2 (slice_at X _ _ _ (by decide)) (slice_at X _ _ _ (by decide)) (slice_at X _ _ _ (by decide)) x _ _ (by omega) (by omega)
  case piece14 => exact headOf_slices X _ _ _ 1 (slice_at X _ _ _ (by decide)) (slice_at X _ _ _ (by decide)) (slice_at X _ _ _ (by decide)) x _ _ (by omega) (by omega)
  case piece15 => exact headOf_slices X _ _ _ 0 (slice_at X _ _ _ (by decide)) (slice_at X _ _ _ (by decide)) (slice_at X _ _ _ (by decide)) x _ _ (by omega) (by omega)

/-- The kept rows' projections of one batch, from its blocks. -/
def qkvOf (x0 : Vec Ideal S1x1024x1152 .bf16) (x1 : Vec Ideal S1x1x512 .i32) (x2 : Vec Ideal S1x3456 .f32) (x3 x4 : Vec Ideal S1x1152 .f32)
    (w : Vec Ideal S1152x3456 .bf16) : Vec Ideal S512x3456 .bf16 :=
  k0_pay9 (k0_pay3 (k0_pay2 x1 x0)) (k0_pay4 x3) (k0_pay5 x4) (k0_pay7 (k0_pay2 x1 x0)) (k0_pay8 (k0_pay2 x1 x0)) w x2

/-- The rows one point leaves, from its blocks and the weights. -/
def attnOf (x0 : Vec Ideal S1x1024x1152 .bf16) (x1 : Vec Ideal S1x1x512 .i32) (x2 : Vec Ideal S1x3456 .f32) (x3 x4 x5 : Vec Ideal S1x1152 .f32)
    (w : Vec Ideal S1152x3456 .bf16) (w' : Vec Ideal S1152x1152 .bf16) : Vec Ideal S1x512x1152 .bf16 :=
  k0_pay1 (k0_pay2 x1 x0) (View.canon (headPieces (qkvOf x0 x1 x2 x3 x4 w))) w' x5

/-- Reading the whole buffer after the sixteen stores gives their canonical contents. -/
theorem headPieces_read {sig : RefSig} {κ : Kind} {sp : Space} (v : View sig κ sp S512x1152 .bf16) (X : Vec Ideal S512x3456 .bf16) :
    v.readCov (headPieces X) (Rect.unit ![0, 0] S512x1152.size inb_S512x1152_S512x1152_0_0).toLoadRect = View.canon (headPieces X) := by
  rw [View.readCov_eq_canon_ld _ _ _ (headPieces_cover X)]
  exact View.ld_unit_zero (by decide) _ _

variable (V : (c : Dev nD) → (b : Ref sig .tc) → Buf (Elt Ideal) ((c : Thread nD τ).loc b))

/-- Reading a whole matrix after one store of it gives it. -/
theorem read_whole_store {sig : RefSig} {κ : Kind} {sp : Space} {n k : ℕ} {e : EltTy} (v : View sig κ sp ⟨2, ![n, k]⟩ e)
    (inb) (w : Vec Ideal ⟨2, ![n, k]⟩ e) :
    v.readCov (Val := Elt Ideal) [⟨Rect.whole ⟨2, ![n, k]⟩, w⟩] (Rect.unit (s := ⟨2, ![n, k]⟩) ![0, 0] ![n, k] inb).toLoadRect = w :=
  View.readCov_full (Val := Elt Ideal) v inb (fun a => by simp) w []

theorem outsAt0_eq (c : Dev nD) (t : Fin cfg0.N) : outsAt0 V c t
    = attnOf (iblk0 V c 0 t) (iblk0 V c 1 t) (iblk0 V c 2 t) (iblk0 V c 3 t) (iblk0 V c 4 t) (iblk0 V c 5 t) (wt0_0 V c) (wt0_1 V c) := by
  unfold attnOf
  rw [← headPieces_read (View.whole cc0_scratch4)]
  by_cases h : t.val % 16 = 0
  · rw [outsAt0_A V c t h]
    frame_out
    generalize hX : k0_pay9 (F := Ideal) _ _ _ _ _ _ _ = X
    have e0 := fun w => read_whole_store (View.whole cc0_scratch0) inb_S1152x3456_S1152x3456_0_0 w
    have e1 := fun w => read_whole_store (View.whole cc0_scratch1) inb_S1152x1152_S1152x1152_0_0 w
    rw [e0] at hX
    rw [e1]
    have e2 : qkvOf (iblk0 V c 0 t) (iblk0 V c 1 t) (iblk0 V c 2 t) (iblk0 V c 3 t) (iblk0 V c 4 t) (wt0_0 V c) = X := hX
    rw [e2]
    rfl
  · rw [outsAt0_B V c t h]
    frame_out
    generalize hX : k0_pay9 (F := Ideal) _ _ _ _ _ _ _ = X
    have e2 : qkvOf (iblk0 V c 0 t) (iblk0 V c 1 t) (iblk0 V c 2 t) (iblk0 V c 3 t) (iblk0 V c 4 t) (wt0_0 V c) = X := by
      rw [← hX]
      exact congrArg (fun w => qkvOf (iblk0 V c 0 t) (iblk0 V c 1 t) (iblk0 V c 2 t) (iblk0 V c 3 t) (iblk0 V c 4 t) w)
        (Memref.IsWhole.read_unread _ _).symm
    rw [e2]
    have r1 : View.read (Elt Ideal) (View.whole cc0_scratch1) ((Memref.isWhole_whole cc0_scratch1).unread (wt0_1 V c)) = wt0_1 V c :=
      Memref.IsWhole.read_unread _ _
    rw [r1]
    rfl

/-- The rows the batch keeps, from the call's blocks. -/
def keptOf (x0 : Vec Ideal S1x1024x1152 .bf16) (x1 : Vec Ideal S1x1x512 .i32) (t : Fin 512) (j : Fin 1152) : EReal :=
  ∑ x : Fin 1024, Spec.hot (BitVec.ofNat 32 x) (x1 (ix3 0 0 t)) * x0 (ix3 0 x j)

theorem kept_at (x0 : Vec Ideal S1x1024x1152 .bf16) (x1 : Vec Ideal S1x1x512 .i32) (t : Fin 512) (j : Fin 1152) :
    k0_pay2 x1 x0 (ix2 t j) = keptOf x0 x1 t j := by
  unfold keptOf
  pointwise [k0_pay2]
  simp only [Spec.sitofp_hot]

theorem qkv_pay_at (xk : Vec Ideal S512x1152 .bf16)  (x2 : Vec Ideal S1x3456 .f32) (x3 x4 : Vec Ideal S1x1152 .f32)
    (w : Vec Ideal S1152x3456 .bf16)  (x : S512x3456.Idx) :
   k0_pay9 (k0_pay3 xk) (k0_pay4 x3) (k0_pay5 x4) (k0_pay7 xk) (k0_pay8 xk) w x2 x =
    Spec.qkv (fun t j => xk (ix2 t j)) (fun j => x3 (ix2 0 j)) (fun j => x4 (ix2 0 j)) (fun a b => w (ix2 a b)) (fun j => x2 (ix2 0 j)) (x 0) (x 1) := by
  unfold Spec.qkv Spec.lnRow Spec.mean
  pointwise [k0_pay9, k0_pay3, k0_pay4, k0_pay5, k0_pay6, k0_pay7, k0_pay8]

theorem resid_pay_at (xk o : Vec Ideal S512x1152 .bf16)  (x5 : Vec Ideal S1x1152 .f32)
    (w : Vec Ideal S1152x1152 .bf16)  (x : S1x512x1152.Idx) :
   k0_pay1 xk o w x5 x =
    Spec.resid (fun t j => xk (ix2 t j)) (fun t j => o (ix2 t j)) (fun a b => w (ix2 a b)) (fun j => x5 (ix2 0 j)) (x 1) (x 2) := by
  unfold Spec.resid
  pointwise [k0_pay1]

/-- What a point of the call leaves, element by element. -/
theorem attnOf_at (x0 : Vec Ideal S1x1024x1152 .bf16) (x1 : Vec Ideal S1x1x512 .i32) (x2 : Vec Ideal S1x3456 .f32) (x3 x4 x5 : Vec Ideal S1x1152 .f32)
    (w : Vec Ideal S1152x3456 .bf16) (w' : Vec Ideal S1152x1152 .bf16) (x : S1x512x1152.Idx) :
    attnOf x0 x1 x2 x3 x4 x5 w w' x
      = Spec.resid (keptOf x0 x1)
          (Spec.attPlain (Spec.qkv (keptOf x0 x1) (fun j => x3 (ix2 0 j)) (fun j => x4 (ix2 0 j)) (fun a b => w (ix2 a b)) (fun j => x2 (ix2 0 j))))
          (fun a b => w' (ix2 a b)) (fun j => x5 (ix2 0 j)) (x 1) (x 2) := by
  unfold attnOf
  rw [resid_pay_at]
  simp only [kept_at]
  congr 1
  funext t j
  rw [headPieces_at]
  congr 1
  funext a b
  unfold qkvOf
  rw [qkv_pay_at]
  simp only [kept_at]
  rfl

theorem idx0 : ∀ t : Fin cfg0.N, win0_0.index t = ![t.val, 0, 0] ∧ win0_1.index t = ![t.val, 0, 0] ∧ win0_2.index t = ![0, 0]
    ∧ win0_3.index t = ![0, 0] ∧ win0_4.index t = ![0, 0] ∧ win0_5.index t = ![0, 0] ∧ win0_6.index t = ![t.val, 0, 0] :=
  (by decide +kernel : ∀ t : Fin grid0.N, _)

/-- The rows batch `b` keeps. -/
def keptRows (x0 : Vec Ideal S16x1024x1152 .bf16) (x1 : Vec Ideal S16x1x512 .i32) (b : Fin 16) (t : Fin 512) (j : Fin 1152) : EReal :=
  ∑ x : Fin 1024, Spec.hot (BitVec.ofNat 32 x) (x1 (ix3 b 0 t)) * x0 (ix3 b x j)

/-- The array the call leaves, from the arrays it reads. -/
def attnArr (x0 : Vec Ideal S16x1024x1152 .bf16) (x1 : Vec Ideal S16x1x512 .i32) (x2 : Vec Ideal S1x3456 .f32) (x3 x4 x5 : Vec Ideal S1x1152 .f32)
    (w : Vec Ideal S1152x3456 .bf16) (u : Vec Ideal S1152x1152 .bf16) : Vec Ideal S16x512x1152 .bf16 := fun i =>
  Spec.resid (keptRows x0 x1 (i 0))
    (Spec.attPlain (Spec.qkv (keptRows x0 x1 (i 0)) (fun j => x3 (ix2 0 j)) (fun j => x4 (ix2 0 j)) (fun a b => w (ix2 a b)) (fun j => x2 (ix2 0 j))))
    (fun a b => u (ix2 a b)) (fun j => x5 (ix2 0 j)) (i 1) (i 2)

theorem attn_final (c : Dev nD) : (dat0 V c).arrAt 6 cfg0.N
    = attnArr (V c main_v84) (V c main_v82) (V c main_v86) (V c main_v87) (V c main_v88) (V c main_v90) (V c main_v85) (V c main_v89) := by
  refine (dat0 V c).arrAt_eq_of_covers 6 _ (by decide +kernel) fun t hf y => ?_
  blk_simp
  rw [after0_6, outsAt0_eq, attnOf_at]
  obtain ⟨i0, i1, i2, i3, i4, i5, i6⟩ := idx0 t
  have hy : (win0_6.blk t).view.emb y = ix3 (n0 := 16) (n1 := 512) (n2 := 1152) ⟨t.val, t.isLt⟩ (y 1) (y 2) := by blk_ext [i6]
  have x0 : ∀ a j, iblk0 V c 0 t (ix3 0 a j) = V c main_v84 (ix3 ⟨t.val, t.isLt⟩ a j) := fun a j => by blk_ext [iblk0, i0]
  have x1 : ∀ a, iblk0 V c 1 t (ix3 0 0 a) = V c main_v82 (ix3 ⟨t.val, t.isLt⟩ 0 a) := fun a => by blk_ext [iblk0, i1]
  have x2 : ∀ a, iblk0 V c 2 t (ix2 0 a) = V c main_v86 (ix2 0 a) := fun a => by blk_ext [iblk0, i2]
  have x3 : ∀ a, iblk0 V c 3 t (ix2 0 a) = V c main_v87 (ix2 0 a) := fun a => by blk_ext [iblk0, i3]
  have x4 : ∀ a, iblk0 V c 4 t (ix2 0 a) = V c main_v88 (ix2 0 a) := fun a => by blk_ext [iblk0, i4]
  have x5 : ∀ a, iblk0 V c 5 t (ix2 0 a) = V c main_v90 (ix2 0 a) := fun a => by blk_ext [iblk0, i5]
  rw [hy]
  unfold attnArr keptRows keptOf
  simp only [x0, x1, x2, x3, x4, x5]
  rfl

end Cert.KernelIdeal.Whole
-- ==== Proof.MlpValue.lean ====
module

public import proofs.«01_k».proof.Proof.Spec
public import proofs.«01_k».proof.Proof.MlpBody

@[expose] public section

/-!
The second call's results, element by element: every token's row is the block's result row its index word names.
-/

set_option maxRecDepth 16384

noncomputable section

namespace Cert.KernelIdeal.Whole

open Cert.KernelIdeal Cert.KernelIdeal.Gen
open Idealize.ShloMosaic Idealize.ShloMosaic.TcCoe

/-- What a point leaves, from its blocks and the two halves of the weights. -/
def mlpHalves (x0 : Vec Ideal S1x512x1152 .bf16) (x1 : Vec Ideal S1x1x1024 .i32) (x3 x4 x5 : Vec Ideal S1x1152 .f32)
    (wa wb : Vec Ideal S1152x2304 .bf16) (ba bb : Vec Ideal S1x2304 .f32) (ua ub : Vec Ideal S2304x1152 .bf16) : Vec Ideal S1x1024x1152 .f32 :=
  k1_pay1 (k1_pay2 x0) (k1_pay6 (k1_pay4 x0 x4 x5 wa) (k1_pay5 ba) ua) (k1_pay7 (k1_pay3 x0 x4 x5) wb bb) ub
    (constant S512x1152 .f32 0x00000000#32) x3 x1

/-- One half of the hidden layer's contribution. -/
def halfSum (x2 : Fin 512 → Fin 1152 → EReal) (g b : Fin 1152 → EReal) (w : Fin 1152 → Fin 2304 → EReal) (d : Fin 2304 → EReal)
    (u : Fin 2304 → Fin 1152 → EReal) (t : Fin 512) (j : Fin 1152) : EReal :=
  ∑ l, Spec.gelu ((∑ x, Spec.lnRow (x2 t) g b x * w x l) + d l) * u l j

theorem mlpHalves_at (x0 : Vec Ideal S1x512x1152 .bf16) (x1 : Vec Ideal S1x1x1024 .i32) (x3 x4 x5 : Vec Ideal S1x1152 .f32)
    (wa wb : Vec Ideal S1152x2304 .bf16) (ba bb : Vec Ideal S1x2304 .f32) (ua ub : Vec Ideal S2304x1152 .bf16) (x : S1x1024x1152.Idx) :
    mlpHalves x0 x1 x3 x4 x5 wa wb ba bb ua ub x
      = ∑ t : Fin 512, Spec.hot (BitVec.ofNat 32 t) (x1 (ix3 0 0 (x 1))) *
          (x0 (ix3 0 t (x 2)) + (halfSum (fun t j => x0 (ix3 0 t j)) (fun j => x4 (ix2 0 j)) (fun j => x5 (ix2 0 j)) (fun a b => wa (ix2 a b)) (fun b => ba (ix2 0 b)) (fun a b => ua (ix2 a b)) t (x 2)
             + halfSum (fun t j => x0 (ix3 0 t j)) (fun j => x4 (ix2 0 j)) (fun j => x5 (ix2 0 j)) (fun a b => wb (ix2 a b)) (fun b => bb (ix2 0 b)) (fun a b => ub (ix2 a b)) t (x 2))
             + x3 (ix2 0 (x 2))) := by
  unfold mlpHalves halfSum
  simp only [← Spec.sitofp_hot]
  unfold Spec.gelu Spec.lnRow Spec.mean
  pointwise [k1_pay1, k1_pay2, k1_pay3, k1_pay4, k1_pay5, k1_pay6, k1_pay7]

/-- The slices of the weights and bias a point's two rounds load. -/
def mlpOf (x0 : Vec Ideal S1x512x1152 .bf16) (x1 : Vec Ideal S1x1x1024 .i32) (x2 : Vec Ideal S1x4608 .f32) (x3 x4 x5 : Vec Ideal S1x1152 .f32)
    (w : Vec Ideal S1152x4608 .bf16) (u : Vec Ideal S4608x1152 .bf16) : Vec Ideal S1x1024x1152 .f32 :=
  mlpHalves x0 x1 x3 x4 x5
    (View.ld w (Rect.unit ![0, 0] ![1152, 2304] inb_S1152x4608_S1152x2304_0_0)) (View.ld w (Rect.unit ![0, 2304] ![1152, 2304] inb_S1152x4608_S1152x2304_0_2304))
    (View.ld x2 (Rect.unit ![0, 0] ![1, 2304] inb_S1x4608_S1x2304_0_0)) (View.ld x2 (Rect.unit ![0, 2304] ![1, 2304] inb_S1x4608_S1x2304_0_2304))
    (View.ld u (Rect.unit ![0, 0] ![2304, 1152] inb_S4608x1152_S2304x1152_0_0)) (View.ld u (Rect.unit ![2304, 0] ![2304, 1152] inb_S4608x1152_S2304x1152_2304_0))

/-- A block of a matrix loaded at an offset, read at an element. -/
theorem ld_at {n k n' k' : ℕ} {e : EltTy} (X : Vec Ideal ⟨2, ![n, k]⟩ e) (o o' : ℕ) (inb) (a : Fin n') (b : Fin k') (a' : Fin n) (b' : Fin k)
    (ha : (a' : ℕ) = o + a) (hb : (b' : ℕ) = o' + b) :
    View.ld X (Rect.unit (s := ⟨2, ![n, k]⟩) ![o, o'] ![n', k'] inb) (ix2 a b) = X (ix2 a' b') := by
  refine congrArg X (funext fun d => Fin.ext ?_)
  match d with
  | ⟨0, _⟩ => exact (congrArg (o + ·) (one_mul (a : ℕ))).trans ha.symm
  | ⟨1, _⟩ => exact (congrArg (o' + ·) (one_mul (b : ℕ))).trans hb.symm

theorem mlpOf_at (x0 : Vec Ideal S1x512x1152 .bf16) (x1 : Vec Ideal S1x1x1024 .i32) (x2 : Vec Ideal S1x4608 .f32) (x3 x4 x5 : Vec Ideal S1x1152 .f32)
    (w : Vec Ideal S1152x4608 .bf16) (u : Vec Ideal S4608x1152 .bf16) (x : S1x1024x1152.Idx) :
    mlpOf x0 x1 x2 x3 x4 x5 w u x
      = ∑ t : Fin 512, Spec.hot (BitVec.ofNat 32 t) (x1 (ix3 0 0 (x 1))) *
          Spec.block (fun t j => x0 (ix3 0 t j)) (fun j => x4 (ix2 0 j)) (fun j => x5 (ix2 0 j)) (fun a b => w (ix2 a b)) (fun b => x2 (ix2 0 b))
            (fun a b => u (ix2 a b)) (fun j => x3 (ix2 0 j)) t (x 2) := by
  unfold mlpOf
  rw [mlpHalves_at]
  refine Finset.sum_congr rfl fun t _ => congrArg _ ?_
  unfold Spec.block
  refine congrArg (fun s => (x0 (ix3 0 t (x 2)) + s) + x3 (ix2 0 (x 2))) ?_
  generalize (x 2 : Fin 1152) = j
  have split : ∀ f : Fin 4608 → EReal, ∑ l, f l = (∑ l : Fin 2304, f ⟨l, by omega⟩) + ∑ l : Fin 2304, f ⟨2304 + l, by omega⟩ :=
    fun f => Fin.sum_univ_add (a := 2304) (b := 2304) f
  rw [split]
  unfold halfSum Spec.hidden
  refine congrArg₂ _ (Finset.sum_congr rfl fun l _ => ?_) (Finset.sum_congr rfl fun l _ => ?_)
  · refine congrArg₂ _ (congrArg _ (congrArg₂ _ (Finset.sum_congr rfl fun y _ => congrArg _ ?_) ?_)) ?_ <;>
      exact ld_at _ _ _ _ _ _ _ _ (Nat.zero_add _).symm (Nat.zero_add _).symm
  · refine congrArg₂ _ (congrArg _ (congrArg₂ _ (Finset.sum_congr rfl fun y _ => congrArg _ ?_) ?_)) ?_
    · exact ld_at _ _ _ _ _ _ _ _ (Nat.zero_add _).symm rfl
    · exact ld_at _ _ _ _ _ _ _ _ (Nat.zero_add _).symm rfl
    · exact ld_at _ _ _ _ _ _ _ _ rfl (Nat.zero_add _).symm

variable (V : (c : Dev nD) → (b : Ref sig .tc) → Buf (Elt Ideal) ((c : Thread nD τ).loc b))

/-- Reading a part of a buffer after one store of the whole of it gives that part. -/
theorem read_part_store {sig : RefSig} {κ : Kind} {sp : Space} {s : Shape} {e : EltTy} (v : View sig κ sp s e)
    (w : s.Idx → Elt Ideal e) (r : Rect s) : v.readCov (Val := Elt Ideal) [⟨Rect.whole s, w⟩] r.toLoadRect = View.ld w r := by
  have hw : ∀ y, (Rect.whole s).emb y = y := fun y => funext fun a => Fin.ext (by simp [Rect.whole, Rect.emb])
  rw [View.readCov_eq_canon_ld _ _ _ (fun y => ⟨_, List.mem_singleton_self _, by rw [Rect.set_whole]; exact Finset.mem_univ _⟩)]
  refine congrArg (fun f => View.ld f r) (funext fun y => ?_)
  have := View.canon_cons_emb (Val := Elt Ideal) (Rect.whole s) w [] y
  rwa [hw] at this

theorem outsAt1_eq (c : Dev nD) (t : Fin cfg1.N) : outsAt1 V c t
    = mlpOf (iblk1 V c 0 t) (iblk1 V c 1 t) (iblk1 V c 2 t) (iblk1 V c 3 t) (iblk1 V c 4 t) (iblk1 V c 5 t) (wt1_0 V c) (wt1_1 V c) := by
  unfold mlpOf mlpHalves
  by_cases h : t.val % 16 = 0
  · rw [outsAt1_A V c t h]
    frame_out
    rw [read_part_store, read_part_store, read_part_store, read_part_store]
    rfl
  · rw [outsAt1_B V c t h]
    frame_out
    have r0 : View.read (Elt Ideal) (View.whole cc1_scratch0) ((Memref.isWhole_whole cc1_scratch0).unread (wt1_0 V c)) = wt1_0 V c :=
      Memref.IsWhole.read_unread _ _
    have r1 : View.read (Elt Ideal) (View.whole cc1_scratch1) ((Memref.isWhole_whole cc1_scratch1).unread (wt1_1 V c)) = wt1_1 V c :=
      Memref.IsWhole.read_unread _ _
    rw [r0, r1]

theorem idx1 : ∀ t : Fin cfg1.N, win1_0.index t = ![t.val, 0, 0] ∧ win1_1.index t = ![t.val, 0, 0] ∧ win1_2.index t = ![0, 0]
    ∧ win1_3.index t = ![0, 0] ∧ win1_4.index t = ![0, 0] ∧ win1_5.index t = ![0, 0] ∧ win1_6.index t = ![t.val, 0, 0] :=
  (by decide +kernel : ∀ t : Fin grid1.N, _)

/-- The result array the call leaves, from the arrays it reads. -/
def mlpArr (x0 : Vec Ideal S16x512x1152 .bf16) (x1 : Vec Ideal S16x1x1024 .i32) (x2 : Vec Ideal S1x4608 .f32) (x3 x4 x5 : Vec Ideal S1x1152 .f32)
    (w : Vec Ideal S1152x4608 .bf16) (u : Vec Ideal S4608x1152 .bf16) : Vec Ideal S16x1024x1152 .f32 := fun i =>
  ∑ t : Fin 512, Spec.hot (BitVec.ofNat 32 t) (x1 (ix3 (i 0) 0 (i 1))) *
    Spec.block (fun t j => x0 (ix3 (i 0) t j)) (fun j => x4 (ix2 0 j)) (fun j => x5 (ix2 0 j)) (fun a b => w (ix2 a b)) (fun b => x2 (ix2 0 b))
      (fun a b => u (ix2 a b)) (fun j => x3 (ix2 0 j)) t (i 2)

theorem mlp_final (c : Dev nD) : (dat1 V c).arrAt 6 cfg1.N
    = mlpArr (V c main_v91) (V c main_v83) (V c main_v93) (V c main_v95) (V c main_v96) (V c main_v97) (V c main_v92) (V c main_v94) := by
  refine (dat1 V c).arrAt_eq_of_covers 6 _ (by decide +kernel) fun t hf y => ?_
  blk_simp
  rw [after1_6, outsAt1_eq, mlpOf_at]
  unfold mlpArr
  obtain ⟨i0, i1, i2, i3, i4, i5, i6⟩ := idx1 t
  blk_point [iblk1, i0, i1, i2, i3, i4, i5, i6]

end Cert.KernelIdeal.Whole
-- ==== Proof.Takes.lean ====
module

public import proofs.«01_k».proof.Proof.Whole
public import proofs.«01_k».proof.Proof.RefRun
public import proofs.«01_k».proof.Proof.Spec
public import Idealize.ShloMosaic.Lib.StableHlo.RunRead

/-! Taking entries of an array at given indices along one axis: an index that is in range reads the entry
it names. Both programs take this way, with the same guard against indices out of range. -/

@[expose] public section

set_option maxRecDepth 16384

noncomputable section

namespace Cert.Takes

open Idealize.ShloMosaic

abbrev S0 : Shape := ⟨0, ![]⟩

/-- The indices with the negative ones counted from the end of the axis. -/
def safeIdx {s : Shape} (size : BitVec 32) (h : S0.BroadcastsInDim s ![]) (I : IVec s 32) : IVec s 32 :=
  select (cmpi .slt I (broadcastInDim s ![] h (constantI S0 32 0#32)))
    (addi I (broadcastInDim s ![] h (constantI S0 32 size))) I

/-- Which indices are in range, read over the trailing axis. -/
def okMask {sj s1 sm : Shape} {axes : List (Fin sj.rank)} (top : BitVec 32) (q : Fin 1 → Fin s1.rank)
    (p : Fin s1.rank → Fin sj.rank) (h0 : S0.BroadcastsInDim sj ![])
    (h1 : (⟨1, ![1]⟩ : Shape).BroadcastsInDim s1 q) (h2 : s1.BroadcastsInDim sj p)
    (hr : sj.ReducesTo axes sm) (hu : 0 < S0.numel) (J : IVec sj 32) : IVec sm 1 :=
  Host.reduce IntOp.andi
    (andi (cmpi .sge J (broadcastInDim sj ![] h0 (constantI S0 32 0#32)))
      (cmpi .sle J (broadcastInDim sj p h2 (broadcastInDim s1 q h1 (constantI ⟨1, ![1]⟩ 32 top)))))
    (constantI S0 1 1#1) hr hu

theorem toInt_of_lt {v : BitVec 32} {n : ℕ} (hn : n ≤ 2 ^ 31) (h : v.toNat < n) : v.toInt = v.toNat :=
  BitVec.toInt_eq_toNat_of_lt (by omega)

/-- An index below half the range of words is not negative, so it stays. -/
theorem safeIdx_eq {s : Shape} {size : BitVec 32} {h : S0.BroadcastsInDim s ![]} {I : IVec s 32}
    (hI : ∀ i, (I i).toNat < 2 ^ 31) : safeIdx size h I = I := by
  funext i
  have hz : (I i).slt 0#32 = false := by
    rw [BitVec.slt, toInt_of_lt le_rfl (hI i)]; simp
  show Scalar.select (IntOp.cmpi .slt (I i) 0#32) _ (I i) = I i
  simp [Scalar.select, IntOp.cmpi, hz]

/-- When every index is in range, the guard holds everywhere. -/
theorem okMask_eq {sj s1 sm : Shape} {axes : List (Fin sj.rank)} {top : BitVec 32} {q : Fin 1 → Fin s1.rank}
    {p : Fin s1.rank → Fin sj.rank} {h0 : S0.BroadcastsInDim sj ![]}
    {h1 : (⟨1, ![1]⟩ : Shape).BroadcastsInDim s1 q} {h2 : s1.BroadcastsInDim sj p}
    {hr : sj.ReducesTo axes sm} {hu : 0 < S0.numel} {J : IVec sj 32} (ht : top.toNat < 2 ^ 31)
    (hJ : ∀ i, (J i).toNat ≤ top.toNat) (j : sm.Idx) : okMask top q p h0 h1 h2 hr hu J j = 1#1 := by
  have key : ∀ i, IntOp.andi (IntOp.cmpi .sge (J i) 0#32) (IntOp.cmpi .sle (J i) top) = 1#1 := by
    intro i
    have e : (J i).toInt = (J i).toNat := toInt_of_lt le_rfl (lt_of_le_of_lt (hJ i) ht)
    have et : top.toInt = top.toNat := toInt_of_lt le_rfl ht
    have hi := hJ i
    simp [IntOp.andi, IntOp.cmpi, BitVec.sle, e, et, hi]
  show List.foldl _ (1#1) _ = 1#1
  generalize List.filter _ _ = l
  induction l with
  | nil => rfl
  | cons a l ih =>
    rw [List.foldl_cons]
    show List.foldl _ (IntOp.andi 1#1 (IntOp.andi (IntOp.cmpi .sge (J _) 0#32) (IntOp.cmpi .sle (J _) top))) l = 1#1
    rw [key]
    exact ih

theorem select_one {s : Shape} {α : Type} {m : IVec s 1} {a b : s.Idx → α} {j : s.Idx} (h : m j = 1#1) : select m a b j = a j := by
  show Scalar.select (m j) (a j) (b j) = a j
  rw [h]; rfl

theorem min_toNat {v : BitVec 32} {n : ℕ} (hn : n < 2 ^ 31) (h : v.toNat ≤ n) : min v.toInt.toNat n = v.toNat := by
  rw [toInt_of_lt le_rfl (lt_of_le_of_lt h hn)]; simpa using h

/-- Taking `n` entries of each row of `768`. -/
theorem row_at {n : ℕ} {d : GatherDims ⟨2, ![16, 768]⟩ ⟨3, ![16, n, 1]⟩ ⟨2, ![16, n]⟩}
    {s1 : Shape} {axes : List (Fin 3)} {q : Fin 1 → Fin s1.rank} {p : Fin s1.rank → Fin 3} {hb : S0.BroadcastsInDim ⟨2, ![16, n]⟩ ![]}
    {h0 : S0.BroadcastsInDim ⟨3, ![16, n, 1]⟩ ![]} {h1 : (⟨1, ![1]⟩ : Shape).BroadcastsInDim s1 q}
    {h2 : s1.BroadcastsInDim ⟨3, ![16, n, 1]⟩ p} {hr : (⟨3, ![16, n, 1]⟩ : Shape).ReducesTo axes ⟨2, ![16, n]⟩} {hu : 0 < S0.numel}
    {hc : (⟨2, ![16, n]⟩ : Shape).ShapeCasts ⟨3, ![16, n, 1]⟩}
    (hd : ∀ (J : IVec ⟨3, ![16, n, 1]⟩ 32) (b : Fin 16) (t : Fin n), d.operandIdx (ix2 b t) J = ix2 b ⟨min (J (ix3 b t 0)).toInt.toNat 767, by omega⟩)
    (he : ∀ (I : IVec ⟨2, ![16, n]⟩ 32) (b : Fin 16) (t : Fin n), shapeCast ⟨3, ![16, n, 1]⟩ I hc (ix3 b t 0) = I (ix2 b t))
    (X : IVec ⟨2, ![16, 768]⟩ 32) (I : IVec ⟨2, ![16, n]⟩ 32) (z : IVec ⟨2, ![16, n]⟩ 32) (hI : ∀ i, (I i).toNat < 768) (b : Fin 16) (t : Fin n) :
    select (okMask 767#32 q p h0 h1 h2 hr hu (shapeCast _ (safeIdx 768#32 hb I) hc)) (Host.gather d X (shapeCast _ (safeIdx 768#32 hb I) hc)) z (ix2 b t)
      = X (ix2 b ⟨(I (ix2 b t)).toNat, hI _⟩) := by
  rw [safeIdx_eq fun i => (hI i).trans (by norm_num)]
  rw [select_one (okMask_eq (by decide) (fun i => Nat.le_of_lt_succ (hI _)) _)]
  show X (d.operandIdx _ _) = _
  rw [hd]
  refine congrArg (fun k => X (ix2 b k)) (Fin.ext ?_)
  show min (shapeCast ⟨3, ![16, n, 1]⟩ I hc (ix3 b t 0)).toInt.toNat 767 = _
  rw [he]
  exact min_toNat (by norm_num) (Nat.le_of_lt_succ (hI _))

/-- Taking `n` tokens of each window of four. -/
theorem win_at {n : ℕ} {d : GatherDims ⟨3, ![16, 256, 4]⟩ ⟨4, ![16, 256, n, 1]⟩ ⟨3, ![16, 256, n]⟩}
    {s1 : Shape} {axes : List (Fin 4)} {q : Fin 1 → Fin s1.rank} {p : Fin s1.rank → Fin 4} {hb : S0.BroadcastsInDim ⟨3, ![16, 256, n]⟩ ![]}
    {h0 : S0.BroadcastsInDim ⟨4, ![16, 256, n, 1]⟩ ![]} {h1 : (⟨1, ![1]⟩ : Shape).BroadcastsInDim s1 q}
    {h2 : s1.BroadcastsInDim ⟨4, ![16, 256, n, 1]⟩ p} {hr : (⟨4, ![16, 256, n, 1]⟩ : Shape).ReducesTo axes ⟨3, ![16, 256, n]⟩} {hu : 0 < S0.numel}
    {hc : (⟨3, ![16, 256, n]⟩ : Shape).ShapeCasts ⟨4, ![16, 256, n, 1]⟩}
    (hd : ∀ (J : IVec ⟨4, ![16, 256, n, 1]⟩ 32) (b : Fin 16) (w : Fin 256) (t : Fin n),
      d.operandIdx (ix3 b w t) J = ix3 b w ⟨min (J (ix4 b w t 0)).toInt.toNat 3, by omega⟩)
    (he : ∀ (I : IVec ⟨3, ![16, 256, n]⟩ 32) (b : Fin 16) (w : Fin 256) (t : Fin n), shapeCast ⟨4, ![16, 256, n, 1]⟩ I hc (ix4 b w t 0) = I (ix3 b w t))
    (X : IVec ⟨3, ![16, 256, 4]⟩ 32) (I : IVec ⟨3, ![16, 256, n]⟩ 32) (z : IVec ⟨3, ![16, 256, n]⟩ 32) (hI : ∀ i, (I i).toNat < 4)
    (b : Fin 16) (w : Fin 256) (t : Fin n) :
    select (okMask 3#32 q p h0 h1 h2 hr hu (shapeCast _ (safeIdx 4#32 hb I) hc)) (Host.gather d X (shapeCast _ (safeIdx 4#32 hb I) hc)) z (ix3 b w t)
      = X (ix3 b w ⟨(I (ix3 b w t)).toNat, hI _⟩) := by
  rw [safeIdx_eq fun i => (hI i).trans (by norm_num)]
  rw [select_one (okMask_eq (by decide) (fun i => Nat.le_of_lt_succ (hI _)) _)]
  show X (d.operandIdx _ _) = _
  rw [hd]
  refine congrArg (fun k => X (ix3 b w k)) (Fin.ext ?_)
  show min (shapeCast ⟨4, ![16, 256, n, 1]⟩ I hc (ix4 b w t 0)).toInt.toNat 3 = _
  rw [he]
  exact min_toNat (by norm_num) (Nat.le_of_lt_succ (hI _))

/-- Taking whole rows of the tokens, where the entry guard is read once for each row. -/
theorem token_at {α : Type} {d : GatherDims ⟨3, ![16, 1024, 1152]⟩ ⟨3, ![16, 512, 1]⟩ ⟨3, ![16, 512, 1152]⟩}
    {s1 : Shape} {axes : List (Fin 3)} {q : Fin 1 → Fin s1.rank} {p : Fin s1.rank → Fin 3} {hb : S0.BroadcastsInDim ⟨3, ![16, 512, 1]⟩ ![]}
    {h0 : S0.BroadcastsInDim ⟨3, ![16, 512, 1]⟩ ![]} {h1 : (⟨1, ![1]⟩ : Shape).BroadcastsInDim s1 q}
    {h2 : s1.BroadcastsInDim ⟨3, ![16, 512, 1]⟩ p} {hr : (⟨3, ![16, 512, 1]⟩ : Shape).ReducesTo axes ⟨2, ![16, 512]⟩} {hu : 0 < S0.numel}
    {hm : (⟨2, ![16, 512]⟩ : Shape).BroadcastsInDim ⟨3, ![16, 512, 1152]⟩ ![0, 1]}
    (hd : ∀ (J : IVec ⟨3, ![16, 512, 1]⟩ 32) (b : Fin 16) (t : Fin 512) (e : Fin 1152),
      d.operandIdx (ix3 b t e) J = ix3 b ⟨min (J (ix3 b t 0)).toInt.toNat 1023, by omega⟩ e)
    (X : (⟨3, ![16, 1024, 1152]⟩ : Shape).Idx → α) (I : IVec ⟨3, ![16, 512, 1]⟩ 32) (z : (⟨3, ![16, 512, 1152]⟩ : Shape).Idx → α)
    (hI : ∀ i, (I i).toNat < 1024) (b : Fin 16) (t : Fin 512) (e : Fin 1152) :
    select (broadcastInDim ⟨3, ![16, 512, 1152]⟩ ![0, 1] hm (okMask 1023#32 q p h0 h1 h2 hr hu (safeIdx 1024#32 hb I)))
        (Host.gather d X (safeIdx 1024#32 hb I)) z (ix3 b t e)
      = X (ix3 b ⟨(I (ix3 b t 0)).toNat, hI _⟩ e) := by
  rw [safeIdx_eq fun i => (hI i).trans (by norm_num)]
  refine Eq.trans (select_one (okMask_eq (top := 1023#32) (by decide) (fun i => Nat.le_of_lt_succ (hI _)) _)) ?_
  show X (d.operandIdx _ _) = _
  rw [hd]
  exact congrArg (fun k => X (ix3 b k e)) (Fin.ext (min_toNat (by norm_num) (Nat.le_of_lt_succ (hI _))))

end Cert.Takes

namespace Cert.KernelIdeal.Whole

open Cert.KernelIdeal Cert.KernelIdeal.Gen
open Idealize.ShloMosaic Idealize.ShloMosaic.TcCoe Cert.Takes

variable {F : FTy → Type} [FloatOps F]

/-- The token of each window the windows are merged into. -/
theorem take_dst (V : Valuation τ sig (Elt F)) (hI : ∀ i, (V (Proc.devRef .tc main_v31) i).toNat < 4) (b : Fin 16) (w : Fin 256) (k : Fin 1) :
    StableHlo.after Gen.hostOps0_4 V (Proc.devRef .tc main_v32) (ix3 b w k) =
      V (Proc.devRef .tc main_v30) (ix3 b w ⟨(V (Proc.devRef .tc main_v31) (ix3 b w k)).toNat, hI _⟩) := by
  after_reads_simp
  refine win_at (d := gather_S16x256x4_S16x256x1x1_S16x256x1_n_2_01_01_2_3_111) (hb := bcast_S_S16x256x1) (q := ![3]) (p := ![0, 1, 2, 3]) (h0 := bcast_S_S16x256x1x1) (h1 := bcast_S1_S1x1x1x1_3) (h2 := bcast_S1x1x1x1_S16x256x1x1_0_1_2_3) (hu := h_S_) (hc := shapeCasts_S16x256x1_S16x256x1x1) ?_ ?_ (V (Proc.devRef .tc main_v30)) (V (Proc.devRef .tc main_v31)) _ hI b w k
  · intro J b w t
    have i : gather_S16x256x4_S16x256x1x1_S16x256x1_n_2_01_01_2_3_111.siIdx (ix3 b w t) ⟨0, by decide⟩ = ix4 b w t 0 := by
      funext a
      match a with
      | 0 => rfl
      | 1 => rfl
      | 2 => rfl
      | 3 => rfl
    funext a
    refine Fin.ext ?_
    match a with
    | 0 => exact Nat.zero_add _
    | 1 => exact Nat.zero_add _
    | 2 => exact congrArg (fun j => min (J j).toInt.toNat 3) i
  · intro I b w t
    obtain rfl : t = 0 := Subsingleton.elim _ _
    pointwise

/-- The other tokens of each window. -/
theorem take_src (V : Valuation τ sig (Elt F)) (hI : ∀ i, (V (Proc.devRef .tc main_v42) i).toNat < 4) (b : Fin 16) (w : Fin 256) (k : Fin 3) :
    StableHlo.after Gen.hostOps0_9 V (Proc.devRef .tc main_v43) (ix3 b w k) =
      V (Proc.devRef .tc main_v30) (ix3 b w ⟨(V (Proc.devRef .tc main_v42) (ix3 b w k)).toNat, hI _⟩) := by
  after_reads_simp
  refine win_at (d := gather_S16x256x4_S16x256x3x1_S16x256x3_n_2_01_01_2_3_111) (hb := bcast_S_S16x256x3) (q := ![3]) (p := ![0, 1, 2, 3]) (h0 := bcast_S_S16x256x3x1) (h1 := bcast_S1_S1x1x1x1_3) (h2 := bcast_S1x1x1x1_S16x256x3x1_0_1_2_3) (hu := h_S_) (hc := shapeCasts_S16x256x3_S16x256x3x1) ?_ ?_ (V (Proc.devRef .tc main_v30)) (V (Proc.devRef .tc main_v42)) _ hI b w k
  · intro J b w t
    have i : gather_S16x256x4_S16x256x3x1_S16x256x3_n_2_01_01_2_3_111.siIdx (ix3 b w t) ⟨0, by decide⟩ = ix4 b w t 0 := by
      funext a
      match a with
      | 0 => rfl
      | 1 => rfl
      | 2 => rfl
      | 3 => rfl
    funext a
    refine Fin.ext ?_
    match a with
    | 0 => exact Nat.zero_add _
    | 1 => exact Nat.zero_add _
    | 2 => exact congrArg (fun j => min (J j).toInt.toNat 3) i
  · intro I b w t
    pointwise

theorem order_idx (J : IVec S16x768x1 32) (b : Fin 16) (t : Fin 768) :
    gather_S16x768_S16x768x1_S16x768_n_1_0_0_1_2_11.operandIdx (ix2 b t) J = ix2 b ⟨min (J (ix3 b t 0)).toInt.toNat 767, by omega⟩ := by
  have i : gather_S16x768_S16x768x1_S16x768_n_1_0_0_1_2_11.siIdx (ix2 b t) ⟨0, by decide⟩ = ix3 b t 0 := by
    funext a
    match a with
    | 0 => rfl
    | 1 => rfl
    | 2 => rfl
  funext a
  refine Fin.ext ?_
  match a with
  | 0 => exact Nat.zero_add _
  | 1 => exact congrArg (fun j => min (J j).toInt.toNat 767) i

/-- The tokens in the order of similarity. -/
theorem take_tok (V : Valuation τ sig (Elt F)) (hI : ∀ i, (V (Proc.devRef .tc main_v53) i).toNat < 768) (b : Fin 16) (t : Fin 768) :
    StableHlo.after Gen.hostOps0_18 V (Proc.devRef .tc main_v54) (ix2 b t) =
      V (Proc.devRef .tc main_v44) (ix2 b ⟨(V (Proc.devRef .tc main_v53) (ix2 b t)).toNat, hI _⟩) := by
  after_reads_simp
  exact row_at (hb := bcast_S_S16x768) (q := ![2]) (p := ![0, 1, 2]) (h0 := bcast_S_S16x768x1) (h1 := bcast_S1_S1x1x1_2) (h2 := bcast_S1x1x1_S16x768x1_0_1_2) (hu := h_S_) (hc := shapeCasts_S16x768_S16x768x1) order_idx (fun I b t => by pointwise) (V (Proc.devRef .tc main_v44)) (V (Proc.devRef .tc main_v53)) _ hI b t

/-- Their best windows in the order of similarity. -/
theorem take_best (V : Valuation τ sig (Elt F)) (hI : ∀ i, (V (Proc.devRef .tc main_v53) i).toNat < 768) (b : Fin 16) (t : Fin 768) :
    StableHlo.after Gen.hostOps0_19 V (Proc.devRef .tc main_v55) (ix2 b t) =
      V (Proc.devRef .tc main_v50) (ix2 b ⟨(V (Proc.devRef .tc main_v53) (ix2 b t)).toNat, hI _⟩) := by
  after_reads_simp
  exact row_at (hb := bcast_S_S16x768) (q := ![2]) (p := ![0, 1, 2]) (h0 := bcast_S_S16x768x1) (h1 := bcast_S1_S1x1x1_2) (h2 := bcast_S1x1x1_S16x768x1_0_1_2) (hu := h_S_) (hc := shapeCasts_S16x768_S16x768x1) order_idx (fun I b t => by pointwise) (V (Proc.devRef .tc main_v50)) (V (Proc.devRef .tc main_v53)) _ hI b t

end Cert.KernelIdeal.Whole

namespace Cert.ReferenceIdeal.Whole

open Cert.ReferenceIdeal Cert.ReferenceIdeal.Gen
open Idealize.ShloMosaic Idealize.ShloMosaic.TcCoe Cert.Takes

variable {F : FTy → Type} [FloatOps F]

/-- The kept tokens. -/
theorem take_kept (V : Valuation τ sig (Elt F)) (hI : ∀ i, (V (Proc.devRef .tc main_v55) i).toNat < 768) (b : Fin 16) (t : Fin 256) :
    StableHlo.after ops19 V (Proc.devRef .tc main_v56) (ix2 b t) =
      V (Proc.devRef .tc main_v44) (ix2 b ⟨(V (Proc.devRef .tc main_v55) (ix2 b t)).toNat, hI _⟩) := by
  after_reads_simp
  refine row_at (d := gather_S16x768_S16x256x1_S16x256_n_1_0_0_1_2_11) (hb := bcast_S_S16x256) (q := ![2]) (p := ![0, 1, 2]) (h0 := bcast_S_S16x256x1) (h1 := bcast_S1_S1x1x1_2) (h2 := bcast_S1x1x1_S16x256x1_0_1_2) (hu := h_S_) (hc := shapeCasts_S16x256_S16x256x1) ?_ (fun I b t => by pointwise) (V (Proc.devRef .tc main_v44)) (V (Proc.devRef .tc main_v55)) _ hI b t
  intro J b t
  have i : gather_S16x768_S16x256x1_S16x256_n_1_0_0_1_2_11.siIdx (ix2 b t) ⟨0, by decide⟩ = ix3 b t 0 := by
    funext a
    match a with
    | 0 => rfl
    | 1 => rfl
    | 2 => rfl
  funext a
  refine Fin.ext ?_
  match a with
  | 0 => exact Nat.zero_add _
  | 1 => exact congrArg (fun j => min (J j).toInt.toNat 767) i

theorem pruned_idx (J : IVec S16x512x1 32) (b : Fin 16) (t : Fin 512) :
    gather_S16x768_S16x512x1_S16x512_n_1_0_0_1_2_11.operandIdx (ix2 b t) J = ix2 b ⟨min (J (ix3 b t 0)).toInt.toNat 767, by omega⟩ := by
  have i : gather_S16x768_S16x512x1_S16x512_n_1_0_0_1_2_11.siIdx (ix2 b t) ⟨0, by decide⟩ = ix3 b t 0 := by
    funext a
    match a with
    | 0 => rfl
    | 1 => rfl
    | 2 => rfl
  funext a
  refine Fin.ext ?_
  match a with
  | 0 => exact Nat.zero_add _
  | 1 => exact congrArg (fun j => min (J j).toInt.toNat 767) i

/-- The pruned tokens. -/
theorem take_pruned (V : Valuation τ sig (Elt F)) (hI : ∀ i, (V (Proc.devRef .tc main_v54) i).toNat < 768) (b : Fin 16) (t : Fin 512) :
    StableHlo.after ops20 V (Proc.devRef .tc main_v57) (ix2 b t) =
      V (Proc.devRef .tc main_v44) (ix2 b ⟨(V (Proc.devRef .tc main_v54) (ix2 b t)).toNat, hI _⟩) := by
  after_reads_simp
  exact row_at (hb := bcast_S_S16x512) (q := ![2]) (p := ![0, 1, 2]) (h0 := bcast_S_S16x512x1) (h1 := bcast_S1_S1x1x1_2) (h2 := bcast_S1x1x1_S16x512x1_0_1_2) (hu := h_S_) (hc := shapeCasts_S16x512_S16x512x1) pruned_idx (fun I b t => by pointwise) (V (Proc.devRef .tc main_v44)) (V (Proc.devRef .tc main_v54)) _ hI b t

/-- The windows the pruned tokens are read from. -/
theorem take_pbest (V : Valuation τ sig (Elt F)) (hI : ∀ i, (V (Proc.devRef .tc main_v54) i).toNat < 768) (b : Fin 16) (t : Fin 512) :
    StableHlo.after ops21 V (Proc.devRef .tc main_v58) (ix2 b t) =
      V (Proc.devRef .tc main_v50) (ix2 b ⟨(V (Proc.devRef .tc main_v54) (ix2 b t)).toNat, hI _⟩) := by
  after_reads_simp
  exact row_at (hb := bcast_S_S16x512) (q := ![2]) (p := ![0, 1, 2]) (h0 := bcast_S_S16x512x1) (h1 := bcast_S1_S1x1x1_2) (h2 := bcast_S1x1x1_S16x512x1_0_1_2) (hu := h_S_) (hc := shapeCasts_S16x512_S16x512x1) pruned_idx (fun I b t => by pointwise) (V (Proc.devRef .tc main_v50)) (V (Proc.devRef .tc main_v54)) _ hI b t

/-- The rows of the tokens that stay. -/
theorem take_rows (V : Valuation τ sig (Elt F)) (hI : ∀ i, (V (Proc.devRef .tc main_v60) i).toNat < 1024) (b : Fin 16) (t : Fin 512) (e : Fin 1152) :
    StableHlo.after ops23 V (Proc.devRef .tc main_v61) (ix3 b t e) =
      V (Proc.devRef .tc main_arg0) (ix3 b ⟨(V (Proc.devRef .tc main_v60) (ix3 b t 0)).toNat, hI _⟩ e) := by
  after_reads_simp
  refine token_at (hm := bcast_S16x512_S16x512x1152_0_1) (hb := bcast_S_S16x512x1) (q := ![2]) (p := ![0, 1, 2]) (h0 := bcast_S_S16x512x1) (h1 := bcast_S1_S1x1x1_2) (h2 := bcast_S1x1x1_S16x512x1_0_1_2) (hu := h_S_) (d := gather_S16x1024x1152_S16x512x1_S16x512x1152_2_1_0_0_1_2_111152) ?_ (V (Proc.devRef .tc main_arg0)) (V (Proc.devRef .tc main_v60)) _ hI b t e
  intro J b t e
  have i : gather_S16x1024x1152_S16x512x1_S16x512x1152_2_1_0_0_1_2_111152.siIdx (ix3 b t e) ⟨0, by decide⟩ = ix3 b t 0 := by
    funext a
    match a with
    | 0 => rfl
    | 1 => rfl
    | 2 => rfl
  funext a
  refine Fin.ext ?_
  match a with
  | 0 => exact Nat.zero_add _
  | 1 => exact congrArg (fun j => min (J j).toInt.toNat 1023) i
  | 2 => exact Nat.zero_add _

end Cert.ReferenceIdeal.Whole
-- ==== Proof.Index.lean ====
module

public import proofs.«01_k».proof.Proof.Takes
public import Idealize.ShloMosaic.Lib.SortFacts

@[expose] public section

/-!
The tokens the host chooses: every token is either the kept one of its window or among the others, the
others are sorted once each, and every index is in range.
-/

set_option maxRecDepth 16384

noncomputable section

namespace Cert.KernelIdeal.Whole

open Cert.KernelIdeal Cert.KernelIdeal.Gen
open Idealize.ShloMosaic Idealize.ShloMosaic.TcCoe Cert.Takes

/-! ### The windows -/

/-- The token at place `l` of window `w`. -/
def winPos (w l : ℕ) : ℕ := w / 16 * 64 + l / 2 * 32 + w % 16 * 2 + l % 2

theorem winPos_lt {w l : ℕ} (hw : w < 256) (hl : l < 4) : winPos w l < 1024 := by
  unfold winPos; omega

/-- Every token is in a window. -/
theorem winPos_onto {n : ℕ} (hn : n < 1024) : ∃ w l, w < 256 ∧ l < 4 ∧ winPos w l = n :=
  ⟨n / 64 * 16 + n % 32 / 2, n % 64 / 32 * 2 + n % 2, by omega, by omega, by unfold winPos; omega⟩

/-- The token at place `l` of window `w`, as a word. -/
def win (w l : ℕ) : BitVec 32 := BitVec.ofNat 32 (winPos w l)

theorem win_toNat {w l : ℕ} (hw : w < 256) (hl : l < 4) : (win w l).toNat = winPos w l := by
  rw [win, BitVec.toNat_ofNat]
  exact Nat.mod_eq_of_lt ((winPos_lt hw hl).trans (by norm_num))

/-! ### The place of the greatest value -/

theorem reducer_snd (a b : Ideal .f32 × BitVec 32) :
    (reducer_argmax_f32_i32 a b).2 = a.2 ∨ (reducer_argmax_f32_i32 a b).2 = b.2 := by
  show Scalar.select _ a.2 b.2 = a.2 ∨ Scalar.select _ a.2 b.2 = b.2
  unfold Scalar.select
  split
  · exact Or.inl rfl
  · exact Or.inr rfl

/-- The place of the greatest value is one of the places. -/
theorem place_lt {s t u : Shape} {axes : List (Fin s.rank)} (x : FVec Ideal s .f32) (y : IVec s 32) (ix : u.Idx → Ideal .f32)
    (iy : IVec u 32) (h : s.ReducesTo axes t) (hu : 0 < u.numel) (j : t.Idx) {n : ℕ} (hy : ∀ i, (y i).toNat < n)
    (hi : ∀ i, (iy i).toNat < n) : (Host.argReduce reducer_argmax_f32_i32 x y ix iy h hu j).2.toNat < n := by
  rw [Idealize.ShloMosaic.Ideal.argReduce_eq_reduce2]
  show (List.foldl _ (ix (Shape.Idx.first hu), iy (Shape.Idx.first hu)) _).2.toNat < n
  have key : ∀ (l : List (Fin s.numel)) (p : Ideal .f32 × BitVec 32), p.2.toNat < n →
      (l.foldl (fun r k => reducer_argmax_f32_i32 r (x (s.rowMajor.symm k), y (s.rowMajor.symm k))) p).2.toNat < n := by
    intro l
    induction l with
    | nil => exact fun p hp => hp
    | cons a l ih =>
      intro p hp
      refine ih _ ?_
      rcases reducer_snd p (x (s.rowMajor.symm a), y (s.rowMajor.symm a)) with e | e <;> rw [e]
      · exact hp
      · exact hy _
  exact key _ _ (hi _)

/-! ### Sorting along the last axis -/

theorem sort3_at {α : Type} {a c n : ℕ} (cmp : α → α → BitVec 1) (x : (⟨3, ![a, c, n]⟩ : Shape).Idx → α) (i : Fin a) (j : Fin c) (k : Fin n) :
    Host.sort ⟨3, ![a, c, n]⟩ 2 cmp x (ix3 i j k)
      = x (ix3 i j (sortedFrom (fun l l' => cmp (x (ix3 i j l)) (x (ix3 i j l')) == 1#1) k)) := by
  have h : (fun l : Fin n => x (Shape.Idx.along (s := ⟨3, ![a, c, n]⟩) (ix3 i j k) 2 l)) = fun l => x (ix3 i j l) := by
    funext l
    refine congrArg x (funext fun d => ?_)
    match d with
    | 0 => rfl
    | 1 => rfl
    | 2 => rfl
  exact congrArg (fun f : Fin n → α => f (sortedFrom (fun l l' => cmp (f l) (f l') == 1#1) k)) h

theorem sort2_at {α β : Type} {a n : ℕ} (cmp : α × β → α × β → BitVec 1) (x : (⟨2, ![a, n]⟩ : Shape).Idx → α)
    (y : (⟨2, ![a, n]⟩ : Shape).Idx → β) (i : Fin a) (k : Fin n) :
    (Host.sort2 ⟨2, ![a, n]⟩ 1 cmp x y).2 (ix2 i k)
      = y (ix2 i (sortedFrom (fun l l' => cmp (x (ix2 i l), y (ix2 i l)) (x (ix2 i l'), y (ix2 i l')) == 1#1) k)) := by
  have e : ∀ l : Fin n, Shape.Idx.along (s := ⟨2, ![a, n]⟩) (ix2 i k) 1 l = ix2 i l := by
    intro l
    funext d
    match d with
    | 0 => rfl
    | 1 => rfl
  have h : (fun l : Fin n => (x (Shape.Idx.along (s := ⟨2, ![a, n]⟩) (ix2 i k) 1 l), y (Shape.Idx.along (s := ⟨2, ![a, n]⟩) (ix2 i k) 1 l)))
      = fun l => (x (ix2 i l), y (ix2 i l)) := by
    funext l
    rw [e]
  exact congrArg (fun f : Fin n → α × β => (f (sortedFrom (fun l l' => cmp (f l) (f l') == 1#1) k)).2) h

theorem order_at {α β : Type} {a n : ℕ} (cmp : α × β → α × β → BitVec 1) (x : (⟨2, ![a, n]⟩ : Shape).Idx → α)
    (y : (⟨2, ![a, n]⟩ : Shape).Idx → β) (i : Fin a) :
    ∃ π : Fin n → Fin n, Function.Surjective π ∧ ∀ k, (Host.sort2 ⟨2, ![a, n]⟩ 1 cmp x y).2 (ix2 i k) = y (ix2 i (π k)) :=
  ⟨_, sortedFrom_surjective _, sort2_at cmp x y i⟩

/-! ### What each stretch of host operations finds -/

section Reads

variable (V : Valuation τ sig (Elt Ideal))

theorem read_win (w : Fin 256) (l : Fin 4) :
    StableHlo.after Gen.hostOps0_1 V (Proc.devRef .tc main_v9) (ix2 w l) = win w l := by
  after_reads_simp
  pointwise [win, winPos]

theorem iota_lt {s : Shape} (d : Fin s.rank) {n : ℕ} (h : s.size d ≤ n) (i : s.Idx) : (iotaInDim s 32 d i).toNat < n := by
  show (BitVec.ofNat 32 (i d)).toNat < n
  rw [BitVec.toNat_ofNat]
  exact lt_of_le_of_lt (Nat.mod_le _ _) ((i d).isLt.trans_le h)

theorem read_place (i : S16x256.Idx) : (StableHlo.after Gen.hostOps0_2 V (Proc.devRef .tc main_v29) i).toNat < 4 := by
  after_reads_simp
  refine place_lt _ _ _ _ _ _ _ ?_ ?_
  · intro i
    exact iota_lt (s := S16x256x4) 2 le_rfl i
  · intro i
    exact (by decide : (0#32).toNat < 4)

/-- The best window of each token, as the fold over the windows. -/
theorem best_eq : StableHlo.after Gen.hostOps0_15 V (Proc.devRef .tc main_v50) = fun j => (Host.argReduce (F := Ideal) reducer_argmax_f32_i32
    (V (Proc.devRef .tc main_v49)) (iotaInDim S16x768x256 32 2) (constant S_ .f32 0xFF800000#32) (constantI S_ 32 0#32)
    reducesTo_S16x768x256_S16x768_d2 h_S_ j).2 := by
  after_reads_simp
  rfl

theorem read_best (i : S16x768.Idx) : (StableHlo.after Gen.hostOps0_15 V (Proc.devRef .tc main_v50) i).toNat < 256 := by
  rw [best_eq]
  exact place_lt _ _ _ _ _ _ i (iota_lt (s := S16x768x256) 2 le_rfl) (fun _ => (by decide : (0#32).toNat < 256))

theorem read_wins (b : Fin 16) (w : Fin 256) (l : Fin 4) :
    StableHlo.after Gen.hostOps0_3 V (Proc.devRef .tc main_v30) (ix3 b w l) = V (Proc.devRef .tc main_v9) (ix2 w l) := by
  after_reads_simp
  pointwise

theorem read_place1 (b : Fin 16) (w : Fin 256) (l : Fin 1) :
    StableHlo.after Gen.hostOps0_3 V (Proc.devRef .tc main_v31) (ix3 b w l) = V (Proc.devRef .tc main_v29) (ix2 b w) := by
  after_reads_simp
  pointwise

theorem read_dst (b : Fin 16) (w : Fin 256) :
    StableHlo.after Gen.hostOps0_5 V (Proc.devRef .tc main_v33) (ix2 b w) = V (Proc.devRef .tc main_v32) (ix3 b w 0) := by
  after_reads_simp
  pointwise

/-- The keys of a window whose kept place is `d`: the places, with the number of places at `d`. -/
def key (d : BitVec 32) (l : Fin 4) : BitVec 32 := Scalar.select (IntOp.cmpi .ne (BitVec.ofNat 32 l) d) (BitVec.ofNat 32 l) 4#32

theorem read_key (b : Fin 16) (w : Fin 256) (l : Fin 4) :
    StableHlo.after Gen.hostOps0_6 (StableHlo.after Gen.hostOps0_5 V) (Proc.devRef .tc main_v40) (ix3 b w l) = key (V (Proc.devRef .tc main_v29) (ix2 b w)) l := by
  have e : broadcastInDim S16x256x4 ![0, 1, 2] bcast_S16x256x1_S16x256x4_0_1_2 (broadcastInDim S16x256x1 ![0, 1] bcast_S16x256_S16x256x1_0_1 (V (Proc.devRef .tc main_v29))) (ix3 b w l) = V (Proc.devRef .tc main_v29) (ix2 b w) := by
    pointwise
  after_reads_simp
  refine Eq.trans ?_ (congrArg (fun d => key d l) e)
  rfl

/-- The keys of a window in order. -/
def sortedKey (d : BitVec 32) (k : Fin 4) : BitVec 32 := key d (sortedFrom (fun k k' => comparator_i32_d2 (key d k) (key d k') == 1#1) k)

theorem sortedKey_lt : ∀ d : Fin 4, ∀ k : Fin 3, (sortedKey (BitVec.ofNat 32 d) (k.castLE (by decide))).toNat < 4 := by decide

theorem sortedKey_onto : ∀ d l : Fin 4, l ≠ d → ∃ k : Fin 3, sortedKey (BitVec.ofNat 32 d) (k.castLE (by decide)) = BitVec.ofNat 32 l := by decide

theorem read_sorted (b : Fin 16) (w : Fin 256) (k : Fin 4) (d : BitVec 32) (h : ∀ l, V (Proc.devRef .tc main_v40) (ix3 b w l) = key d l) :
    StableHlo.after Gen.hostOps0_7 V (Proc.devRef .tc main_v41) (ix3 b w k) = sortedKey d k := by
  after_reads_simp
  refine Eq.trans (sort3_at comparator_i32_d2 (V (Proc.devRef .tc main_v40)) b w k) ?_
  exact congrArg (fun f : Fin 4 → BitVec 32 => f (sortedFrom (fun l l' => comparator_i32_d2 (f l) (f l') == 1#1) k)) (funext h)

theorem read_three (b : Fin 16) (w : Fin 256) (k : Fin 3) :
    StableHlo.after Gen.hostOps0_8 V (Proc.devRef .tc main_v42) (ix3 b w k) = V (Proc.devRef .tc main_v41) (ix3 b w (k.castLE (by decide))) := by
  after_reads_simp
  pointwise
  rfl

theorem read_src (b : Fin 16) (i : Fin 768) :
    StableHlo.after Gen.hostOps0_10 V (Proc.devRef .tc main_v44) (ix2 b i) = V (Proc.devRef .tc main_v43) (ix3 b ⟨i / 3, by omega⟩ ⟨i % 3, by omega⟩) := by
  after_reads_simp
  pointwise

/-- The order is one of the positions. -/
theorem read_order (b : Fin 16) : ∃ π : Fin 768 → Fin 768, Function.Surjective π ∧
    ∀ q, StableHlo.after Gen.hostOps0_17 V (Proc.devRef .tc main_v53) (ix2 b q) = BitVec.ofNat 32 (π q) := by
  obtain ⟨π, hπ, e⟩ := order_at (comparator_f32_i32_d1 (F := Ideal)) (V (Proc.devRef .tc main_v52)) (iotaInDim S16x768 32 1) b
  refine ⟨π, hπ, fun q => ?_⟩
  after_reads_simp
  exact e q

end Reads
end Cert.KernelIdeal.Whole
-- ==== Proof.Cover.lean ====
module

public import proofs.«01_k».proof.Proof.Index

@[expose] public section

/-!
The kernel's tokens: the kept tokens and the others together are all the tokens, the order visits every
one of the others, and every index is in range.
-/

set_option maxRecDepth 16384

noncomputable section

namespace Cert.KernelIdeal.Whole

open Cert.KernelIdeal Cert.KernelIdeal.Gen
open Idealize.ShloMosaic Idealize.ShloMosaic.TcCoe Cert.Takes

variable (m : (ℓ : Loc nD τ sig) → Buf (Elt Ideal) ℓ) (c : Dev nD)

/-- The place of the kept token of a window. -/
def place (b : Fin 16) (w : Fin 256) : BitVec 32 := V3 m c main_v29 (ix2 b w)

theorem place_lt4 (b : Fin 16) (w : Fin 256) : (place m c b w).toNat < 4 := read_place (V2 m c) (ix2 b w)

theorem place_word (b : Fin 16) (w : Fin 256) : place m c b w = BitVec.ofNat 32 (⟨(place m c b w).toNat, place_lt4 m c b w⟩ : Fin 4) := by
  simp

theorem wins_at (b : Fin 16) (w : Fin 256) (l : Fin 4) : V4 m c main_v30 (ix3 b w l) = win w l := by
  refine (read_wins (V3 m c) b w l).trans ?_
  refine (congrFun (V3_of m c main_v9 (by decide)) _).trans ?_
  exact read_win (V1 m c) w l

theorem place_at (b : Fin 16) (w : Fin 256) (k : Fin 1) : V4 m c main_v31 (ix3 b w k) = place m c b w :=
  read_place1 (V3 m c) b w k

theorem place_all (i : S16x256x1.Idx) : (V4 m c main_v31 i).toNat < 4 := by
  rw [eq_ix3 i]
  exact (congrArg BitVec.toNat (place_at m c (i 0) (i 1) (i 2))).trans_lt (place_lt4 m c _ _)

theorem wins_later (b : Fin 16) (w : Fin 256) (l : Fin 4) : V9 m c main_v30 (ix3 b w l) = win w l := by
  refine (congrFun (V9_of m c main_v30 (by decide)) _).trans ?_
  refine (congrFun (V8_of m c main_v30 (by decide)) _).trans ?_
  refine (congrFun (V7_of m c main_v30 (by decide)) _).trans ?_
  refine (congrFun (V6_of m c main_v30 (by decide)) _).trans ?_
  refine (congrFun (V5_of m c main_v30 (by decide)) _).trans ?_
  exact wins_at m c b w l

theorem take_step {X : S16x256x4.Idx → BitVec 32} {b : Fin 16} {w : Fin 256} {v d : BitVec 32} (h : v = d) (hv : v.toNat < 4)
    (hX : ∀ l, X (ix3 b w l) = win w l) : X (ix3 b w ⟨v.toNat, hv⟩) = win w d.toNat := by
  subst h
  exact hX _

/-- The kept token of a window. -/
theorem dst_at (b : Fin 16) (w : Fin 256) : V6 m c main_v33 (ix2 b w) = win w (place m c b w).toNat := by
  refine (read_dst (V5 m c) b w).trans ?_
  refine (take_dst (V4 m c) (place_all m c) b w 0).trans ?_
  exact take_step (place_at m c b w 0) _ (wins_at m c b w)

theorem key_at (b : Fin 16) (w : Fin 256) (l : Fin 4) : V7 m c main_v40 (ix3 b w l) = key (place m c b w) l := by
  refine (read_key (V5 m c) b w l).trans ?_
  exact congrArg (fun d => key d l) ((congrFun (V5_of m c main_v29 (by decide)) _).trans (congrFun (V4_of m c main_v29 (by decide)) _))

theorem sorted_at (b : Fin 16) (w : Fin 256) (k : Fin 3) : V9 m c main_v42 (ix3 b w k) = sortedKey (place m c b w) (k.castLE (by decide)) :=
  (read_three (V8 m c) b w k).trans (read_sorted (V7 m c) b w _ _ (key_at m c b w))

theorem sorted_lt4 (b : Fin 16) (w : Fin 256) (k : Fin 3) : (sortedKey (place m c b w) (k.castLE (by decide))).toNat < 4 := by
  rw [place_word]
  exact sortedKey_lt _ k

theorem sorted_all (i : S16x256x3.Idx) : (V9 m c main_v42 i).toNat < 4 := by
  rw [eq_ix3 i]
  exact (congrArg BitVec.toNat (sorted_at m c (i 0) (i 1) (i 2))).trans_lt (sorted_lt4 m c _ _ _)

/-- The other tokens, window by window. -/
theorem src_at (b : Fin 16) (w : Fin 256) (k : Fin 3) (i : Fin 768) (h : i.val = w.val * 3 + k.val) :
    V11 m c main_v44 (ix2 b i) = win w (sortedKey (place m c b w) (k.castLE (by decide))).toNat := by
  have hw : (⟨i / 3, by omega⟩ : Fin 256) = w := Fin.ext (by simp only; omega)
  have hk : (⟨i % 3, by omega⟩ : Fin 3) = k := Fin.ext (by simp only; omega)
  refine (read_src (V10 m c) b i).trans ?_
  rw [hw, hk]
  refine (take_src (V9 m c) (sorted_all m c) b _ _).trans ?_
  exact take_step (sorted_at m c b w k) _ (wins_later m c b w)

theorem dst_lt (b : Fin 16) (w : Fin 256) : (V6 m c main_v33 (ix2 b w)).toNat < 1024 := by
  rw [dst_at, win_toNat w.isLt (place_lt4 m c b w)]
  exact winPos_lt w.isLt (place_lt4 m c b w)

theorem src_lt (b : Fin 16) (i : Fin 768) : (V11 m c main_v44 (ix2 b i)).toNat < 1024 := by
  rw [src_at m c b ⟨i / 3, by omega⟩ ⟨i % 3, by omega⟩ i (by simp only; omega), win_toNat (by simp only; omega) (sorted_lt4 m c _ _ _)]
  exact winPos_lt (by simp only; omega) (sorted_lt4 m c _ _ _)

/-- Every token is the kept one of its window or one of the others. -/
theorem covered (b : Fin 16) {n : ℕ} (hn : n < 1024) :
    (∃ w, (V6 m c main_v33 (ix2 b w)).toNat = n) ∨ ∃ i, (V11 m c main_v44 (ix2 b i)).toNat = n := by
  obtain ⟨w, l, hw, hl, e⟩ := winPos_onto hn
  by_cases h : l = (place m c b ⟨w, hw⟩).toNat
  · refine Or.inl ⟨⟨w, hw⟩, ?_⟩
    rw [dst_at, win_toNat hw (place_lt4 m c b _), ← h]
    exact e
  · have ex : ∀ n : ℕ, n < 4 → ∃ d : Fin 4, d.val = n := fun n hn => ⟨⟨n, hn⟩, rfl⟩
    obtain ⟨d, hd⟩ := ex _ (place_lt4 m c b ⟨w, hw⟩)
    have hp : place m c b ⟨w, hw⟩ = BitVec.ofNat 32 d := by rw [hd]; simp
    have hne : (⟨l, hl⟩ : Fin 4) ≠ d := by
      intro x
      rw [← hd, ← x] at h
      exact h rfl
    obtain ⟨k, hk⟩ := sortedKey_onto d ⟨l, hl⟩ hne
    refine Or.inr ⟨⟨w * 3 + k, by omega⟩, ?_⟩
    rw [src_at m c b ⟨w, hw⟩ k _ rfl, win_toNat hw (sorted_lt4 m c _ _ _), hp, hk]
    rw [BitVec.toNat_ofNat, Nat.mod_eq_of_lt (by simp only; omega)]
    exact e

/-- The window each of the others is most like. -/
def best (b : Fin 16) (i : Fin 768) : BitVec 32 := V16 m c main_v50 (ix2 b i)

theorem best_lt (b : Fin 16) (i : Fin 768) : (best m c b i).toNat < 256 := read_best (V15 m c) (ix2 b i)

/-- The order of the others visits each of them. -/
theorem order_onto (b : Fin 16) : ∃ π : Fin 768 → Fin 768, Function.Surjective π ∧ ∀ q, V18 m c main_v53 (ix2 b q) = BitVec.ofNat 32 (π q) :=
  read_order (V17 m c) b

end Cert.KernelIdeal.Whole
-- ==== Proof.RefArr.lean ====
module

public import proofs.«01_k».proof.Proof.Spec
public import proofs.«01_k».proof.Proof.RefRun

/-! The reference's block as functions of arrays, in the reference's own operations, and their elements
in the terms of the block's arithmetic. -/

@[expose] public section

set_option maxRecDepth 16384

noncomputable section

namespace Cert.ReferenceIdeal.Whole

open Cert.ReferenceIdeal Cert.ReferenceIdeal.Gen
open Idealize.ShloMosaic Idealize.ShloMosaic.TcCoe

/-- Layer normalisation of the rows. -/
def lnA (v61 : FVec Ideal S16x512x1152 .f32) (arg2 : FVec Ideal S1152 .f32) (arg3 : FVec Ideal S1152 .f32) : FVec Ideal S16x512x1152 .f32 :=
  have cst_8 : FVec Ideal S_ .f32 := constant S_ .f32 0x00000000#32
  have v62 : FVec Ideal S16x512 .f32 := Host.reduceAdd v61 cst_8 reducesTo_S16x512x1152_S16x512_d2 h_S_
  have v63 : FVec Ideal S16x512x1 .f32 := broadcastInDim S16x512x1 ![0, 1] bcast_S16x512_S16x512x1_0_1 v62
  have cst_9 : FVec Ideal S_ .f32 := constant S_ .f32 0x44900000#32
  have v64 : FVec Ideal S16x512x1 .f32 := broadcastInDim S16x512x1 ![] bcast_S_S16x512x1 cst_9
  have v65 : FVec Ideal S16x512x1 .f32 := Host.divf v63 v64
  have v66 : FVec Ideal S16x512x1152 .f32 := broadcastInDim S16x512x1152 ![0, 1, 2] bcast_S16x512x1_S16x512x1152_0_1_2 v65
  have v67 : FVec Ideal S16x512x1152 .f32 := subf v61 v66
  have v68 : FVec Ideal S16x512x1152 .f32 := mulf v67 v67
  have cst_10 : FVec Ideal S_ .f32 := constant S_ .f32 0x00000000#32
  have v69 : FVec Ideal S16x512 .f32 := Host.reduceAdd v68 cst_10 reducesTo_S16x512x1152_S16x512_d2 h_S_
  have v70 : FVec Ideal S16x512x1 .f32 := broadcastInDim S16x512x1 ![0, 1] bcast_S16x512_S16x512x1_0_1 v69
  have cst_11 : FVec Ideal S_ .f32 := constant S_ .f32 0x44900000#32
  have v71 : FVec Ideal S16x512x1 .f32 := broadcastInDim S16x512x1 ![] bcast_S_S16x512x1 cst_11
  have v72 : FVec Ideal S16x512x1 .f32 := Host.divf v70 v71
  have v73 : FVec Ideal S16x512x1152 .f32 := broadcastInDim S16x512x1152 ![0, 1, 2] bcast_S16x512x1_S16x512x1152_0_1_2 v65
  have v74 : FVec Ideal S16x512x1152 .f32 := subf v61 v73
  have cst_12 : FVec Ideal S_ .f32 := constant S_ .f32 0x358637BD#32
  have v75 : FVec Ideal S16x512x1 .f32 := broadcastInDim S16x512x1 ![] bcast_S_S16x512x1 cst_12
  have v76 : FVec Ideal S16x512x1 .f32 := addf v72 v75
  have v77 : FVec Ideal S16x512x1 .f32 := Host.rsqrt v76
  have v78 : FVec Ideal S16x512x1152 .f32 := broadcastInDim S16x512x1152 ![0, 1, 2] bcast_S16x512x1_S16x512x1152_0_1_2 v77
  have v79 : FVec Ideal S16x512x1152 .f32 := mulf v74 v78
  have v80 : FVec Ideal S1x1x1152 .f32 := broadcastInDim S1x1x1152 ![2] bcast_S1152_S1x1x1152_2 arg2
  have v81 : FVec Ideal S16x512x1152 .f32 := broadcastInDim S16x512x1152 ![0, 1, 2] bcast_S1x1x1152_S16x512x1152_0_1_2 v80
  have v82 : FVec Ideal S16x512x1152 .f32 := mulf v79 v81
  have v83 : FVec Ideal S1x1x1152 .f32 := broadcastInDim S1x1x1152 ![2] bcast_S1152_S1x1x1152_2 arg3
  have v84 : FVec Ideal S16x512x1152 .f32 := broadcastInDim S16x512x1152 ![0, 1, 2] bcast_S1x1x1152_S16x512x1152_0_1_2 v83
  addf v82 v84

/-- The attention projections of the normalised rows. -/
def qkvA (v85 : FVec Ideal S16x512x1152 .f32) (arg6 : FVec Ideal S1152x3456 .f32) (arg7 : FVec Ideal S3456 .f32) : FVec Ideal S16x512x3456 .f32 :=
  have v86 : FVec Ideal S16x512x3456 .f32 := Host.dotGeneral dot_S16x512x1152_S1152x3456_S16x512x3456_2_0_01_1_n_n none v85 arg6
  have v87 : FVec Ideal S1x1x3456 .f32 := broadcastInDim S1x1x3456 ![2] bcast_S3456_S1x1x3456_2 arg7
  have v88 : FVec Ideal S16x512x3456 .f32 := broadcastInDim S16x512x3456 ![0, 1, 2] bcast_S1x1x3456_S16x512x3456_0_1_2 v87
  addf v86 v88

/-- The scores, by batch and head. -/
def scoreA (v89 : FVec Ideal S16x512x3456 .f32) : FVec Ideal S16x16x512x512 .f32 :=
  have v90 : FVec Ideal S16x512x1152 .f32 := extractStridedSlice S16x512x1152 ![0, 0, 0] v89 slices_S16x512x3456_S16x512x1152_0_0_0
  have v91 : FVec Ideal S16x512x1152 .f32 := extractStridedSlice S16x512x1152 ![0, 0, 1152] v89 slices_S16x512x3456_S16x512x1152_0_0_1152
  have v93 : FVec Ideal S16x512x16x72 .f32 := shapeCast S16x512x16x72 v90 shapeCasts_S16x512x1152_S16x512x16x72
  have v94 : FVec Ideal S16x16x512x72 .f32 := transpose S16x16x512x72 [0, 2, 1, 3] v93 transposes_S16x512x16x72_S16x16x512x72_0_2_1_3
  have v95 : FVec Ideal S16x512x16x72 .f32 := shapeCast S16x512x16x72 v91 shapeCasts_S16x512x1152_S16x512x16x72
  have v96 : FVec Ideal S16x16x512x72 .f32 := transpose S16x16x512x72 [0, 2, 1, 3] v95 transposes_S16x512x16x72_S16x16x512x72_0_2_1_3
  have v99 : FVec Ideal S16x16x512x512 .f32 := Host.dotGeneral dot_S16x16x512x72_S16x16x512x72_S16x16x512x512_3_3_2_2_01_01 none v94 v96
  have cst_13 : FVec Ideal S_ .f32 := constant S_ .f32 0x3DF15BEF#32
  have v100 : FVec Ideal S16x16x512x512 .f32 := broadcastInDim S16x16x512x512 ![] bcast_S_S16x16x512x512 cst_13
  mulf v99 v100

/-- The value rows, by batch and head. -/
def valA (v89 : FVec Ideal S16x512x3456 .f32) : FVec Ideal S16x16x512x72 .f32 :=
  have v92 : FVec Ideal S16x512x1152 .f32 := extractStridedSlice S16x512x1152 ![0, 0, 2304] v89 slices_S16x512x3456_S16x512x1152_0_0_2304
  have v97 : FVec Ideal S16x512x16x72 .f32 := shapeCast S16x512x16x72 v92 shapeCasts_S16x512x1152_S16x512x16x72
  transpose S16x16x512x72 [0, 2, 1, 3] v97 transposes_S16x512x16x72_S16x16x512x72_0_2_1_3

/-- A row's greatest score. -/
def maxA (v101 : FVec Ideal S16x16x512x512 .f32) : FVec Ideal S16x16x512 .f32 :=
  have cst_14 : FVec Ideal S_ .f32 := constant S_ .f32 0xFF800000#32
  Host.reduce FloatOps.maximumf v101 cst_14 reducesTo_S16x16x512x512_S16x16x512_d3 h_S_

/-- The attention weights. -/
def weightA (v101 : FVec Ideal S16x16x512x512 .f32) (v102 : FVec Ideal S16x16x512 .f32) : FVec Ideal S16x16x512x512 .f32 :=
  have cst_15 : FVec Ideal S_ .f32 := constant S_ .f32 0xFF800000#32
  have v103 : FVec Ideal S16x16x512 .f32 := broadcastInDim S16x16x512 ![] bcast_S_S16x16x512 cst_15
  have v104 : FVec Ideal S16x16x512 .f32 := maximumf v103 v102
  have v105 : FVec Ideal S16x16x512x1 .f32 := broadcastInDim S16x16x512x1 ![0, 1, 2] bcast_S16x16x512_S16x16x512x1_0_1_2 v104
  have v106 : FVec Ideal S16x16x512x512 .f32 := broadcastInDim S16x16x512x512 ![0, 1, 2, 3] bcast_S16x16x512x1_S16x16x512x512_0_1_2_3 v105
  have v107 : FVec Ideal S16x16x512x512 .f32 := subf v101 v106
  have v108 : FVec Ideal S16x16x512x512 .f32 := Host.exp v107
  have cst_16 : FVec Ideal S_ .f32 := constant S_ .f32 0x00000000#32
  have v109 : FVec Ideal S16x16x512 .f32 := Host.reduceAdd v108 cst_16 reducesTo_S16x16x512x512_S16x16x512_d3 h_S_
  have v110 : FVec Ideal S16x16x512x1 .f32 := broadcastInDim S16x16x512x1 ![0, 1, 2] bcast_S16x16x512_S16x16x512x1_0_1_2 v109
  have v111 : FVec Ideal S16x16x512x512 .f32 := broadcastInDim S16x16x512x512 ![0, 1, 2, 3] bcast_S16x16x512x1_S16x16x512x512_0_1_2_3 v110
  Host.divf v108 v111

/-- The heads' results, side by side. -/
def attA (v112 : FVec Ideal S16x16x512x512 .f32) (v98 : FVec Ideal S16x16x512x72 .f32) : FVec Ideal S16x512x1152 .f32 :=
  have v113 : FVec Ideal S16x16x512x72 .f32 := Host.dotGeneral dot_S16x16x512x512_S16x16x512x72_S16x16x512x72_3_2_2_3_01_01 none v112 v98
  have v114 : FVec Ideal S16x512x16x72 .f32 := transpose S16x512x16x72 [0, 2, 1, 3] v113 transposes_S16x16x512x72_S16x512x16x72_0_2_1_3
  shapeCast S16x512x1152 v114 shapeCasts_S16x512x16x72_S16x512x1152

/-- The rows after the attention. -/
def residA (v61 : FVec Ideal S16x512x1152 .f32) (v115 : FVec Ideal S16x512x1152 .f32) (arg8 : FVec Ideal S1152x1152 .f32) (arg9 : FVec Ideal S1152 .f32) : FVec Ideal S16x512x1152 .f32 :=
  have v116 : FVec Ideal S16x512x1152 .f32 := Host.dotGeneral dot_S16x512x1152_S1152x1152_S16x512x1152_2_0_01_1_n_n none v115 arg8
  have v117 : FVec Ideal S16x512x1152 .f32 := addf v61 v116
  have v118 : FVec Ideal S1x1x1152 .f32 := broadcastInDim S1x1x1152 ![2] bcast_S1152_S1x1x1152_2 arg9
  have v119 : FVec Ideal S16x512x1152 .f32 := broadcastInDim S16x512x1152 ![0, 1, 2] bcast_S1x1x1152_S16x512x1152_0_1_2 v118
  addf v117 v119

/-- The hidden layer before its activation. -/
def hidA (v144 : FVec Ideal S16x512x1152 .f32) (arg10 : FVec Ideal S1152x4608 .f32) (arg11 : FVec Ideal S4608 .f32) : FVec Ideal S16x512x4608 .f32 :=
  have v145 : FVec Ideal S16x512x4608 .f32 := Host.dotGeneral dot_S16x512x1152_S1152x4608_S16x512x4608_2_0_01_1_n_n none v144 arg10
  have v146 : FVec Ideal S1x1x4608 .f32 := broadcastInDim S1x1x4608 ![2] bcast_S4608_S1x1x4608_2 arg11
  have v147 : FVec Ideal S16x512x4608 .f32 := broadcastInDim S16x512x4608 ![0, 1, 2] bcast_S1x1x4608_S16x512x4608_0_1_2 v146
  addf v145 v147

/-- The activation's inner polynomial. -/
def cubeA (v148 : FVec Ideal S16x512x4608 .f32) : FVec Ideal S16x512x4608 .f32 :=
  have v149 : FVec Ideal S16x512x4608 .f32 := mulf v148 v148
  have v150 : FVec Ideal S16x512x4608 .f32 := mulf v149 v148
  have cst_22 : FVec Ideal S_ .f32 := constant S_ .f32 0x3D372713#32
  have v151 : FVec Ideal S16x512x4608 .f32 := broadcastInDim S16x512x4608 ![] bcast_S_S16x512x4608 cst_22
  have v152 : FVec Ideal S16x512x4608 .f32 := mulf v151 v150
  addf v148 v152

/-- The activation. -/
def actA (v148 : FVec Ideal S16x512x4608 .f32) (v153 : FVec Ideal S16x512x4608 .f32) (cst_23 : FVec Ideal S_ .f32) : FVec Ideal S16x512x4608 .f32 :=
  have v154 : FVec Ideal S16x512x4608 .f32 := broadcastInDim S16x512x4608 ![] bcast_S_S16x512x4608 cst_23
  have v155 : FVec Ideal S16x512x4608 .f32 := mulf v154 v153
  have v156 : FVec Ideal S16x512x4608 .f32 := Host.tanh v155
  have cst_24 : FVec Ideal S_ .f32 := constant S_ .f32 0x3F800000#32
  have v157 : FVec Ideal S16x512x4608 .f32 := broadcastInDim S16x512x4608 ![] bcast_S_S16x512x4608 cst_24
  have v158 : FVec Ideal S16x512x4608 .f32 := addf v157 v156
  have cst_25 : FVec Ideal S_ .f32 := constant S_ .f32 0x3F000000#32
  have v159 : FVec Ideal S16x512x4608 .f32 := broadcastInDim S16x512x4608 ![] bcast_S_S16x512x4608 cst_25
  have v160 : FVec Ideal S16x512x4608 .f32 := mulf v159 v158
  mulf v148 v160

/-- The block's result rows. -/
def outA (v120 : FVec Ideal S16x512x1152 .f32) (v161 : FVec Ideal S16x512x4608 .f32) (arg12 : FVec Ideal S4608x1152 .f32) (arg13 : FVec Ideal S1152 .f32) : FVec Ideal S16x512x1152 .f32 :=
  have v162 : FVec Ideal S16x512x1152 .f32 := Host.dotGeneral dot_S16x512x4608_S4608x1152_S16x512x1152_2_0_01_1_n_n none v161 arg12
  have v163 : FVec Ideal S16x512x1152 .f32 := addf v120 v162
  have v164 : FVec Ideal S1x1x1152 .f32 := broadcastInDim S1x1x1152 ![2] bcast_S1152_S1x1x1152_2 arg13
  have v165 : FVec Ideal S16x512x1152 .f32 := broadcastInDim S16x512x1152 ![0, 1, 2] bcast_S1x1x1152_S16x512x1152_0_1_2 v164
  addf v163 v165

theorem lnA_at (v : FVec Ideal S16x512x1152 .f32) (g b : FVec Ideal S1152 .f32) (i : S16x512x1152.Idx) :
    lnA v g b i = Spec.lnRow (fun e => v (ix3 (i 0) (i 1) e)) (fun e => g (ix1 e)) (fun e => b (ix1 e)) (i 2) := by
  pointwise [lnA, Spec.lnRow, Spec.mean]

theorem qkvA_at (y : FVec Ideal S16x512x1152 .f32) (w : FVec Ideal S1152x3456 .f32) (bq : FVec Ideal S3456 .f32) (i : S16x512x3456.Idx) :
    qkvA y w bq i = (∑ x : Fin 1152, y (ix3 (i 0) (i 1) x) * w (ix2 x (i 2))) + bq (ix1 (i 2)) := by
  pointwise [qkvA]

theorem scoreA_at (p : FVec Ideal S16x512x3456 .f32) (i : S16x16x512x512.Idx) :
    scoreA p i = Spec.score (fun t j => p (ix3 (i 0) t j)) (i 1) (i 2) (i 3) := by
  pointwise [scoreA, Spec.score]

theorem valA_at (p : FVec Ideal S16x512x3456 .f32) (b : Fin 16) (h : Fin 16) (u : Fin 512) (d : Fin 72) :
    valA p (ix4 b h u d) = p (ix3 b u ⟨2304 + (h * 72 + d), by omega⟩) := by
  pointwise [valA]

theorem weightA_at (s : FVec Ideal S16x16x512x512 .f32) (mx : FVec Ideal S16x16x512 .f32) (i : S16x16x512x512.Idx) :
    weightA s mx i = Ideal.div (Ideal.exp (s i - max (Ideal.ofBits FTy.f32 0xFF800000#32) (mx (ix3 (i 0) (i 1) (i 2)))))
      (∑ u : Fin 512, Ideal.exp (s (ix4 (i 0) (i 1) (i 2) u) - max (Ideal.ofBits FTy.f32 0xFF800000#32) (mx (ix3 (i 0) (i 1) (i 2))))) := by
  pointwise [weightA]

theorem attA_at (a : FVec Ideal S16x16x512x512 .f32) (v : FVec Ideal S16x16x512x72 .f32) (i : S16x512x1152.Idx) :
    attA a v i = ∑ u : Fin 512, a (ix4 (i 0) ⟨(i 2).val / 72, by have := (i 2).isLt; simp at this; omega⟩ (i 1) u)
      * v (ix4 (i 0) ⟨(i 2).val / 72, by have := (i 2).isLt; simp at this; omega⟩ u ⟨(i 2).val % 72, Nat.mod_lt _ (by norm_num)⟩) := by
  pointwise [attA]

theorem residA_at (x o : FVec Ideal S16x512x1152 .f32) (w : FVec Ideal S1152x1152 .f32) (b : FVec Ideal S1152 .f32) (i : S16x512x1152.Idx) :
    residA x o w b i = Spec.resid (fun t e => x (ix3 (i 0) t e)) (fun t e => o (ix3 (i 0) t e)) (fun e f => w (ix2 e f)) (fun e => b (ix1 e)) (i 1) (i 2) := by
  pointwise [residA, Spec.resid]

theorem hidA_at (y : FVec Ideal S16x512x1152 .f32) (w : FVec Ideal S1152x4608 .f32) (b : FVec Ideal S4608 .f32) (i : S16x512x4608.Idx) :
    hidA y w b i = (∑ x : Fin 1152, y (ix3 (i 0) (i 1) x) * w (ix2 x (i 2))) + b (ix1 (i 2)) := by
  pointwise [hidA]

theorem actA_at (h : FVec Ideal S16x512x4608 .f32) (i : S16x512x4608.Idx) :
    actA h (cubeA h) (constant S_ .f32 0x3F4C422A#32) i = Spec.gelu (h i) := by
  have e : ∀ x : EReal, x * (x * x) = x * x * x := fun x => mul_comm _ _
  unfold Spec.gelu
  rw [e]
  pointwise [actA, cubeA]

theorem outA_at (x : FVec Ideal S16x512x1152 .f32) (a : FVec Ideal S16x512x4608 .f32) (w : FVec Ideal S4608x1152 .f32) (b : FVec Ideal S1152 .f32) (i : S16x512x1152.Idx) :
    outA x a w b i = x i + (∑ l : Fin 4608, a (ix3 (i 0) (i 1) l) * w (ix2 l (i 2))) + b (ix1 (i 2)) := by
  pointwise [outA]

end Cert.ReferenceIdeal.Whole
-- ==== Proof.RefRead.lean ====
module

public import proofs.«01_k».proof.Proof.RefArr
public import Idealize.ShloMosaic.Lib.StableHlo.RunRead

/-! What the reference's operations leave in the block's buffers. -/

@[expose] public section

set_option maxRecDepth 16384

noncomputable section

namespace Cert.ReferenceIdeal.Whole

open Cert.ReferenceIdeal Cert.ReferenceIdeal.Gen
open Idealize.ShloMosaic Idealize.ShloMosaic.TcCoe

variable (V : Valuation τ sig (Elt Ideal))

theorem read_score : StableHlo.after ops24 V (Proc.devRef .tc main_v101)
    = scoreA (qkvA (lnA (V (Proc.devRef .tc main_v61)) (V (Proc.devRef .tc main_arg2)) (V (Proc.devRef .tc main_arg3)))
        (V (Proc.devRef .tc main_arg6)) (V (Proc.devRef .tc main_arg7))) := by
  after_reads_simp; rfl

theorem read_max : StableHlo.after ops24 V (Proc.devRef .tc main_v102)
    = maxA (scoreA (qkvA (lnA (V (Proc.devRef .tc main_v61)) (V (Proc.devRef .tc main_arg2)) (V (Proc.devRef .tc main_arg3)))
        (V (Proc.devRef .tc main_arg6)) (V (Proc.devRef .tc main_arg7)))) := by
  after_reads_simp; rfl

theorem read_val : StableHlo.after ops24 V (Proc.devRef .tc main_v98)
    = valA (qkvA (lnA (V (Proc.devRef .tc main_v61)) (V (Proc.devRef .tc main_arg2)) (V (Proc.devRef .tc main_arg3)))
        (V (Proc.devRef .tc main_arg6)) (V (Proc.devRef .tc main_arg7))) := by
  after_reads_simp; rfl

theorem read_resid : StableHlo.after ops25 V (Proc.devRef .tc main_v120)
    = residA (V (Proc.devRef .tc main_v61)) (attA (weightA (V (Proc.devRef .tc main_v101)) (V (Proc.devRef .tc main_v102)))
        (V (Proc.devRef .tc main_v98))) (V (Proc.devRef .tc main_arg8)) (V (Proc.devRef .tc main_arg9)) := by
  after_reads_simp; rfl

theorem read_hid : StableHlo.after ops25 V (Proc.devRef .tc main_v148)
    = hidA (lnA (residA (V (Proc.devRef .tc main_v61)) (attA (weightA (V (Proc.devRef .tc main_v101)) (V (Proc.devRef .tc main_v102)))
        (V (Proc.devRef .tc main_v98))) (V (Proc.devRef .tc main_arg8)) (V (Proc.devRef .tc main_arg9)))
        (V (Proc.devRef .tc main_arg4)) (V (Proc.devRef .tc main_arg5))) (V (Proc.devRef .tc main_arg10)) (V (Proc.devRef .tc main_arg11)) := by
  after_reads_simp; rfl

theorem read_cube : StableHlo.after ops25 V (Proc.devRef .tc main_v153)
    = cubeA (StableHlo.after ops25 V (Proc.devRef .tc main_v148)) := by
  after_reads_simp; rfl

theorem read_cst : StableHlo.after ops25 V (Proc.devRef .tc main_cst_23) = constant (F := Ideal) S_ .f32 0x3F4C422A#32 := by
  after_reads_simp

theorem read_out : StableHlo.after ops26 V (Proc.devRef .tc main_v166)
    = outA (V (Proc.devRef .tc main_v120)) (actA (V (Proc.devRef .tc main_v148)) (V (Proc.devRef .tc main_v153)) (V (Proc.devRef .tc main_cst_23)))
        (V (Proc.devRef .tc main_arg12)) (V (Proc.devRef .tc main_arg13)) := by
  after_reads_simp; rfl

end Cert.ReferenceIdeal.Whole
-- ==== Proof.Restore.lean ====
module

public import proofs.«01_k».proof.Proof.RefArr
public import proofs.«01_k».proof.Proof.Takes
public import Idealize.ShloMosaic.Lib.StableHlo.RunRead
public import Idealize.ShloMosaic.Lib.Routing.OpsSet
public import Idealize.ShloMosaic.Lib.Routing.OpsPair

/-!
Putting the block's rows back in their tokens' places. Every token is named once: by its window's choice, among the
kept ones or among the pruned ones. The reference sets the rows one group after another; the kernel sets, in the same
places, the number of the row that each token takes.
-/

@[expose] public section

set_option maxRecDepth 16384

noncomputable section

namespace Cert.Restore

open Idealize.ShloMosaic Idealize.ShloMosaic.Routing

/-- The tokens in order: the windows' choices, the kept ones, the pruned ones. -/
def row (dst kept : Fin 256 → Fin 1024) (pruned : Fin 512 → Fin 1024) (q : Fin 1024) : Fin 1024 :=
  if h : (q : ℕ) < 256 then dst ⟨q, h⟩ else if h' : (q : ℕ) < 512 then kept ⟨q - 256, by omega⟩ else pruned ⟨q - 512, by omega⟩

variable {dst kept : Fin 256 → Fin 1024} {pruned : Fin 512 → Fin 1024}

theorem row_dst (w : Fin 256) : row dst kept pruned ⟨w, by omega⟩ = dst w := by
  unfold row; rw [dif_pos w.isLt]

theorem row_kept (w : Fin 256) : row dst kept pruned ⟨256 + w, by omega⟩ = kept w := by
  unfold row
  rw [dif_neg (by simp), dif_pos (by simp only; omega)]
  exact congrArg kept (Fin.ext (by simp))

theorem row_pruned (t : Fin 512) : row dst kept pruned ⟨512 + t, by omega⟩ = pruned t := by
  unfold row
  rw [dif_neg (by simp only; omega), dif_neg (by simp)]
  exact congrArg pruned (Fin.ext (by simp))

/-- A row's place in the three groups. -/
theorem place (q : Fin 1024) : (∃ w : Fin 256, q = ⟨w, by omega⟩) ∨ (∃ w : Fin 256, q = ⟨256 + w, by omega⟩) ∨ ∃ t : Fin 512, q = ⟨512 + t, by omega⟩ := by
  by_cases h : (q : ℕ) < 256
  · exact .inl ⟨⟨q, h⟩, rfl⟩
  · by_cases h' : (q : ℕ) < 512
    · exact .inr (.inl ⟨⟨q - 256, by omega⟩, Fin.ext (by simp only; omega)⟩)
    · exact .inr (.inr ⟨⟨q - 512, by omega⟩, Fin.ext (by simp only; omega)⟩)

/-- An index in range is the one the guard leaves. -/
theorem guard (x a : BitVec 32) (h : x.toNat < 1024) : Scalar.select (IntOp.cmpi .slt x 0#32) a x = x :=
  wrap_of_lt x a (by omega)

theorem toInt_lt (x : BitVec 32) (h : x.toNat < 1024) : x.toInt = x.toNat := by
  rw [BitVec.toInt_eq_toNat_of_lt (by omega)]

theorem ofNat_lt (b : Fin 16) : (BitVec.ofNat 32 (b : ℕ)).toNat = b := by
  rw [BitVec.toNat_ofNat]; omega

/-- Setting `W` rows of each batch at given tokens: a row is set where its token says. -/
structure Sets {W : ℕ} (d : ScatterDims ⟨3, ![16, 1024, 1152]⟩ ⟨3, ![16, W, 2]⟩ ⟨3, ![16, W, 1152]⟩) : Prop where
  start0 : ∀ (J : IVec ⟨3, ![16, W, 2]⟩ 32) b w e, d.start (ix3 b w e) J 0 = (J (ix3 b w 0)).toInt
  start1 : ∀ (J : IVec ⟨3, ![16, W, 2]⟩ 32) b w e, d.start (ix3 b w e) J 1 = (J (ix3 b w 1)).toInt
  start2 : ∀ (J : IVec ⟨3, ![16, W, 2]⟩ 32) b w e, d.start (ix3 b w e) J 2 = 0
  window0 : ∀ b w e, d.window (ix3 b w e) 0 = 0
  window1 : ∀ b w e, d.window (ix3 b w e) 1 = 0
  window2 : ∀ b w e, d.window (ix3 b w e) 2 = (e : Fin 1152).val

variable {W : ℕ} {d : ScatterDims ⟨3, ![16, 1024, 1152]⟩ ⟨3, ![16, W, 2]⟩ ⟨3, ![16, W, 1152]⟩}

theorem Sets.lands (hs : Sets d) (J : IVec ⟨3, ![16, W, 2]⟩ 32) (b b' : Fin 16) (w : Fin W) (n : Fin 1024) (e e' : Fin 1152) :
    d.resultIdx? (ix3 b w e) J = some (ix3 b' n e') ↔ (J (ix3 b w 0)).toInt = b' ∧ (J (ix3 b w 1)).toInt = n ∧ e = e' := by
  rw [resultIdx?_eq_some]
  constructor
  · intro h
    have a0 := h 0
    have a1 := h 1
    have a2 := h 2
    rw [hs.start0, hs.window0] at a0
    rw [hs.start1, hs.window1] at a1
    rw [hs.start2, hs.window2] at a2
    exact ⟨by simpa using a0, by simpa using a1, Fin.ext (by simpa using a2)⟩
  · rintro ⟨h0, h1, rfl⟩ a
    match a with
    | 0 => rw [hs.start0, hs.window0, h0]; exact add_zero _
    | 1 => rw [hs.start1, hs.window1, h1]; exact add_zero _
    | 2 => rw [hs.start2, hs.window2]; exact zero_add _

/-- The token of an update, where the index pairs name batches and tokens. -/
def Names (J : IVec ⟨3, ![16, W, 2]⟩ 32) (r : Fin 16 → Fin W → Fin 1024) : Prop :=
  ∀ b w, (J (ix3 b w 0)).toInt = (b : ℕ) ∧ (J (ix3 b w 1)).toInt = (r b w : ℕ)

theorem Sets.hit {α : Type} (hs : Sets d) {J : IVec ⟨3, ![16, W, 2]⟩ 32} {r : Fin 16 → Fin W → Fin 1024} (hJ : Names J r)
    (X : (⟨3, ![16, 1024, 1152]⟩ : Shape).Idx → α) (U : (⟨3, ![16, W, 1152]⟩ : Shape).Idx → α) (b : Fin 16) (w : Fin W) (e : Fin 1152)
    (hr : ∀ w', r b w' = r b w → w' = w) : Host.scatter d (fun _ y => y) X J U (ix3 b (r b w) e) = U (ix3 b w e) := by
  refine scatter_set_hit d X J U _ _ (fun k hk => ?_) (ix3 b w e) ((hs.lands J b b w (r b w) e e).2 ⟨(hJ b w).1, (hJ b w).2, rfl⟩)
  rw [eq_ix3 k] at hk ⊢
  obtain ⟨h0, h1, h2⟩ := (hs.lands J (k 0) b (k 1) (r b w) (k 2) e).1 hk
  rw [(hJ (k 0) (k 1)).1] at h0
  rw [(hJ (k 0) (k 1)).2] at h1
  have e0 : k 0 = b := Fin.ext (by exact_mod_cast h0)
  rw [e0] at h1 ⊢
  have e1 : k 1 = w := hr _ (Fin.ext (by exact_mod_cast h1))
  rw [e1, h2]

theorem Sets.skip {α : Type} (hs : Sets d) {J : IVec ⟨3, ![16, W, 2]⟩ 32} {r : Fin 16 → Fin W → Fin 1024} (hJ : Names J r)
    (X : (⟨3, ![16, 1024, 1152]⟩ : Shape).Idx → α) (U : (⟨3, ![16, W, 1152]⟩ : Shape).Idx → α) (b : Fin 16) (n : Fin 1024) (e : Fin 1152)
    (hr : ∀ w', r b w' ≠ n) : Host.scatter d (fun _ y => y) X J U (ix3 b n e) = X (ix3 b n e) := by
  refine scatter_set_miss d X J U _ fun k hk => ?_
  rw [eq_ix3 k] at hk
  obtain ⟨h0, h1, -⟩ := (hs.lands J (k 0) b (k 1) n (k 2) e).1 hk
  rw [(hJ (k 0) (k 1)).1] at h0
  rw [(hJ (k 0) (k 1)).2] at h1
  have e0 : k 0 = b := Fin.ext (by exact_mod_cast h0)
  rw [e0] at h1
  exact hr _ (Fin.ext (by exact_mod_cast h1))

end Cert.Restore

namespace Cert.KernelIdeal.Whole

open Cert.KernelIdeal Cert.KernelIdeal.Gen
open Idealize.ShloMosaic Idealize.ShloMosaic.TcCoe Idealize.ShloMosaic.Routing

variable (V : Valuation τ sig (Elt Ideal))

theorem pair_batch (b : Fin 16) (q : Fin 1024) : (StableHlo.after hostOps0_20 V (Proc.devRef .tc main_v80) : IVec S16x1024x2 32) (ix3 b q 0)
    = Scalar.select (IntOp.cmpi .slt (BitVec.ofNat 32 b) 0#32) (IntOp.addi (BitVec.ofNat 32 b) 16#32) (BitVec.ofNat 32 b) := by
  after_reads_simp
  pointwise

/-- The index pairs' second halves, from the tokens. -/
def tokenPairs (a : IVec S16x1024x1 32) (X : IVec S16x1024 32) : IVec S16x1024x2 32 :=
  concatenate S16x1024x2 2 [⟨S16x1024x1, a⟩, ⟨S16x1024x1, broadcastInDim S16x1024x1 ![0, 1] bcast_S16x1024_S16x1024x1_0_1
    (select (cmpi .slt X (broadcastInDim S16x1024 ![] bcast_S_S16x1024 (constantI S_ 32 0#32)))
      (addi X (broadcastInDim S16x1024 ![] bcast_S_S16x1024 (constantI S_ 32 1024#32))) X)⟩] concatenates_S16x1024x1_S16x1024x1_S16x1024x2_d2

theorem tokenPairs_at (a : IVec S16x1024x1 32) (X : IVec S16x1024 32) (b : Fin 16) (q : Fin 1024) : tokenPairs a X (ix3 b q 1)
    = Scalar.select (IntOp.cmpi .slt (X (ix2 b q)) 0#32) (IntOp.addi (X (ix2 b q)) 1024#32) (X (ix2 b q)) := by
  pointwise [tokenPairs]

theorem pair_array : StableHlo.after hostOps0_20 V (Proc.devRef .tc main_v80)
    = tokenPairs (StableHlo.after hostOps0_20 V (Proc.devRef .tc main_v78)) (StableHlo.after hostOps0_20 V (Proc.devRef .tc main_v62)) := by
  after_reads_simp; rfl

theorem pair_token (b : Fin 16) (q : Fin 1024) : (StableHlo.after hostOps0_20 V (Proc.devRef .tc main_v80) : IVec S16x1024x2 32) (ix3 b q 1)
    = Scalar.select (IntOp.cmpi .slt ((StableHlo.after hostOps0_20 V (Proc.devRef .tc main_v62) : IVec S16x1024 32) (ix2 b q)) 0#32)
        (IntOp.addi ((StableHlo.after hostOps0_20 V (Proc.devRef .tc main_v62) : IVec S16x1024 32) (ix2 b q)) 1024#32)
        ((StableHlo.after hostOps0_20 V (Proc.devRef .tc main_v62) : IVec S16x1024 32) (ix2 b q)) := by
  rw [pair_array, tokenPairs_at]

theorem token_dst (b : Fin 16) (q : Fin 256) : (StableHlo.after hostOps0_20 V (Proc.devRef .tc main_v62) : IVec S16x1024 32) (ix2 b ⟨q, by omega⟩)
    = V (Proc.devRef .tc main_v33) (ix2 b q) := by
  after_reads_simp
  pointwise
  rw [dif_pos (by omega)]
  rfl

theorem token_kept (b : Fin 16) (q : Fin 256) : (StableHlo.after hostOps0_20 V (Proc.devRef .tc main_v62) : IVec S16x1024 32) (ix2 b ⟨256 + q, by omega⟩)
    = V (Proc.devRef .tc main_v54) (ix2 b ⟨512 + q, by omega⟩) := by
  after_reads_simp
  pointwise
  rw [dif_pos (by omega)]
  after_reads_simp
  pointwise

theorem token_pruned (b : Fin 16) (q : Fin 512) : (StableHlo.after hostOps0_20 V (Proc.devRef .tc main_v62) : IVec S16x1024 32) (ix2 b ⟨512 + q, by omega⟩)
    = V (Proc.devRef .tc main_v54) (ix2 b ⟨q, by omega⟩) := by
  after_reads_simp
  pointwise

theorem slot_own (b : Fin 16) (q : Fin 512) : (StableHlo.after hostOps0_20 V (Proc.devRef .tc main_v65) : IVec S16x1024 32) (ix2 b ⟨q, by omega⟩)
    = BitVec.ofNat 32 q := by
  after_reads_simp
  pointwise

theorem slot_best (b : Fin 16) (q : Fin 512) : (StableHlo.after hostOps0_20 V (Proc.devRef .tc main_v65) : IVec S16x1024 32) (ix2 b ⟨512 + q, by omega⟩)
    = V (Proc.devRef .tc main_v55) (ix2 b ⟨q, by omega⟩) := by
  after_reads_simp
  pointwise

theorem slot_scatter : StableHlo.after hostOps0_20 V (Proc.devRef .tc main_v81)
    = Host.scatter scatter_S16x1024_S16x1024x2_S16x1024_n_01_01_2 (fun _ b => b) (StableHlo.after hostOps0_20 V (Proc.devRef .tc main_v66))
        (StableHlo.after hostOps0_20 V (Proc.devRef .tc main_v80)) (StableHlo.after hostOps0_20 V (Proc.devRef .tc main_v65)) := by
  after_reads_simp; rfl

/-- Each token gets its row's number, when the rows name the tokens one by one. -/
theorem slot_at (r : Fin 16 → Fin 1024 → Fin 1024) (hr : ∀ b, Function.Injective (r b))
    (h : ∀ b q, ((StableHlo.after hostOps0_20 V (Proc.devRef .tc main_v62) : IVec S16x1024 32) (ix2 b q)).toNat = r b q) (b : Fin 16) (q : Fin 1024) :
    (StableHlo.after hostOps0_20 V (Proc.devRef .tc main_v81) : IVec S16x1024 32) (ix2 b (r b q))
      = (StableHlo.after hostOps0_20 V (Proc.devRef .tc main_v65) : IVec S16x1024 32) (ix2 b q) := by
  have hl := fun (a : Fin 16) (q : Fin 1024) (b : Fin 16) (n : Fin 1024) =>
    scatter_lands2 scatter_S16x1024_S16x1024x2_S16x1024_n_01_01_2 rfl rfl rfl (StableHlo.after hostOps0_20 V (Proc.devRef .tc main_v80)) a q b n
  have i0 : ∀ (a : Fin 16) (q : Fin 1024), ((StableHlo.after hostOps0_20 V (Proc.devRef .tc main_v80) : IVec S16x1024x2 32) (ix3 a q 0)).toInt = (a : ℕ) := by
    intro a q
    have ha := Restore.ofNat_lt a
    rw [pair_batch, Restore.guard _ _ (by omega), Restore.toInt_lt _ (by omega), ha]
  have i1 : ∀ (a : Fin 16) (q : Fin 1024), ((StableHlo.after hostOps0_20 V (Proc.devRef .tc main_v80) : IVec S16x1024x2 32) (ix3 a q 1)).toInt = (r a q : ℕ) := by
    intro a q
    have ha := h a q
    rw [pair_token, Restore.guard _ _ (by omega), Restore.toInt_lt _ (by omega), ha]
  rw [slot_scatter]
  refine scatter_set_hit _ _ _ _ _ _ (fun k hk => ?_) (ix2 b q) ((hl b q b (r b q)).2 ⟨i0 b q, i1 b q⟩)
  rw [eq_ix2 k] at hk ⊢
  obtain ⟨h0, h1⟩ := (hl (k 0) (k 1) b (r b q)).1 hk
  have h0' := (i0 (k 0) (k 1)).symm.trans h0
  have h1' := (i1 (k 0) (k 1)).symm.trans h1
  have e0 : k 0 = b := Fin.ext (by exact_mod_cast h0')
  rw [e0] at h1' ⊢
  have e1 : k 1 = q := hr b (Fin.ext (by exact_mod_cast h1'))
  rw [e1]

end Cert.KernelIdeal.Whole

namespace Cert.ReferenceIdeal.Whole

open Cert.ReferenceIdeal Cert.ReferenceIdeal.Gen
open Idealize.ShloMosaic Idealize.ShloMosaic.TcCoe

theorem part_batch (b : Fin 16) (w : Fin 256) (e : Fin 1152) :
    scatter_S16x1024x1152_S16x256x2_S16x256x1152_2_01_01_2.siIdx (ix3 b w e) ⟨0, by decide⟩ = ix3 b w 0 := by
  funext a
  match a with
  | 0 => rfl
  | 1 => rfl
  | 2 => rfl

theorem part_token (b : Fin 16) (w : Fin 256) (e : Fin 1152) :
    scatter_S16x1024x1152_S16x256x2_S16x256x1152_2_01_01_2.siIdx (ix3 b w e) ⟨1, by decide⟩ = ix3 b w 1 := by
  funext a
  match a with
  | 0 => rfl
  | 1 => rfl
  | 2 => rfl

theorem sets_part : Restore.Sets scatter_S16x1024x1152_S16x256x2_S16x256x1152_2_01_01_2 :=
  ⟨fun J b w e => congrArg (fun j => (J j).toInt) (part_batch b w e), fun J b w e => congrArg (fun j => (J j).toInt) (part_token b w e),
    fun _ _ _ _ => rfl, fun _ _ _ => rfl, fun _ _ _ => rfl, fun _ _ _ => rfl⟩

theorem pruned_batch (b : Fin 16) (w : Fin 512) (e : Fin 1152) :
    scatter_S16x1024x1152_S16x512x2_S16x512x1152_2_01_01_2.siIdx (ix3 b w e) ⟨0, by decide⟩ = ix3 b w 0 := by
  funext a
  match a with
  | 0 => rfl
  | 1 => rfl
  | 2 => rfl

theorem pruned_token (b : Fin 16) (w : Fin 512) (e : Fin 1152) :
    scatter_S16x1024x1152_S16x512x2_S16x512x1152_2_01_01_2.siIdx (ix3 b w e) ⟨1, by decide⟩ = ix3 b w 1 := by
  funext a
  match a with
  | 0 => rfl
  | 1 => rfl
  | 2 => rfl

theorem sets_pruned : Restore.Sets scatter_S16x1024x1152_S16x512x2_S16x512x1152_2_01_01_2 :=
  ⟨fun J b w e => congrArg (fun j => (J j).toInt) (pruned_batch b w e), fun J b w e => congrArg (fun j => (J j).toInt) (pruned_token b w e),
    fun _ _ _ _ => rfl, fun _ _ _ => rfl, fun _ _ _ => rfl, fun _ _ _ => rfl⟩

theorem best_idx (J : IVec S16x512x2 32) (b : Fin 16) (t : Fin 512) (e : Fin 1152) :
    gather_S16x256x1152_S16x512x2_S16x512x1152_2_01_n_n_01_2_111152.operandIdx (ix3 b t e) J
      = ix3 ⟨min (J (ix3 b t 0)).toInt.toNat 15, by omega⟩ ⟨min (J (ix3 b t 1)).toInt.toNat 255, by omega⟩ e := by
  have i0 : gather_S16x256x1152_S16x512x2_S16x512x1152_2_01_n_n_01_2_111152.siIdx (ix3 b t e) ⟨0, by decide⟩ = ix3 b t 0 := by
    funext a
    match a with
    | 0 => rfl
    | 1 => rfl
    | 2 => rfl
  have i1 : gather_S16x256x1152_S16x512x2_S16x512x1152_2_01_n_n_01_2_111152.siIdx (ix3 b t e) ⟨1, by decide⟩ = ix3 b t 1 := by
    funext a
    match a with
    | 0 => rfl
    | 1 => rfl
    | 2 => rfl
  funext a
  refine Fin.ext ?_
  match a with
  | 0 => exact congrArg (fun j => min (J j).toInt.toNat 15) i0
  | 1 => exact congrArg (fun j => min (J j).toInt.toNat 255) i1
  | 2 => exact Nat.zero_add _

variable (V : Valuation τ sig (Elt Ideal))

theorem set_dst : StableHlo.after ops26 V (Proc.devRef .tc main_v186)
    = Host.scatter scatter_S16x1024x1152_S16x256x2_S16x256x1152_2_01_01_2 (fun _ b => b) (StableHlo.after ops26 V (Proc.devRef .tc main_v171))
        (StableHlo.after ops26 V (Proc.devRef .tc main_v185)) (StableHlo.after ops26 V (Proc.devRef .tc main_v169)) := by
  after_reads_simp; rfl

theorem set_kept : StableHlo.after ops26 V (Proc.devRef .tc main_v201)
    = Host.scatter scatter_S16x1024x1152_S16x256x2_S16x256x1152_2_01_01_2 (fun _ b => b) (StableHlo.after ops26 V (Proc.devRef .tc main_v186))
        (StableHlo.after ops26 V (Proc.devRef .tc main_v200)) (StableHlo.after ops26 V (Proc.devRef .tc main_v170)) := by
  after_reads_simp; rfl

theorem set_pruned : StableHlo.after ops27 V (Proc.devRef .tc main_v231)
    = Host.scatter scatter_S16x1024x1152_S16x512x2_S16x512x1152_2_01_01_2 (fun _ b => b) (V (Proc.devRef .tc main_v201))
        (StableHlo.after ops27 V (Proc.devRef .tc main_v230))
        (Host.gather gather_S16x256x1152_S16x512x2_S16x512x1152_2_01_n_n_01_2_111152 (V (Proc.devRef .tc main_v169))
          (StableHlo.after ops27 V (Proc.devRef .tc main_v215))) := by
  after_reads_simp; rfl

theorem names_dst (dst : Fin 16 → Fin 256 → Fin 1024) (h : ∀ b w, (V (Proc.devRef .tc main_v33) (ix2 b w)).toNat = dst b w) :
    Restore.Names (StableHlo.after ops26 V (Proc.devRef .tc main_v185)) dst := by
  intro b w
  have hb := Restore.ofNat_lt b
  have hw := h b w
  have e0 : (StableHlo.after ops26 V (Proc.devRef .tc main_v185) : IVec S16x256x2 32) (ix3 b w 0)
      = Scalar.select (IntOp.cmpi .slt (BitVec.ofNat 32 b) 0#32) (IntOp.addi (BitVec.ofNat 32 b) 16#32) (BitVec.ofNat 32 b) := by
    after_reads_simp
    pointwise
  have e1 : (StableHlo.after ops26 V (Proc.devRef .tc main_v185) : IVec S16x256x2 32) (ix3 b w 1)
      = Scalar.select (IntOp.cmpi .slt (V (Proc.devRef .tc main_v33) (ix2 b w)) 0#32) (IntOp.addi (V (Proc.devRef .tc main_v33) (ix2 b w)) 1024#32) (V (Proc.devRef .tc main_v33) (ix2 b w)) := by
    after_reads_simp
    pointwise
  exact ⟨by rw [e0, Restore.guard _ _ (by omega), Restore.toInt_lt _ (by omega), hb],
    by rw [e1, Restore.guard _ _ (by omega), Restore.toInt_lt _ (by omega), hw]⟩

theorem names_kept (kept : Fin 16 → Fin 256 → Fin 1024) (h : ∀ b w, (V (Proc.devRef .tc main_v56) (ix2 b w)).toNat = kept b w) :
    Restore.Names (StableHlo.after ops26 V (Proc.devRef .tc main_v200)) kept := by
  intro b w
  have hb := Restore.ofNat_lt b
  have hw := h b w
  have e0 : (StableHlo.after ops26 V (Proc.devRef .tc main_v200) : IVec S16x256x2 32) (ix3 b w 0)
      = Scalar.select (IntOp.cmpi .slt (BitVec.ofNat 32 b) 0#32) (IntOp.addi (BitVec.ofNat 32 b) 16#32) (BitVec.ofNat 32 b) := by
    after_reads_simp
    pointwise
  have e1 : (StableHlo.after ops26 V (Proc.devRef .tc main_v200) : IVec S16x256x2 32) (ix3 b w 1)
      = Scalar.select (IntOp.cmpi .slt (V (Proc.devRef .tc main_v56) (ix2 b w)) 0#32) (IntOp.addi (V (Proc.devRef .tc main_v56) (ix2 b w)) 1024#32) (V (Proc.devRef .tc main_v56) (ix2 b w)) := by
    after_reads_simp
    pointwise
  exact ⟨by rw [e0, Restore.guard _ _ (by omega), Restore.toInt_lt _ (by omega), hb],
    by rw [e1, Restore.guard _ _ (by omega), Restore.toInt_lt _ (by omega), hw]⟩

theorem row_numbers (b : Fin 16) : StableHlo.after ops26 V (Proc.devRef .tc main_v168) (ix2 b 0) = BitVec.ofNat 32 b := by
  after_reads_simp
  pointwise

theorem row_zero : StableHlo.after ops26 V (Proc.devRef .tc main_c_35) ix0 = 0#32 := by
  after_reads_simp
  pointwise

theorem first_rows (b : Fin 16) (w : Fin 256) (e : Fin 1152) : StableHlo.after ops26 V (Proc.devRef .tc main_v169) (ix3 b w e)
    = StableHlo.after ops26 V (Proc.devRef .tc main_v166) (ix3 b ⟨w, by omega⟩ e) := by
  after_reads_simp
  pointwise

theorem last_rows (b : Fin 16) (w : Fin 256) (e : Fin 1152) : StableHlo.after ops26 V (Proc.devRef .tc main_v170) (ix3 b w e)
    = StableHlo.after ops26 V (Proc.devRef .tc main_v166) (ix3 b ⟨256 + w, by omega⟩ e) := by
  after_reads_simp
  pointwise

theorem names_pruned (pruned : Fin 16 → Fin 512 → Fin 1024) (h : ∀ b w, (V (Proc.devRef .tc main_v57) (ix2 b w)).toNat = pruned b w)
    (hb : ∀ b : Fin 16, V (Proc.devRef .tc main_v168) (ix2 b 0) = BitVec.ofNat 32 b) (hc : V (Proc.devRef .tc main_c_35) ix0 = 0#32) :
    Restore.Names (StableHlo.after ops27 V (Proc.devRef .tc main_v230)) pruned := by
  intro b w
  have hn := Restore.ofNat_lt b
  have hw := h b w
  have e0 : (StableHlo.after ops27 V (Proc.devRef .tc main_v230) : IVec S16x512x2 32) (ix3 b w 0)
      = Scalar.select (IntOp.cmpi .slt (V (Proc.devRef .tc main_v168) (ix2 b 0)) 0#32) (IntOp.addi (V (Proc.devRef .tc main_v168) (ix2 b 0)) 16#32) (V (Proc.devRef .tc main_v168) (ix2 b 0)) := by
    after_reads_simp
    pointwise
  have e1 : (StableHlo.after ops27 V (Proc.devRef .tc main_v230) : IVec S16x512x2 32) (ix3 b w 1)
      = Scalar.select (IntOp.cmpi .slt (V (Proc.devRef .tc main_v57) (ix2 b w)) 0#32) (IntOp.addi (V (Proc.devRef .tc main_v57) (ix2 b w)) 1024#32) (V (Proc.devRef .tc main_v57) (ix2 b w)) := by
    after_reads_simp
    pointwise
  exact ⟨by rw [e0, hb, Restore.guard _ _ (by omega), Restore.toInt_lt _ (by omega), hn],
    by rw [e1, Restore.guard _ _ (by omega), Restore.toInt_lt _ (by omega), hw]⟩

/-- The rows the pruned tokens take: their best windows' ones. -/
theorem best_rows (hb : ∀ b : Fin 16, V (Proc.devRef .tc main_v168) (ix2 b 0) = BitVec.ofNat 32 b) (hc : V (Proc.devRef .tc main_c_35) ix0 = 0#32)
    (best : Fin 16 → Fin 512 → Fin 256) (h : ∀ b t, (V (Proc.devRef .tc main_v58) (ix2 b t)).toNat = best b t)
    (X : FVec Ideal S16x256x1152 .f32) (b : Fin 16) (t : Fin 512) (e : Fin 1152) :
    Host.gather gather_S16x256x1152_S16x512x2_S16x512x1152_2_01_n_n_01_2_111152 X (StableHlo.after ops27 V (Proc.devRef .tc main_v215)) (ix3 b t e)
      = X (ix3 b (best b t) e) := by
  have hn := Restore.ofNat_lt b
  have hw := h b t
  have e0 : (StableHlo.after ops27 V (Proc.devRef .tc main_v215) : IVec S16x512x2 32) (ix3 b t 0)
      = Scalar.select (IntOp.cmpi .slt (V (Proc.devRef .tc main_v168) (ix2 b 0)) (V (Proc.devRef .tc main_c_35) ix0)) (IntOp.addi (V (Proc.devRef .tc main_v168) (ix2 b 0)) 16#32) (V (Proc.devRef .tc main_v168) (ix2 b 0)) := by
    after_reads_simp
    pointwise
  have e1 : (StableHlo.after ops27 V (Proc.devRef .tc main_v215) : IVec S16x512x2 32) (ix3 b t 1)
      = Scalar.select (IntOp.cmpi .slt (V (Proc.devRef .tc main_v58) (ix2 b t)) 0#32) (IntOp.addi (V (Proc.devRef .tc main_v58) (ix2 b t)) 256#32) (V (Proc.devRef .tc main_v58) (ix2 b t)) := by
    after_reads_simp
    pointwise
  rw [hb, hc, Restore.guard _ _ (by omega)] at e0
  rw [Restore.guard _ _ (by omega)] at e1
  show X (gather_S16x256x1152_S16x512x2_S16x512x1152_2_01_n_n_01_2_111152.operandIdx (ix3 b t e) _) = _
  rw [best_idx]
  refine congrArg X ?_
  have f0 : (⟨min ((StableHlo.after ops27 V (Proc.devRef .tc main_v215) : IVec S16x512x2 32) (ix3 b t 0)).toInt.toNat 15, by omega⟩ : Fin 16) = b :=
    Fin.ext (by simp only [e0]; rw [Restore.toInt_lt _ (by omega)]; omega)
  have f1 : (⟨min ((StableHlo.after ops27 V (Proc.devRef .tc main_v215) : IVec S16x512x2 32) (ix3 b t 1)).toInt.toNat 255, by omega⟩ : Fin 256) = best b t :=
    Fin.ext (by simp only [e1]; rw [Restore.toInt_lt _ (by omega)]; omega)
  rw [f0, f1]

/-- The restored array, token by token. -/
theorem restored (dst kept : Fin 16 → Fin 256 → Fin 1024) (pruned : Fin 16 → Fin 512 → Fin 1024) (best : Fin 16 → Fin 512 → Fin 256)
    (hr : ∀ b, Function.Injective (Restore.row (dst b) (kept b) (pruned b)))
    (h33 : ∀ b w, (V (Proc.devRef .tc main_v33) (ix2 b w)).toNat = dst b w) (h56 : ∀ b w, (V (Proc.devRef .tc main_v56) (ix2 b w)).toNat = kept b w)
    (h57 : ∀ b w, (StableHlo.after ops26 V (Proc.devRef .tc main_v57) (ix2 b w)).toNat = pruned b w)
    (h58 : ∀ b t, (StableHlo.after ops26 V (Proc.devRef .tc main_v58) (ix2 b t)).toNat = best b t) (b : Fin 16) (e : Fin 1152) :
    (∀ w, StableHlo.after ops27 (StableHlo.after ops26 V) (Proc.devRef .tc main_v231) (ix3 b (dst b w) e)
        = StableHlo.after ops26 V (Proc.devRef .tc main_v166) (ix3 b ⟨w, by omega⟩ e))
    ∧ (∀ w, StableHlo.after ops27 (StableHlo.after ops26 V) (Proc.devRef .tc main_v231) (ix3 b (kept b w) e)
        = StableHlo.after ops26 V (Proc.devRef .tc main_v166) (ix3 b ⟨256 + w, by omega⟩ e))
    ∧ (∀ t, StableHlo.after ops27 (StableHlo.after ops26 V) (Proc.devRef .tc main_v231) (ix3 b (pruned b t) e)
        = StableHlo.after ops26 V (Proc.devRef .tc main_v166) (ix3 b ⟨best b t, by omega⟩ e)) := by
  have np := names_pruned (StableHlo.after ops26 V) pruned h57 (row_numbers V) (row_zero V)
  have nk := names_kept V kept h56
  have nd := names_dst V dst h33
  have gone : ∀ {p q : Fin 1024}, Restore.row (dst b) (kept b) (pruned b) p = Restore.row (dst b) (kept b) (pruned b) q → (p : ℕ) = q :=
    fun h => congrArg Fin.val (hr b h)
  have cast : ∀ {x y x' y' : Fin 1024}, x = y → x' = x → y' = y → x' = y' := fun h h1 h2 => (h1.trans h).trans h2.symm
  refine ⟨fun w => ?_, fun w => ?_, fun t => ?_⟩
  · rw [set_pruned, sets_pruned.skip np _ _ b (dst b w) e fun t h => ?_, set_kept, sets_part.skip nk _ _ b (dst b w) e fun k h => ?_, set_dst,
      sets_part.hit nd _ _ b w e fun k h => ?_, first_rows]
    · have := gone (cast h (Restore.row_dst k) (Restore.row_dst w)); exact Fin.ext this
    · have := gone (cast h (Restore.row_kept k) (Restore.row_dst w)); simp only at this; omega
    · have := gone (cast h (Restore.row_pruned t) (Restore.row_dst w)); simp only at this; omega
  · rw [set_pruned, sets_pruned.skip np _ _ b (kept b w) e fun t h => ?_, set_kept, sets_part.hit nk _ _ b w e fun k h => ?_, last_rows]
    · have := gone (cast h (Restore.row_kept k) (Restore.row_kept w)); exact Fin.ext (by simpa using this)
    · have := gone (cast h (Restore.row_pruned t) (Restore.row_kept w)); simp only at this; omega
  · rw [set_pruned, sets_pruned.hit np _ _ b t e fun k h => ?_, best_rows (StableHlo.after ops26 V) (row_numbers V) (row_zero V) best h58, first_rows]
    have := gone (cast h (Restore.row_pruned k) (Restore.row_pruned t)); exact Fin.ext (by simpa using this)

end Cert.ReferenceIdeal.Whole
-- ==== Proof.Finite.lean ====
module

public import proofs.«01_k».proof.Proof.RefArr
public import Idealize.ShloMosaic.Lib.SortNet.Extract

/-!
Softmax on finite scores. Subtracting a row's greatest score from all its scores changes no weight when the scores are
finite, and they are when the inputs of the attention are.
-/

@[expose] public section

set_option maxRecDepth 16384

noncomputable section

namespace Cert.Spec

open Idealize.ShloMosaic

/-- A number that is neither infinity. -/
def Fin' (v : EReal) : Prop := ∃ r : ℝ, v = (r : EReal)

theorem Fin'.add {a b : EReal} : Fin' a → Fin' b → Fin' (a + b)
  | ⟨r, hr⟩, ⟨s, hs⟩ => ⟨r + s, by rw [hr, hs, EReal.coe_add]⟩

theorem Fin'.sub {a b : EReal} : Fin' a → Fin' b → Fin' (a - b)
  | ⟨r, hr⟩, ⟨s, hs⟩ => ⟨r - s, by rw [hr, hs, EReal.coe_sub]⟩

theorem Fin'.mul {a b : EReal} : Fin' a → Fin' b → Fin' (a * b)
  | ⟨r, hr⟩, ⟨s, hs⟩ => ⟨r * s, by rw [hr, hs, EReal.coe_mul]⟩

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem Fin'.sum {n : ℕ} {f : Fin n → EReal} (h : ∀ i, Fin' (f i)) : Fin' (∑ i, f i) := by
  choose g hg using h
  exact ⟨∑ i, g i, by rw [coe_sum]; exact Finset.sum_congr rfl fun i _ => hg i⟩

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem cols_eq : cols = ((1152 : ℝ) : EReal) := by
  show Ideal.ofBits FTy.f32 0x44900000#32 = _
  simp [Ideal.ofBits, Ideal.ieee, -EReal.coe_mul]; norm_num

theorem eps_pos : ∃ r : ℝ, 0 < r ∧ eps = (r : EReal) := by
  refine ⟨_, ?_, by
    show Ideal.ofBits FTy.f32 0x358637BD#32 = _
    simp [Ideal.ofBits, Ideal.ieee, -EReal.coe_mul]
    rfl⟩
  norm_num

theorem scale_fin : Fin' scale := by
  refine ⟨_, by
    show Ideal.ofBits FTy.f32 0x3DF15BEF#32 = _
    simp [Ideal.ofBits, Ideal.ieee, -EReal.coe_mul]
    rfl⟩

theorem ninf_eq : Ideal.ofBits FTy.f32 0xFF800000#32 = (⊥ : EReal) := by
  simp [Ideal.ofBits, Ideal.ieee]

theorem mean_fin {v : Fin 1152 → EReal} (h : ∀ i, Fin' (v i)) : Fin' (mean v) := by
  obtain ⟨r, hr⟩ := Fin'.sum h
  exact ⟨r / 1152, by unfold mean; rw [hr, cols_eq, div_coe _ _ (by norm_num)]⟩

theorem lnRow_fin {v g b : Fin 1152 → EReal} (h : ∀ i, Fin' (v i)) (hg : ∀ i, Fin' (g i)) (hb : ∀ i, Fin' (b i)) (j : Fin 1152) :
    Fin' (lnRow v g b j) := by
  have hm := mean_fin h
  choose f hf using fun i => (h i).sub hm
  obtain ⟨ε, hε, he⟩ := eps_pos
  have hs : ∑ x, (v x - mean v) * (v x - mean v) = ((∑ x, f x * f x : ℝ) : EReal) := by
    rw [coe_sum]
    exact Finset.sum_congr rfl fun x _ => by rw [hf, EReal.coe_mul]
  have h0 : 0 ≤ ∑ x, f x * f x := Finset.sum_nonneg fun x _ => mul_self_nonneg _
  have hr : Fin' (Ideal.rsqrt (Ideal.div (∑ x, (v x - mean v) * (v x - mean v)) cols + eps)) := by
    rw [hs, cols_eq, div_coe _ _ (by norm_num), he, ← EReal.coe_add]
    have hp : 0 < (∑ x, f x * f x) / 1152 + ε := by positivity
    refine ⟨(Real.sqrt ((∑ x, f x * f x) / 1152 + ε))⁻¹, ?_⟩
    show (if _ < _ then _ else if _ = _ then _ else _) = _
    rw [if_neg (not_lt.2 hp.le), if_neg hp.ne']
  exact ((((h j).sub hm).mul hr).mul (hg j)).add (hb j)

theorem qkv_fin {xk : Fin 512 → Fin 1152 → EReal} {g b : Fin 1152 → EReal} {w : Fin 1152 → Fin 3456 → EReal} {bq : Fin 3456 → EReal}
    (hx : ∀ t i, Fin' (xk t i)) (hg : ∀ i, Fin' (g i)) (hb : ∀ i, Fin' (b i)) (hw : ∀ i j, Fin' (w i j)) (hq : ∀ j, Fin' (bq j))
    (t : Fin 512) (j : Fin 3456) : Fin' (qkv xk g b w bq t j) :=
  (Fin'.sum fun x => (lnRow_fin (hx t) hg hb x).mul (hw x j)).add (hq j)

theorem score_fin {p : Fin 512 → Fin 3456 → EReal} (hp : ∀ t j, Fin' (p t j)) (h : Fin 16) (t u : Fin 512) : Fin' (score p h t u) :=
  (Fin'.sum fun d => (hp _ _).mul (hp _ _)).mul scale_fin

/-- A shift of finite scores leaves the weights. -/
theorem softmax_shift {n : ℕ} {s : Fin n → EReal} (hs : ∀ i, Fin' (s i)) {M : EReal} (hM : Fin' M) (t : Fin n) :
    Ideal.div (Ideal.exp (s t - M)) (∑ u, Ideal.exp (s u - M)) = Ideal.div (Ideal.exp (s t)) (∑ u, Ideal.exp (s u)) := by
  choose r hr using hs
  obtain ⟨m, rfl⟩ := hM
  have e1 : ∀ u, Ideal.exp (s u - m) = ((Real.exp (r u - m) : ℝ) : EReal) := fun u => by
    rw [hr, ← EReal.coe_sub]; rfl
  have e2 : ∀ u, Ideal.exp (s u) = ((Real.exp (r u) : ℝ) : EReal) := fun u => by
    rw [hr]; rfl
  simp only [e1, e2]
  rw [← coe_sum, ← coe_sum]
  have p1 : 0 < ∑ u, Real.exp (r u - m) := Finset.sum_pos (fun _ _ => Real.exp_pos _) ⟨t, Finset.mem_univ _⟩
  have p2 : 0 < ∑ u, Real.exp (r u) := Finset.sum_pos (fun _ _ => Real.exp_pos _) ⟨t, Finset.mem_univ _⟩
  rw [div_coe _ _ p1.ne', div_coe _ _ p2.ne']
  refine congrArg _ ?_
  have e3 : ∑ u, Real.exp (r u - m) = (∑ u, Real.exp (r u)) / Real.exp m := by
    rw [Finset.sum_div]
    exact Finset.sum_congr rfl fun u _ => Real.exp_sub _ _
  rw [e3, Real.exp_sub]
  have := (Real.exp_pos m).ne'
  field_simp

end Cert.Spec

namespace Cert.ReferenceIdeal.Whole

open Cert.ReferenceIdeal Cert.ReferenceIdeal.Gen
open Idealize.ShloMosaic Idealize.ShloMosaic.TcCoe

/-- The greatest of finite scores is finite. -/
theorem maxA_fin (s : FVec Ideal S16x16x512x512 .f32) (hs : ∀ i, Spec.Fin' (s i)) (b : Fin 16) (h : Fin 16) (t : Fin 512) :
    Spec.Fin' (max (Ideal.ofBits FTy.f32 0xFF800000#32) (maxA s (ix3 b h t))) := by
  rw [Spec.ninf_eq, max_eq_right bot_le]
  have key : ∀ (l : List (Fin S16x16x512x512.numel)) (f : Fin S16x16x512x512.numel → EReal) (hf : ∀ n, Spec.Fin' (f n)) (z : EReal) (hz : z = ⊥ ∨ Spec.Fin' z)
      (hl : l ≠ [] ∨ Spec.Fin' z), Spec.Fin' (l.foldl (fun r n => max r (f n)) z) := by
    intro l f hf
    induction l with
    | nil => intro z hz hl; exact hl.resolve_left (fun h => h rfl)
    | cons a l ih =>
      intro z hz hl
      have : Spec.Fin' (max z (f a)) := by
        rcases hz with rfl | hz
        · rw [max_eq_right bot_le]; exact hf a
        · rcases max_choice z (f a) with e | e <;> rw [e]
          · exact hz
          · exact hf a
      exact ih _ (.inr this) (.inr this)
  refine key _ (fun n => s (S16x16x512x512.rowMajor.symm n)) (fun n => hs _) _ (.inl Spec.ninf_eq) (.inl ?_)
  refine List.ne_nil_of_mem (a := S16x16x512x512.rowMajor (ix4 b h t 0)) (List.mem_filter.2 ⟨List.mem_finRange _, ?_⟩)
  rw [decide_eq_true_eq, Equiv.symm_apply_apply]
  funext a
  match a with
  | 0 => rfl
  | 1 => rfl
  | 2 => rfl

theorem weightA_fin (s : FVec Ideal S16x16x512x512 .f32) (hs : ∀ i, Spec.Fin' (s i)) (i : S16x16x512x512.Idx) :
    weightA s (maxA s) i = Ideal.div (Ideal.exp (s i)) (∑ u : Fin 512, Ideal.exp (s (ix4 (i 0) (i 1) (i 2) u))) := by
  rw [weightA_at]
  have := Spec.softmax_shift (s := fun u : Fin 512 => s (ix4 (i 0) (i 1) (i 2) u)) (fun u => hs _) (maxA_fin s hs (i 0) (i 1) (i 2)) (i 3)
  have e : (ix4 (i 0) (i 1) (i 2) (i 3) : S16x16x512x512.Idx) = i := (eq_ix4 i).symm
  simp only [e] at this
  exact this

end Cert.ReferenceIdeal.Whole
-- ==== Proof.RefOut.lean ====
module

public import proofs.«01_k».proof.Proof.RefRead
public import proofs.«01_k».proof.Proof.Restore
public import proofs.«01_k».proof.Proof.Finite
public import proofs.«01_k».proof.Proof.Takes

/-! What the reference leaves in its result, token by token, given the tokens it chose. -/

@[expose] public section

set_option maxRecDepth 16384

noncomputable section

namespace Cert.ReferenceIdeal.Whole

open Cert.ReferenceIdeal Cert.ReferenceIdeal.Gen
open Idealize.ShloMosaic Idealize.ShloMosaic.TcCoe

/-- The attention on finite inputs, in the reference's operations. -/
theorem att_fin (v : FVec Ideal S16x512x1152 .f32) (g b : FVec Ideal S1152 .f32) (w : FVec Ideal S1152x3456 .f32) (bq : FVec Ideal S3456 .f32)
    (hv : ∀ i, Spec.Fin' (v i)) (hg : ∀ i, Spec.Fin' (g i)) (hb : ∀ i, Spec.Fin' (b i)) (hw : ∀ i, Spec.Fin' (w i)) (hq : ∀ i, Spec.Fin' (bq i))
    (i : S16x512x1152.Idx) :
    attA (weightA (scoreA (qkvA (lnA v g b) w bq)) (maxA (scoreA (qkvA (lnA v g b) w bq)))) (valA (qkvA (lnA v g b) w bq)) i
      = Spec.attPlain (Spec.qkv (fun t e => v (ix3 (i 0) t e)) (fun e => g (ix1 e)) (fun e => b (ix1 e)) (fun x j => w (ix2 x j)) (fun j => bq (ix1 j))) (i 1) (i 2) := by
  have hp : ∀ (a : Fin 16) (t : Fin 512) (j : Fin 3456), qkvA (lnA v g b) w bq (ix3 a t j)
      = Spec.qkv (fun t e => v (ix3 a t e)) (fun e => g (ix1 e)) (fun e => b (ix1 e)) (fun x j => w (ix2 x j)) (fun j => bq (ix1 j)) t j := fun a t j => by
    rw [qkvA_at]
    simp only [lnA_at]
    rfl
  have hpf : ∀ (a : Fin 16) (t : Fin 512) (j : Fin 3456), Spec.Fin' (qkvA (lnA v g b) w bq (ix3 a t j)) := fun a t j => by
    rw [hp]
    exact Spec.qkv_fin (fun t i => hv _) (fun i => hg _) (fun i => hb _) (fun i j => hw _) (fun j => hq _) t j
  have hs : ∀ k, Spec.Fin' (scoreA (qkvA (lnA v g b) w bq) k) := fun k => by
    rw [scoreA_at]
    exact Spec.score_fin (fun t j => hpf _ t j) _ _ _
  rw [attA_at]
  have hf := fun (a : Fin 16) => (funext fun t => funext fun j => hp a t j :
    (fun (t : Fin 512) (j : Fin 3456) => qkvA (lnA v g b) w bq (ix3 a t j)) = _)
  unfold Spec.attPlain
  refine Finset.sum_congr rfl fun u _ => congrArg₂ _ ?_ ?_
  · rw [weightA_fin _ hs]
    simp only [scoreA_at]
    have e := hf (i 0)
    rw [← e]
    rfl
  · refine (valA_at _ _ _ _ _).trans ((hp _ _ _).trans (congrArg (Spec.qkv _ _ _ _ _ u) (Fin.ext ?_)))
    show 2304 + (((i 2 : Fin 1152) : ℕ) / 72 * 72 + ((i 2 : Fin 1152) : ℕ) % 72) = 2304 + ((i 2 : Fin 1152) : ℕ)
    rw [Nat.div_add_mod']

theorem block_arr (x : FVec Ideal S16x512x1152 .f32) (g b : FVec Ideal S1152 .f32) (w : FVec Ideal S1152x4608 .f32) (b1 : FVec Ideal S4608 .f32)
    (w2 : FVec Ideal S4608x1152 .f32) (b2 : FVec Ideal S1152 .f32) (i : S16x512x1152.Idx) :
    outA x (actA (hidA (lnA x g b) w b1) (cubeA (hidA (lnA x g b) w b1)) (constant S_ .f32 0x3F4C422A#32)) w2 b2 i
      = Spec.block (fun t e => x (ix3 (i 0) t e)) (fun e => g (ix1 e)) (fun e => b (ix1 e)) (fun x l => w (ix2 x l)) (fun l => b1 (ix1 l))
          (fun l e => w2 (ix2 l e)) (fun e => b2 (ix1 e)) (i 1) (i 2) := by
  rw [outA_at]
  simp only [actA_at, hidA_at, lnA_at]
  rw [eq_ix3 i]
  rfl

variable (m : (ℓ : Loc nD τ sig) → Buf (Elt Ideal) ℓ) (c : Dev nD)

/-- The arguments, kept to the end. -/
theorem args24 : ∀ a ∈ argRefs, W24 m c (Proc.devRef .tc a) = m ((c : Thread nD τ).loc a) := fun a ha =>
  ((W28_of m c a (apart (by decide +kernel) ha)).trans <| (W27_of m c a (apart (by decide +kernel) ha)).trans <|
    (W26_of m c a (apart (by decide +kernel) ha)).trans (W25_of m c a (apart (by decide +kernel) ha))).symm.trans (W28_args m c a ha)

theorem args23 : ∀ a ∈ argRefs, W23 m c (Proc.devRef .tc a) = m ((c : Thread nD τ).loc a) := fun a ha =>
  (W24_of m c a (apart (by decide +kernel) ha)).symm.trans (args24 m c a ha)

theorem args25 : ∀ a ∈ argRefs, W25 m c (Proc.devRef .tc a) = m ((c : Thread nD τ).loc a) := fun a ha =>
  (W25_of m c a (apart (by decide +kernel) ha)).trans (args24 m c a ha)

theorem args26 : ∀ a ∈ argRefs, W26 m c (Proc.devRef .tc a) = m ((c : Thread nD τ).loc a) := fun a ha =>
  (W26_of m c a (apart (by decide +kernel) ha)).trans (args25 m c a ha)

/-- The kept rows of the reference. -/
abbrev rows : FVec Ideal S16x512x1152 .f32 := W24 m c (Proc.devRef .tc main_v61)

abbrev arg (a : Ref sig .tc) := m ((c : Thread nD τ).loc a)

/-- The reference's block on its kept rows. -/
theorem block_out (hx : ∀ i, Spec.Fin' (rows m c i)) (hg : ∀ i, Spec.Fin' (arg m c main_arg2 i)) (hb : ∀ i, Spec.Fin' (arg m c main_arg3 i))
    (hw : ∀ i, Spec.Fin' (arg m c main_arg6 i)) (hq : ∀ i, Spec.Fin' (arg m c main_arg7 i)) (a : Fin 16) (t : Fin 512) (e : Fin 1152) :
    W27 m c (Proc.devRef .tc main_v166) (ix3 a t e)
      = Spec.block (Spec.resid (fun t e => rows m c (ix3 a t e))
          (Spec.attPlain (Spec.qkv (fun t e => rows m c (ix3 a t e)) (fun e => arg m c main_arg2 (ix1 e)) (fun e => arg m c main_arg3 (ix1 e))
            (fun x j => arg m c main_arg6 (ix2 x j)) (fun j => arg m c main_arg7 (ix1 j))))
          (fun x j => arg m c main_arg8 (ix2 x j)) (fun j => arg m c main_arg9 (ix1 j)))
        (fun e => arg m c main_arg4 (ix1 e)) (fun e => arg m c main_arg5 (ix1 e)) (fun x l => arg m c main_arg10 (ix2 x l)) (fun l => arg m c main_arg11 (ix1 l))
        (fun l e => arg m c main_arg12 (ix2 l e)) (fun e => arg m c main_arg13 (ix1 e)) t e := by
  have e2 := args24 m c main_arg2 (by decide +kernel)
  have e3 := args24 m c main_arg3 (by decide +kernel)
  have e6 := args24 m c main_arg6 (by decide +kernel)
  have e7 := args24 m c main_arg7 (by decide +kernel)
  have e8 := args25 m c main_arg8 (by decide +kernel)
  have e9 := args25 m c main_arg9 (by decide +kernel)
  have e4 := args25 m c main_arg4 (by decide +kernel)
  have e5 := args25 m c main_arg5 (by decide +kernel)
  have e10 := args25 m c main_arg10 (by decide +kernel)
  have e11 := args25 m c main_arg11 (by decide +kernel)
  have e12 := args26 m c main_arg12 (by decide +kernel)
  have e13 := args26 m c main_arg13 (by decide +kernel)
  have k61 := W25_of m c main_v61 (by decide +kernel)
  have r1 : W25 m c (Proc.devRef .tc main_v101) = _ := read_score (W24 m c)
  have r2 : W25 m c (Proc.devRef .tc main_v102) = _ := read_max (W24 m c)
  have r3 : W25 m c (Proc.devRef .tc main_v98) = _ := read_val (W24 m c)
  rw [e2, e3, e6, e7] at r1 r2 r3
  have r4 : W26 m c (Proc.devRef .tc main_v120) = _ := read_resid (W25 m c)
  have r5 : W26 m c (Proc.devRef .tc main_v148) = _ := read_hid (W25 m c)
  have r6 : W26 m c (Proc.devRef .tc main_v153) = cubeA (W26 m c (Proc.devRef .tc main_v148)) := read_cube (W25 m c)
  have r7 : W26 m c (Proc.devRef .tc main_cst_23) = _ := read_cst (W25 m c)
  have r8 : W27 m c (Proc.devRef .tc main_v166) = _ := read_out (W26 m c)
  rw [← r4] at r5
  rw [r1, r2, r3, k61, e8, e9] at r4
  rw [e4, e5, e10, e11] at r5
  rw [r6, r7, r5, e12, e13] at r8
  rw [r8, block_arr]
  have hr : ∀ t e, W26 m c (Proc.devRef .tc main_v120) (ix3 a t e)
      = Spec.resid (fun t e => rows m c (ix3 a t e))
          (Spec.attPlain (Spec.qkv (fun t e => rows m c (ix3 a t e)) (fun e => arg m c main_arg2 (ix1 e)) (fun e => arg m c main_arg3 (ix1 e))
            (fun x j => arg m c main_arg6 (ix2 x j)) (fun j => arg m c main_arg7 (ix1 j))))
          (fun x j => arg m c main_arg8 (ix2 x j)) (fun j => arg m c main_arg9 (ix1 j)) t e := fun t e => by
    rw [r4, residA_at]
    simp only [att_fin _ _ _ _ _ hx hg hb hw hq]
    rfl
  refine congrArg (fun x => Spec.block x _ _ _ _ _ _ t e) (funext fun t => funext fun e => hr t e)

end Cert.ReferenceIdeal.Whole
-- ==== Proof.RefResult.lean ====
module

public import proofs.«01_k».proof.Proof.RefOut

/-! The reference's result at every token, given what its choice of tokens is. -/

@[expose] public section

set_option maxRecDepth 16384

noncomputable section

namespace Cert.Restore

/-- The tokens in order, as the programs chose them. -/
def rowOf (dst : Fin 16 → Fin 256 → Fin 1024) (src : Fin 16 → Fin 768 → Fin 1024) (ord : Fin 16 → Fin 768 → Fin 768) (b : Fin 16) : Fin 1024 → Fin 1024 :=
  row (dst b) (fun w => src b (ord b ⟨512 + w, by omega⟩)) (fun t => src b (ord b ⟨t, by omega⟩))

/-- The row each token takes. -/
def takes (near : Fin 16 → Fin 768 → Fin 256) (ord : Fin 16 → Fin 768 → Fin 768) (b : Fin 16) (q : Fin 1024) : Fin 512 :=
  if h : (q : ℕ) < 512 then ⟨q, h⟩ else ⟨near b (ord b ⟨q - 512, by omega⟩), by omega⟩

section
variable (dst : Fin 16 → Fin 256 → Fin 1024) (src : Fin 16 → Fin 768 → Fin 1024) (near : Fin 16 → Fin 768 → Fin 256)
  (ord : Fin 16 → Fin 768 → Fin 768) (b : Fin 16)

theorem rowOf_dst (w : Fin 256) : rowOf dst src ord b ⟨w, by omega⟩ = dst b w := row_dst w

theorem rowOf_kept (w : Fin 256) : rowOf dst src ord b ⟨256 + w, by omega⟩ = src b (ord b ⟨512 + w, by omega⟩) :=
  row_kept (dst := dst b) (kept := fun w => src b (ord b ⟨512 + w, by omega⟩)) (pruned := fun t => src b (ord b ⟨t, by omega⟩)) w

theorem rowOf_pruned (t : Fin 512) : rowOf dst src ord b ⟨512 + t, by omega⟩ = src b (ord b ⟨t, by omega⟩) :=
  row_pruned (dst := dst b) (kept := fun w => src b (ord b ⟨512 + w, by omega⟩)) (pruned := fun t => src b (ord b ⟨t, by omega⟩)) t

theorem takes_own (t : Fin 512) : takes near ord b ⟨t, by omega⟩ = t := dif_pos (by simp only; omega)

theorem takes_best (t : Fin 512) : takes near ord b ⟨512 + t, by omega⟩ = ⟨near b (ord b ⟨t, by omega⟩), by omega⟩ := by
  unfold takes
  rw [dif_neg (by simp only; omega)]
  exact Fin.ext (congrArg (fun k => (near b (ord b k) : ℕ)) (Fin.ext (by simp)))

end

end Cert.Restore

namespace Cert.ReferenceIdeal.Whole

open Cert.ReferenceIdeal Cert.ReferenceIdeal.Gen
open Idealize.ShloMosaic Idealize.ShloMosaic.TcCoe
open Cert.Restore (rowOf takes)

section Reads
variable (V : Valuation τ sig (Elt Ideal))

theorem order_first (b : Fin 16) (t : Fin 512) : StableHlo.after ops18 V (Proc.devRef .tc main_v54) (ix2 b t)
    = V (Proc.devRef .tc main_v53) (ix2 b ⟨t, by omega⟩) := by
  after_reads_simp
  pointwise

theorem order_last (b : Fin 16) (w : Fin 256) : StableHlo.after ops18 V (Proc.devRef .tc main_v55) (ix2 b w)
    = V (Proc.devRef .tc main_v53) (ix2 b ⟨512 + w, by omega⟩) := by
  after_reads_simp
  pointwise

theorem rows_dst (b : Fin 16) (w : Fin 256) : StableHlo.after ops22 V (Proc.devRef .tc main_v60) (ix3 b ⟨w, by omega⟩ 0)
    = V (Proc.devRef .tc main_v33) (ix2 b w) := by
  after_reads_simp
  pointwise
  rfl

theorem rows_kept (b : Fin 16) (w : Fin 256) : StableHlo.after ops22 V (Proc.devRef .tc main_v60) (ix3 b ⟨256 + w, by omega⟩ 0)
    = V (Proc.devRef .tc main_v56) (ix2 b w) := by
  after_reads_simp
  pointwise
  rfl

end Reads

variable (m : (ℓ : Loc nD τ sig) → Buf (Elt Ideal) ℓ) (c : Dev nD)

/-- What the reference chose: each window's token, the others, their nearest windows and their order. -/
structure Chosen (dst : Fin 16 → Fin 256 → Fin 1024) (src : Fin 16 → Fin 768 → Fin 1024) (near : Fin 16 → Fin 768 → Fin 256)
    (ord : Fin 16 → Fin 768 → Fin 768) : Prop where
  dst_at : ∀ b w, (W6 m c (Proc.devRef .tc main_v33) (ix2 b w)).toNat = dst b w
  src_at : ∀ b i, (W11 m c (Proc.devRef .tc main_v44) (ix2 b i)).toNat = src b i
  near_at : ∀ b i, (W16 m c (Proc.devRef .tc main_v50) (ix2 b i)).toNat = near b i
  ord_at : ∀ b q, (W18 m c (Proc.devRef .tc main_v53) (ix2 b q)).toNat = ord b q

variable {m c} {dst : Fin 16 → Fin 256 → Fin 1024} {src : Fin 16 → Fin 768 → Fin 1024} {near : Fin 16 → Fin 768 → Fin 256}
  {ord : Fin 16 → Fin 768 → Fin 768}

theorem keep33 : W22 m c (Proc.devRef .tc main_v33) = W6 m c (Proc.devRef .tc main_v33) :=
  (W22_of m c _ (by decide +kernel)).trans <| (W21_of m c _ (by decide +kernel)).trans <| (W20_of m c _ (by decide +kernel)).trans <|
  (W19_of m c _ (by decide +kernel)).trans <| (W18_of m c _ (by decide +kernel)).trans <| (W17_of m c _ (by decide +kernel)).trans <|
  (W16_of m c _ (by decide +kernel)).trans <| (W15_of m c _ (by decide +kernel)).trans <| (W14_of m c _ (by decide +kernel)).trans <|
  (W13_of m c _ (by decide +kernel)).trans <| (W12_of m c _ (by decide +kernel)).trans <| (W11_of m c _ (by decide +kernel)).trans <|
  (W10_of m c _ (by decide +kernel)).trans <| (W9_of m c _ (by decide +kernel)).trans <| (W8_of m c _ (by decide +kernel)).trans <|
  (W7_of m c _ (by decide +kernel))

theorem keep44 : W19 m c (Proc.devRef .tc main_v44) = W11 m c (Proc.devRef .tc main_v44) :=
  (W19_of m c _ (by decide +kernel)).trans <| (W18_of m c _ (by decide +kernel)).trans <| (W17_of m c _ (by decide +kernel)).trans <|
  (W16_of m c _ (by decide +kernel)).trans <| (W15_of m c _ (by decide +kernel)).trans <| (W14_of m c _ (by decide +kernel)).trans <|
  (W13_of m c _ (by decide +kernel)).trans <| (W12_of m c _ (by decide +kernel))

theorem keep50 : W21 m c (Proc.devRef .tc main_v50) = W16 m c (Proc.devRef .tc main_v50) :=
  (W21_of m c _ (by decide +kernel)).trans <| (W20_of m c _ (by decide +kernel)).trans <|
  (W19_of m c _ (by decide +kernel)).trans <| (W18_of m c _ (by decide +kernel)).trans <| (W17_of m c _ (by decide +kernel))

theorem last_lt (h : Chosen m c dst src near ord) (b : Fin 16) (w : Fin 256) :
    (W19 m c (Proc.devRef .tc main_v55) (ix2 b w)).toNat = ord b ⟨512 + w, by omega⟩ := by
  have e : W19 m c (Proc.devRef .tc main_v55) (ix2 b w) = W18 m c (Proc.devRef .tc main_v53) (ix2 b ⟨512 + w, by omega⟩) := order_last (W18 m c) b w
  rw [e]; exact h.ord_at b _

theorem first_lt (h : Chosen m c dst src near ord) (b : Fin 16) (t : Fin 512) :
    (W19 m c (Proc.devRef .tc main_v54) (ix2 b t)).toNat = ord b ⟨t, by omega⟩ := by
  have e : W19 m c (Proc.devRef .tc main_v54) (ix2 b t) = W18 m c (Proc.devRef .tc main_v53) (ix2 b ⟨t, by omega⟩) := order_first (W18 m c) b t
  rw [e]; exact h.ord_at b _

theorem kept_at (h : Chosen m c dst src near ord) (b : Fin 16) (w : Fin 256) :
    (W20 m c (Proc.devRef .tc main_v56) (ix2 b w)).toNat = src b (ord b ⟨512 + w, by omega⟩) := by
  have hI : ∀ i, (W19 m c (Proc.devRef .tc main_v55) i).toNat < 768 := fun i => by
    rw [eq_ix2 i]; exact lt_of_eq_of_lt (last_lt h (i 0) (i 1)) (Fin.isLt _)
  have e : W20 m c (Proc.devRef .tc main_v56) (ix2 b w) = _ := take_kept (W19 m c) hI b w
  have f : (⟨(W19 m c (Proc.devRef .tc main_v55) (ix2 b w)).toNat, hI _⟩ : Fin 768) = ord b ⟨512 + w, by omega⟩ := Fin.ext (last_lt h b w)
  rw [e, f, keep44]; exact h.src_at b _

theorem pruned_at (h : Chosen m c dst src near ord) (b : Fin 16) (t : Fin 512) :
    (W21 m c (Proc.devRef .tc main_v57) (ix2 b t)).toNat = src b (ord b ⟨t, by omega⟩) := by
  have k54 := W20_of m c main_v54 (by decide +kernel)
  have k44 := W20_of m c main_v44 (by decide +kernel)
  have hl : ∀ b t, (W20 m c (Proc.devRef .tc main_v54) (ix2 b t)).toNat = ord b ⟨t, by omega⟩ := fun b t => by rw [k54]; exact first_lt h b t
  have hI : ∀ i, (W20 m c (Proc.devRef .tc main_v54) i).toNat < 768 := fun i => by
    rw [eq_ix2 i]; exact lt_of_eq_of_lt (hl (i 0) (i 1)) (Fin.isLt _)
  have e : W21 m c (Proc.devRef .tc main_v57) (ix2 b t) = _ := take_pruned (W20 m c) hI b t
  have f : (⟨(W20 m c (Proc.devRef .tc main_v54) (ix2 b t)).toNat, hI _⟩ : Fin 768) = ord b ⟨t, by omega⟩ := Fin.ext (hl b t)
  rw [e, f, k44, keep44]; exact h.src_at b _

theorem best_at (h : Chosen m c dst src near ord) (b : Fin 16) (t : Fin 512) :
    (W22 m c (Proc.devRef .tc main_v58) (ix2 b t)).toNat = near b (ord b ⟨t, by omega⟩) := by
  have k54 := (W21_of m c main_v54 (by decide +kernel)).trans (W20_of m c main_v54 (by decide +kernel))
  have hl : ∀ b t, (W21 m c (Proc.devRef .tc main_v54) (ix2 b t)).toNat = ord b ⟨t, by omega⟩ := fun b t => by rw [k54]; exact first_lt h b t
  have hI : ∀ i, (W21 m c (Proc.devRef .tc main_v54) i).toNat < 768 := fun i => by
    rw [eq_ix2 i]; exact lt_of_eq_of_lt (hl (i 0) (i 1)) (Fin.isLt _)
  have e : W22 m c (Proc.devRef .tc main_v58) (ix2 b t) = _ := take_pbest (W21 m c) hI b t
  have f : (⟨(W21 m c (Proc.devRef .tc main_v54) (ix2 b t)).toNat, hI _⟩ : Fin 768) = ord b ⟨t, by omega⟩ := Fin.ext (hl b t)
  rw [e, f, keep50]; exact h.near_at b _

theorem rows_index (h : Chosen m c dst src near ord) (b : Fin 16) (t : Fin 512) :
    (W23 m c (Proc.devRef .tc main_v60) (ix3 b t 0)).toNat = rowOf dst src ord b ⟨t, by omega⟩ := by
  have k56 := (W22_of m c main_v56 (by decide +kernel)).trans (W21_of m c main_v56 (by decide +kernel))
  by_cases ht : (t : ℕ) < 256
  · obtain ⟨w, rfl⟩ : ∃ w : Fin 256, t = (⟨w, Nat.lt_trans w.isLt (by decide)⟩ : Fin 512) := ⟨⟨t.1, ht⟩, rfl⟩
    have e : W23 m c (Proc.devRef .tc main_v60) (ix3 b ⟨w, by omega⟩ 0) = W22 m c (Proc.devRef .tc main_v33) (ix2 b w) := rows_dst (W22 m c) b w
    rw [e, keep33, h.dst_at]
    exact congrArg Fin.val (Restore.rowOf_dst dst src ord b w).symm
  · obtain ⟨w, rfl⟩ : ∃ w : Fin 256, t = (⟨256 + w, Nat.add_lt_add_left w.isLt 256⟩ : Fin 512) := ⟨⟨t.1 - 256, by omega⟩, Fin.ext (by simp only; omega)⟩
    have e : W23 m c (Proc.devRef .tc main_v60) (ix3 b ⟨256 + w, by omega⟩ 0) = W22 m c (Proc.devRef .tc main_v56) (ix2 b w) := rows_kept (W22 m c) b w
    rw [e, k56, kept_at h]
    exact congrArg Fin.val (Restore.rowOf_kept dst src ord b w).symm

/-- The kept rows are the tokens' own. -/
theorem rows_eq (h : Chosen m c dst src near ord) (b : Fin 16) (t : Fin 512) (e : Fin 1152) :
    rows m c (ix3 b t e) = arg m c main_arg0 (ix3 b (rowOf dst src ord b ⟨t, by omega⟩) e) := by
  have hI : ∀ i, (W23 m c (Proc.devRef .tc main_v60) i).toNat < 1024 := fun i => by
    have e0 : i = ix3 (i 0) (i 1) (0 : Fin 1) := (eq_ix3 i).trans (congrArg (ix3 (i 0) (i 1)) (Subsingleton.elim (α := Fin 1) _ _))
    rw [e0]
    exact lt_of_eq_of_lt (rows_index h (i 0) (i 1)) (Fin.isLt _)
  have r : W24 m c (Proc.devRef .tc main_v61) (ix3 b t e) = _ := take_rows (W23 m c) hI b t e
  have f : (⟨(W23 m c (Proc.devRef .tc main_v60) (ix3 b t 0)).toNat, hI _⟩ : Fin 1024) = rowOf dst src ord b ⟨t, by omega⟩ := Fin.ext (rows_index h b t)
  have k := args23 m c main_arg0 (by decide +kernel)
  show W24 m c (Proc.devRef .tc main_v61) (ix3 b t e) = _
  rw [r, f, k]

theorem result_at (h : Chosen m c dst src near ord) (hr : ∀ b, Function.Injective (rowOf dst src ord b)) (b : Fin 16) (q : Fin 1024) (e : Fin 1152) :
    W28 m c (Proc.devRef .tc main_v231) (ix3 b (rowOf dst src ord b q) e) = W27 m c (Proc.devRef .tc main_v166) (ix3 b (takes near ord b q) e) := by
  have k33 := (W26_of m c main_v33 (by decide +kernel)).trans <| (W25_of m c main_v33 (by decide +kernel)).trans <|
    (W24_of m c main_v33 (by decide +kernel)).trans <| (W23_of m c main_v33 (by decide +kernel)).trans keep33
  have k56 := (W26_of m c main_v56 (by decide +kernel)).trans <| (W25_of m c main_v56 (by decide +kernel)).trans <|
    (W24_of m c main_v56 (by decide +kernel)).trans <| (W23_of m c main_v56 (by decide +kernel)).trans <|
    (W22_of m c main_v56 (by decide +kernel)).trans (W21_of m c main_v56 (by decide +kernel))
  have k57 := (W27_of m c main_v57 (by decide +kernel)).trans <| (W26_of m c main_v57 (by decide +kernel)).trans <| (W25_of m c main_v57 (by decide +kernel)).trans <|
    (W24_of m c main_v57 (by decide +kernel)).trans <| (W23_of m c main_v57 (by decide +kernel)).trans (W22_of m c main_v57 (by decide +kernel))
  have k58 := (W27_of m c main_v58 (by decide +kernel)).trans <| (W26_of m c main_v58 (by decide +kernel)).trans <| (W25_of m c main_v58 (by decide +kernel)).trans <|
    (W24_of m c main_v58 (by decide +kernel)).trans (W23_of m c main_v58 (by decide +kernel))
  obtain ⟨r1, r2, r3⟩ := restored (W26 m c) dst (fun b w => src b (ord b ⟨512 + w, by omega⟩)) (fun b t => src b (ord b ⟨t, by omega⟩))
    (fun b t => near b (ord b ⟨t, by omega⟩)) hr (fun b w => by rw [k33]; exact h.dst_at b w) (fun b w => by rw [k56]; exact kept_at h b w)
    (fun b t => (congrArg (fun X => BitVec.toNat (X (ix2 b t))) k57).trans (pruned_at h b t))
    (fun b t => (congrArg (fun X => BitVec.toNat (X (ix2 b t))) k58).trans (best_at h b t)) b e
  rcases Restore.place q with ⟨w, rfl⟩ | ⟨w, rfl⟩ | ⟨t, rfl⟩
  · have e2 := Restore.takes_own near ord b ⟨w, by omega⟩
    rw [Restore.rowOf_dst, e2]; exact r1 w
  · have e2 := Restore.takes_own near ord b ⟨256 + w, by omega⟩
    rw [Restore.rowOf_kept, e2]; exact r2 w
  · rw [Restore.rowOf_pruned, Restore.takes_best]; exact r3 t

end Cert.ReferenceIdeal.Whole
-- ==== Proof.KernelOut.lean ====
module

public import proofs.«01_k».proof.Proof.AttnValue
public import proofs.«01_k».proof.Proof.MlpValue
public import proofs.«01_k».proof.Proof.Cover
public import proofs.«01_k».proof.Proof.RefResult
public import proofs.«01_k».proof.Proof.Whole

/-! The kernel's result at every token, given by its choice of tokens. -/

@[expose] public section

set_option maxRecDepth 16384

noncomputable section

namespace Cert.KernelIdeal.Whole

open Cert.KernelIdeal Cert.KernelIdeal.Gen
open Idealize.ShloMosaic Idealize.ShloMosaic.TcCoe
open Cert.Restore (rowOf takes)

section Reads
variable (V : Valuation τ sig (Elt Ideal))

theorem kept_dst (b : Fin 16) (w : Fin 256) : (StableHlo.after hostOps0_20 V (Proc.devRef .tc main_v82) : IVec S16x1x512 32) (ix3 b 0 ⟨w, by omega⟩)
    = V (Proc.devRef .tc main_v33) (ix2 b w) := by
  after_reads_simp
  pointwise
  rfl

theorem kept_last (b : Fin 16) (w : Fin 256) : (StableHlo.after hostOps0_20 V (Proc.devRef .tc main_v82) : IVec S16x1x512 32) (ix3 b 0 ⟨256 + w, by omega⟩)
    = V (Proc.devRef .tc main_v54) (ix2 b ⟨512 + w, by omega⟩) := by
  after_reads_simp
  pointwise
  after_reads_simp
  pointwise

/-- The slots as the second call takes them. -/
def slotRows (X : IVec S16x1024 32) : IVec S16x1x1024 32 := shapeCast S16x1x1024 X shapeCasts_S16x1024_S16x1x1024

theorem slotRows_at (X : IVec S16x1024 32) (b : Fin 16) (n : Fin 1024) : slotRows X (ix3 b 0 n) = X (ix2 b n) := by
  pointwise [slotRows]

theorem slot_rows : StableHlo.after hostOps0_20 V (Proc.devRef .tc main_v83) = slotRows (StableHlo.after hostOps0_20 V (Proc.devRef .tc main_v81)) := by
  after_reads_simp; rfl

theorem pass_x (b : Fin 16) (n : Fin 1024) (e : Fin 1152) : (StableHlo.after hostOps0_20 V (Proc.devRef .tc main_v84) : FVec Ideal S16x1024x1152 .bf16) (ix3 b n e)
    = V (Proc.devRef .tc main_arg0) (ix3 b n e) := by
  after_reads_simp; rfl

theorem pass_wqkv (x : Fin 1152) (j : Fin 3456) : (StableHlo.after hostOps0_20 V (Proc.devRef .tc main_v85) : FVec Ideal S1152x3456 .bf16) (ix2 x j)
    = V (Proc.devRef .tc main_arg6) (ix2 x j) := by
  after_reads_simp; rfl

theorem pass_bqkv (j : Fin 3456) : (StableHlo.after hostOps0_20 V (Proc.devRef .tc main_v86) : FVec Ideal S1x3456 .f32) (ix2 0 j)
    = V (Proc.devRef .tc main_arg7) (ix1 j) := by
  after_reads_simp
  pointwise

theorem pass_g1 (j : Fin 1152) : (StableHlo.after hostOps0_20 V (Proc.devRef .tc main_v87) : FVec Ideal S1x1152 .f32) (ix2 0 j)
    = V (Proc.devRef .tc main_arg2) (ix1 j) := by
  after_reads_simp
  pointwise

theorem pass_b1 (j : Fin 1152) : (StableHlo.after hostOps0_20 V (Proc.devRef .tc main_v88) : FVec Ideal S1x1152 .f32) (ix2 0 j)
    = V (Proc.devRef .tc main_arg3) (ix1 j) := by
  after_reads_simp
  pointwise

theorem pass_wproj (x : Fin 1152) (j : Fin 1152) : (StableHlo.after hostOps0_20 V (Proc.devRef .tc main_v89) : FVec Ideal S1152x1152 .bf16) (ix2 x j)
    = V (Proc.devRef .tc main_arg8) (ix2 x j) := by
  after_reads_simp; rfl

theorem pass_bproj (j : Fin 1152) : (StableHlo.after hostOps0_20 V (Proc.devRef .tc main_v90) : FVec Ideal S1x1152 .f32) (ix2 0 j)
    = V (Proc.devRef .tc main_arg9) (ix1 j) := by
  after_reads_simp
  pointwise

theorem pass_w1 (x : Fin 1152) (j : Fin 4608) : (StableHlo.after hostOps1 V (Proc.devRef .tc main_v92) : FVec Ideal S1152x4608 .bf16) (ix2 x j)
    = V (Proc.devRef .tc main_arg10) (ix2 x j) := by
  after_reads_simp; rfl

theorem pass_fb1 (j : Fin 4608) : (StableHlo.after hostOps1 V (Proc.devRef .tc main_v93) : FVec Ideal S1x4608 .f32) (ix2 0 j)
    = V (Proc.devRef .tc main_arg11) (ix1 j) := by
  after_reads_simp
  pointwise

theorem pass_w2 (x : Fin 4608) (j : Fin 1152) : (StableHlo.after hostOps1 V (Proc.devRef .tc main_v94) : FVec Ideal S4608x1152 .bf16) (ix2 x j)
    = V (Proc.devRef .tc main_arg12) (ix2 x j) := by
  after_reads_simp; rfl

theorem pass_fb2 (j : Fin 1152) : (StableHlo.after hostOps1 V (Proc.devRef .tc main_v95) : FVec Ideal S1x1152 .f32) (ix2 0 j)
    = V (Proc.devRef .tc main_arg13) (ix1 j) := by
  after_reads_simp
  pointwise

theorem pass_g2 (j : Fin 1152) : (StableHlo.after hostOps1 V (Proc.devRef .tc main_v96) : FVec Ideal S1x1152 .f32) (ix2 0 j)
    = V (Proc.devRef .tc main_arg4) (ix1 j) := by
  after_reads_simp
  pointwise

theorem pass_b2 (j : Fin 1152) : (StableHlo.after hostOps1 V (Proc.devRef .tc main_v97) : FVec Ideal S1x1152 .f32) (ix2 0 j)
    = V (Proc.devRef .tc main_arg5) (ix1 j) := by
  after_reads_simp
  pointwise

end Reads

variable (m : (ℓ : Loc nD τ sig) → Buf (Elt Ideal) ℓ) (c : Dev nD)

/-! ## The choice of tokens -/

/-- Each window's token. -/
def dst (b : Fin 16) (w : Fin 256) : Fin 1024 := ⟨(Gen.V6 m c (Proc.devRef .tc main_v33) (ix2 b w)).toNat, dst_lt m c b w⟩
/-- The other tokens. -/
def src (b : Fin 16) (i : Fin 768) : Fin 1024 := ⟨(Gen.V11 m c (Proc.devRef .tc main_v44) (ix2 b i)).toNat, src_lt m c b i⟩
/-- Their nearest windows. -/
def near (b : Fin 16) (i : Fin 768) : Fin 256 := ⟨(Gen.V16 m c (Proc.devRef .tc main_v50) (ix2 b i)).toNat, best_lt m c b i⟩

theorem order_word (b : Fin 16) (q : Fin 768) (π : Fin 768 → Fin 768)
    (h : ∀ q, Gen.V18 m c (Proc.devRef .tc main_v53) (ix2 b q) = BitVec.ofNat 32 (π q)) : (Gen.V18 m c (Proc.devRef .tc main_v53) (ix2 b q)).toNat = π q := by
  rw [h, BitVec.toNat_ofNat, Nat.mod_eq_of_lt (by omega)]

theorem order_lt (b : Fin 16) (q : Fin 768) : (Gen.V18 m c (Proc.devRef .tc main_v53) (ix2 b q)).toNat < 768 := by
  obtain ⟨π, -, h⟩ := order_onto m c b
  rw [order_word m c b q π h]
  exact (π q).isLt

/-- Their order. -/
def ord (b : Fin 16) (q : Fin 768) : Fin 768 := ⟨(Gen.V18 m c (Proc.devRef .tc main_v53) (ix2 b q)).toNat, order_lt m c b q⟩

theorem ord_onto (b : Fin 16) : Function.Surjective (ord m c b) := by
  obtain ⟨π, hπ, h⟩ := order_onto m c b
  intro i
  obtain ⟨q, rfl⟩ := hπ i
  exact ⟨q, Fin.ext (order_word m c b q π h)⟩

/-- Every token has its place. -/
theorem row_onto (b : Fin 16) : Function.Surjective (rowOf (dst m c) (src m c) (ord m c) b) := by
  intro n
  rcases covered m c b n.isLt with ⟨w, hw⟩ | ⟨i, hi⟩
  · exact ⟨⟨w, by omega⟩, (Restore.rowOf_dst _ _ _ b w).trans (Fin.ext hw)⟩
  · obtain ⟨q, rfl⟩ := ord_onto m c b i
    by_cases hq : (q : ℕ) < 512
    · refine ⟨⟨512 + (⟨q, hq⟩ : Fin 512), by simp only; omega⟩, (Restore.rowOf_pruned _ _ _ b ⟨q, hq⟩).trans (Fin.ext hi)⟩
    · refine ⟨⟨256 + (⟨q - 512, by omega⟩ : Fin 256), by simp only; omega⟩, (Restore.rowOf_kept _ _ _ b ⟨q - 512, by omega⟩).trans ?_⟩
      have e : (⟨512 + ((q : ℕ) - 512), by omega⟩ : Fin 768) = q := Fin.ext (by simp only; omega)
      show src m c b (ord m c b ⟨512 + ((q : ℕ) - 512), _⟩) = n
      rw [e]
      exact Fin.ext hi

theorem row_apart (b : Fin 16) : Function.Injective (rowOf (dst m c) (src m c) (ord m c) b) :=
  Finite.injective_iff_surjective.2 (row_onto m c b)

/-! ## The index arrays at the calls -/

theorem keep33 : Gen.V20 m c (Proc.devRef .tc main_v33) = Gen.V6 m c (Proc.devRef .tc main_v33) :=
  (Gen.V20_of m c _ (by decide +kernel)).trans <| (Gen.V19_of m c _ (by decide +kernel)).trans <| (Gen.V18_of m c _ (by decide +kernel)).trans <|
  (Gen.V17_of m c _ (by decide +kernel)).trans <| (Gen.V16_of m c _ (by decide +kernel)).trans <| (Gen.V15_of m c _ (by decide +kernel)).trans <|
  (Gen.V14_of m c _ (by decide +kernel)).trans <| (Gen.V13_of m c _ (by decide +kernel)).trans <| (Gen.V12_of m c _ (by decide +kernel)).trans <|
  (Gen.V11_of m c _ (by decide +kernel)).trans <| (Gen.V10_of m c _ (by decide +kernel)).trans <| (Gen.V9_of m c _ (by decide +kernel)).trans <|
  (Gen.V8_of m c _ (by decide +kernel)).trans (Gen.V7_of m c _ (by decide +kernel))

theorem keep44 : Gen.V18 m c (Proc.devRef .tc main_v44) = Gen.V11 m c (Proc.devRef .tc main_v44) :=
  (Gen.V18_of m c _ (by decide +kernel)).trans <| (Gen.V17_of m c _ (by decide +kernel)).trans <| (Gen.V16_of m c _ (by decide +kernel)).trans <|
  (Gen.V15_of m c _ (by decide +kernel)).trans <| (Gen.V14_of m c _ (by decide +kernel)).trans <| (Gen.V13_of m c _ (by decide +kernel)).trans <|
  (Gen.V12_of m c _ (by decide +kernel))

theorem keep50 : Gen.V19 m c (Proc.devRef .tc main_v50) = Gen.V16 m c (Proc.devRef .tc main_v50) :=
  (Gen.V19_of m c _ (by decide +kernel)).trans <| (Gen.V18_of m c _ (by decide +kernel)).trans <| (Gen.V17_of m c _ (by decide +kernel))

theorem tok_at (b : Fin 16) (q : Fin 768) : (Gen.V20 m c (Proc.devRef .tc main_v54) (ix2 b q)).toNat = src m c b (ord m c b q) := by
  have hI : ∀ i, (Gen.V18 m c (Proc.devRef .tc main_v53) i).toNat < 768 := fun i => by
    rw [eq_ix2 i]; exact order_lt m c (i 0) (i 1)
  have k := Gen.V20_of m c main_v54 (by decide +kernel)
  have e : Gen.V19 m c (Proc.devRef .tc main_v54) (ix2 b q) = _ := take_tok (Gen.V18 m c) hI b q
  rw [k, e, keep44]
  rfl

theorem best_at (b : Fin 16) (q : Fin 768) : (Gen.V20 m c (Proc.devRef .tc main_v55) (ix2 b q)).toNat = near m c b (ord m c b q) := by
  have k := Gen.V19_of m c main_v53 (by decide +kernel)
  have hI : ∀ i, (Gen.V19 m c (Proc.devRef .tc main_v53) i).toNat < 768 := fun i => by
    rw [k, eq_ix2 i]; exact order_lt m c (i 0) (i 1)
  have e : Gen.V20 m c (Proc.devRef .tc main_v55) (ix2 b q) = _ := take_best (Gen.V19 m c) hI b q
  have f : (⟨(Gen.V19 m c (Proc.devRef .tc main_v53) (ix2 b q)).toNat, hI _⟩ : Fin 768) = ord m c b q := Fin.ext (congrArg (fun X : IVec S16x768 32 => (X (ix2 b q)).toNat) k)
  rw [e, f, keep50, near]

theorem token_at (b : Fin 16) (q : Fin 1024) :
    ((StableHlo.after hostOps0_20 (Gen.V20 m c) (Proc.devRef .tc main_v62) : IVec S16x1024 32) (ix2 b q)).toNat = rowOf (dst m c) (src m c) (ord m c) b q := by
  rcases Restore.place q with ⟨w, rfl⟩ | ⟨w, rfl⟩ | ⟨t, rfl⟩
  · rw [token_dst, keep33, Restore.rowOf_dst]; rfl
  · rw [token_kept, tok_at, Restore.rowOf_kept]
  · rw [token_pruned, tok_at, Restore.rowOf_pruned]

theorem slot_takes (b : Fin 16) (q : Fin 1024) :
    ((StableHlo.after hostOps0_20 (Gen.V20 m c) (Proc.devRef .tc main_v65) : IVec S16x1024 32) (ix2 b q)).toNat = takes (near m c) (ord m c) b q := by
  by_cases hq : (q : ℕ) < 512
  · obtain ⟨t, rfl⟩ : ∃ t : Fin 512, q = (⟨t, Nat.lt_trans t.isLt (by decide)⟩ : Fin 1024) := ⟨⟨q.1, hq⟩, rfl⟩
    have e2 := Restore.takes_own (near m c) (ord m c) b t
    rw [slot_own, e2, BitVec.toNat_ofNat, Nat.mod_eq_of_lt (by omega)]
  · obtain ⟨t, rfl⟩ : ∃ t : Fin 512, q = (⟨512 + t, Nat.add_lt_add_left t.isLt 512⟩ : Fin 1024) := ⟨⟨q.1 - 512, by omega⟩, Fin.ext (by simp only; omega)⟩
    rw [slot_best, best_at, Restore.takes_best]

/-- Every token's row number, as the second call takes it. -/
theorem slot_word (b : Fin 16) (q : Fin 1024) :
    ((W21 m c (Proc.devRef .tc main_v83) : IVec S16x1x1024 32) (ix3 b 0 (rowOf (dst m c) (src m c) (ord m c) b q))).toNat = takes (near m c) (ord m c) b q := by
  have e : W21 m c (Proc.devRef .tc main_v83) = slotRows (StableHlo.after hostOps0_20 (Gen.V20 m c) (Proc.devRef .tc main_v81)) := slot_rows (Gen.V20 m c)
  rw [e, slotRows_at, slot_at (Gen.V20 m c) _ (row_apart m c) (token_at m c), slot_takes]

theorem kept_word (b : Fin 16) (t : Fin 512) :
    ((W21 m c (Proc.devRef .tc main_v82) : IVec S16x1x512 32) (ix3 b 0 t)).toNat = rowOf (dst m c) (src m c) (ord m c) b ⟨t, by omega⟩ := by
  by_cases ht : (t : ℕ) < 256
  · obtain ⟨w, rfl⟩ : ∃ w : Fin 256, t = (⟨w, Nat.lt_trans w.isLt (by decide)⟩ : Fin 512) := ⟨⟨t.1, ht⟩, rfl⟩
    have e : (W21 m c (Proc.devRef .tc main_v82) : IVec S16x1x512 32) (ix3 b 0 ⟨w, by omega⟩) = _ := kept_dst (Gen.V20 m c) b w
    rw [e, keep33]
    exact congrArg Fin.val (Restore.rowOf_dst (dst m c) (src m c) (ord m c) b w).symm
  · obtain ⟨w, rfl⟩ : ∃ w : Fin 256, t = (⟨256 + w, Nat.add_lt_add_left w.isLt 256⟩ : Fin 512) := ⟨⟨t.1 - 256, by omega⟩, Fin.ext (by simp only; omega)⟩
    have e : (W21 m c (Proc.devRef .tc main_v82) : IVec S16x1x512 32) (ix3 b 0 ⟨256 + w, by omega⟩) = _ := kept_last (Gen.V20 m c) b w
    rw [e, tok_at]
    exact congrArg Fin.val (Restore.rowOf_kept _ _ _ b w).symm

/-! ## The two calls -/

abbrev arg (a : Ref sig .tc) := m ((c : Thread nD τ).loc a)

theorem args20 : ∀ a ∈ argRefs, Gen.V20 m c (Proc.devRef .tc a) = m ((c : Thread nD τ).loc a) := fun a ha =>
  (Gen.V21_of m c a (apart (by decide +kernel) ha)).symm.trans (W21_args m c a ha)

/-- The rows of the tokens that the calls work on. -/
def rows (b : Fin 16) (t : Fin 512) (e : Fin 1152) : EReal := arg m c main_arg0 (ix3 b (rowOf (dst m c) (src m c) (ord m c) b ⟨t, by omega⟩) e)

theorem kept_rows (b : Fin 16) (t : Fin 512) (e : Fin 1152) :
    keptRows (W21 m c (Proc.devRef .tc main_v84)) (W21 m c (Proc.devRef .tc main_v82)) b t e = rows m c b t e := by
  have hl := kept_word m c b t
  have hw : ((W21 m c (Proc.devRef .tc main_v82) : IVec S16x1x512 32) (ix3 b 0 t)).toNat < 1024 := lt_of_eq_of_lt hl (Fin.isLt _)
  have x := pass_x (Gen.V20 m c) b (rowOf (dst m c) (src m c) (ord m c) b ⟨t, by omega⟩) e
  have a := args20 m c main_arg0 (by decide +kernel)
  have f : (⟨_, hw⟩ : Fin 1024) = rowOf (dst m c) (src m c) (ord m c) b ⟨t, by omega⟩ := Fin.ext hl
  unfold keptRows rows
  rw [Spec.sum_hot (by decide) (fun x => (W21 m c (Proc.devRef .tc main_v84) : FVec Ideal S16x1024x1152 .bf16) (ix3 b x e)) _ hw, f]
  rw [a] at x
  exact x

theorem attnArr_at (x0 : Vec Ideal S16x1024x1152 .bf16) (x1 : Vec Ideal S16x1x512 .i32) (x2 : Vec Ideal S1x3456 .f32) (x3 x4 x5 : Vec Ideal S1x1152 .f32)
    (w : Vec Ideal S1152x3456 .bf16) (u : Vec Ideal S1152x1152 .bf16) (b : Fin 16) {X : Fin 512 → Fin 1152 → EReal} {g s r : Fin 1152 → EReal}
    {q : Fin 3456 → EReal} {w' : Fin 1152 → Fin 3456 → EReal} {u' : Fin 1152 → Fin 1152 → EReal} (hX : ∀ t e, keptRows x0 x1 b t e = X t e)
    (hg : ∀ j, x3 (ix2 0 j) = g j) (hs : ∀ j, x4 (ix2 0 j) = s j) (hr : ∀ j, x5 (ix2 0 j) = r j) (hq : ∀ j, x2 (ix2 0 j) = q j)
    (hw : ∀ i j, w (ix2 i j) = w' i j) (hu : ∀ i j, u (ix2 i j) = u' i j) (t : Fin 512) (e : Fin 1152) :
    attnArr x0 x1 x2 x3 x4 x5 w u (ix3 b t e) = Spec.resid X (Spec.attPlain (Spec.qkv X g s w' q)) u' r t e := by
  obtain rfl : keptRows x0 x1 b = X := funext fun t => funext (hX t)
  obtain rfl : (fun j => x3 (ix2 0 j)) = g := funext hg
  obtain rfl : (fun j => x4 (ix2 0 j)) = s := funext hs
  obtain rfl : (fun j => x5 (ix2 0 j)) = r := funext hr
  obtain rfl : (fun j => x2 (ix2 0 j)) = q := funext hq
  obtain rfl : (fun i j => w (ix2 i j)) = w' := funext fun i => funext (hw i)
  obtain rfl : (fun i j => u (ix2 i j)) = u' := funext fun i => funext (hu i)
  rfl

theorem mlpArr_at (x0 : Vec Ideal S16x512x1152 .bf16) (x1 : Vec Ideal S16x1x1024 .i32) (x2 : Vec Ideal S1x4608 .f32) (x3 x4 x5 : Vec Ideal S1x1152 .f32)
    (w : Vec Ideal S1152x4608 .bf16) (u : Vec Ideal S4608x1152 .bf16) (b : Fin 16) (n : Fin 1024) (k : Fin 512) {X : Fin 512 → Fin 1152 → EReal}
    {g s r : Fin 1152 → EReal} {q : Fin 4608 → EReal} {w' : Fin 1152 → Fin 4608 → EReal} {u' : Fin 4608 → Fin 1152 → EReal}
    (hk : (x1 (ix3 b 0 n)).toNat = k) (hX : ∀ t e, x0 (ix3 b t e) = X t e)
    (hr : ∀ j, x3 (ix2 0 j) = r j) (hg : ∀ j, x4 (ix2 0 j) = g j) (hs : ∀ j, x5 (ix2 0 j) = s j) (hq : ∀ j, x2 (ix2 0 j) = q j)
    (hw : ∀ i j, w (ix2 i j) = w' i j) (hu : ∀ i j, u (ix2 i j) = u' i j) (e : Fin 1152) :
    mlpArr x0 x1 x2 x3 x4 x5 w u (ix3 b n e) = Spec.block X g s w' q u' r k e := by
  obtain rfl : (fun t e => x0 (ix3 b t e)) = X := funext fun t => funext (hX t)
  obtain rfl : (fun j => x4 (ix2 0 j)) = g := funext hg
  obtain rfl : (fun j => x5 (ix2 0 j)) = s := funext hs
  obtain rfl : (fun j => x3 (ix2 0 j)) = r := funext hr
  obtain rfl : (fun j => x2 (ix2 0 j)) = q := funext hq
  obtain rfl : (fun i j => w (ix2 i j)) = w' := funext fun i => funext (hw i)
  obtain rfl : (fun i j => u (ix2 i j)) = u' := funext fun i => funext (hu i)
  have hl : (x1 (ix3 b 0 n)).toNat < 512 := by rw [hk]; exact k.isLt
  obtain rfl : (⟨_, hl⟩ : Fin 512) = k := Fin.ext hk
  exact Spec.sum_hot (by decide) (fun t => Spec.block (fun t e => x0 (ix3 b t e)) (fun j => x4 (ix2 0 j)) (fun j => x5 (ix2 0 j))
    (fun i j => w (ix2 i j)) (fun j => x2 (ix2 0 j)) (fun i j => u (ix2 i j)) (fun j => x3 (ix2 0 j)) t e) _ hl

/-- What the attention call leaves, row by row. -/
theorem attn_rows (b : Fin 16) (t : Fin 512) (e : Fin 1152) :
    (W22 m c (Proc.devRef .tc main_v91) : FVec Ideal S16x512x1152 .f32) (ix3 b t e)
      = Spec.resid (rows m c b)
          (Spec.attPlain (Spec.qkv (rows m c b) (fun e => arg m c main_arg2 (ix1 e)) (fun e => arg m c main_arg3 (ix1 e))
            (fun x j => arg m c main_arg6 (ix2 x j)) (fun j => arg m c main_arg7 (ix1 j))))
          (fun x j => arg m c main_arg8 (ix2 x j)) (fun j => arg m c main_arg9 (ix1 j)) t e := by
  have r : W22 m c (Proc.devRef .tc main_v91) = _ := (W22_arr m c 6).trans (attn_final (E0 m) c)
  rw [r]
  exact attnArr_at _ _ _ _ _ _ _ _ b (kept_rows m c b)
    (fun j => (pass_g1 (Gen.V20 m c) j).trans (congrFun (args20 m c main_arg2 (by decide +kernel)) _))
    (fun j => (pass_b1 (Gen.V20 m c) j).trans (congrFun (args20 m c main_arg3 (by decide +kernel)) _))
    (fun j => (pass_bproj (Gen.V20 m c) j).trans (congrFun (args20 m c main_arg9 (by decide +kernel)) _))
    (fun j => (pass_bqkv (Gen.V20 m c) j).trans (congrFun (args20 m c main_arg7 (by decide +kernel)) _))
    (fun i j => (pass_wqkv (Gen.V20 m c) i j).trans (congrFun (args20 m c main_arg6 (by decide +kernel)) _))
    (fun i j => (pass_wproj (Gen.V20 m c) i j).trans (congrFun (args20 m c main_arg8 (by decide +kernel)) _)) t e

theorem out_rows (b : Fin 16) (q : Fin 1024) (e : Fin 1152) :
    ((dat1 (E1 m) c).arrAt 6 cfg1.N : FVec Ideal S16x1024x1152 .f32) (ix3 b (rowOf (dst m c) (src m c) (ord m c) b q) e)
      = Spec.block (Spec.resid (rows m c b)
          (Spec.attPlain (Spec.qkv (rows m c b) (fun e => arg m c main_arg2 (ix1 e)) (fun e => arg m c main_arg3 (ix1 e))
            (fun x j => arg m c main_arg6 (ix2 x j)) (fun j => arg m c main_arg7 (ix1 j))))
          (fun x j => arg m c main_arg8 (ix2 x j)) (fun j => arg m c main_arg9 (ix1 j)))
        (fun e => arg m c main_arg4 (ix1 e)) (fun e => arg m c main_arg5 (ix1 e)) (fun x l => arg m c main_arg10 (ix2 x l)) (fun l => arg m c main_arg11 (ix1 l))
        (fun l e => arg m c main_arg12 (ix2 l e)) (fun e => arg m c main_arg13 (ix1 e)) (takes (near m c) (ord m c) b q) e := by
  have k83 : E1 m c main_v83 = W21 m c (Proc.devRef .tc main_v83) :=
    (W23_of m c main_v83 (by decide +kernel)).trans (W22_of_ne m c main_v83 (by decide +kernel))
  have k91 : E1 m c main_v91 = W22 m c (Proc.devRef .tc main_v91) := W23_of m c main_v91 (by decide +kernel)
  rw [mlp_final (E1 m) c]
  exact mlpArr_at _ _ _ _ _ _ _ _ b _ (takes (near m c) (ord m c) b q)
    ((congrArg (fun X : IVec S16x1x1024 32 => (X (ix3 b 0 (rowOf (dst m c) (src m c) (ord m c) b q))).toNat) k83).trans (slot_word m c b q))
    (fun t e => (congrFun k91 _).trans (attn_rows m c b t e))
    (fun j => (pass_fb2 (W22 m c) j).trans (congrFun (W22_args m c main_arg13 (by decide +kernel)) _))
    (fun j => (pass_g2 (W22 m c) j).trans (congrFun (W22_args m c main_arg4 (by decide +kernel)) _))
    (fun j => (pass_b2 (W22 m c) j).trans (congrFun (W22_args m c main_arg5 (by decide +kernel)) _))
    (fun j => (pass_fb1 (W22 m c) j).trans (congrFun (W22_args m c main_arg11 (by decide +kernel)) _))
    (fun i j => (pass_w1 (W22 m c) i j).trans (congrFun (W22_args m c main_arg10 (by decide +kernel)) _))
    (fun i j => (pass_w2 (W22 m c) i j).trans (congrFun (W22_args m c main_arg12 (by decide +kernel)) _)) e

end Cert.KernelIdeal.Whole
-- ==== Proof.Agree.lean ====
module

public import proofs.«01_k».proof.Proof.Whole
public import proofs.«01_k».proof.Proof.RefRun
public import Idealize.ShloMosaic.Lib.StableHlo.RunRead

@[expose] public section

/-! The two programs choose their tokens by the same operations: what each stretch finds is the same. -/

set_option maxRecDepth 16384

noncomputable section

namespace Cert.Agree

open Idealize.ShloMosaic Idealize.ShloMosaic.TcCoe

/-- Contents of the kernel's buffers. -/
abbrev KV (F : FTy → Type) [FloatOps F] := Valuation Cert.KernelIdeal.τ Cert.KernelIdeal.sig (Elt F)
/-- Contents of the reference's buffers. -/
abbrev RV (F : FTy → Type) [FloatOps F] := Valuation Cert.ReferenceIdeal.τ Cert.ReferenceIdeal.sig (Elt F)

variable {F : FTy → Type} [FloatOps F] (V : KV F) (V' : RV F)

/-- Both programs find the same `main_v0` from the same contents. -/
theorem same_v0
    (h_arg0 : V (Proc.devRef .tc Cert.KernelIdeal.main_arg0) = V' (Proc.devRef .tc Cert.ReferenceIdeal.main_arg0)) :
    StableHlo.after Cert.KernelIdeal.Gen.hostOps0 V (Proc.devRef .tc Cert.KernelIdeal.main_v0) =
      StableHlo.after Cert.ReferenceIdeal.Whole.ops0 V' (Proc.devRef .tc Cert.ReferenceIdeal.main_v0) := by
  after_reads_simp
  try simp only [h_arg0]
  try rfl

/-- Both programs find the same `main_v28` from the same contents. -/
theorem same_v28
    (h_arg0 : V (Proc.devRef .tc Cert.KernelIdeal.main_arg0) = V' (Proc.devRef .tc Cert.ReferenceIdeal.main_arg0))
    (h_arg1 : V (Proc.devRef .tc Cert.KernelIdeal.main_arg1) = V' (Proc.devRef .tc Cert.ReferenceIdeal.main_arg1))
    (h_v0 : V (Proc.devRef .tc Cert.KernelIdeal.main_v0) = V' (Proc.devRef .tc Cert.ReferenceIdeal.main_v0)) :
    StableHlo.after Cert.KernelIdeal.Gen.hostOps0_1 V (Proc.devRef .tc Cert.KernelIdeal.main_v28) =
      StableHlo.after Cert.ReferenceIdeal.Whole.ops1 V' (Proc.devRef .tc Cert.ReferenceIdeal.main_v28) := by
  after_reads_simp
  try simp only [h_arg0, h_arg1, h_v0]
  try rfl

/-- Both programs find the same `main_v4` from the same contents. -/
theorem same_v4
    (h_arg0 : V (Proc.devRef .tc Cert.KernelIdeal.main_arg0) = V' (Proc.devRef .tc Cert.ReferenceIdeal.main_arg0))
    (h_arg1 : V (Proc.devRef .tc Cert.KernelIdeal.main_arg1) = V' (Proc.devRef .tc Cert.ReferenceIdeal.main_arg1))
    (h_v0 : V (Proc.devRef .tc Cert.KernelIdeal.main_v0) = V' (Proc.devRef .tc Cert.ReferenceIdeal.main_v0)) :
    StableHlo.after Cert.KernelIdeal.Gen.hostOps0_1 V (Proc.devRef .tc Cert.KernelIdeal.main_v4) =
      StableHlo.after Cert.ReferenceIdeal.Whole.ops1 V' (Proc.devRef .tc Cert.ReferenceIdeal.main_v4) := by
  after_reads_simp
  try simp only [h_arg0, h_arg1, h_v0]
  try rfl

/-- Both programs find the same `main_v9` from the same contents. -/
theorem same_v9
    (h_arg0 : V (Proc.devRef .tc Cert.KernelIdeal.main_arg0) = V' (Proc.devRef .tc Cert.ReferenceIdeal.main_arg0))
    (h_arg1 : V (Proc.devRef .tc Cert.KernelIdeal.main_arg1) = V' (Proc.devRef .tc Cert.ReferenceIdeal.main_arg1))
    (h_v0 : V (Proc.devRef .tc Cert.KernelIdeal.main_v0) = V' (Proc.devRef .tc Cert.ReferenceIdeal.main_v0)) :
    StableHlo.after Cert.KernelIdeal.Gen.hostOps0_1 V (Proc.devRef .tc Cert.KernelIdeal.main_v9) =
      StableHlo.after Cert.ReferenceIdeal.Whole.ops1 V' (Proc.devRef .tc Cert.ReferenceIdeal.main_v9) := by
  after_reads_simp
  try simp only [h_arg0, h_arg1, h_v0]
  try rfl

/-- Both programs find the same `main_v29` from the same contents. -/
theorem same_v29
    (h_v28 : V (Proc.devRef .tc Cert.KernelIdeal.main_v28) = V' (Proc.devRef .tc Cert.ReferenceIdeal.main_v28)) :
    StableHlo.after Cert.KernelIdeal.Gen.hostOps0_2 V (Proc.devRef .tc Cert.KernelIdeal.main_v29) =
      StableHlo.after Cert.ReferenceIdeal.Whole.ops2 V' (Proc.devRef .tc Cert.ReferenceIdeal.main_v29) := by
  after_reads_simp
  try simp only [h_v28]
  try rfl

/-- Both programs find the same `main_v30` from the same contents. -/
theorem same_v30
    (h_v29 : V (Proc.devRef .tc Cert.KernelIdeal.main_v29) = V' (Proc.devRef .tc Cert.ReferenceIdeal.main_v29))
    (h_v9 : V (Proc.devRef .tc Cert.KernelIdeal.main_v9) = V' (Proc.devRef .tc Cert.ReferenceIdeal.main_v9)) :
    StableHlo.after Cert.KernelIdeal.Gen.hostOps0_3 V (Proc.devRef .tc Cert.KernelIdeal.main_v30) =
      StableHlo.after Cert.ReferenceIdeal.Whole.ops3 V' (Proc.devRef .tc Cert.ReferenceIdeal.main_v30) := by
  after_reads_simp
  try simp only [h_v29, h_v9]
  try rfl

/-- Both programs find the same `main_v31` from the same contents. -/
theorem same_v31
    (h_v29 : V (Proc.devRef .tc Cert.KernelIdeal.main_v29) = V' (Proc.devRef .tc Cert.ReferenceIdeal.main_v29))
    (h_v9 : V (Proc.devRef .tc Cert.KernelIdeal.main_v9) = V' (Proc.devRef .tc Cert.ReferenceIdeal.main_v9)) :
    StableHlo.after Cert.KernelIdeal.Gen.hostOps0_3 V (Proc.devRef .tc Cert.KernelIdeal.main_v31) =
      StableHlo.after Cert.ReferenceIdeal.Whole.ops3 V' (Proc.devRef .tc Cert.ReferenceIdeal.main_v31) := by
  after_reads_simp
  try simp only [h_v29, h_v9]
  try rfl

/-- Both programs find the same `main_v32` from the same contents. -/
theorem same_v32
    (h_v30 : V (Proc.devRef .tc Cert.KernelIdeal.main_v30) = V' (Proc.devRef .tc Cert.ReferenceIdeal.main_v30))
    (h_v31 : V (Proc.devRef .tc Cert.KernelIdeal.main_v31) = V' (Proc.devRef .tc Cert.ReferenceIdeal.main_v31)) :
    StableHlo.after Cert.KernelIdeal.Gen.hostOps0_4 V (Proc.devRef .tc Cert.KernelIdeal.main_v32) =
      StableHlo.after Cert.ReferenceIdeal.Whole.ops4 V' (Proc.devRef .tc Cert.ReferenceIdeal.main_v32) := by
  after_reads_simp
  try simp only [h_v30, h_v31]
  try rfl

/-- Both programs find the same `main_c_6` from the same contents. -/
theorem same_c_6
    (h_v29 : V (Proc.devRef .tc Cert.KernelIdeal.main_v29) = V' (Proc.devRef .tc Cert.ReferenceIdeal.main_v29))
    (h_v32 : V (Proc.devRef .tc Cert.KernelIdeal.main_v32) = V' (Proc.devRef .tc Cert.ReferenceIdeal.main_v32)) :
    StableHlo.after Cert.KernelIdeal.Gen.hostOps0_5 V (Proc.devRef .tc Cert.KernelIdeal.main_c_6) =
      StableHlo.after Cert.ReferenceIdeal.Whole.ops5 V' (Proc.devRef .tc Cert.ReferenceIdeal.main_c_6) := by
  after_reads_simp
  try simp only [h_v29, h_v32]
  try rfl

/-- Both programs find the same `main_v33` from the same contents. -/
theorem same_v33
    (h_v29 : V (Proc.devRef .tc Cert.KernelIdeal.main_v29) = V' (Proc.devRef .tc Cert.ReferenceIdeal.main_v29))
    (h_v32 : V (Proc.devRef .tc Cert.KernelIdeal.main_v32) = V' (Proc.devRef .tc Cert.ReferenceIdeal.main_v32)) :
    StableHlo.after Cert.KernelIdeal.Gen.hostOps0_5 V (Proc.devRef .tc Cert.KernelIdeal.main_v33) =
      StableHlo.after Cert.ReferenceIdeal.Whole.ops5 V' (Proc.devRef .tc Cert.ReferenceIdeal.main_v33) := by
  after_reads_simp
  try simp only [h_v29, h_v32]
  try rfl

/-- Both programs find the same `main_v35` from the same contents. -/
theorem same_v35
    (h_v29 : V (Proc.devRef .tc Cert.KernelIdeal.main_v29) = V' (Proc.devRef .tc Cert.ReferenceIdeal.main_v29))
    (h_v32 : V (Proc.devRef .tc Cert.KernelIdeal.main_v32) = V' (Proc.devRef .tc Cert.ReferenceIdeal.main_v32)) :
    StableHlo.after Cert.KernelIdeal.Gen.hostOps0_5 V (Proc.devRef .tc Cert.KernelIdeal.main_v35) =
      StableHlo.after Cert.ReferenceIdeal.Whole.ops5 V' (Proc.devRef .tc Cert.ReferenceIdeal.main_v35) := by
  after_reads_simp
  try simp only [h_v29, h_v32]
  try rfl

/-- Both programs find the same `main_v39` from the same contents. -/
theorem same_v39
    (h_v29 : V (Proc.devRef .tc Cert.KernelIdeal.main_v29) = V' (Proc.devRef .tc Cert.ReferenceIdeal.main_v29))
    (h_v32 : V (Proc.devRef .tc Cert.KernelIdeal.main_v32) = V' (Proc.devRef .tc Cert.ReferenceIdeal.main_v32)) :
    StableHlo.after Cert.KernelIdeal.Gen.hostOps0_5 V (Proc.devRef .tc Cert.KernelIdeal.main_v39) =
      StableHlo.after Cert.ReferenceIdeal.Whole.ops5 V' (Proc.devRef .tc Cert.ReferenceIdeal.main_v39) := by
  after_reads_simp
  try simp only [h_v29, h_v32]
  try rfl

/-- Both programs find the same `main_v40` from the same contents. -/
theorem same_v40
    (h_c_6 : V (Proc.devRef .tc Cert.KernelIdeal.main_c_6) = V' (Proc.devRef .tc Cert.ReferenceIdeal.main_c_6))
    (h_v35 : V (Proc.devRef .tc Cert.KernelIdeal.main_v35) = V' (Proc.devRef .tc Cert.ReferenceIdeal.main_v35))
    (h_v39 : V (Proc.devRef .tc Cert.KernelIdeal.main_v39) = V' (Proc.devRef .tc Cert.ReferenceIdeal.main_v39)) :
    StableHlo.after Cert.KernelIdeal.Gen.hostOps0_6 V (Proc.devRef .tc Cert.KernelIdeal.main_v40) =
      StableHlo.after Cert.ReferenceIdeal.Whole.ops6 V' (Proc.devRef .tc Cert.ReferenceIdeal.main_v40) := by
  after_reads_simp
  try simp only [h_c_6, h_v35, h_v39]
  try rfl

/-- Both programs find the same `main_v41` from the same contents. -/
theorem same_v41
    (h_v40 : V (Proc.devRef .tc Cert.KernelIdeal.main_v40) = V' (Proc.devRef .tc Cert.ReferenceIdeal.main_v40)) :
    StableHlo.after Cert.KernelIdeal.Gen.hostOps0_7 V (Proc.devRef .tc Cert.KernelIdeal.main_v41) =
      StableHlo.after Cert.ReferenceIdeal.Whole.ops7 V' (Proc.devRef .tc Cert.ReferenceIdeal.main_v41) := by
  after_reads_simp
  try simp only [h_v40]
  try rfl

/-- Both programs find the same `main_v42` from the same contents. -/
theorem same_v42
    (h_v41 : V (Proc.devRef .tc Cert.KernelIdeal.main_v41) = V' (Proc.devRef .tc Cert.ReferenceIdeal.main_v41)) :
    StableHlo.after Cert.KernelIdeal.Gen.hostOps0_8 V (Proc.devRef .tc Cert.KernelIdeal.main_v42) =
      StableHlo.after Cert.ReferenceIdeal.Whole.ops8 V' (Proc.devRef .tc Cert.ReferenceIdeal.main_v42) := by
  after_reads_simp
  try simp only [h_v41]
  try rfl

/-- Both programs find the same `main_v43` from the same contents. -/
theorem same_v43
    (h_v30 : V (Proc.devRef .tc Cert.KernelIdeal.main_v30) = V' (Proc.devRef .tc Cert.ReferenceIdeal.main_v30))
    (h_v42 : V (Proc.devRef .tc Cert.KernelIdeal.main_v42) = V' (Proc.devRef .tc Cert.ReferenceIdeal.main_v42)) :
    StableHlo.after Cert.KernelIdeal.Gen.hostOps0_9 V (Proc.devRef .tc Cert.KernelIdeal.main_v43) =
      StableHlo.after Cert.ReferenceIdeal.Whole.ops9 V' (Proc.devRef .tc Cert.ReferenceIdeal.main_v43) := by
  after_reads_simp
  try simp only [h_v30, h_v42]
  try rfl

/-- Both programs find the same `main_v44` from the same contents. -/
theorem same_v44
    (h_v43 : V (Proc.devRef .tc Cert.KernelIdeal.main_v43) = V' (Proc.devRef .tc Cert.ReferenceIdeal.main_v43)) :
    StableHlo.after Cert.KernelIdeal.Gen.hostOps0_10 V (Proc.devRef .tc Cert.KernelIdeal.main_v44) =
      StableHlo.after Cert.ReferenceIdeal.Whole.ops10 V' (Proc.devRef .tc Cert.ReferenceIdeal.main_v44) := by
  after_reads_simp
  try simp only [h_v43]
  try rfl

/-- Both programs find the same `main_v45` from the same contents. -/
theorem same_v45
    (h_v43 : V (Proc.devRef .tc Cert.KernelIdeal.main_v43) = V' (Proc.devRef .tc Cert.ReferenceIdeal.main_v43)) :
    StableHlo.after Cert.KernelIdeal.Gen.hostOps0_10 V (Proc.devRef .tc Cert.KernelIdeal.main_v45) =
      StableHlo.after Cert.ReferenceIdeal.Whole.ops10 V' (Proc.devRef .tc Cert.ReferenceIdeal.main_v45) := by
  after_reads_simp
  try simp only [h_v43]
  try rfl

/-- Both programs find the same `main_v46` from the same contents. -/
theorem same_v46
    (h_v4 : V (Proc.devRef .tc Cert.KernelIdeal.main_v4) = V' (Proc.devRef .tc Cert.ReferenceIdeal.main_v4))
    (h_v45 : V (Proc.devRef .tc Cert.KernelIdeal.main_v45) = V' (Proc.devRef .tc Cert.ReferenceIdeal.main_v45)) :
    StableHlo.after Cert.KernelIdeal.Gen.hostOps0_11 V (Proc.devRef .tc Cert.KernelIdeal.main_v46) =
      StableHlo.after Cert.ReferenceIdeal.Whole.ops11 V' (Proc.devRef .tc Cert.ReferenceIdeal.main_v46) := by
  after_reads_simp
  try simp only [h_v4, h_v45]
  try rfl

/-- Both programs find the same `main_v47` from the same contents. -/
theorem same_v47
    (h_v33 : V (Proc.devRef .tc Cert.KernelIdeal.main_v33) = V' (Proc.devRef .tc Cert.ReferenceIdeal.main_v33)) :
    StableHlo.after Cert.KernelIdeal.Gen.hostOps0_12 V (Proc.devRef .tc Cert.KernelIdeal.main_v47) =
      StableHlo.after Cert.ReferenceIdeal.Whole.ops12 V' (Proc.devRef .tc Cert.ReferenceIdeal.main_v47) := by
  after_reads_simp
  try simp only [h_v33]
  try rfl

/-- Both programs find the same `main_v48` from the same contents. -/
theorem same_v48
    (h_v4 : V (Proc.devRef .tc Cert.KernelIdeal.main_v4) = V' (Proc.devRef .tc Cert.ReferenceIdeal.main_v4))
    (h_v47 : V (Proc.devRef .tc Cert.KernelIdeal.main_v47) = V' (Proc.devRef .tc Cert.ReferenceIdeal.main_v47)) :
    StableHlo.after Cert.KernelIdeal.Gen.hostOps0_13 V (Proc.devRef .tc Cert.KernelIdeal.main_v48) =
      StableHlo.after Cert.ReferenceIdeal.Whole.ops13 V' (Proc.devRef .tc Cert.ReferenceIdeal.main_v48) := by
  after_reads_simp
  try simp only [h_v4, h_v47]
  try rfl

/-- Both programs find the same `main_v49` from the same contents. -/
theorem same_v49
    (h_v46 : V (Proc.devRef .tc Cert.KernelIdeal.main_v46) = V' (Proc.devRef .tc Cert.ReferenceIdeal.main_v46))
    (h_v48 : V (Proc.devRef .tc Cert.KernelIdeal.main_v48) = V' (Proc.devRef .tc Cert.ReferenceIdeal.main_v48)) :
    StableHlo.after Cert.KernelIdeal.Gen.hostOps0_14 V (Proc.devRef .tc Cert.KernelIdeal.main_v49) =
      StableHlo.after Cert.ReferenceIdeal.Whole.ops14 V' (Proc.devRef .tc Cert.ReferenceIdeal.main_v49) := by
  after_reads_simp
  try simp only [h_v46, h_v48]
  try rfl

/-- Both programs find the same `main_v50` from the same contents. -/
theorem same_v50
    (h_v49 : V (Proc.devRef .tc Cert.KernelIdeal.main_v49) = V' (Proc.devRef .tc Cert.ReferenceIdeal.main_v49)) :
    StableHlo.after Cert.KernelIdeal.Gen.hostOps0_15 V (Proc.devRef .tc Cert.KernelIdeal.main_v50) =
      StableHlo.after Cert.ReferenceIdeal.Whole.ops15 V' (Proc.devRef .tc Cert.ReferenceIdeal.main_v50) := by
  after_reads_simp
  try simp only [h_v49]
  try rfl

/-- Both programs find the same `main_v52` from the same contents. -/
theorem same_v52
    (h_v49 : V (Proc.devRef .tc Cert.KernelIdeal.main_v49) = V' (Proc.devRef .tc Cert.ReferenceIdeal.main_v49)) :
    StableHlo.after Cert.KernelIdeal.Gen.hostOps0_16 V (Proc.devRef .tc Cert.KernelIdeal.main_v52) =
      StableHlo.after Cert.ReferenceIdeal.Whole.ops16 V' (Proc.devRef .tc Cert.ReferenceIdeal.main_v52) := by
  after_reads_simp
  try simp only [h_v49]
  try rfl

/-- Both programs find the same `main_v53` from the same contents. -/
theorem same_v53
    (h_v52 : V (Proc.devRef .tc Cert.KernelIdeal.main_v52) = V' (Proc.devRef .tc Cert.ReferenceIdeal.main_v52)) :
    StableHlo.after Cert.KernelIdeal.Gen.hostOps0_17 V (Proc.devRef .tc Cert.KernelIdeal.main_v53) =
      StableHlo.after Cert.ReferenceIdeal.Whole.ops17 V' (Proc.devRef .tc Cert.ReferenceIdeal.main_v53) := by
  after_reads_simp
  try simp only [h_v52]
  try rfl

end Cert.Agree
-- ==== Proof.Same.lean ====
module

public import proofs.«01_k».proof.Proof.Agree
public import proofs.«01_k».proof.Proof.Spec

/-! The two programs' index arrays are the same, when their arguments are: each is found from the ones before it by the
same operations, and kept by the operations that follow. -/

@[expose] public section

set_option maxRecDepth 16384

noncomputable section

namespace Cert.Same

open Idealize.ShloMosaic Idealize.ShloMosaic.TcCoe Cert.Agree

/-- What two programs hold alike they hold alike after operations that write it in neither. -/
theorem carry {α : Type} {a b c d : α} (h1 : a = b) (h : b = c) (h2 : d = c) : a = d := h1.trans (h.trans h2.symm)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h0 : Cert.KernelIdeal.Gen.V0 m c (Proc.devRef .tc Cert.KernelIdeal.main_arg0) = Cert.ReferenceIdeal.Whole.W0 m' c (Proc.devRef .tc Cert.ReferenceIdeal.main_arg0))
  (h1 : Cert.KernelIdeal.Gen.V0 m c (Proc.devRef .tc Cert.KernelIdeal.main_arg1) = Cert.ReferenceIdeal.Whole.W0 m' c (Proc.devRef .tc Cert.ReferenceIdeal.main_arg1))
include h0 h1

theorem arg0_1 : Cert.KernelIdeal.Gen.V1 m c (Proc.devRef .tc Cert.KernelIdeal.main_arg0) = Cert.ReferenceIdeal.Whole.W1 m' c (Proc.devRef .tc Cert.ReferenceIdeal.main_arg0) :=
  carry (Cert.KernelIdeal.Gen.V1_of m c Cert.KernelIdeal.main_arg0 (by decide)) h0 (Cert.ReferenceIdeal.Whole.W1_of m' c Cert.ReferenceIdeal.main_arg0 (by decide))

theorem arg1_1 : Cert.KernelIdeal.Gen.V1 m c (Proc.devRef .tc Cert.KernelIdeal.main_arg1) = Cert.ReferenceIdeal.Whole.W1 m' c (Proc.devRef .tc Cert.ReferenceIdeal.main_arg1) :=
  carry (Cert.KernelIdeal.Gen.V1_of m c Cert.KernelIdeal.main_arg1 (by decide)) h1 (Cert.ReferenceIdeal.Whole.W1_of m' c Cert.ReferenceIdeal.main_arg1 (by decide))

theorem v0_1 : Cert.KernelIdeal.Gen.V1 m c (Proc.devRef .tc Cert.KernelIdeal.main_v0) = Cert.ReferenceIdeal.Whole.W1 m' c (Proc.devRef .tc Cert.ReferenceIdeal.main_v0) :=
  same_v0 (Cert.KernelIdeal.Gen.V0 m c) (Cert.ReferenceIdeal.Whole.W0 m' c) h0

theorem v28_2 : Cert.KernelIdeal.Gen.V2 m c (Proc.devRef .tc Cert.KernelIdeal.main_v28) = Cert.ReferenceIdeal.Whole.W2 m' c (Proc.devRef .tc Cert.ReferenceIdeal.main_v28) :=
  same_v28 (Cert.KernelIdeal.Gen.V1 m c) (Cert.ReferenceIdeal.Whole.W1 m' c) (arg0_1 m m' c h0 h1) (arg1_1 m m' c h0 h1) (v0_1 m m' c h0 h1)

theorem v29_3 : Cert.KernelIdeal.Gen.V3 m c (Proc.devRef .tc Cert.KernelIdeal.main_v29) = Cert.ReferenceIdeal.Whole.W3 m' c (Proc.devRef .tc Cert.ReferenceIdeal.main_v29) :=
  same_v29 (Cert.KernelIdeal.Gen.V2 m c) (Cert.ReferenceIdeal.Whole.W2 m' c) (v28_2 m m' c h0 h1)

theorem v29_4 : Cert.KernelIdeal.Gen.V4 m c (Proc.devRef .tc Cert.KernelIdeal.main_v29) = Cert.ReferenceIdeal.Whole.W4 m' c (Proc.devRef .tc Cert.ReferenceIdeal.main_v29) :=
  carry (Cert.KernelIdeal.Gen.V4_of m c Cert.KernelIdeal.main_v29 (by decide)) (v29_3 m m' c h0 h1) (Cert.ReferenceIdeal.Whole.W4_of m' c Cert.ReferenceIdeal.main_v29 (by decide))

theorem v29_5 : Cert.KernelIdeal.Gen.V5 m c (Proc.devRef .tc Cert.KernelIdeal.main_v29) = Cert.ReferenceIdeal.Whole.W5 m' c (Proc.devRef .tc Cert.ReferenceIdeal.main_v29) :=
  carry (Cert.KernelIdeal.Gen.V5_of m c Cert.KernelIdeal.main_v29 (by decide)) (v29_4 m m' c h0 h1) (Cert.ReferenceIdeal.Whole.W5_of m' c Cert.ReferenceIdeal.main_v29 (by decide))

theorem v9_2 : Cert.KernelIdeal.Gen.V2 m c (Proc.devRef .tc Cert.KernelIdeal.main_v9) = Cert.ReferenceIdeal.Whole.W2 m' c (Proc.devRef .tc Cert.ReferenceIdeal.main_v9) :=
  same_v9 (Cert.KernelIdeal.Gen.V1 m c) (Cert.ReferenceIdeal.Whole.W1 m' c) (arg0_1 m m' c h0 h1) (arg1_1 m m' c h0 h1) (v0_1 m m' c h0 h1)

theorem v9_3 : Cert.KernelIdeal.Gen.V3 m c (Proc.devRef .tc Cert.KernelIdeal.main_v9) = Cert.ReferenceIdeal.Whole.W3 m' c (Proc.devRef .tc Cert.ReferenceIdeal.main_v9) :=
  carry (Cert.KernelIdeal.Gen.V3_of m c Cert.KernelIdeal.main_v9 (by decide)) (v9_2 m m' c h0 h1) (Cert.ReferenceIdeal.Whole.W3_of m' c Cert.ReferenceIdeal.main_v9 (by decide))

theorem v30_4 : Cert.KernelIdeal.Gen.V4 m c (Proc.devRef .tc Cert.KernelIdeal.main_v30) = Cert.ReferenceIdeal.Whole.W4 m' c (Proc.devRef .tc Cert.ReferenceIdeal.main_v30) :=
  same_v30 (Cert.KernelIdeal.Gen.V3 m c) (Cert.ReferenceIdeal.Whole.W3 m' c) (v29_3 m m' c h0 h1) (v9_3 m m' c h0 h1)

theorem v31_4 : Cert.KernelIdeal.Gen.V4 m c (Proc.devRef .tc Cert.KernelIdeal.main_v31) = Cert.ReferenceIdeal.Whole.W4 m' c (Proc.devRef .tc Cert.ReferenceIdeal.main_v31) :=
  same_v31 (Cert.KernelIdeal.Gen.V3 m c) (Cert.ReferenceIdeal.Whole.W3 m' c) (v29_3 m m' c h0 h1) (v9_3 m m' c h0 h1)

theorem v32_5 : Cert.KernelIdeal.Gen.V5 m c (Proc.devRef .tc Cert.KernelIdeal.main_v32) = Cert.ReferenceIdeal.Whole.W5 m' c (Proc.devRef .tc Cert.ReferenceIdeal.main_v32) :=
  same_v32 (Cert.KernelIdeal.Gen.V4 m c) (Cert.ReferenceIdeal.Whole.W4 m' c) (v30_4 m m' c h0 h1) (v31_4 m m' c h0 h1)

theorem v33_6 : Cert.KernelIdeal.Gen.V6 m c (Proc.devRef .tc Cert.KernelIdeal.main_v33) = Cert.ReferenceIdeal.Whole.W6 m' c (Proc.devRef .tc Cert.ReferenceIdeal.main_v33) :=
  same_v33 (Cert.KernelIdeal.Gen.V5 m c) (Cert.ReferenceIdeal.Whole.W5 m' c) (v29_5 m m' c h0 h1) (v32_5 m m' c h0 h1)

theorem v30_5 : Cert.KernelIdeal.Gen.V5 m c (Proc.devRef .tc Cert.KernelIdeal.main_v30) = Cert.ReferenceIdeal.Whole.W5 m' c (Proc.devRef .tc Cert.ReferenceIdeal.main_v30) :=
  carry (Cert.KernelIdeal.Gen.V5_of m c Cert.KernelIdeal.main_v30 (by decide)) (v30_4 m m' c h0 h1) (Cert.ReferenceIdeal.Whole.W5_of m' c Cert.ReferenceIdeal.main_v30 (by decide))

theorem v30_6 : Cert.KernelIdeal.Gen.V6 m c (Proc.devRef .tc Cert.KernelIdeal.main_v30) = Cert.ReferenceIdeal.Whole.W6 m' c (Proc.devRef .tc Cert.ReferenceIdeal.main_v30) :=
  carry (Cert.KernelIdeal.Gen.V6_of m c Cert.KernelIdeal.main_v30 (by decide)) (v30_5 m m' c h0 h1) (Cert.ReferenceIdeal.Whole.W6_of m' c Cert.ReferenceIdeal.main_v30 (by decide))

theorem v30_7 : Cert.KernelIdeal.Gen.V7 m c (Proc.devRef .tc Cert.KernelIdeal.main_v30) = Cert.ReferenceIdeal.Whole.W7 m' c (Proc.devRef .tc Cert.ReferenceIdeal.main_v30) :=
  carry (Cert.KernelIdeal.Gen.V7_of m c Cert.KernelIdeal.main_v30 (by decide)) (v30_6 m m' c h0 h1) (Cert.ReferenceIdeal.Whole.W7_of m' c Cert.ReferenceIdeal.main_v30 (by decide))

theorem v30_8 : Cert.KernelIdeal.Gen.V8 m c (Proc.devRef .tc Cert.KernelIdeal.main_v30) = Cert.ReferenceIdeal.Whole.W8 m' c (Proc.devRef .tc Cert.ReferenceIdeal.main_v30) :=
  carry (Cert.KernelIdeal.Gen.V8_of m c Cert.KernelIdeal.main_v30 (by decide)) (v30_7 m m' c h0 h1) (Cert.ReferenceIdeal.Whole.W8_of m' c Cert.ReferenceIdeal.main_v30 (by decide))

theorem v30_9 : Cert.KernelIdeal.Gen.V9 m c (Proc.devRef .tc Cert.KernelIdeal.main_v30) = Cert.ReferenceIdeal.Whole.W9 m' c (Proc.devRef .tc Cert.ReferenceIdeal.main_v30) :=
  carry (Cert.KernelIdeal.Gen.V9_of m c Cert.KernelIdeal.main_v30 (by decide)) (v30_8 m m' c h0 h1) (Cert.ReferenceIdeal.Whole.W9_of m' c Cert.ReferenceIdeal.main_v30 (by decide))

theorem c_6_6 : Cert.KernelIdeal.Gen.V6 m c (Proc.devRef .tc Cert.KernelIdeal.main_c_6) = Cert.ReferenceIdeal.Whole.W6 m' c (Proc.devRef .tc Cert.ReferenceIdeal.main_c_6) :=
  same_c_6 (Cert.KernelIdeal.Gen.V5 m c) (Cert.ReferenceIdeal.Whole.W5 m' c) (v29_5 m m' c h0 h1) (v32_5 m m' c h0 h1)

theorem v35_6 : Cert.KernelIdeal.Gen.V6 m c (Proc.devRef .tc Cert.KernelIdeal.main_v35) = Cert.ReferenceIdeal.Whole.W6 m' c (Proc.devRef .tc Cert.ReferenceIdeal.main_v35) :=
  same_v35 (Cert.KernelIdeal.Gen.V5 m c) (Cert.ReferenceIdeal.Whole.W5 m' c) (v29_5 m m' c h0 h1) (v32_5 m m' c h0 h1)

theorem v39_6 : Cert.KernelIdeal.Gen.V6 m c (Proc.devRef .tc Cert.KernelIdeal.main_v39) = Cert.ReferenceIdeal.Whole.W6 m' c (Proc.devRef .tc Cert.ReferenceIdeal.main_v39) :=
  same_v39 (Cert.KernelIdeal.Gen.V5 m c) (Cert.ReferenceIdeal.Whole.W5 m' c) (v29_5 m m' c h0 h1) (v32_5 m m' c h0 h1)

theorem v40_7 : Cert.KernelIdeal.Gen.V7 m c (Proc.devRef .tc Cert.KernelIdeal.main_v40) = Cert.ReferenceIdeal.Whole.W7 m' c (Proc.devRef .tc Cert.ReferenceIdeal.main_v40) :=
  same_v40 (Cert.KernelIdeal.Gen.V6 m c) (Cert.ReferenceIdeal.Whole.W6 m' c) (c_6_6 m m' c h0 h1) (v35_6 m m' c h0 h1) (v39_6 m m' c h0 h1)

theorem v41_8 : Cert.KernelIdeal.Gen.V8 m c (Proc.devRef .tc Cert.KernelIdeal.main_v41) = Cert.ReferenceIdeal.Whole.W8 m' c (Proc.devRef .tc Cert.ReferenceIdeal.main_v41) :=
  same_v41 (Cert.KernelIdeal.Gen.V7 m c) (Cert.ReferenceIdeal.Whole.W7 m' c) (v40_7 m m' c h0 h1)

theorem v42_9 : Cert.KernelIdeal.Gen.V9 m c (Proc.devRef .tc Cert.KernelIdeal.main_v42) = Cert.ReferenceIdeal.Whole.W9 m' c (Proc.devRef .tc Cert.ReferenceIdeal.main_v42) :=
  same_v42 (Cert.KernelIdeal.Gen.V8 m c) (Cert.ReferenceIdeal.Whole.W8 m' c) (v41_8 m m' c h0 h1)

theorem v43_10 : Cert.KernelIdeal.Gen.V10 m c (Proc.devRef .tc Cert.KernelIdeal.main_v43) = Cert.ReferenceIdeal.Whole.W10 m' c (Proc.devRef .tc Cert.ReferenceIdeal.main_v43) :=
  same_v43 (Cert.KernelIdeal.Gen.V9 m c) (Cert.ReferenceIdeal.Whole.W9 m' c) (v30_9 m m' c h0 h1) (v42_9 m m' c h0 h1)

theorem v44_11 : Cert.KernelIdeal.Gen.V11 m c (Proc.devRef .tc Cert.KernelIdeal.main_v44) = Cert.ReferenceIdeal.Whole.W11 m' c (Proc.devRef .tc Cert.ReferenceIdeal.main_v44) :=
  same_v44 (Cert.KernelIdeal.Gen.V10 m c) (Cert.ReferenceIdeal.Whole.W10 m' c) (v43_10 m m' c h0 h1)

theorem v4_2 : Cert.KernelIdeal.Gen.V2 m c (Proc.devRef .tc Cert.KernelIdeal.main_v4) = Cert.ReferenceIdeal.Whole.W2 m' c (Proc.devRef .tc Cert.ReferenceIdeal.main_v4) :=
  same_v4 (Cert.KernelIdeal.Gen.V1 m c) (Cert.ReferenceIdeal.Whole.W1 m' c) (arg0_1 m m' c h0 h1) (arg1_1 m m' c h0 h1) (v0_1 m m' c h0 h1)

theorem v4_3 : Cert.KernelIdeal.Gen.V3 m c (Proc.devRef .tc Cert.KernelIdeal.main_v4) = Cert.ReferenceIdeal.Whole.W3 m' c (Proc.devRef .tc Cert.ReferenceIdeal.main_v4) :=
  carry (Cert.KernelIdeal.Gen.V3_of m c Cert.KernelIdeal.main_v4 (by decide)) (v4_2 m m' c h0 h1) (Cert.ReferenceIdeal.Whole.W3_of m' c Cert.ReferenceIdeal.main_v4 (by decide))

theorem v4_4 : Cert.KernelIdeal.Gen.V4 m c (Proc.devRef .tc Cert.KernelIdeal.main_v4) = Cert.ReferenceIdeal.Whole.W4 m' c (Proc.devRef .tc Cert.ReferenceIdeal.main_v4) :=
  carry (Cert.KernelIdeal.Gen.V4_of m c Cert.KernelIdeal.main_v4 (by decide)) (v4_3 m m' c h0 h1) (Cert.ReferenceIdeal.Whole.W4_of m' c Cert.ReferenceIdeal.main_v4 (by decide))

theorem v4_5 : Cert.KernelIdeal.Gen.V5 m c (Proc.devRef .tc Cert.KernelIdeal.main_v4) = Cert.ReferenceIdeal.Whole.W5 m' c (Proc.devRef .tc Cert.ReferenceIdeal.main_v4) :=
  carry (Cert.KernelIdeal.Gen.V5_of m c Cert.KernelIdeal.main_v4 (by decide)) (v4_4 m m' c h0 h1) (Cert.ReferenceIdeal.Whole.W5_of m' c Cert.ReferenceIdeal.main_v4 (by decide))

theorem v4_6 : Cert.KernelIdeal.Gen.V6 m c (Proc.devRef .tc Cert.KernelIdeal.main_v4) = Cert.ReferenceIdeal.Whole.W6 m' c (Proc.devRef .tc Cert.ReferenceIdeal.main_v4) :=
  carry (Cert.KernelIdeal.Gen.V6_of m c Cert.KernelIdeal.main_v4 (by decide)) (v4_5 m m' c h0 h1) (Cert.ReferenceIdeal.Whole.W6_of m' c Cert.ReferenceIdeal.main_v4 (by decide))

theorem v4_7 : Cert.KernelIdeal.Gen.V7 m c (Proc.devRef .tc Cert.KernelIdeal.main_v4) = Cert.ReferenceIdeal.Whole.W7 m' c (Proc.devRef .tc Cert.ReferenceIdeal.main_v4) :=
  carry (Cert.KernelIdeal.Gen.V7_of m c Cert.KernelIdeal.main_v4 (by decide)) (v4_6 m m' c h0 h1) (Cert.ReferenceIdeal.Whole.W7_of m' c Cert.ReferenceIdeal.main_v4 (by decide))

theorem v4_8 : Cert.KernelIdeal.Gen.V8 m c (Proc.devRef .tc Cert.KernelIdeal.main_v4) = Cert.ReferenceIdeal.Whole.W8 m' c (Proc.devRef .tc Cert.ReferenceIdeal.main_v4) :=
  carry (Cert.KernelIdeal.Gen.V8_of m c Cert.KernelIdeal.main_v4 (by decide)) (v4_7 m m' c h0 h1) (Cert.ReferenceIdeal.Whole.W8_of m' c Cert.ReferenceIdeal.main_v4 (by decide))

theorem v4_9 : Cert.KernelIdeal.Gen.V9 m c (Proc.devRef .tc Cert.KernelIdeal.main_v4) = Cert.ReferenceIdeal.Whole.W9 m' c (Proc.devRef .tc Cert.ReferenceIdeal.main_v4) :=
  carry (Cert.KernelIdeal.Gen.V9_of m c Cert.KernelIdeal.main_v4 (by decide)) (v4_8 m m' c h0 h1) (Cert.ReferenceIdeal.Whole.W9_of m' c Cert.ReferenceIdeal.main_v4 (by decide))

theorem v4_10 : Cert.KernelIdeal.Gen.V10 m c (Proc.devRef .tc Cert.KernelIdeal.main_v4) = Cert.ReferenceIdeal.Whole.W10 m' c (Proc.devRef .tc Cert.ReferenceIdeal.main_v4) :=
  carry (Cert.KernelIdeal.Gen.V10_of m c Cert.KernelIdeal.main_v4 (by decide)) (v4_9 m m' c h0 h1) (Cert.ReferenceIdeal.Whole.W10_of m' c Cert.ReferenceIdeal.main_v4 (by decide))

theorem v4_11 : Cert.KernelIdeal.Gen.V11 m c (Proc.devRef .tc Cert.KernelIdeal.main_v4) = Cert.ReferenceIdeal.Whole.W11 m' c (Proc.devRef .tc Cert.ReferenceIdeal.main_v4) :=
  carry (Cert.KernelIdeal.Gen.V11_of m c Cert.KernelIdeal.main_v4 (by decide)) (v4_10 m m' c h0 h1) (Cert.ReferenceIdeal.Whole.W11_of m' c Cert.ReferenceIdeal.main_v4 (by decide))

theorem v45_11 : Cert.KernelIdeal.Gen.V11 m c (Proc.devRef .tc Cert.KernelIdeal.main_v45) = Cert.ReferenceIdeal.Whole.W11 m' c (Proc.devRef .tc Cert.ReferenceIdeal.main_v45) :=
  same_v45 (Cert.KernelIdeal.Gen.V10 m c) (Cert.ReferenceIdeal.Whole.W10 m' c) (v43_10 m m' c h0 h1)

theorem v46_12 : Cert.KernelIdeal.Gen.V12 m c (Proc.devRef .tc Cert.KernelIdeal.main_v46) = Cert.ReferenceIdeal.Whole.W12 m' c (Proc.devRef .tc Cert.ReferenceIdeal.main_v46) :=
  same_v46 (Cert.KernelIdeal.Gen.V11 m c) (Cert.ReferenceIdeal.Whole.W11 m' c) (v4_11 m m' c h0 h1) (v45_11 m m' c h0 h1)

theorem v46_13 : Cert.KernelIdeal.Gen.V13 m c (Proc.devRef .tc Cert.KernelIdeal.main_v46) = Cert.ReferenceIdeal.Whole.W13 m' c (Proc.devRef .tc Cert.ReferenceIdeal.main_v46) :=
  carry (Cert.KernelIdeal.Gen.V13_of m c Cert.KernelIdeal.main_v46 (by decide)) (v46_12 m m' c h0 h1) (Cert.ReferenceIdeal.Whole.W13_of m' c Cert.ReferenceIdeal.main_v46 (by decide))

theorem v46_14 : Cert.KernelIdeal.Gen.V14 m c (Proc.devRef .tc Cert.KernelIdeal.main_v46) = Cert.ReferenceIdeal.Whole.W14 m' c (Proc.devRef .tc Cert.ReferenceIdeal.main_v46) :=
  carry (Cert.KernelIdeal.Gen.V14_of m c Cert.KernelIdeal.main_v46 (by decide)) (v46_13 m m' c h0 h1) (Cert.ReferenceIdeal.Whole.W14_of m' c Cert.ReferenceIdeal.main_v46 (by decide))

theorem v4_12 : Cert.KernelIdeal.Gen.V12 m c (Proc.devRef .tc Cert.KernelIdeal.main_v4) = Cert.ReferenceIdeal.Whole.W12 m' c (Proc.devRef .tc Cert.ReferenceIdeal.main_v4) :=
  carry (Cert.KernelIdeal.Gen.V12_of m c Cert.KernelIdeal.main_v4 (by decide)) (v4_11 m m' c h0 h1) (Cert.ReferenceIdeal.Whole.W12_of m' c Cert.ReferenceIdeal.main_v4 (by decide))

theorem v4_13 : Cert.KernelIdeal.Gen.V13 m c (Proc.devRef .tc Cert.KernelIdeal.main_v4) = Cert.ReferenceIdeal.Whole.W13 m' c (Proc.devRef .tc Cert.ReferenceIdeal.main_v4) :=
  carry (Cert.KernelIdeal.Gen.V13_of m c Cert.KernelIdeal.main_v4 (by decide)) (v4_12 m m' c h0 h1) (Cert.ReferenceIdeal.Whole.W13_of m' c Cert.ReferenceIdeal.main_v4 (by decide))

theorem v33_7 : Cert.KernelIdeal.Gen.V7 m c (Proc.devRef .tc Cert.KernelIdeal.main_v33) = Cert.ReferenceIdeal.Whole.W7 m' c (Proc.devRef .tc Cert.ReferenceIdeal.main_v33) :=
  carry (Cert.KernelIdeal.Gen.V7_of m c Cert.KernelIdeal.main_v33 (by decide)) (v33_6 m m' c h0 h1) (Cert.ReferenceIdeal.Whole.W7_of m' c Cert.ReferenceIdeal.main_v33 (by decide))

theorem v33_8 : Cert.KernelIdeal.Gen.V8 m c (Proc.devRef .tc Cert.KernelIdeal.main_v33) = Cert.ReferenceIdeal.Whole.W8 m' c (Proc.devRef .tc Cert.ReferenceIdeal.main_v33) :=
  carry (Cert.KernelIdeal.Gen.V8_of m c Cert.KernelIdeal.main_v33 (by decide)) (v33_7 m m' c h0 h1) (Cert.ReferenceIdeal.Whole.W8_of m' c Cert.ReferenceIdeal.main_v33 (by decide))

theorem v33_9 : Cert.KernelIdeal.Gen.V9 m c (Proc.devRef .tc Cert.KernelIdeal.main_v33) = Cert.ReferenceIdeal.Whole.W9 m' c (Proc.devRef .tc Cert.ReferenceIdeal.main_v33) :=
  carry (Cert.KernelIdeal.Gen.V9_of m c Cert.KernelIdeal.main_v33 (by decide)) (v33_8 m m' c h0 h1) (Cert.ReferenceIdeal.Whole.W9_of m' c Cert.ReferenceIdeal.main_v33 (by decide))

theorem v33_10 : Cert.KernelIdeal.Gen.V10 m c (Proc.devRef .tc Cert.KernelIdeal.main_v33) = Cert.ReferenceIdeal.Whole.W10 m' c (Proc.devRef .tc Cert.ReferenceIdeal.main_v33) :=
  carry (Cert.KernelIdeal.Gen.V10_of m c Cert.KernelIdeal.main_v33 (by decide)) (v33_9 m m' c h0 h1) (Cert.ReferenceIdeal.Whole.W10_of m' c Cert.ReferenceIdeal.main_v33 (by decide))

theorem v33_11 : Cert.KernelIdeal.Gen.V11 m c (Proc.devRef .tc Cert.KernelIdeal.main_v33) = Cert.ReferenceIdeal.Whole.W11 m' c (Proc.devRef .tc Cert.ReferenceIdeal.main_v33) :=
  carry (Cert.KernelIdeal.Gen.V11_of m c Cert.KernelIdeal.main_v33 (by decide)) (v33_10 m m' c h0 h1) (Cert.ReferenceIdeal.Whole.W11_of m' c Cert.ReferenceIdeal.main_v33 (by decide))

theorem v33_12 : Cert.KernelIdeal.Gen.V12 m c (Proc.devRef .tc Cert.KernelIdeal.main_v33) = Cert.ReferenceIdeal.Whole.W12 m' c (Proc.devRef .tc Cert.ReferenceIdeal.main_v33) :=
  carry (Cert.KernelIdeal.Gen.V12_of m c Cert.KernelIdeal.main_v33 (by decide)) (v33_11 m m' c h0 h1) (Cert.ReferenceIdeal.Whole.W12_of m' c Cert.ReferenceIdeal.main_v33 (by decide))

theorem v47_13 : Cert.KernelIdeal.Gen.V13 m c (Proc.devRef .tc Cert.KernelIdeal.main_v47) = Cert.ReferenceIdeal.Whole.W13 m' c (Proc.devRef .tc Cert.ReferenceIdeal.main_v47) :=
  same_v47 (Cert.KernelIdeal.Gen.V12 m c) (Cert.ReferenceIdeal.Whole.W12 m' c) (v33_12 m m' c h0 h1)

theorem v48_14 : Cert.KernelIdeal.Gen.V14 m c (Proc.devRef .tc Cert.KernelIdeal.main_v48) = Cert.ReferenceIdeal.Whole.W14 m' c (Proc.devRef .tc Cert.ReferenceIdeal.main_v48) :=
  same_v48 (Cert.KernelIdeal.Gen.V13 m c) (Cert.ReferenceIdeal.Whole.W13 m' c) (v4_13 m m' c h0 h1) (v47_13 m m' c h0 h1)

theorem v49_15 : Cert.KernelIdeal.Gen.V15 m c (Proc.devRef .tc Cert.KernelIdeal.main_v49) = Cert.ReferenceIdeal.Whole.W15 m' c (Proc.devRef .tc Cert.ReferenceIdeal.main_v49) :=
  same_v49 (Cert.KernelIdeal.Gen.V14 m c) (Cert.ReferenceIdeal.Whole.W14 m' c) (v46_14 m m' c h0 h1) (v48_14 m m' c h0 h1)

theorem v50_16 : Cert.KernelIdeal.Gen.V16 m c (Proc.devRef .tc Cert.KernelIdeal.main_v50) = Cert.ReferenceIdeal.Whole.W16 m' c (Proc.devRef .tc Cert.ReferenceIdeal.main_v50) :=
  same_v50 (Cert.KernelIdeal.Gen.V15 m c) (Cert.ReferenceIdeal.Whole.W15 m' c) (v49_15 m m' c h0 h1)

theorem v49_16 : Cert.KernelIdeal.Gen.V16 m c (Proc.devRef .tc Cert.KernelIdeal.main_v49) = Cert.ReferenceIdeal.Whole.W16 m' c (Proc.devRef .tc Cert.ReferenceIdeal.main_v49) :=
  carry (Cert.KernelIdeal.Gen.V16_of m c Cert.KernelIdeal.main_v49 (by decide)) (v49_15 m m' c h0 h1) (Cert.ReferenceIdeal.Whole.W16_of m' c Cert.ReferenceIdeal.main_v49 (by decide))

theorem v52_17 : Cert.KernelIdeal.Gen.V17 m c (Proc.devRef .tc Cert.KernelIdeal.main_v52) = Cert.ReferenceIdeal.Whole.W17 m' c (Proc.devRef .tc Cert.ReferenceIdeal.main_v52) :=
  same_v52 (Cert.KernelIdeal.Gen.V16 m c) (Cert.ReferenceIdeal.Whole.W16 m' c) (v49_16 m m' c h0 h1)

theorem v53_18 : Cert.KernelIdeal.Gen.V18 m c (Proc.devRef .tc Cert.KernelIdeal.main_v53) = Cert.ReferenceIdeal.Whole.W18 m' c (Proc.devRef .tc Cert.ReferenceIdeal.main_v53) :=
  same_v53 (Cert.KernelIdeal.Gen.V17 m c) (Cert.ReferenceIdeal.Whole.W17 m' c) (v52_17 m m' c h0 h1)

end Cert.Same
-- ==== Proof.Result.lean ====
module

public import proofs.«01_k».proof.Defs
public import proofs.«01_k».proof.Proof.KernelOut
public import proofs.«01_k».proof.Proof.Same
public import proofs.«01_k».proof.Proof.RefRun
public import Idealize.ShloMosaic.Lib.Claim

/-!
The two programs agree: from finite arguments, and the same ones, the kernel and the reference leave the same array.
-/

@[expose] public section

set_option maxRecDepth 16384

noncomputable section

namespace Cert.Result

open Idealize.ShloMosaic Idealize.ShloMosaic.TcCoe
open Cert.Restore (rowOf takes)

/-! ## The precondition -/

theorem preFacts : Cert.Pre_finite_inputs.Facts where
  bcast_S_S16x1024x1152 := by decide
  bcast_S_S1152 := by decide
  bcast_S_S1152x3456 := by decide
  bcast_S_S3456 := by decide

theorem inf_eq : Ideal.ofBits FTy.f32 0x7F800000#32 = (⊤ : EReal) := by
  simp [Ideal.ofBits, Ideal.ieee]

/-- A number below infinity in absolute value is a real one. -/
theorem fin_of_lt {v : EReal} (h : Ideal.cmp .olt (max v (-v)) (Ideal.ofBits FTy.f32 0x7F800000#32) = 1#1) : Spec.Fin' v := by
  rw [inf_eq] at h
  induction v with
  | bot => simp [Ideal.cmp] at h
  | top => simp [Ideal.cmp] at h
  | coe r => exact ⟨r, rfl⟩

theorem fin_of_array {s : Shape} (x : FVec Ideal s .f32) (hb : (⟨0, ![]⟩ : Shape).BroadcastsInDim s (![] : Fin 0 → Fin s.rank))
    (h : cmpf .olt (Host.absf x) (broadcastInDim s ![] hb (constant ⟨0, ![]⟩ .f32 0x7F800000#32)) = fun _ => 1#1) (i : s.Idx) : Spec.Fin' (x i) :=
  fin_of_lt (congrFun h i)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

theorem finite_args (h : Cert.Pre_KernelIdeal_finite_inputs (hPre_finite_inputs := preFacts) m) (c : Dev Cert.KernelIdeal.nD) :
    (∀ i, Spec.Fin' (KernelIdeal.Whole.arg m c KernelIdeal.main_arg0 i)) ∧ (∀ i, Spec.Fin' (KernelIdeal.Whole.arg m c KernelIdeal.main_arg2 i))
    ∧ (∀ i, Spec.Fin' (KernelIdeal.Whole.arg m c KernelIdeal.main_arg3 i)) ∧ (∀ i, Spec.Fin' (KernelIdeal.Whole.arg m c KernelIdeal.main_arg6 i))
    ∧ (∀ i, Spec.Fin' (KernelIdeal.Whole.arg m c KernelIdeal.main_arg7 i)) := by
  obtain ⟨h0, h2, h3, h6, h7⟩ := h c
  exact ⟨fin_of_array _ _ h0, fin_of_array _ _ h2, fin_of_array _ _ h3, fin_of_array _ _ h6, fin_of_array _ _ h7⟩

/-! ## The results -/

theorem chosen (c : Dev Cert.KernelIdeal.nD)
    (h0 : KernelIdeal.Gen.V0 m c (Proc.devRef .tc KernelIdeal.main_arg0) = ReferenceIdeal.Whole.W0 m' c (Proc.devRef .tc ReferenceIdeal.main_arg0))
    (h1 : KernelIdeal.Gen.V0 m c (Proc.devRef .tc KernelIdeal.main_arg1) = ReferenceIdeal.Whole.W0 m' c (Proc.devRef .tc ReferenceIdeal.main_arg1)) :
    ReferenceIdeal.Whole.Chosen m' c (KernelIdeal.Whole.dst m c) (KernelIdeal.Whole.src m c) (KernelIdeal.Whole.near m c) (KernelIdeal.Whole.ord m c) where
  dst_at b w := by
    rw [← Same.v33_6 m m' c h0 h1, KernelIdeal.Whole.dst]
  src_at b w := by
    rw [← Same.v44_11 m m' c h0 h1, KernelIdeal.Whole.src]
  near_at b w := by
    rw [← Same.v50_16 m m' c h0 h1, KernelIdeal.Whole.near]
  ord_at b w := by
    rw [← Same.v53_18 m m' c h0 h1, KernelIdeal.Whole.ord]

theorem same_result (h : Cert.Pre_KernelIdeal_finite_inputs (hPre_finite_inputs := preFacts) m) (c : Dev Cert.KernelIdeal.nD)
    (e0 : ReferenceIdeal.Whole.arg m' c ReferenceIdeal.main_arg0 = KernelIdeal.Whole.arg m c KernelIdeal.main_arg0)
    (e1 : ReferenceIdeal.Whole.arg m' c ReferenceIdeal.main_arg1 = KernelIdeal.Whole.arg m c KernelIdeal.main_arg1)
    (e2 : ReferenceIdeal.Whole.arg m' c ReferenceIdeal.main_arg2 = KernelIdeal.Whole.arg m c KernelIdeal.main_arg2)
    (e3 : ReferenceIdeal.Whole.arg m' c ReferenceIdeal.main_arg3 = KernelIdeal.Whole.arg m c KernelIdeal.main_arg3)
    (e4 : ReferenceIdeal.Whole.arg m' c ReferenceIdeal.main_arg4 = KernelIdeal.Whole.arg m c KernelIdeal.main_arg4)
    (e5 : ReferenceIdeal.Whole.arg m' c ReferenceIdeal.main_arg5 = KernelIdeal.Whole.arg m c KernelIdeal.main_arg5)
    (e6 : ReferenceIdeal.Whole.arg m' c ReferenceIdeal.main_arg6 = KernelIdeal.Whole.arg m c KernelIdeal.main_arg6)
    (e7 : ReferenceIdeal.Whole.arg m' c ReferenceIdeal.main_arg7 = KernelIdeal.Whole.arg m c KernelIdeal.main_arg7)
    (e8 : ReferenceIdeal.Whole.arg m' c ReferenceIdeal.main_arg8 = KernelIdeal.Whole.arg m c KernelIdeal.main_arg8)
    (e9 : ReferenceIdeal.Whole.arg m' c ReferenceIdeal.main_arg9 = KernelIdeal.Whole.arg m c KernelIdeal.main_arg9)
    (e10 : ReferenceIdeal.Whole.arg m' c ReferenceIdeal.main_arg10 = KernelIdeal.Whole.arg m c KernelIdeal.main_arg10)
    (e11 : ReferenceIdeal.Whole.arg m' c ReferenceIdeal.main_arg11 = KernelIdeal.Whole.arg m c KernelIdeal.main_arg11)
    (e12 : ReferenceIdeal.Whole.arg m' c ReferenceIdeal.main_arg12 = KernelIdeal.Whole.arg m c KernelIdeal.main_arg12)
    (e13 : ReferenceIdeal.Whole.arg m' c ReferenceIdeal.main_arg13 = KernelIdeal.Whole.arg m c KernelIdeal.main_arg13) :
    ReferenceIdeal.Whole.W28 m' c (Proc.devRef .tc ReferenceIdeal.main_v231)
      = (KernelIdeal.Whole.dat1 (KernelIdeal.Whole.E1 m) c).arrAt 6 KernelIdeal.cfg1.N := by
  have hc := chosen m m' c e0.symm e1.symm
  obtain ⟨f0, f2, f3, f6, f7⟩ := finite_args m h c
  have hrow : ∀ b t e, ReferenceIdeal.Whole.rows m' c (ix3 b t e) = KernelIdeal.Whole.rows m c b t e := fun b t e =>
    (ReferenceIdeal.Whole.rows_eq hc b t e).trans (congrFun e0 _)
  have hx : ∀ i, Spec.Fin' (ReferenceIdeal.Whole.rows m' c i) := fun i => by
    rw [eq_ix3 i]
    exact (hrow (i 0) (i 1) (i 2)).symm ▸ f0 _
  funext i
  obtain ⟨q, hq⟩ := KernelIdeal.Whole.row_onto m c (i 0) (i 1)
  have hi : i = ix3 (i 0) (rowOf (KernelIdeal.Whole.dst m c) (KernelIdeal.Whole.src m c) (KernelIdeal.Whole.ord m c) (i 0) q) (i 2) := by
    rw [hq]; exact eq_ix3 i
  have l := ReferenceIdeal.Whole.result_at hc (KernelIdeal.Whole.row_apart m c) (i 0) q (i 2)
  have r := ReferenceIdeal.Whole.block_out m' c hx (by rw [e2]; exact f2) (by rw [e3]; exact f3) (by rw [e6]; exact f6) (by rw [e7]; exact f7)
    (i 0) (takes (KernelIdeal.Whole.near m c) (KernelIdeal.Whole.ord m c) (i 0) q) (i 2)
  have k := KernelIdeal.Whole.out_rows m c (i 0) q (i 2)
  have hrows : (fun t e => ReferenceIdeal.Whole.rows m' c (ix3 (i 0) t e)) = KernelIdeal.Whole.rows m c (i 0) :=
    funext fun t => funext fun e => hrow (i 0) t e
  rw [hrows, e2, e3, e4, e5, e6, e7, e8, e9, e10, e11, e12, e13] at r
  rw [hi]
  exact l.trans (r.trans k.symm)

end Cert.Result
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Whole
public import proofs.«01_k».proof.Proof.Bits.Whole
public import proofs.«01_k».proof.Proof.RefRun
public import proofs.«01_k».proof.Proof.Result
public import Idealize.ShloMosaic.Adequacy
public import Idealize.ShloMosaic.Init

@[expose] public section

noncomputable section

namespace Cert.Proof

open Idealize.ShloMosaic Idealize.SL.Sem Cert.Kernel

theorem algebraic : Cert.algebraic_KernelIdeal_ReferenceIdeal_pre_finite_inputs (hKernelIdeal := Cert.KernelIdeal.Gen.facts)
    (hReferenceIdeal := Cert.ReferenceIdeal.Gen.facts) (hPre_finite_inputs := Cert.Result.preFacts) := fun m g m' g' hp ha =>
  ⟨fun c => (Cert.KernelIdeal.Whole.dat1 (Cert.KernelIdeal.Whole.E1 m) c).arrAt 6 Cert.KernelIdeal.cfg1.N,
    (θ_run _ _ _).mono (fun _ h c => ⟨h.1 c, h.2.1 c⟩) (θ_run_and (Cert.KernelIdeal.Whole.run_value m g) (Cert.KernelIdeal.Whole.frame m g)),
    (θ_run _ _ _).mono (fun _ h c => by
      obtain ⟨e0, e1, e2, e3, e4, e5, e6, e7, e8, e9, e10, e11, e12, e13⟩ := ha c
      exact ⟨(h.1 c Cert.ReferenceIdeal.main_v231).trans
        (Cert.Result.same_result m m' hp c e0 e1 e2 e3 e4 e5 e6 e7 e8 e9 e10 e11 e12 e13), h.2.1 c⟩)
      (θ_run_and (Cert.ReferenceIdeal.Whole.run m' g') (Cert.ReferenceIdeal.Whole.frame m' g'))⟩

theorem claim : Cert.Claim := ⟨Cert.Kernel.Gen.facts, Cert.KernelIdeal.Gen.facts, Cert.ReferenceIdeal.Gen.facts, Cert.Result.preFacts,
  fun m ρ _ => Cert.Kernel.Whole.frame m ρ,
  fun m ρ _ => Cert.KernelIdeal.Whole.frame m ρ,
  fun m ρ _ => Cert.KernelIdeal.Whole.frame m ρ,
  fun m ρ _ => Cert.ReferenceIdeal.Whole.frame m ρ,
  fun m ρ _ => Cert.ReferenceIdeal.Whole.frame m ρ,
  trivial, algebraic⟩

end Cert.Proof

end
